-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v18) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v17)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v17) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v34) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v110)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v110) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v128) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
-- ==== Pre_finite.lean ====
abbrev S8448x6144 : Shape := ⟨2, ![8448, 6144]⟩
abbrev S8448x4096 : Shape := ⟨2, ![8448, 4096]⟩
abbrev S8448x1280 : Shape := ⟨2, ![8448, 1280]⟩
abbrev S_ : Shape := ⟨0, ![]⟩

class Facts : Prop where
  slices_S8448x6144_S8448x1280_0_1536 : S8448x6144.Slices ![0, 1536] S8448x1280
  bcast_S_S8448x1280 : S_.BroadcastsInDim S8448x1280 (![] : Fin 0 → Fin S8448x1280.rank)

variable [Facts]

def fn {F : FTy → Type} [FloatOps F] (main_arg0 : FVec F S8448x6144 .f32) (main_arg1 : FVec F S8448x4096 .bf16) : IVec S8448x1280 1 :=
  let main_v0 : FVec F S8448x1280 .f32 := (extractStridedSlice S8448x1280 ![0, 1536] · slices_S8448x6144_S8448x1280_0_1536) main_arg0
  let main_v1 : FVec F S8448x1280 .f32 := Host.absf main_v0
  let main_cst : FVec F S_ .f32 := constant S_ .f32 0x7F800000#32
  let main_v2 : FVec F S8448x1280 .f32 := broadcastInDim S8448x1280 ![] bcast_S_S8448x1280 main_cst
  let main_v3 : IVec S8448x1280 1 := cmpf .olt main_v1 main_v2
  main_v3
-- ==== Pre_finite5.lean ====
abbrev S8448x8x192 : Shape := ⟨3, ![8448, 8, 192]⟩
abbrev S8448x8x128 : Shape := ⟨3, ![8448, 8, 128]⟩
abbrev S8448x64 : Shape := ⟨2, ![8448, 64]⟩
abbrev S8448x4096 : Shape := ⟨2, ![8448, 4096]⟩
abbrev S8448x1536 : Shape := ⟨2, ![8448, 1536]⟩
abbrev S8448x1024 : Shape := ⟨2, ![8448, 1024]⟩
abbrev S8448x2624 : Shape := ⟨2, ![8448, 2624]⟩
abbrev S_ : Shape := ⟨0, ![]⟩

class Facts : Prop where
  shapeCasts_S8448x8x192_S8448x1536 : S8448x8x192.ShapeCasts S8448x1536
  shapeCasts_S8448x8x128_S8448x1024 : S8448x8x128.ShapeCasts S8448x1024
  concatenates_S8448x1536_S8448x1024_S8448x64_S8448x2624_d1 : Shape.Concatenates [S8448x1536, S8448x1024, S8448x64] S8448x2624 1
  bcast_S_S8448x2624 : S_.BroadcastsInDim S8448x2624 (![] : Fin 0 → Fin S8448x2624.rank)

variable [Facts]

def fn {F : FTy → Type} [FloatOps F] (main_arg0 : FVec F S8448x8x192 .f32) (main_arg1 : FVec F S8448x8x128 .f32) (main_arg2 : FVec F S8448x64 .f32) (main_arg3 : FVec F S8448x8x128 .f32) (main_arg4 : FVec F S8448x4096 .bf16) : IVec S8448x2624 1 :=
  let main_v0 : FVec F S8448x1536 .f32 := shapeCast S8448x1536 main_arg0 shapeCasts_S8448x8x192_S8448x1536
  let main_v1 : FVec F S8448x1024 .f32 := shapeCast S8448x1024 main_arg1 shapeCasts_S8448x8x128_S8448x1024
  let main_v2 : FVec F S8448x2624 .f32 := concatenate S8448x2624 1 [⟨S8448x1536, main_v0⟩, ⟨S8448x1024, main_v1⟩, ⟨S8448x64, main_arg2⟩] concatenates_S8448x1536_S8448x1024_S8448x64_S8448x2624_d1
  let main_v3 : FVec F S8448x2624 .f32 := Host.absf main_v2
  let main_cst : FVec F S_ .f32 := constant S_ .f32 0x7F800000#32
  let main_v4 : FVec F S8448x2624 .f32 := broadcastInDim S8448x2624 ![] bcast_S_S8448x2624 main_cst
  let main_v5 : IVec S8448x2624 1 := cmpf .olt main_v3 main_v4
  main_v5
-- ==== Kernel.lean ====
abbrev S8448x6144 : Shape := ⟨2, ![8448, 6144]⟩
abbrev S8448x4096 : Shape := ⟨2, ![8448, 4096]⟩
abbrev S_ : Shape := ⟨0, ![]⟩
abbrev S1024x512 : Shape := ⟨2, ![1024, 512]⟩
abbrev S8448x128 : Shape := ⟨2, ![8448, 128]⟩
abbrev S4x1024x128 : Shape := ⟨3, ![4, 1024, 128]⟩
abbrev S256x128 : Shape := ⟨2, ![256, 128]⟩
abbrev S1024x128 : Shape := ⟨2, ![1024, 128]⟩
abbrev S1024x256 : Shape := ⟨2, ![1024, 256]⟩
abbrev S1024 : Shape := ⟨1, ![1024]⟩
abbrev S1024x1 : Shape := ⟨2, ![1024, 1]⟩
abbrev S1x1024x128 : Shape := ⟨3, ![1, 1024, 128]⟩
abbrev S2048x128 : Shape := ⟨2, ![2048, 128]⟩
abbrev S1024x2048 : Shape := ⟨2, ![1024, 2048]⟩

abbrev nBuf : Space → Nat
  | .hbm => 24
  | .vmem => 11
  | .smem => 0
  | _ => 0

abbrev bufTy : (tb : Table) → Fin (tcTables nBuf tb) → BufTy
  | .hbm, ⟨0, _⟩ => ⟨S8448x6144, .f32⟩
  | .hbm, ⟨1, _⟩ => ⟨S8448x4096, .bf16⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8448x6144, .i32⟩
  | .hbm, ⟨10, _⟩ => ⟨S_, .i32⟩
  | .hbm, ⟨11, _⟩ => ⟨S8448x6144, .i32⟩
  | .hbm, ⟨12, _⟩ => ⟨S8448x6144, .i1⟩
  | .hbm, ⟨13, _⟩ => ⟨S_, .i32⟩
  | .hbm, ⟨14, _⟩ => ⟨S8448x6144, .i32⟩
  | .hbm, ⟨15, _⟩ => ⟨S8448x6144, .i1⟩
  | .hbm, ⟨16, _⟩ => ⟨S8448x6144, .i1⟩
  | .hbm, ⟨17, _⟩ => ⟨S_, .f32⟩
  | .hbm, ⟨18, _⟩ => ⟨S8448x6144, .f32⟩
  | .hbm, ⟨19, _⟩ => ⟨S8448x6144, .f32⟩
  | .hbm, ⟨20, _⟩ => ⟨S8448x6144, .f32⟩
  | .hbm, ⟨21, _⟩ => ⟨S8448x6144, .f32⟩
  | .hbm, ⟨22, _⟩ => ⟨S8448x6144, .bf16⟩
  | .hbm, ⟨23, _⟩ => ⟨S8448x4096, .bf16⟩
  | .local _ .vmem, ⟨0, _⟩ => ⟨S1024x512, .bf16⟩
  | .local _ .vmem, ⟨1, _⟩ => ⟨S1024x512, .bf16⟩
  | .local _ .vmem, ⟨2, _⟩ => ⟨S8448x128, .bf16⟩
  | .local _ .vmem, ⟨3, _⟩ => ⟨S8448x128, .bf16⟩
  | .local _ .vmem, ⟨4, _⟩ => ⟨S8448x128, .bf16⟩
  | .local _ .vmem, ⟨5, _⟩ => ⟨S8448x128, .bf16⟩
  | .local _ .vmem, ⟨6, _⟩ => ⟨S1024x512, .bf16⟩
  | .local _ .vmem, ⟨7, _⟩ => ⟨S1024x512, .bf16⟩
  | .local _ .vmem, ⟨8, _⟩ => ⟨S4x1024x128, .f32⟩
  | .local _ .vmem, ⟨9, _⟩ => ⟨S4x1024x128, .f32⟩
  | .local _ .vmem, ⟨10, _⟩ => ⟨S4x1024x128, .f32⟩
  | _, _ => ⟨S8448x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_call0_v0 : Ref sig .tc := ⟨.hbm, 18, rfl⟩
abbrev main_call0_v1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32 : BitVec 32 := 0#32
  let c4_i32 : BitVec 32 := 4#32
  let v116 : BitVec 32 := Scalar.addi c0_i32 c4_i32
  let c1_i32 : BitVec 32 := 1#32
  ⟨c0_i32, v116, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c2048_i32 : BitVec 32 := 2048#32
  let v165 : BitVec 32 := Scalar.muli arg10 c2048_i32
  v165
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c2048_i32 : BitVec 32 := 2048#32
  let v165 : BitVec 32 := Scalar.muli arg10 c2048_i32
  let v166 : BitVec 32 := v165
  let v167 : Index := Scalar.indexCast v166
  let c0_92 : Index := 0#32
  ![v167.toNat, 0]
def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8448x6144 : Shape := ⟨2, ![8448, 6144]⟩
abbrev S8448x4096 : Shape := ⟨2, ![8448, 4096]⟩
abbrev S8192x1536 : Shape := ⟨2, ![8192, 1536]⟩
abbrev S8192x1024 : Shape := ⟨2, ![8192, 1024]⟩
abbrev S8192x8x128 : Shape := ⟨3, ![8192, 8, 128]⟩
abbrev S8192x256 : Shape := ⟨2, ![8192, 256]⟩
abbrev S8192x2x128 : Shape := ⟨3, ![8192, 2, 128]⟩
abbrev S256x1536 : Shape := ⟨2, ![256, 1536]⟩
abbrev S256x1024 : Shape := ⟨2, ![256, 1024]⟩
abbrev S256x8x128 : Shape := ⟨3, ![256, 8, 128]⟩
abbrev S256x256 : Shape := ⟨2, ![256, 256]⟩
abbrev S256x2x128 : Shape := ⟨3, ![256, 2, 128]⟩
abbrev S8448x2x128 : Shape := ⟨3, ![8448, 2, 128]⟩
abbrev S_ : Shape := ⟨0, ![]⟩
abbrev S8192x2x4x128 : Shape := ⟨4, ![8192, 2, 4, 128]⟩
abbrev S2x8448x8192x4 : Shape := ⟨4, ![2, 8448, 8192, 4]⟩
abbrev S2x4x8192x8448 : Shape := ⟨4, ![2, 4, 8192, 8448]⟩
abbrev S2x4x8192 : Shape := ⟨3, ![2, 4, 8192]⟩
abbrev S2x4x8192x1 : Shape := ⟨4, ![2, 4, 8192, 1]⟩
abbrev S2x128x4x8192 : Shape := ⟨4, ![2, 128, 4, 8192]⟩

abbrev nBuf : Space → Nat
  | .hbm => 48
  | .vmem => 0
  | .smem => 0
  | _ => 0

abbrev bufTy : (tb : Table) → Fin (tcTables nBuf tb) → BufTy
  | .hbm, ⟨0, _⟩ => ⟨S8448x6144, .f32⟩
  | .hbm, ⟨1, _⟩ => ⟨S8448x4096, .bf16⟩
  | .hbm, ⟨2, _⟩ => ⟨S8192x1536, .f32⟩
  | .hbm, ⟨3, _⟩ => ⟨S8192x1024, .f32⟩
  | .hbm, ⟨4, _⟩ => ⟨S8192x8x128, .f32⟩
  | .hbm, ⟨5, _⟩ => ⟨S8192x256, .f32⟩
  | .hbm, ⟨6, _⟩ => ⟨S8192x2x128, .f32⟩
  | .hbm, ⟨7, _⟩ => ⟨S8192x256, .f32⟩
  | .hbm, ⟨8, _⟩ => ⟨S8192x2x128, .f32⟩
  | .hbm, ⟨9, _⟩ => ⟨S256x1536, .f32⟩
  | .hbm, ⟨10, _⟩ => ⟨S256x1024, .f32⟩
  | .hbm, ⟨11, _⟩ => ⟨S256x8x128, .f32⟩
  | .hbm, ⟨12, _⟩ => ⟨S256x256, .f32⟩
  | .hbm, ⟨13, _⟩ => ⟨S256x2x128, .f32⟩
  | .hbm, ⟨14, _⟩ => ⟨S256x256, .f32⟩
  | .hbm, ⟨15, _⟩ => ⟨S256x2x128, .f32⟩
  | .hbm, ⟨16, _⟩ => ⟨S8448x2x128, .f32⟩
  | .hbm, ⟨17, _⟩ => ⟨S8448x2x128, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S8192x2x4x128, .f32⟩
  | .hbm, ⟨23, _⟩ => ⟨S2x8448x8192x4, .f32⟩
  | .hbm, ⟨24, _⟩ => ⟨S2x4x8192x8448, .f32⟩
  | .hbm, ⟨25, _⟩ => ⟨S2x4x8192x8448, .f32⟩
  | .hbm, ⟨26, _⟩ => ⟨S2x4x8192x8448, .f32⟩
  | .hbm, ⟨27, _⟩ => ⟨S_, .f32⟩
  | .hbm, ⟨28, _⟩ => ⟨S2x4x8192, .f32⟩
  | .hbm, ⟨29, _⟩ => ⟨S_, .f32⟩
  | .hbm, ⟨30, _⟩ => ⟨S2x4x8192, .f32⟩
  | .hbm, ⟨31, _⟩ => ⟨S2x4x8192, .f32⟩
  | .hbm, ⟨32, _⟩ => ⟨S2x4x8192x1, .f32⟩
  | .hbm, ⟨33, _⟩ => ⟨S2x4x8192x8448, .f32⟩
  | .hbm, ⟨34, _⟩ => ⟨S2x4x8192x8448, .f32⟩
  | .hbm, ⟨35, _⟩ => ⟨S2x4x8192x8448, .f32⟩
  | .hbm, ⟨36, _⟩ => ⟨S_, .f32⟩
  | .hbm, ⟨37, _⟩ => ⟨S2x4x8192, .f32⟩
  | .hbm, ⟨38, _⟩ => ⟨S2x4x8192x1, .f32⟩
  | .hbm, ⟨39, _⟩ => ⟨S2x4x8192x8448, .f32⟩
  | .hbm, ⟨40, _⟩ => ⟨S2x4x8192x8448, .f32⟩
  | .hbm, ⟨41, _⟩ => ⟨S2x128x4x8192, .f32⟩
  | .hbm, ⟨42, _⟩ => ⟨S8192x2x4x128, .f32⟩
  | .hbm, ⟨43, _⟩ => ⟨S8192x1024, .f32⟩
  | .hbm, ⟨44, _⟩ => ⟨S8192x1024, .bf16⟩
  | .hbm, ⟨45, _⟩ => ⟨S_, .i32⟩
  | .hbm, ⟨46, _⟩ => ⟨S_, .i32⟩
  | .hbm, ⟨47, _⟩ => ⟨S8448x4096, .bf16⟩
  | _, _ => ⟨S8448x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_v16 : Ref sig .tc := ⟨.hbm, 19, rfl⟩
abbrev main_cst_0 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst_1 : Ref sig .tc := ⟨.hbm, 27, rfl⟩
abbrev main_v23 : Ref sig .tc := ⟨.hbm, 28, rfl⟩
abbrev main_cst_2 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_3 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_c : Ref sig .tc := ⟨.hbm, 45, rfl⟩
abbrev main_c_4 : Ref sig .tc := ⟨.hbm, 46, rfl⟩
abbrev main_v38 : Ref sig .tc := ⟨.hbm, 47, rfl⟩

abbrev nD : Nat := 1
abbrev τ : Topo := Topo.v7x

variable {F : FTy → Type} [FloatOps F]
-- ==== Kernel2.lean ====
abbrev S8448x4096 : Shape := ⟨2, ![8448, 4096]⟩
abbrev S4x4096x10240 : Shape := ⟨3, ![4, 4096, 10240]⟩
abbrev S8448x5120 : Shape := ⟨2, ![8448, 5120]⟩
abbrev S1408x4096 : Shape := ⟨2, ![1408, 4096]⟩
abbrev S1x4096x256 : Shape := ⟨3, ![1, 4096, 256]⟩
abbrev S1408x256 : Shape := ⟨2, ![1408, 256]⟩
abbrev S4096x256 : Shape := ⟨2, ![4096, 256]⟩
abbrev S704x4096 : Shape := ⟨2, ![704, 4096]⟩
abbrev S704x256 : Shape := ⟨2, ![704, 256]⟩

abbrev nBuf : Space → Nat
  | .hbm => 3
  | .vmem => 8
  | .smem => 0
  | _ => 0

abbrev bufTy : (tb : Table) → Fin (tcTables nBuf tb) → BufTy
  | .hbm, ⟨0, _⟩ => ⟨S8448x4096, .bf16⟩
  | .hbm, ⟨1, _⟩ => ⟨S4x4096x10240, .f32⟩
  | .hbm, ⟨2, _⟩ => ⟨S8448x5120, .bf16⟩
  | .local _ .vmem, ⟨0, _⟩ => ⟨S1408x4096, .bf16⟩
  | .local _ .vmem, ⟨1, _⟩ => ⟨S1408x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1408x256, .bf16⟩
  | .local _ .vmem, ⟨7, _⟩ => ⟨S1408x256, .bf16⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![6, 20], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.addi arg1 c20_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1408x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8448x4096 : Shape := ⟨2, ![8448, 4096]⟩
abbrev S4x4096x10240 : Shape := ⟨3, ![4, 4096, 10240]⟩
abbrev S1x4096x10240 : Shape := ⟨3, ![1, 4096, 10240]⟩
abbrev S4096x10240 : Shape := ⟨2, ![4096, 10240]⟩
abbrev S8448x10240 : Shape := ⟨2, ![8448, 10240]⟩
abbrev S8448x5120 : Shape := ⟨2, ![8448, 5120]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S4x4096x10240, .f32⟩
  | .hbm, ⟨2, _⟩ => ⟨S8448x4096, .f32⟩
  | .hbm, ⟨3, _⟩ => ⟨S1x4096x10240, .f32⟩
  | .hbm, ⟨4, _⟩ => ⟨S4096x10240, .f32⟩
  | .hbm, ⟨5, _⟩ => ⟨S8448x10240, .f32⟩
  | .hbm, ⟨6, _⟩ => ⟨S8448x5120, .f32⟩
  | .hbm, ⟨7, _⟩ => ⟨S8448x5120, .f32⟩
  | .hbm, ⟨8, _⟩ => ⟨S8448x5120, .f32⟩
  | .hbm, ⟨9, _⟩ => ⟨S8448x5120, .f32⟩
  | .hbm, ⟨10, _⟩ => ⟨S_, .f32⟩
  | .hbm, ⟨11, _⟩ => ⟨S8448x5120, .f32⟩
  | .hbm, ⟨12, _⟩ => ⟨S8448x5120, .f32⟩
  | .hbm, ⟨13, _⟩ => ⟨S_, .f32⟩
  | .hbm, ⟨14, _⟩ => ⟨S8448x5120, .f32⟩
  | .hbm, ⟨15, _⟩ => ⟨S8448x5120, .f32⟩
  | .hbm, ⟨16, _⟩ => ⟨S8448x5120, .f32⟩
  | .hbm, ⟨17, _⟩ => ⟨S8448x5120, .f32⟩
  | .hbm, ⟨18, _⟩ => ⟨S8448x5120, .bf16⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== Kernel3.lean ====
abbrev S8448x5120 : Shape := ⟨2, ![8448, 5120]⟩
abbrev S4x5120x4096 : Shape := ⟨3, ![4, 5120, 4096]⟩
abbrev S8448x4096 : Shape := ⟨2, ![8448, 4096]⟩
abbrev S2x9x1x4096 : Shape := ⟨4, ![2, 9, 1, 4096]⟩
abbrev S768x5120 : Shape := ⟨2, ![768, 5120]⟩
abbrev S1x5120x512 : Shape := ⟨3, ![1, 5120, 512]⟩
abbrev S768x512 : Shape := ⟨2, ![768, 512]⟩
abbrev S2x1x1x512 : Shape := ⟨4, ![2, 1, 1, 512]⟩
abbrev S5120x512 : Shape := ⟨2, ![5120, 512]⟩
abbrev S768x1 : Shape := ⟨2, ![768, 1]⟩
abbrev S1x1x1x512 : Shape := ⟨4, ![1, 1, 1, 512]⟩
abbrev S1x512 : Shape := ⟨2, ![1, 512]⟩

abbrev nBuf : Space → Nat
  | .hbm => 6
  | .vmem => 10
  | .smem => 0
  | _ => 0

abbrev bufTy : (tb : Table) → Fin (tcTables nBuf tb) → BufTy
  | .hbm, ⟨0, _⟩ => ⟨S8448x5120, .bf16⟩
  | .hbm, ⟨1, _⟩ => ⟨S4x5120x4096, .f32⟩
  | .hbm, ⟨2, _⟩ => ⟨S8448x4096, .f32⟩
  | .hbm, ⟨3, _⟩ => ⟨S2x9x1x4096, .f32⟩
  | .hbm, ⟨4, _⟩ => ⟨S4x5120x4096, .bf16⟩
  | .hbm, ⟨5, _⟩ => ⟨S8448x4096, .f32⟩
  | .local _ .vmem, ⟨0, _⟩ => ⟨S768x5120, .bf16⟩
  | .local _ .vmem, ⟨1, _⟩ => ⟨S768x5120, .bf16⟩
  | .local _ .vmem, ⟨2, _⟩ => ⟨S1x5120x512, .bf16⟩
  | .local _ .vmem, ⟨3, _⟩ => ⟨S1x5120x512, .bf16⟩
  | .local _ .vmem, ⟨4, _⟩ => ⟨S768x512, .f32⟩
  | .local _ .vmem, ⟨5, _⟩ => ⟨S768x512, .f32⟩
  | .local _ .vmem, ⟨6, _⟩ => ⟨S2x1x1x512, .f32⟩
  | .local _ .vmem, ⟨7, _⟩ => ⟨S2x1x1x512, .f32⟩
  | .local _ .vmem, ⟨8, _⟩ => ⟨S768x512, .f32⟩
  | .local _ .vmem, ⟨9, _⟩ => ⟨S768x512, .f32⟩
  | _, _ => ⟨S8448x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x5120x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S768x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S8448x5120 : Shape := ⟨2, ![8448, 5120]⟩
abbrev S4x5120x4096 : Shape := ⟨3, ![4, 5120, 4096]⟩
abbrev S8448x4096 : Shape := ⟨2, ![8448, 4096]⟩
abbrev S2x9x1x4096 : Shape := ⟨4, ![2, 9, 1, 4096]⟩
abbrev S1x5120x4096 : Shape := ⟨3, ![1, 5120, 4096]⟩
abbrev S5120x4096 : Shape := ⟨2, ![5120, 4096]⟩
abbrev S1x1x1x4096 : Shape := ⟨4, ![1, 1, 1, 4096]⟩
abbrev S1x4096 : Shape := ⟨2, ![1, 4096]⟩
abbrev S8192x4096 : Shape := ⟨2, ![8192, 4096]⟩
abbrev S256x4096 : Shape := ⟨2, ![256, 4096]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S8448x5120, .bf16⟩
  | .hbm, ⟨1, _⟩ => ⟨S4x5120x4096, .f32⟩
  | .hbm, ⟨2, _⟩ => ⟨S8448x4096, .f32⟩
  | .hbm, ⟨3, _⟩ => ⟨S2x9x1x4096, .f32⟩
  | .hbm, ⟨4, _⟩ => ⟨S8448x5120, .f32⟩
  | .hbm, ⟨5, _⟩ => ⟨S1x5120x4096, .f32⟩
  | .hbm, ⟨6, _⟩ => ⟨S5120x4096, .f32⟩
  | .hbm, ⟨7, _⟩ => ⟨S8448x4096, .f32⟩
  | .hbm, ⟨8, _⟩ => ⟨S1x1x1x4096, .f32⟩
  | .hbm, ⟨9, _⟩ => ⟨S1x4096, .f32⟩
  | .hbm, ⟨10, _⟩ => ⟨S1x1x1x4096, .f32⟩
  | .hbm, ⟨11, _⟩ => ⟨S1x4096, .f32⟩
  | .hbm, ⟨12, _⟩ => ⟨S8192x4096, .f32⟩
  | .hbm, ⟨13, _⟩ => ⟨S256x4096, .f32⟩
  | .hbm, ⟨14, _⟩ => ⟨S_, .f32⟩
  | .hbm, ⟨15, _⟩ => ⟨S1x4096, .f32⟩
  | .hbm, ⟨16, _⟩ => ⟨S1x4096, .f32⟩
  | .hbm, ⟨17, _⟩ => ⟨S8192x4096, .f32⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S1x4096, .f32⟩
  | .hbm, ⟨23, _⟩ => ⟨S1x4096, .f32⟩
  | .hbm, ⟨24, _⟩ => ⟨S256x4096, .f32⟩
  | .hbm, ⟨25, _⟩ => ⟨S256x4096, .f32⟩
  | .hbm, ⟨26, _⟩ => ⟨S256x4096, .f32⟩
  | .hbm, ⟨27, _⟩ => ⟨S256x4096, .f32⟩
  | .hbm, ⟨28, _⟩ => ⟨S8448x4096, .f32⟩
  | _, _ => ⟨S8448x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Kernel4.lean ====
abbrev S8448x4096 : Shape := ⟨2, ![8448, 4096]⟩
abbrev S4x4096x4096 : Shape := ⟨3, ![4, 4096, 4096]⟩
abbrev S2x9x1x4096 : Shape := ⟨4, ![2, 9, 1, 4096]⟩
abbrev S768x4096 : Shape := ⟨2, ![768, 4096]⟩
abbrev S1x4096x512 : Shape := ⟨3, ![1, 4096, 512]⟩
abbrev S768x512 : Shape := ⟨2, ![768, 512]⟩
abbrev S2x1x1x512 : Shape := ⟨4, ![2, 1, 1, 512]⟩
abbrev S4096x512 : Shape := ⟨2, ![4096, 512]⟩
abbrev S768x1 : Shape := ⟨2, ![768, 1]⟩
abbrev S1x1x1x512 : Shape := ⟨4, ![1, 1, 1, 512]⟩
abbrev S1x512 : Shape := ⟨2, ![1, 512]⟩

abbrev nBuf : Space → Nat
  | .hbm => 6
  | .vmem => 10
  | .smem => 0
  | _ => 0

abbrev bufTy : (tb : Table) → Fin (tcTables nBuf tb) → BufTy
  | .hbm, ⟨0, _⟩ => ⟨S8448x4096, .bf16⟩
  | .hbm, ⟨1, _⟩ => ⟨S4x4096x4096, .f32⟩
  | .hbm, ⟨2, _⟩ => ⟨S8448x4096, .f32⟩
  | .hbm, ⟨3, _⟩ => ⟨S2x9x1x4096, .f32⟩
  | .hbm, ⟨4, _⟩ => ⟨S4x4096x4096, .bf16⟩
  | .hbm, ⟨5, _⟩ => ⟨S8448x4096, .f32⟩
  | .local _ .vmem, ⟨0, _⟩ => ⟨S768x4096, .bf16⟩
  | .local _ .vmem, ⟨1, _⟩ => ⟨S768x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S768x512, .f32⟩
  | .local _ .vmem, ⟨5, _⟩ => ⟨S768x512, .f32⟩
  | .local _ .vmem, ⟨6, _⟩ => ⟨S2x1x1x512, .f32⟩
  | .local _ .vmem, ⟨7, _⟩ => ⟨S2x1x1x512, .f32⟩
  | .local _ .vmem, ⟨8, _⟩ => ⟨S768x512, .f32⟩
  | .local _ .vmem, ⟨9, _⟩ => ⟨S768x512, .f32⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  let c0_i32_1 : BitVec 32 := 0#32
  ![c0_i32.toNat, c5_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S768x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S8448x4096 : Shape := ⟨2, ![8448, 4096]⟩
abbrev S4x4096x4096 : Shape := ⟨3, ![4, 4096, 4096]⟩
abbrev S2x9x1x4096 : Shape := ⟨4, ![2, 9, 1, 4096]⟩
abbrev S1x4096x4096 : Shape := ⟨3, ![1, 4096, 4096]⟩
abbrev S4096x4096 : Shape := ⟨2, ![4096, 4096]⟩
abbrev S1x1x1x4096 : Shape := ⟨4, ![1, 1, 1, 4096]⟩
abbrev S1x4096 : Shape := ⟨2, ![1, 4096]⟩
abbrev S8192x4096 : Shape := ⟨2, ![8192, 4096]⟩
abbrev S256x4096 : Shape := ⟨2, ![256, 4096]⟩

abbrev nBuf : Space → Nat
  | .hbm => 23
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S4x4096x4096, .f32⟩
  | .hbm, ⟨2, _⟩ => ⟨S8448x4096, .f32⟩
  | .hbm, ⟨3, _⟩ => ⟨S2x9x1x4096, .f32⟩
  | .hbm, ⟨4, _⟩ => ⟨S8448x4096, .f32⟩
  | .hbm, ⟨5, _⟩ => ⟨S1x4096x4096, .f32⟩
  | .hbm, ⟨6, _⟩ => ⟨S4096x4096, .f32⟩
  | .hbm, ⟨7, _⟩ => ⟨S8448x4096, .f32⟩
  | .hbm, ⟨8, _⟩ => ⟨S1x1x1x4096, .f32⟩
  | .hbm, ⟨9, _⟩ => ⟨S1x4096, .f32⟩
  | .hbm, ⟨10, _⟩ => ⟨S1x1x1x4096, .f32⟩
  | .hbm, ⟨11, _⟩ => ⟨S1x4096, .f32⟩
  | .hbm, ⟨12, _⟩ => ⟨S8192x4096, .f32⟩
  | .hbm, ⟨13, _⟩ => ⟨S256x4096, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S256x4096, .f32⟩
  | .hbm, ⟨19, _⟩ => ⟨S256x4096, .f32⟩
  | .hbm, ⟨20, _⟩ => ⟨S256x4096, .f32⟩
  | .hbm, ⟨21, _⟩ => ⟨S256x4096, .f32⟩
  | .hbm, ⟨22, _⟩ => ⟨S8448x4096, .f32⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩

abbrev nD : Nat := 1
abbrev τ : Topo := Topo.v7x

variable {F : FTy → Type} [FloatOps F]
-- ==== Kernel5.lean ====
abbrev S8448x8x192 : Shape := ⟨3, ![8448, 8, 192]⟩
abbrev S8448x8x128 : Shape := ⟨3, ![8448, 8, 128]⟩
abbrev S8448x64 : Shape := ⟨2, ![8448, 64]⟩
abbrev S8448x4096 : Shape := ⟨2, ![8448, 4096]⟩
abbrev S_ : Shape := ⟨0, ![]⟩
abbrev S8448x1x64 : Shape := ⟨3, ![8448, 1, 64]⟩
abbrev S8448x8x64 : Shape := ⟨3, ![8448, 8, 64]⟩
abbrev S8448x8x256 : Shape := ⟨3, ![8448, 8, 256]⟩
abbrev S8448x2048 : Shape := ⟨2, ![8448, 2048]⟩
abbrev S8448x1024 : Shape := ⟨2, ![8448, 1024]⟩
abbrev S4096x256 : Shape := ⟨2, ![4096, 256]⟩
abbrev S8448x256 : Shape := ⟨2, ![8448, 256]⟩
abbrev S8448x128 : Shape := ⟨2, ![8448, 128]⟩
abbrev S4096x128 : Shape := ⟨2, ![4096, 128]⟩
abbrev S4x1024x128 : Shape := ⟨3, ![4, 1024, 128]⟩
abbrev S256x256 : Shape := ⟨2, ![256, 256]⟩
abbrev S256x128 : Shape := ⟨2, ![256, 128]⟩
abbrev S1024x256 : Shape := ⟨2, ![1024, 256]⟩
abbrev S1024x128 : Shape := ⟨2, ![1024, 128]⟩
abbrev S1024 : Shape := ⟨1, ![1024]⟩
abbrev S1024x1 : Shape := ⟨2, ![1024, 1]⟩
abbrev S1x1024x128 : Shape := ⟨3, ![1, 1024, 128]⟩
abbrev S2048x256 : Shape := ⟨2, ![2048, 256]⟩
abbrev S2048x128 : Shape := ⟨2, ![2048, 128]⟩
abbrev S1024x2048 : Shape := ⟨2, ![1024, 2048]⟩

abbrev nBuf : Space → Nat
  | .hbm => 30
  | .vmem => 11
  | .smem => 0
  | _ => 0

abbrev bufTy : (tb : Table) → Fin (tcTables nBuf tb) → BufTy
  | .hbm, ⟨0, _⟩ => ⟨S8448x8x192, .f32⟩
  | .hbm, ⟨1, _⟩ => ⟨S8448x8x128, .f32⟩
  | .hbm, ⟨2, _⟩ => ⟨S8448x64, .f32⟩
  | .hbm, ⟨3, _⟩ => ⟨S8448x8x128, .f32⟩
  | .hbm, ⟨4, _⟩ => ⟨S8448x4096, .bf16⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8448x1x64, .f32⟩
  | .hbm, ⟨13, _⟩ => ⟨S8448x8x64, .f32⟩
  | .hbm, ⟨14, _⟩ => ⟨S8448x8x192, .f32⟩
  | .hbm, ⟨15, _⟩ => ⟨S8448x8x192, .f32⟩
  | .hbm, ⟨16, _⟩ => ⟨S8448x8x192, .bf16⟩
  | .hbm, ⟨17, _⟩ => ⟨S_, .i32⟩
  | .hbm, ⟨18, _⟩ => ⟨S_, .bf16⟩
  | .hbm, ⟨19, _⟩ => ⟨S8448x8x256, .bf16⟩
  | .hbm, ⟨20, _⟩ => ⟨S8448x2048, .bf16⟩
  | .hbm, ⟨21, _⟩ => ⟨S8448x8x192, .f32⟩
  | .hbm, ⟨22, _⟩ => ⟨S8448x8x192, .bf16⟩
  | .hbm, ⟨23, _⟩ => ⟨S_, .i32⟩
  | .hbm, ⟨24, _⟩ => ⟨S_, .bf16⟩
  | .hbm, ⟨25, _⟩ => ⟨S8448x8x256, .bf16⟩
  | .hbm, ⟨26, _⟩ => ⟨S8448x2048, .bf16⟩
  | .hbm, ⟨27, _⟩ => ⟨S8448x8x128, .bf16⟩
  | .hbm, ⟨28, _⟩ => ⟨S8448x1024, .bf16⟩
  | .hbm, ⟨29, _⟩ => ⟨S8448x4096, .bf16⟩
  | .local _ .vmem, ⟨0, _⟩ => ⟨S4096x256, .bf16⟩
  | .local _ .vmem, ⟨1, _⟩ => ⟨S4096x256, .bf16⟩
  | .local _ .vmem, ⟨2, _⟩ => ⟨S8448x256, .bf16⟩
  | .local _ .vmem, ⟨3, _⟩ => ⟨S8448x256, .bf16⟩
  | .local _ .vmem, ⟨4, _⟩ => ⟨S8448x128, .bf16⟩
  | .local _ .vmem, ⟨5, _⟩ => ⟨S8448x128, .bf16⟩
  | .local _ .vmem, ⟨6, _⟩ => ⟨S4096x128, .bf16⟩
  | .local _ .vmem, ⟨7, _⟩ => ⟨S4096x128, .bf16⟩
  | .local _ .vmem, ⟨8, _⟩ => ⟨S4x1024x128, .f32⟩
  | .local _ .vmem, ⟨9, _⟩ => ⟨S4x1024x128, .f32⟩
  | .local _ .vmem, ⟨10, _⟩ => ⟨S4x1024x128, .f32⟩
  | _, _ => ⟨S8448x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_call0_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_call1_v0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

@[reducible] def k0_t1_loop : Scf.Loop 32 :=
  let c0_i32 : BitVec 32 := 0#32
  let c4_i32 : BitVec 32 := 4#32
  let v116 : BitVec 32 := Scalar.addi c0_i32 c4_i32
  let c1_i32 : BitVec 32 := 1#32
  ⟨c0_i32, v116, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c2048_i32 : BitVec 32 := 2048#32
  let v165 : BitVec 32 := Scalar.muli arg10 c2048_i32
  v165
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c2048_i32 : BitVec 32 := 2048#32
  let v165 : BitVec 32 := Scalar.muli arg10 c2048_i32
  let v166 : BitVec 32 := v165
  let v167 : Index := Scalar.indexCast v166
  let c0_92 : Index := 0#32
  ![v167.toNat, 0]
def k0_off2 (k0_t1 : Fin k0_t1_loop.trips) : Fin 2 → Nat :=
  let c0_i32 : BitVec 32 := 0#32
  let c1_i32 : BitVec 32 := 1#32
  let arg10 : BitVec 32 := Scf.iv c0_i32 c1_i32 k0_t1
  let c2048_i32 : BitVec 32 := 2048#32
  let v165 : BitVec 32 := Scalar.muli arg10 c2048_i32
  let v166 : BitVec 32 := v165
  let v170 : Index := Scalar.indexCast v166
  let c0_93 : Index := 0#32
  ![v170.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8448x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S8448x8x192 : Shape := ⟨3, ![8448, 8, 192]⟩
abbrev S8448x8x128 : Shape := ⟨3, ![8448, 8, 128]⟩
abbrev S8448x64 : Shape := ⟨2, ![8448, 64]⟩
abbrev S8448x4096 : Shape := ⟨2, ![8448, 4096]⟩
abbrev S8192x8x128 : Shape := ⟨3, ![8192, 8, 128]⟩
abbrev S8192x8x64 : Shape := ⟨3, ![8192, 8, 64]⟩
abbrev S256x8x128 : Shape := ⟨3, ![256, 8, 128]⟩
abbrev S256x64 : Shape := ⟨2, ![256, 64]⟩
abbrev S8192x64 : Shape := ⟨2, ![8192, 64]⟩
abbrev S_ : Shape := ⟨0, ![]⟩
abbrev S8x8192x8448 : Shape := ⟨3, ![8, 8192, 8448]⟩
abbrev S8448x8192x8 : Shape := ⟨3, ![8448, 8192, 8]⟩
abbrev S8x8192 : Shape := ⟨2, ![8, 8192]⟩
abbrev S8x8192x1 : Shape := ⟨3, ![8, 8192, 1]⟩
abbrev S8x128x8192 : Shape := ⟨3, ![8, 128, 8192]⟩
abbrev S8192x1024 : Shape := ⟨2, ![8192, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8448x8x192, .f32⟩
  | .hbm, ⟨1, _⟩ => ⟨S8448x8x128, .f32⟩
  | .hbm, ⟨2, _⟩ => ⟨S8448x64, .f32⟩
  | .hbm, ⟨3, _⟩ => ⟨S8448x8x128, .f32⟩
  | .hbm, ⟨4, _⟩ => ⟨S8448x4096, .bf16⟩
  | .hbm, ⟨5, _⟩ => ⟨S8192x8x128, .f32⟩
  | .hbm, ⟨6, _⟩ => ⟨S8192x8x64, .f32⟩
  | .hbm, ⟨7, _⟩ => ⟨S256x8x128, .f32⟩
  | .hbm, ⟨8, _⟩ => ⟨S8192x8x128, .f32⟩
  | .hbm, ⟨9, _⟩ => ⟨S8448x8x128, .f32⟩
  | .hbm, ⟨10, _⟩ => ⟨S256x64, .f32⟩
  | .hbm, ⟨11, _⟩ => ⟨S8192x64, .f32⟩
  | .hbm, ⟨12, _⟩ => ⟨S8448x64, .f32⟩
  | .hbm, ⟨13, _⟩ => ⟨S256x8x128, .f32⟩
  | .hbm, ⟨14, _⟩ => ⟨S8192x8x128, .f32⟩
  | .hbm, ⟨15, _⟩ => ⟨S8448x8x128, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S8x8192x8448, .f32⟩
  | .hbm, ⟨21, _⟩ => ⟨S8448x8192x8, .f32⟩
  | .hbm, ⟨22, _⟩ => ⟨S8x8192x8448, .f32⟩
  | .hbm, ⟨23, _⟩ => ⟨S8x8192x8448, .f32⟩
  | .hbm, ⟨24, _⟩ => ⟨S8x8192x8448, .f32⟩
  | .hbm, ⟨25, _⟩ => ⟨S8x8192x8448, .f32⟩
  | .hbm, ⟨26, _⟩ => ⟨S_, .f32⟩
  | .hbm, ⟨27, _⟩ => ⟨S8x8192, .f32⟩
  | .hbm, ⟨28, _⟩ => ⟨S_, .f32⟩
  | .hbm, ⟨29, _⟩ => ⟨S8x8192, .f32⟩
  | .hbm, ⟨30, _⟩ => ⟨S8x8192, .f32⟩
  | .hbm, ⟨31, _⟩ => ⟨S8x8192x1, .f32⟩
  | .hbm, ⟨32, _⟩ => ⟨S8x8192x8448, .f32⟩
  | .hbm, ⟨33, _⟩ => ⟨S8x8192x8448, .f32⟩
  | .hbm, ⟨34, _⟩ => ⟨S8x8192x8448, .f32⟩
  | .hbm, ⟨35, _⟩ => ⟨S_, .f32⟩
  | .hbm, ⟨36, _⟩ => ⟨S8x8192, .f32⟩
  | .hbm, ⟨37, _⟩ => ⟨S8x8192x1, .f32⟩
  | .hbm, ⟨38, _⟩ => ⟨S8x8192x8448, .f32⟩
  | .hbm, ⟨39, _⟩ => ⟨S8x8192x8448, .f32⟩
  | .hbm, ⟨40, _⟩ => ⟨S8x128x8192, .f32⟩
  | .hbm, ⟨41, _⟩ => ⟨S8192x8x128, .f32⟩
  | .hbm, ⟨42, _⟩ => ⟨S8192x1024, .f32⟩
  | .hbm, ⟨43, _⟩ => ⟨S8192x1024, .bf16⟩
  | .hbm, ⟨44, _⟩ => ⟨S_, .i32⟩
  | .hbm, ⟨45, _⟩ => ⟨S_, .i32⟩
  | .hbm, ⟨46, _⟩ => ⟨S8448x4096, .bf16⟩
  | _, _ => ⟨S8448x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c : Ref sig .tc := ⟨.hbm, 44, rfl⟩
abbrev main_c_4 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel6.lean ====
abbrev S8448x4096 : Shape := ⟨2, ![8448, 4096]⟩
abbrev S4x4096x7488 : Shape := ⟨3, ![4, 4096, 7488]⟩
abbrev S4x128 : Shape := ⟨2, ![4, 128]⟩
abbrev S8192 : Shape := ⟨1, ![8192]⟩
abbrev S_ : Shape := ⟨0, ![]⟩
abbrev S128 : Shape := ⟨1, ![128]⟩
abbrev S32 : Shape := ⟨1, ![32]⟩
abbrev S128x1 : Shape := ⟨2, ![128, 1]⟩
abbrev S1x128 : Shape := ⟨2, ![1, 128]⟩
abbrev S8192x1 : Shape := ⟨2, ![8192, 1]⟩
abbrev S8192x128 : Shape := ⟨2, ![8192, 128]⟩
abbrev S256x128 : Shape := ⟨2, ![256, 128]⟩
abbrev S8448x128 : Shape := ⟨2, ![8448, 128]⟩
abbrev S16 : Shape := ⟨1, ![16]⟩
abbrev S4x7488x4096 : Shape := ⟨3, ![4, 7488, 4096]⟩
abbrev S8448x6144 : Shape := ⟨2, ![8448, 6144]⟩
abbrev S1408x4096 : Shape := ⟨2, ![1408, 4096]⟩
abbrev S1x512x4096 : Shape := ⟨3, ![1, 512, 4096]⟩
abbrev S1408x128 : Shape := ⟨2, ![1408, 128]⟩
abbrev S1408x512 : Shape := ⟨2, ![1408, 512]⟩
abbrev S352x4096 : Shape := ⟨2, ![352, 4096]⟩
abbrev S512x4096 : Shape := ⟨2, ![512, 4096]⟩
abbrev S352x512 : Shape := ⟨2, ![352, 512]⟩
abbrev S352x128 : Shape := ⟨2, ![352, 128]⟩
abbrev S352 : Shape := ⟨1, ![352]⟩
abbrev S352x1 : Shape := ⟨2, ![352, 1]⟩

abbrev nBuf : Space → Nat
  | .hbm => 365
  | .vmem => 12
  | .smem => 0
  | _ => 0

abbrev hbmTy0_0 (i : Nat) : BufTy := match i % 128 with
  | 0 => ⟨S8448x4096, .bf16⟩
  | 1 => ⟨S4x4096x7488, .f32⟩
  | 2 => ⟨S4x128, .f32⟩
  | 3 => ⟨S4x128, .f32⟩
  | 4 => ⟨S8192, .i32⟩
  | 5 => ⟨S_, .i32⟩
  | 6 => ⟨S_, .i32⟩
  | 7 => ⟨S8192, .i32⟩
  | 8 => ⟨S8192, .i32⟩
  | 9 => ⟨S8192, .i32⟩
  | 10 => ⟨S_, .i32⟩
  | 11 => ⟨S8192, .i32⟩
  | 12 => ⟨S8192, .i1⟩
  | 13 => ⟨S8192, .i32⟩
  | 14 => ⟨S8192, .i32⟩
  | 15 => ⟨S_, .i32⟩
  | 16 => ⟨S8192, .i32⟩
  | 17 => ⟨S8192, .i1⟩
  | 18 => ⟨S8192, .i1⟩
  | 19 => ⟨S_, .i32⟩
  | 20 => ⟨S8192, .i32⟩
  | 21 => ⟨S8192, .i32⟩
  | 22 => ⟨S8192, .i32⟩
  | 23 => ⟨S8192, .f32⟩
  | 24 => ⟨S_, .i32⟩
  | 25 => ⟨S_, .i32⟩
  | 26 => ⟨S_, .i32⟩
  | 27 => ⟨S_, .i1⟩
  | 28 => ⟨S_, .i32⟩
  | 29 => ⟨S_, .i32⟩
  | 30 => ⟨S8192, .i32⟩
  | 31 => ⟨S8192, .i32⟩
  | 32 => ⟨S_, .i32⟩
  | 33 => ⟨S8192, .i32⟩
  | 34 => ⟨S8192, .i1⟩
  | 35 => ⟨S_, .i32⟩
  | 36 => ⟨S8192, .i32⟩
  | 37 => ⟨S8192, .i1⟩
  | 38 => ⟨S_, .i32⟩
  | 39 => ⟨S_, .i1⟩
  | 40 => ⟨S8192, .i1⟩
  | 41 => ⟨S8192, .i1⟩
  | 42 => ⟨S8192, .i1⟩
  | 43 => ⟨S8192, .i32⟩
  | 44 => ⟨S8192, .i32⟩
  | 45 => ⟨S8192, .i32⟩
  | 46 => ⟨S8192, .f32⟩
  | 47 => ⟨S128, .i32⟩
  | 48 => ⟨S32, .f32⟩
  | 49 => ⟨S_, .f32⟩
  | 50 => ⟨S32, .f32⟩
  | 51 => ⟨S32, .f32⟩
  | 52 => ⟨S_, .f32⟩
  | 53 => ⟨S32, .f32⟩
  | 54 => ⟨S32, .f32⟩
  | 55 => ⟨S32, .f32⟩
  | 56 => ⟨S_, .f32⟩
  | 57 => ⟨S32, .f32⟩
  | 58 => ⟨S32, .f32⟩
  | 59 => ⟨S_, .f32⟩
  | 60 => ⟨S32, .f32⟩
  | 61 => ⟨S32, .f32⟩
  | 62 => ⟨S_, .i32⟩
  | 63 => ⟨S_, .i32⟩
  | 64 => ⟨S_, .i32⟩
  | 65 => ⟨S_, .i1⟩
  | 66 => ⟨S_, .i32⟩
  | 67 => ⟨S_, .i32⟩
  | 68 => ⟨S128, .i32⟩
  | 69 => ⟨S128, .i32⟩
  | 70 => ⟨S_, .i32⟩
  | 71 => ⟨S128, .i32⟩
  | 72 => ⟨S128, .i1⟩
  | 73 => ⟨S_, .i32⟩
  | 74 => ⟨S128, .i32⟩
  | 75 => ⟨S128, .i1⟩
  | 76 => ⟨S_, .i32⟩
  | 77 => ⟨S_, .i1⟩
  | 78 => ⟨S128, .i1⟩
  | 79 => ⟨S128, .i1⟩
  | 80 => ⟨S128, .i1⟩
  | 81 => ⟨S128, .i32⟩
  | 82 => ⟨S128, .i32⟩
  | 83 => ⟨S128, .i32⟩
  | 84 => ⟨S_, .i32⟩
  | 85 => ⟨S128, .i32⟩
  | 86 => ⟨S128, .i1⟩
  | 87 => ⟨S_, .i32⟩
  | 88 => ⟨S128, .i32⟩
  | 89 => ⟨S128, .i32⟩
  | 90 => ⟨S128, .i32⟩
  | 91 => ⟨S128x1, .i32⟩
  | 92 => ⟨S128, .f32⟩
  | 93 => ⟨S_, .i32⟩
  | 94 => ⟨S_, .i32⟩
  | 95 => ⟨S128, .i32⟩
  | 96 => ⟨S128, .i32⟩
  | 97 => ⟨S128, .i32⟩
  | 98 => ⟨S_, .i32⟩
  | 99 => ⟨S128, .i32⟩
  | 100 => ⟨S128, .i1⟩
  | 101 => ⟨S128, .i32⟩
  | 102 => ⟨S128, .i32⟩
  | 103 => ⟨S_, .i32⟩
  | 104 => ⟨S128, .i32⟩
  | 105 => ⟨S128, .i1⟩
  | 106 => ⟨S128, .i1⟩
  | 107 => ⟨S_, .i32⟩
  | 108 => ⟨S128, .i32⟩
  | 109 => ⟨S128, .i32⟩
  | 110 => ⟨S128, .i32⟩
  | 111 => ⟨S_, .i32⟩
  | 112 => ⟨S_, .i32⟩
  | 113 => ⟨S_, .i32⟩
  | 114 => ⟨S_, .i1⟩
  | 115 => ⟨S_, .i32⟩
  | 116 => ⟨S_, .i32⟩
  | 117 => ⟨S128, .i32⟩
  | 118 => ⟨S128, .i32⟩
  | 119 => ⟨S_, .i32⟩
  | 120 => ⟨S128, .i32⟩
  | 121 => ⟨S128, .i1⟩
  | 122 => ⟨S_, .i32⟩
  | 123 => ⟨S128, .i32⟩
  | 124 => ⟨S128, .i1⟩
  | 125 => ⟨S_, .i32⟩
  | 126 => ⟨S_, .i1⟩
  | 127 => ⟨S128, .i1⟩
  | _ => ⟨S8448x4096, .bf16⟩

abbrev hbmTy0_1 (i : Nat) : BufTy := match i % 128 with
  | 0 => ⟨S128, .i1⟩
  | 1 => ⟨S128, .i1⟩
  | 2 => ⟨S128, .i32⟩
  | 3 => ⟨S128, .i32⟩
  | 4 => ⟨S128, .i32⟩
  | 5 => ⟨S_, .i32⟩
  | 6 => ⟨S128, .i32⟩
  | 7 => ⟨S128, .i1⟩
  | 8 => ⟨S1x128, .i1⟩
  | 9 => ⟨S8192x1, .f32⟩
  | 10 => ⟨S8192x1, .f32⟩
  | 11 => ⟨S8192x128, .i1⟩
  | 12 => ⟨S8192x128, .f32⟩
  | 13 => ⟨S8192x128, .f32⟩
  | 14 => ⟨S8192x128, .f32⟩
  | 15 => ⟨S1x128, .f32⟩
  | 16 => ⟨S8192x128, .f32⟩
  | 17 => ⟨S8192x128, .f32⟩
  | 18 => ⟨S_, .i32⟩
  | 19 => ⟨S_, .i32⟩
  | 20 => ⟨S_, .i32⟩
  | 21 => ⟨S_, .i1⟩
  | 22 => ⟨S_, .i32⟩
  | 23 => ⟨S_, .i32⟩
  | 24 => ⟨S128, .i32⟩
  | 25 => ⟨S128, .i32⟩
  | 26 => ⟨S_, .i32⟩
  | 27 => ⟨S128, .i32⟩
  | 28 => ⟨S128, .i1⟩
  | 29 => ⟨S_, .i32⟩
  | 30 => ⟨S128, .i32⟩
  | 31 => ⟨S128, .i1⟩
  | 32 => ⟨S_, .i32⟩
  | 33 => ⟨S_, .i1⟩
  | 34 => ⟨S128, .i1⟩
  | 35 => ⟨S128, .i1⟩
  | 36 => ⟨S128, .i1⟩
  | 37 => ⟨S128, .i32⟩
  | 38 => ⟨S128, .i32⟩
  | 39 => ⟨S128, .i32⟩
  | 40 => ⟨S_, .i32⟩
  | 41 => ⟨S128, .i32⟩
  | 42 => ⟨S128, .i1⟩
  | 43 => ⟨S_, .f32⟩
  | 44 => ⟨S_, .f32⟩
  | 45 => ⟨S128, .f32⟩
  | 46 => ⟨S128, .f32⟩
  | 47 => ⟨S128, .f32⟩
  | 48 => ⟨S128, .f32⟩
  | 49 => ⟨S_, .i32⟩
  | 50 => ⟨S128, .i32⟩
  | 51 => ⟨S128, .i1⟩
  | 52 => ⟨S1x128, .i1⟩
  | 53 => ⟨S8192x128, .f32⟩
  | 54 => ⟨S_, .f32⟩
  | 55 => ⟨S_, .f32⟩
  | 56 => ⟨S8192x128, .i1⟩
  | 57 => ⟨S8192x128, .f32⟩
  | 58 => ⟨S8192x128, .f32⟩
  | 59 => ⟨S8192x128, .f32⟩
  | 60 => ⟨S1x128, .f32⟩
  | 61 => ⟨S8192x128, .f32⟩
  | 62 => ⟨S8192x128, .f32⟩
  | 63 => ⟨S_, .f32⟩
  | 64 => ⟨S_, .f32⟩
  | 65 => ⟨S8192x128, .i1⟩
  | 66 => ⟨S8192x128, .f32⟩
  | 67 => ⟨S8192x128, .f32⟩
  | 68 => ⟨S_, .f32⟩
  | 69 => ⟨S256x128, .f32⟩
  | 70 => ⟨S8448x128, .f32⟩
  | 71 => ⟨S_, .f32⟩
  | 72 => ⟨S256x128, .f32⟩
  | 73 => ⟨S8448x128, .f32⟩
  | 74 => ⟨S16, .f32⟩
  | 75 => ⟨S_, .f32⟩
  | 76 => ⟨S16, .f32⟩
  | 77 => ⟨S16, .f32⟩
  | 78 => ⟨S_, .f32⟩
  | 79 => ⟨S16, .f32⟩
  | 80 => ⟨S16, .f32⟩
  | 81 => ⟨S16, .f32⟩
  | 82 => ⟨S_, .f32⟩
  | 83 => ⟨S16, .f32⟩
  | 84 => ⟨S16, .f32⟩
  | 85 => ⟨S_, .f32⟩
  | 86 => ⟨S16, .f32⟩
  | 87 => ⟨S16, .f32⟩
  | 88 => ⟨S_, .i32⟩
  | 89 => ⟨S_, .i32⟩
  | 90 => ⟨S_, .i32⟩
  | 91 => ⟨S_, .i1⟩
  | 92 => ⟨S_, .i32⟩
  | 93 => ⟨S_, .i32⟩
  | 94 => ⟨S128, .i32⟩
  | 95 => ⟨S128, .i32⟩
  | 96 => ⟨S_, .i32⟩
  | 97 => ⟨S128, .i32⟩
  | 98 => ⟨S128, .i1⟩
  | 99 => ⟨S_, .i32⟩
  | 100 => ⟨S128, .i32⟩
  | 101 => ⟨S128, .i1⟩
  | 102 => ⟨S_, .i32⟩
  | 103 => ⟨S_, .i1⟩
  | 104 => ⟨S128, .i1⟩
  | 105 => ⟨S128, .i1⟩
  | 106 => ⟨S128, .i1⟩
  | 107 => ⟨S128, .i32⟩
  | 108 => ⟨S128, .i32⟩
  | 109 => ⟨S128, .i32⟩
  | 110 => ⟨S_, .i32⟩
  | 111 => ⟨S128, .i32⟩
  | 112 => ⟨S128, .i1⟩
  | 113 => ⟨S_, .i32⟩
  | 114 => ⟨S128, .i32⟩
  | 115 => ⟨S128, .i32⟩
  | 116 => ⟨S128, .i32⟩
  | 117 => ⟨S128x1, .i32⟩
  | 118 => ⟨S128, .f32⟩
  | 119 => ⟨S_, .i32⟩
  | 120 => ⟨S_, .i32⟩
  | 121 => ⟨S128, .i32⟩
  | 122 => ⟨S128, .i32⟩
  | 123 => ⟨S128, .i32⟩
  | 124 => ⟨S_, .i32⟩
  | 125 => ⟨S128, .i32⟩
  | 126 => ⟨S128, .i1⟩
  | 127 => ⟨S128, .i32⟩
  | _ => ⟨S8448x4096, .bf16⟩

abbrev hbmTy0_2 (i : Nat) : BufTy := match i % 128 with
  | 0 => ⟨S128, .i32⟩
  | 1 => ⟨S_, .i32⟩
  | 2 => ⟨S128, .i32⟩
  | 3 => ⟨S128, .i1⟩
  | 4 => ⟨S128, .i1⟩
  | 5 => ⟨S_, .i32⟩
  | 6 => ⟨S128, .i32⟩
  | 7 => ⟨S128, .i32⟩
  | 8 => ⟨S128, .i32⟩
  | 9 => ⟨S_, .i32⟩
  | 10 => ⟨S_, .i32⟩
  | 11 => ⟨S_, .i32⟩
  | 12 => ⟨S_, .i1⟩
  | 13 => ⟨S_, .i32⟩
  | 14 => ⟨S_, .i32⟩
  | 15 => ⟨S128, .i32⟩
  | 16 => ⟨S128, .i32⟩
  | 17 => ⟨S_, .i32⟩
  | 18 => ⟨S128, .i32⟩
  | 19 => ⟨S128, .i1⟩
  | 20 => ⟨S_, .i32⟩
  | 21 => ⟨S128, .i32⟩
  | 22 => ⟨S128, .i1⟩
  | 23 => ⟨S_, .i32⟩
  | 24 => ⟨S_, .i1⟩
  | 25 => ⟨S128, .i1⟩
  | 26 => ⟨S128, .i1⟩
  | 27 => ⟨S128, .i1⟩
  | 28 => ⟨S128, .i32⟩
  | 29 => ⟨S128, .i32⟩
  | 30 => ⟨S128, .i32⟩
  | 31 => ⟨S_, .i32⟩
  | 32 => ⟨S128, .i32⟩
  | 33 => ⟨S128, .i1⟩
  | 34 => ⟨S1x128, .i1⟩
  | 35 => ⟨S8192x1, .f32⟩
  | 36 => ⟨S8192x1, .f32⟩
  | 37 => ⟨S8192x128, .i1⟩
  | 38 => ⟨S8192x128, .f32⟩
  | 39 => ⟨S8192x128, .f32⟩
  | 40 => ⟨S8192x128, .f32⟩
  | 41 => ⟨S1x128, .f32⟩
  | 42 => ⟨S8192x128, .f32⟩
  | 43 => ⟨S8192x128, .f32⟩
  | 44 => ⟨S_, .i32⟩
  | 45 => ⟨S_, .i32⟩
  | 46 => ⟨S_, .i32⟩
  | 47 => ⟨S_, .i1⟩
  | 48 => ⟨S_, .i32⟩
  | 49 => ⟨S_, .i32⟩
  | 50 => ⟨S128, .i32⟩
  | 51 => ⟨S128, .i32⟩
  | 52 => ⟨S_, .i32⟩
  | 53 => ⟨S128, .i32⟩
  | 54 => ⟨S128, .i1⟩
  | 55 => ⟨S_, .i32⟩
  | 56 => ⟨S128, .i32⟩
  | 57 => ⟨S128, .i1⟩
  | 58 => ⟨S_, .i32⟩
  | 59 => ⟨S_, .i1⟩
  | 60 => ⟨S128, .i1⟩
  | 61 => ⟨S128, .i1⟩
  | 62 => ⟨S128, .i1⟩
  | 63 => ⟨S128, .i32⟩
  | 64 => ⟨S128, .i32⟩
  | 65 => ⟨S128, .i32⟩
  | 66 => ⟨S_, .i32⟩
  | 67 => ⟨S128, .i32⟩
  | 68 => ⟨S128, .i1⟩
  | 69 => ⟨S_, .f32⟩
  | 70 => ⟨S_, .f32⟩
  | 71 => ⟨S128, .f32⟩
  | 72 => ⟨S128, .f32⟩
  | 73 => ⟨S128, .f32⟩
  | 74 => ⟨S128, .f32⟩
  | 75 => ⟨S_, .i32⟩
  | 76 => ⟨S128, .i32⟩
  | 77 => ⟨S128, .i1⟩
  | 78 => ⟨S1x128, .i1⟩
  | 79 => ⟨S8192x128, .f32⟩
  | 80 => ⟨S_, .f32⟩
  | 81 => ⟨S_, .f32⟩
  | 82 => ⟨S8192x128, .i1⟩
  | 83 => ⟨S8192x128, .f32⟩
  | 84 => ⟨S8192x128, .f32⟩
  | 85 => ⟨S8192x128, .f32⟩
  | 86 => ⟨S1x128, .f32⟩
  | 87 => ⟨S8192x128, .f32⟩
  | 88 => ⟨S8192x128, .f32⟩
  | 89 => ⟨S_, .f32⟩
  | 90 => ⟨S_, .f32⟩
  | 91 => ⟨S8192x128, .i1⟩
  | 92 => ⟨S8192x128, .f32⟩
  | 93 => ⟨S8192x128, .f32⟩
  | 94 => ⟨S_, .f32⟩
  | 95 => ⟨S256x128, .f32⟩
  | 96 => ⟨S8448x128, .f32⟩
  | 97 => ⟨S_, .f32⟩
  | 98 => ⟨S256x128, .f32⟩
  | 99 => ⟨S8448x128, .f32⟩
  | 100 => ⟨S4x7488x4096, .f32⟩
  | 101 => ⟨S4x7488x4096, .bf16⟩
  | 102 => ⟨S1x128, .f32⟩
  | 103 => ⟨S128, .f32⟩
  | 104 => ⟨S1x128, .f32⟩
  | 105 => ⟨S128, .f32⟩
  | 106 => ⟨S1x128, .f32⟩
  | 107 => ⟨S1x128, .f32⟩
  | 108 => ⟨S8448x6144, .bf16⟩
  | _ => ⟨S8448x4096, .bf16⟩

abbrev hbmTy (i : Nat) : BufTy := match i / 128 with
  | 0 => hbmTy0_0 i
  | 1 => hbmTy0_1 i
  | 2 => hbmTy0_2 i
  | _ => ⟨S8448x4096, .bf16⟩

abbrev bufTy : (tb : Table) → Fin (tcTables nBuf tb) → BufTy
  | .hbm, ⟨i, _⟩ => hbmTy i
  | .local _ .vmem, ⟨0, _⟩ => ⟨S1408x4096, .bf16⟩
  | .local _ .vmem, ⟨1, _⟩ => ⟨S1408x4096, .bf16⟩
  | .local _ .vmem, ⟨2, _⟩ => ⟨S1x512x4096, .bf16⟩
  | .local _ .vmem, ⟨3, _⟩ => ⟨S1x512x4096, .bf16⟩
  | .local _ .vmem, ⟨4, _⟩ => ⟨S1408x128, .f32⟩
  | .local _ .vmem, ⟨5, _⟩ => ⟨S1408x128, .f32⟩
  | .local _ .vmem, ⟨6, _⟩ => ⟨S1408x128, .f32⟩
  | .local _ .vmem, ⟨7, _⟩ => ⟨S1408x128, .f32⟩
  | .local _ .vmem, ⟨8, _⟩ => ⟨S1x128, .f32⟩
  | .local _ .vmem, ⟨9, _⟩ => ⟨S1x128, .f32⟩
  | .local _ .vmem, ⟨10, _⟩ => ⟨S1408x512, .bf16⟩
  | .local _ .vmem, ⟨11, _⟩ => ⟨S1408x512, .bf16⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v1 : Ref sig .tc := ⟨.hbm, 22, rfl⟩
abbrev main_v2 : Ref sig .tc := ⟨.hbm, 23, rfl⟩
abbrev main_c_0 : Ref sig .tc := ⟨.hbm, 24, rfl⟩
abbrev main_call1_v0 : Ref sig .tc := ⟨.hbm, 25, rfl⟩
abbrev main_call1_c : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_c_1 : Ref sig .tc := ⟨.hbm, 32, rfl⟩
abbrev main_call1_v5 : Ref sig .tc := ⟨.hbm, 33, rfl⟩
abbrev main_call1_v6 : Ref sig .tc := ⟨.hbm, 34, rfl⟩
abbrev main_call1_c_2 : Ref sig .tc := ⟨.hbm, 35, rfl⟩
abbrev main_call1_v7 : Ref sig .tc := ⟨.hbm, 36, rfl⟩
abbrev main_call1_v8 : Ref sig .tc := ⟨.hbm, 37, rfl⟩
abbrev main_call1_c_3 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_v3 : Ref sig .tc := ⟨.hbm, 45, rfl⟩
abbrev main_v4 : Ref sig .tc := ⟨.hbm, 46, rfl⟩
abbrev main_v5 : Ref sig .tc := ⟨.hbm, 47, rfl⟩
abbrev main_v6 : Ref sig .tc := ⟨.hbm, 48, rfl⟩
abbrev main_cst : Ref sig .tc := ⟨.hbm, 49, rfl⟩
abbrev main_v7 : Ref sig .tc := ⟨.hbm, 50, rfl⟩
abbrev main_v8 : Ref sig .tc := ⟨.hbm, 51, rfl⟩
abbrev main_cst_1 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_cst_2 : Ref sig .tc := ⟨.hbm, 56, rfl⟩
abbrev main_v12 : Ref sig .tc := ⟨.hbm, 57, rfl⟩
abbrev main_v13 : Ref sig .tc := ⟨.hbm, 58, rfl⟩
abbrev main_cst_3 : Ref sig .tc := ⟨.hbm, 59, rfl⟩
abbrev main_v14 : Ref sig .tc := ⟨.hbm, 60, rfl⟩
abbrev main_v15 : Ref sig .tc := ⟨.hbm, 61, rfl⟩
abbrev main_c_4 : Ref sig .tc := ⟨.hbm, 62, rfl⟩
abbrev main_call2_v0 : Ref sig .tc := ⟨.hbm, 63, rfl⟩
abbrev main_call2_c : Ref sig .tc := ⟨.hbm, 64, rfl⟩
abbrev main_call2_v1 : Ref sig .tc := ⟨.hbm, 65, rfl⟩
abbrev main_call2_c_0 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_c_1 : Ref sig .tc := ⟨.hbm, 70, rfl⟩
abbrev main_call2_v5 : Ref sig .tc := ⟨.hbm, 71, rfl⟩
abbrev main_call2_v6 : Ref sig .tc := ⟨.hbm, 72, rfl⟩
abbrev main_call2_c_2 : Ref sig .tc := ⟨.hbm, 73, rfl⟩
abbrev main_call2_v7 : Ref sig .tc := ⟨.hbm, 74, rfl⟩
abbrev main_call2_v8 : Ref sig .tc := ⟨.hbm, 75, rfl⟩
abbrev main_call2_c_3 : Ref sig .tc := ⟨.hbm, 76, rfl⟩
abbrev main_call2_v9 : Ref sig .tc := ⟨.hbm, 77, rfl⟩
abbrev main_call2_v10 : Ref sig .tc := ⟨.hbm, 78, rfl⟩
abbrev main_call2_v11 : Ref sig .tc := ⟨.hbm, 79, rfl⟩
abbrev main_call2_v12 : Ref sig .tc := ⟨.hbm, 80, rfl⟩
abbrev main_call2_v13 : Ref sig .tc := ⟨.hbm, 81, rfl⟩
abbrev main_call2_v14 : Ref sig .tc := ⟨.hbm, 82, rfl⟩
abbrev main_v16 : Ref sig .tc := ⟨.hbm, 83, rfl⟩
abbrev main_c_5 : Ref sig .tc := ⟨.hbm, 84, rfl⟩
abbrev main_v17 : Ref sig .tc := ⟨.hbm, 85, rfl⟩
abbrev main_v18 : Ref sig .tc := ⟨.hbm, 86, rfl⟩
abbrev main_c_6 : Ref sig .tc := ⟨.hbm, 87, rfl⟩
abbrev main_v19 : Ref sig .tc := ⟨.hbm, 88, rfl⟩
abbrev main_v20 : Ref sig .tc := ⟨.hbm, 89, rfl⟩
abbrev main_v21 : Ref sig .tc := ⟨.hbm, 90, rfl⟩
abbrev main_v22 : Ref sig .tc := ⟨.hbm, 91, rfl⟩
abbrev main_v23 : Ref sig .tc := ⟨.hbm, 92, rfl⟩
abbrev main_c_7 : Ref sig .tc := ⟨.hbm, 93, rfl⟩
abbrev main_call3_v0 : Ref sig .tc := ⟨.hbm, 94, rfl⟩
abbrev main_call3_v1 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_call3_v5 : Ref sig .tc := ⟨.hbm, 99, rfl⟩
abbrev main_call3_v6 : Ref sig .tc := ⟨.hbm, 100, rfl⟩
abbrev main_call3_v7 : Ref sig .tc := ⟨.hbm, 101, rfl⟩
abbrev main_call3_v8 : Ref sig .tc := ⟨.hbm, 102, rfl⟩
abbrev main_call3_c : Ref sig .tc := ⟨.hbm, 103, rfl⟩
abbrev main_call3_v9 : Ref sig .tc := ⟨.hbm, 104, rfl⟩
abbrev main_call3_v10 : Ref sig .tc := ⟨.hbm, 105, rfl⟩
abbrev main_call3_v11 : Ref sig .tc := ⟨.hbm, 106, rfl⟩
abbrev main_call3_c_0 : Ref sig .tc := ⟨.hbm, 107, rfl⟩
abbrev main_call3_v12 : Ref sig .tc := ⟨.hbm, 108, rfl⟩
abbrev main_call3_v13 : Ref sig .tc := ⟨.hbm, 109, rfl⟩
abbrev main_v24 : Ref sig .tc := ⟨.hbm, 110, rfl⟩
abbrev main_c_8 : Ref sig .tc := ⟨.hbm, 111, rfl⟩
abbrev main_call4_v0 : Ref sig .tc := ⟨.hbm, 112, rfl⟩
abbrev main_call4_c : Ref sig .tc := ⟨.hbm, 113, rfl⟩
abbrev main_call4_v1 : Ref sig .tc := ⟨.hbm, 114, rfl⟩
abbrev main_call4_c_0 : Ref sig .tc := ⟨.hbm, 115, rfl⟩
abbrev main_call4_v2 : Ref sig .tc := ⟨.hbm, 116, rfl⟩
abbrev main_call4_v3 : Ref sig .tc := ⟨.hbm, 117, rfl⟩
abbrev main_call4_v4 : Ref sig .tc := ⟨.hbm, 118, rfl⟩
abbrev main_call4_c_1 : Ref sig .tc := ⟨.hbm, 119, rfl⟩
abbrev main_call4_v5 : Ref sig .tc := ⟨.hbm, 120, rfl⟩
abbrev main_call4_v6 : Ref sig .tc := ⟨.hbm, 121, rfl⟩
abbrev main_call4_c_2 : Ref sig .tc := ⟨.hbm, 122, rfl⟩
abbrev main_call4_v7 : Ref sig .tc := ⟨.hbm, 123, rfl⟩
abbrev main_call4_v8 : Ref sig .tc := ⟨.hbm, 124, rfl⟩
abbrev main_call4_c_3 : Ref sig .tc := ⟨.hbm, 125, rfl⟩
abbrev main_call4_v9 : Ref sig .tc := ⟨.hbm, 126, rfl⟩
abbrev main_call4_v10 : Ref sig .tc := ⟨.hbm, 127, rfl⟩
abbrev main_call4_v11 : Ref sig .tc := ⟨.hbm, 128, rfl⟩
abbrev main_call4_v12 : Ref sig .tc := ⟨.hbm, 129, rfl⟩
abbrev main_call4_v13 : Ref sig .tc := ⟨.hbm, 130, rfl⟩
abbrev main_call4_v14 : Ref sig .tc := ⟨.hbm, 131, rfl⟩
abbrev main_v25 : Ref sig .tc := ⟨.hbm, 132, rfl⟩
abbrev main_c_9 : Ref sig .tc := ⟨.hbm, 133, rfl⟩
abbrev main_v26 : Ref sig .tc := ⟨.hbm, 134, rfl⟩
abbrev main_v27 : Ref sig .tc := ⟨.hbm, 135, rfl⟩
abbrev main_v28 : Ref sig .tc := ⟨.hbm, 136, rfl⟩
abbrev main_v29 : Ref sig .tc := ⟨.hbm, 137, rfl⟩
abbrev main_v30 : Ref sig .tc := ⟨.hbm, 138, rfl⟩
abbrev main_call5_v0 : Ref sig .tc := ⟨.hbm, 139, rfl⟩
abbrev main_call5_v1 : Ref sig .tc := ⟨.hbm, 140, rfl⟩
abbrev main_call5_v2 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_c_10 : Ref sig .tc := ⟨.hbm, 146, rfl⟩
abbrev main_call6_v0 : Ref sig .tc := ⟨.hbm, 147, rfl⟩
abbrev main_call6_c : Ref sig .tc := ⟨.hbm, 148, rfl⟩
abbrev main_call6_v1 : Ref sig .tc := ⟨.hbm, 149, rfl⟩
abbrev main_call6_c_0 : Ref sig .tc := ⟨.hbm, 150, rfl⟩
abbrev main_call6_v2 : Ref sig .tc := ⟨.hbm, 151, rfl⟩
abbrev main_call6_v3 : Ref sig .tc := ⟨.hbm, 152, rfl⟩
abbrev main_call6_v4 : Ref sig .tc := ⟨.hbm, 153, rfl⟩
abbrev main_call6_c_1 : Ref sig .tc := ⟨.hbm, 154, rfl⟩
abbrev main_call6_v5 : Ref sig .tc := ⟨.hbm, 155, rfl⟩
abbrev main_call6_v6 : Ref sig .tc := ⟨.hbm, 156, rfl⟩
abbrev main_call6_c_2 : Ref sig .tc := ⟨.hbm, 157, rfl⟩
abbrev main_call6_v7 : Ref sig .tc := ⟨.hbm, 158, rfl⟩
abbrev main_call6_v8 : Ref sig .tc := ⟨.hbm, 159, rfl⟩
abbrev main_call6_c_3 : Ref sig .tc := ⟨.hbm, 160, rfl⟩
abbrev main_call6_v9 : Ref sig .tc := ⟨.hbm, 161, rfl⟩
abbrev main_call6_v10 : Ref sig .tc := ⟨.hbm, 162, rfl⟩
abbrev main_call6_v11 : Ref sig .tc := ⟨.hbm, 163, rfl⟩
abbrev main_call6_v12 : Ref sig .tc := ⟨.hbm, 164, rfl⟩
abbrev main_call6_v13 : Ref sig .tc := ⟨.hbm, 165, rfl⟩
abbrev main_call6_v14 : Ref sig .tc := ⟨.hbm, 166, rfl⟩
abbrev main_v35 : Ref sig .tc := ⟨.hbm, 167, rfl⟩
abbrev main_c_11 : Ref sig .tc := ⟨.hbm, 168, rfl⟩
abbrev main_v36 : Ref sig .tc := ⟨.hbm, 169, rfl⟩
abbrev main_v37 : Ref sig .tc := ⟨.hbm, 170, rfl⟩
abbrev main_cst_12 : Ref sig .tc := ⟨.hbm, 171, rfl⟩
abbrev main_cst_13 : Ref sig .tc := ⟨.hbm, 172, rfl⟩
abbrev main_call7_v0 : Ref sig .tc := ⟨.hbm, 173, rfl⟩
abbrev main_call7_v1 : Ref sig .tc := ⟨.hbm, 174, rfl⟩
abbrev main_v38 : Ref sig .tc := ⟨.hbm, 175, rfl⟩
abbrev main_v39 : Ref sig .tc := ⟨.hbm, 176, rfl⟩
abbrev main_c_14 : Ref sig .tc := ⟨.hbm, 177, rfl⟩
abbrev main_v40 : Ref sig .tc := ⟨.hbm, 178, rfl⟩
abbrev main_v41 : Ref sig .tc := ⟨.hbm, 179, rfl⟩
abbrev main_v42 : Ref sig .tc := ⟨.hbm, 180, rfl⟩
abbrev main_v43 : Ref sig .tc := ⟨.hbm, 181, rfl⟩
abbrev main_cst_15 : Ref sig .tc := ⟨.hbm, 182, rfl⟩
abbrev main_call8_v0 : Ref sig .tc := ⟨.hbm, 183, rfl⟩
abbrev main_call8_v1 : Ref sig .tc := ⟨.hbm, 184, rfl⟩
abbrev main_call8_v2 : Ref sig .tc := ⟨.hbm, 185, rfl⟩
abbrev main_v44 : Ref sig .tc := ⟨.hbm, 186, rfl⟩
abbrev main_v45 : Ref sig .tc := ⟨.hbm, 187, rfl⟩
abbrev main_v46 : Ref sig .tc := ⟨.hbm, 188, rfl⟩
abbrev main_v47 : Ref sig .tc := ⟨.hbm, 189, rfl⟩
abbrev main_v48 : Ref sig .tc := ⟨.hbm, 190, rfl⟩
abbrev main_cst_16 : Ref sig .tc := ⟨.hbm, 191, rfl⟩
abbrev main_call9_v0 : Ref sig .tc := ⟨.hbm, 192, rfl⟩
abbrev main_call9_v1 : Ref sig .tc := ⟨.hbm, 193, rfl⟩
abbrev main_call9_v2 : Ref sig .tc := ⟨.hbm, 194, rfl⟩
abbrev main_v49 : Ref sig .tc := ⟨.hbm, 195, rfl⟩
abbrev main_cst_17 : Ref sig .tc := ⟨.hbm, 196, rfl⟩
abbrev main_v50 : Ref sig .tc := ⟨.hbm, 197, rfl⟩
abbrev main_v51 : Ref sig .tc := ⟨.hbm, 198, rfl⟩
abbrev main_cst_18 : Ref sig .tc := ⟨.hbm, 199, rfl⟩
abbrev main_v52 : Ref sig .tc := ⟨.hbm, 200, rfl⟩
abbrev main_v53 : Ref sig .tc := ⟨.hbm, 201, rfl⟩
abbrev main_v54 : Ref sig .tc := ⟨.hbm, 202, rfl⟩
abbrev main_cst_19 : Ref sig .tc := ⟨.hbm, 203, rfl⟩
abbrev main_v55 : Ref sig .tc := ⟨.hbm, 204, rfl⟩
abbrev main_v56 : Ref sig .tc := ⟨.hbm, 205, rfl⟩
abbrev main_cst_20 : Ref sig .tc := ⟨.hbm, 206, rfl⟩
abbrev main_v57 : Ref sig .tc := ⟨.hbm, 207, rfl⟩
abbrev main_v58 : Ref sig .tc := ⟨.hbm, 208, rfl⟩
abbrev main_v59 : Ref sig .tc := ⟨.hbm, 209, rfl⟩
abbrev main_cst_21 : Ref sig .tc := ⟨.hbm, 210, rfl⟩
abbrev main_v60 : Ref sig .tc := ⟨.hbm, 211, rfl⟩
abbrev main_v61 : Ref sig .tc := ⟨.hbm, 212, rfl⟩
abbrev main_cst_22 : Ref sig .tc := ⟨.hbm, 213, rfl⟩
abbrev main_v62 : Ref sig .tc := ⟨.hbm, 214, rfl⟩
abbrev main_v63 : Ref sig .tc := ⟨.hbm, 215, rfl⟩
abbrev main_c_23 : Ref sig .tc := ⟨.hbm, 216, rfl⟩
abbrev main_call10_v0 : Ref sig .tc := ⟨.hbm, 217, rfl⟩
abbrev main_call10_c : Ref sig .tc := ⟨.hbm, 218, rfl⟩
abbrev main_call10_v1 : Ref sig .tc := ⟨.hbm, 219, rfl⟩
abbrev main_call10_c_0 : Ref sig .tc := ⟨.hbm, 220, rfl⟩
abbrev main_call10_v2 : Ref sig .tc := ⟨.hbm, 221, rfl⟩
abbrev main_call10_v3 : Ref sig .tc := ⟨.hbm, 222, rfl⟩
abbrev main_call10_v4 : Ref sig .tc := ⟨.hbm, 223, rfl⟩
abbrev main_call10_c_1 : Ref sig .tc := ⟨.hbm, 224, rfl⟩
abbrev main_call10_v5 : Ref sig .tc := ⟨.hbm, 225, rfl⟩
abbrev main_call10_v6 : Ref sig .tc := ⟨.hbm, 226, rfl⟩
abbrev main_call10_c_2 : Ref sig .tc := ⟨.hbm, 227, rfl⟩
abbrev main_call10_v7 : Ref sig .tc := ⟨.hbm, 228, rfl⟩
abbrev main_call10_v8 : Ref sig .tc := ⟨.hbm, 229, rfl⟩
abbrev main_call10_c_3 : Ref sig .tc := ⟨.hbm, 230, rfl⟩
abbrev main_call10_v9 : Ref sig .tc := ⟨.hbm, 231, rfl⟩
abbrev main_call10_v10 : Ref sig .tc := ⟨.hbm, 232, rfl⟩
abbrev main_call10_v11 : Ref sig .tc := ⟨.hbm, 233, rfl⟩
abbrev main_call10_v12 : Ref sig .tc := ⟨.hbm, 234, rfl⟩
abbrev main_call10_v13 : Ref sig .tc := ⟨.hbm, 235, rfl⟩
abbrev main_call10_v14 : Ref sig .tc := ⟨.hbm, 236, rfl⟩
abbrev main_v64 : Ref sig .tc := ⟨.hbm, 237, rfl⟩
abbrev main_c_24 : Ref sig .tc := ⟨.hbm, 238, rfl⟩
abbrev main_v65 : Ref sig .tc := ⟨.hbm, 239, rfl⟩
abbrev main_v66 : Ref sig .tc := ⟨.hbm, 240, rfl⟩
abbrev main_c_25 : Ref sig .tc := ⟨.hbm, 241, rfl⟩
abbrev main_v67 : Ref sig .tc := ⟨.hbm, 242, rfl⟩
abbrev main_v68 : Ref sig .tc := ⟨.hbm, 243, rfl⟩
abbrev main_v69 : Ref sig .tc := ⟨.hbm, 244, rfl⟩
abbrev main_v70 : Ref sig .tc := ⟨.hbm, 245, rfl⟩
abbrev main_v71 : Ref sig .tc := ⟨.hbm, 246, rfl⟩
abbrev main_c_26 : Ref sig .tc := ⟨.hbm, 247, rfl⟩
abbrev main_call11_v0 : Ref sig .tc := ⟨.hbm, 248, rfl⟩
abbrev main_call11_v1 : Ref sig .tc := ⟨.hbm, 249, rfl⟩
abbrev main_call11_v2 : Ref sig .tc := ⟨.hbm, 250, rfl⟩
abbrev main_call11_v3 : Ref sig .tc := ⟨.hbm, 251, rfl⟩
abbrev main_call11_v4 : Ref sig .tc := ⟨.hbm, 252, rfl⟩
abbrev main_call11_v5 : Ref sig .tc := ⟨.hbm, 253, rfl⟩
abbrev main_call11_v6 : Ref sig .tc := ⟨.hbm, 254, rfl⟩
abbrev main_call11_v7 : Ref sig .tc := ⟨.hbm, 255, rfl⟩
abbrev main_call11_v8 : Ref sig .tc := ⟨.hbm, 256, rfl⟩
abbrev main_call11_c : Ref sig .tc := ⟨.hbm, 257, rfl⟩
abbrev main_call11_v9 : Ref sig .tc := ⟨.hbm, 258, rfl⟩
abbrev main_call11_v10 : Ref sig .tc := ⟨.hbm, 259, rfl⟩
abbrev main_call11_v11 : Ref sig .tc := ⟨.hbm, 260, rfl⟩
abbrev main_call11_c_0 : Ref sig .tc := ⟨.hbm, 261, rfl⟩
abbrev main_call11_v12 : Ref sig .tc := ⟨.hbm, 262, rfl⟩
abbrev main_call11_v13 : Ref sig .tc := ⟨.hbm, 263, rfl⟩
abbrev main_v72 : Ref sig .tc := ⟨.hbm, 264, rfl⟩
abbrev main_c_27 : Ref sig .tc := ⟨.hbm, 265, rfl⟩
abbrev main_call12_v0 : Ref sig .tc := ⟨.hbm, 266, rfl⟩
abbrev main_call12_c : Ref sig .tc := ⟨.hbm, 267, rfl⟩
abbrev main_call12_v1 : Ref sig .tc := ⟨.hbm, 268, rfl⟩
abbrev main_call12_c_0 : Ref sig .tc := ⟨.hbm, 269, rfl⟩
abbrev main_call12_v2 : Ref sig .tc := ⟨.hbm, 270, rfl⟩
abbrev main_call12_v3 : Ref sig .tc := ⟨.hbm, 271, rfl⟩
abbrev main_call12_v4 : Ref sig .tc := ⟨.hbm, 272, rfl⟩
abbrev main_call12_c_1 : Ref sig .tc := ⟨.hbm, 273, rfl⟩
abbrev main_call12_v5 : Ref sig .tc := ⟨.hbm, 274, rfl⟩
abbrev main_call12_v6 : Ref sig .tc := ⟨.hbm, 275, rfl⟩
abbrev main_call12_c_2 : Ref sig .tc := ⟨.hbm, 276, rfl⟩
abbrev main_call12_v7 : Ref sig .tc := ⟨.hbm, 277, rfl⟩
abbrev main_call12_v8 : Ref sig .tc := ⟨.hbm, 278, rfl⟩
abbrev main_call12_c_3 : Ref sig .tc := ⟨.hbm, 279, rfl⟩
abbrev main_call12_v9 : Ref sig .tc := ⟨.hbm, 280, rfl⟩
abbrev main_call12_v10 : Ref sig .tc := ⟨.hbm, 281, rfl⟩
abbrev main_call12_v11 : Ref sig .tc := ⟨.hbm, 282, rfl⟩
abbrev main_call12_v12 : Ref sig .tc := ⟨.hbm, 283, rfl⟩
abbrev main_call12_v13 : Ref sig .tc := ⟨.hbm, 284, rfl⟩
abbrev main_call12_v14 : Ref sig .tc := ⟨.hbm, 285, rfl⟩
abbrev main_v73 : Ref sig .tc := ⟨.hbm, 286, rfl⟩
abbrev main_c_28 : Ref sig .tc := ⟨.hbm, 287, rfl⟩
abbrev main_v74 : Ref sig .tc := ⟨.hbm, 288, rfl⟩
abbrev main_v75 : Ref sig .tc := ⟨.hbm, 289, rfl⟩
abbrev main_v76 : Ref sig .tc := ⟨.hbm, 290, rfl⟩
abbrev main_v77 : Ref sig .tc := ⟨.hbm, 291, rfl⟩
abbrev main_v78 : Ref sig .tc := ⟨.hbm, 292, rfl⟩
abbrev main_call13_v0 : Ref sig .tc := ⟨.hbm, 293, rfl⟩
abbrev main_call13_v1 : Ref sig .tc := ⟨.hbm, 294, rfl⟩
abbrev main_call13_v2 : Ref sig .tc := ⟨.hbm, 295, rfl⟩
abbrev main_v79 : Ref sig .tc := ⟨.hbm, 296, rfl⟩
abbrev main_v80 : Ref sig .tc := ⟨.hbm, 297, rfl⟩
abbrev main_v81 : Ref sig .tc := ⟨.hbm, 298, rfl⟩
abbrev main_v82 : Ref sig .tc := ⟨.hbm, 299, rfl⟩
abbrev main_c_29 : Ref sig .tc := ⟨.hbm, 300, rfl⟩
abbrev main_call14_v0 : Ref sig .tc := ⟨.hbm, 301, rfl⟩
abbrev main_call14_c : Ref sig .tc := ⟨.hbm, 302, rfl⟩
abbrev main_call14_v1 : Ref sig .tc := ⟨.hbm, 303, rfl⟩
abbrev main_call14_c_0 : Ref sig .tc := ⟨.hbm, 304, rfl⟩
abbrev main_call14_v2 : Ref sig .tc := ⟨.hbm, 305, rfl⟩
abbrev main_call14_v3 : Ref sig .tc := ⟨.hbm, 306, rfl⟩
abbrev main_call14_v4 : Ref sig .tc := ⟨.hbm, 307, rfl⟩
abbrev main_call14_c_1 : Ref sig .tc := ⟨.hbm, 308, rfl⟩
abbrev main_call14_v5 : Ref sig .tc := ⟨.hbm, 309, rfl⟩
abbrev main_call14_v6 : Ref sig .tc := ⟨.hbm, 310, rfl⟩
abbrev main_call14_c_2 : Ref sig .tc := ⟨.hbm, 311, rfl⟩
abbrev main_call14_v7 : Ref sig .tc := ⟨.hbm, 312, rfl⟩
abbrev main_call14_v8 : Ref sig .tc := ⟨.hbm, 313, rfl⟩
abbrev main_call14_c_3 : Ref sig .tc := ⟨.hbm, 314, rfl⟩
abbrev main_call14_v9 : Ref sig .tc := ⟨.hbm, 315, rfl⟩
abbrev main_call14_v10 : Ref sig .tc := ⟨.hbm, 316, rfl⟩
abbrev main_call14_v11 : Ref sig .tc := ⟨.hbm, 317, rfl⟩
abbrev main_call14_v12 : Ref sig .tc := ⟨.hbm, 318, rfl⟩
abbrev main_call14_v13 : Ref sig .tc := ⟨.hbm, 319, rfl⟩
abbrev main_call14_v14 : Ref sig .tc := ⟨.hbm, 320, rfl⟩
abbrev main_v83 : Ref sig .tc := ⟨.hbm, 321, rfl⟩
abbrev main_c_30 : Ref sig .tc := ⟨.hbm, 322, rfl⟩
abbrev main_v84 : Ref sig .tc := ⟨.hbm, 323, rfl⟩
abbrev main_v85 : Ref sig .tc := ⟨.hbm, 324, rfl⟩
abbrev main_cst_31 : Ref sig .tc := ⟨.hbm, 325, rfl⟩
abbrev main_cst_32 : Ref sig .tc := ⟨.hbm, 326, rfl⟩
abbrev main_call15_v0 : Ref sig .tc := ⟨.hbm, 327, rfl⟩
abbrev main_call15_v1 : Ref sig .tc := ⟨.hbm, 328, rfl⟩
abbrev main_v86 : Ref sig .tc := ⟨.hbm, 329, rfl⟩
abbrev main_v87 : Ref sig .tc := ⟨.hbm, 330, rfl⟩
abbrev main_c_33 : Ref sig .tc := ⟨.hbm, 331, rfl⟩
abbrev main_v88 : Ref sig .tc := ⟨.hbm, 332, rfl⟩
abbrev main_v89 : Ref sig .tc := ⟨.hbm, 333, rfl⟩
abbrev main_v90 : Ref sig .tc := ⟨.hbm, 334, rfl⟩
abbrev main_v91 : Ref sig .tc := ⟨.hbm, 335, rfl⟩
abbrev main_cst_34 : Ref sig .tc := ⟨.hbm, 336, rfl⟩
abbrev main_call16_v0 : Ref sig .tc := ⟨.hbm, 337, rfl⟩
abbrev main_call16_v1 : Ref sig .tc := ⟨.hbm, 338, rfl⟩
abbrev main_call16_v2 : Ref sig .tc := ⟨.hbm, 339, rfl⟩
abbrev main_v92 : Ref sig .tc := ⟨.hbm, 340, rfl⟩
abbrev main_v93 : Ref sig .tc := ⟨.hbm, 341, rfl⟩
abbrev main_v94 : Ref sig .tc := ⟨.hbm, 342, rfl⟩
abbrev main_v95 : Ref sig .tc := ⟨.hbm, 343, rfl⟩
abbrev main_v96 : Ref sig .tc := ⟨.hbm, 344, rfl⟩
abbrev main_cst_35 : Ref sig .tc := ⟨.hbm, 345, rfl⟩
abbrev main_call17_v0 : Ref sig .tc := ⟨.hbm, 346, rfl⟩
abbrev main_call17_v1 : Ref sig .tc := ⟨.hbm, 347, rfl⟩
abbrev main_call17_v2 : Ref sig .tc := ⟨.hbm, 348, rfl⟩
abbrev main_v97 : Ref sig .tc := ⟨.hbm, 349, rfl⟩
abbrev main_cst_36 : Ref sig .tc := ⟨.hbm, 350, rfl⟩
abbrev main_v98 : Ref sig .tc := ⟨.hbm, 351, rfl⟩
abbrev main_v99 : Ref sig .tc := ⟨.hbm, 352, rfl⟩
abbrev main_cst_37 : Ref sig .tc := ⟨.hbm, 353, rfl⟩
abbrev main_v100 : Ref sig .tc := ⟨.hbm, 354, rfl⟩
abbrev main_v101 : Ref sig .tc := ⟨.hbm, 355, rfl⟩
abbrev main_v102 : Ref sig .tc := ⟨.hbm, 356, rfl⟩
abbrev main_v103 : Ref sig .tc := ⟨.hbm, 357, rfl⟩
abbrev main_v104 : Ref sig .tc := ⟨.hbm, 358, rfl⟩
abbrev main_v105 : Ref sig .tc := ⟨.hbm, 359, rfl⟩
abbrev main_v106 : Ref sig .tc := ⟨.hbm, 360, rfl⟩
abbrev main_v107 : Ref sig .tc := ⟨.hbm, 361, rfl⟩
abbrev main_v108 : Ref sig .tc := ⟨.hbm, 362, rfl⟩
abbrev main_v109 : Ref sig .tc := ⟨.hbm, 363, rfl⟩
abbrev main_v110 : Ref sig .tc := ⟨.hbm, 364, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![6, 12], ![false, false]⟩

def k0_mult1 (i : grid0.Coords) : BitVec 32 :=
  let arg1 : BitVec 32 := BitVec.ofNat 32 (i 1).val
  let c6_i32 : BitVec 32 := 6#32
  let v0 : BitVec 1 := Scalar.cmpi .slt arg1 c6_i32
  let c512_i32 : BitVec 32 := 512#32
  let v1 : BitVec 32 := Scalar.muli arg1 c512_i32
  let c1344_i32 : BitVec 32 := 1344#32
  let c512_i32_0 : BitVec 32 := 512#32
  let v2 : BitVec 32 := Scalar.muli arg1 c512_i32_0
  let v3 : BitVec 32 := Scalar.addi c1344_i32 v2
  let v4 : BitVec 32 := Scalar.select v0 v1 v3
  v4
def k0_cond1 (i : grid0.Coords) : BitVec 1 :=
  let arg1 : BitVec 32 := BitVec.ofNat 32 (i 1).val
  let c8_i32 : BitVec 32 := 8#32
  let v0 : BitVec 1 := Scalar.cmpi .eq arg1 c8_i32
  let c9_i32 : BitVec 32 := 9#32
  let v1 : BitVec 1 := Scalar.cmpi .eq arg1 c9_i32
  let v4 : BitVec 1 := Scalar.ori v0 v1
  let c10_i32 : BitVec 32 := 10#32
  let v2 : BitVec 1 := Scalar.cmpi .eq arg1 c10_i32
  let v5 : BitVec 1 := Scalar.ori v4 v2
  let c11_i32 : BitVec 32 := 11#32
  let v3 : BitVec 1 := Scalar.cmpi .eq arg1 c11_i32
  let v6 : BitVec 1 := Scalar.ori v5 v3
  let v7 : BitVec 32 := Scalar.extui v6
  let c0_i32 : BitVec 32 := 0#32
  let v8 : BitVec 1 := Scalar.cmpi .ne v7 c0_i32
  v8

def k0_cond2 (i : grid0.Coords) : BitVec 1 :=
  let arg1 : BitVec 32 := BitVec.ofNat 32 (i 1).val
  let c5_i32 : BitVec 32 := 5#32
  let v9 : BitVec 1 := Scalar.cmpi .eq arg1 c5_i32
  let v10 : BitVec 32 := Scalar.extui v9
  let c0_i32_0 : BitVec 32 := 0#32
  let v11 : BitVec 1 := Scalar.cmpi .ne v10 c0_i32_0
  v11

def k0_cond3 (i : grid0.Coords) : BitVec 1 :=
  let arg1 : BitVec 32 := BitVec.ofNat 32 (i 1).val
  let c3_i32 : BitVec 32 := 3#32
  let v12 : BitVec 1 := Scalar.cmpi .eq arg1 c3_i32
  let c4_i32 : BitVec 32 := 4#32
  let v13 : BitVec 1 := Scalar.cmpi .eq arg1 c4_i32
  let v14 : BitVec 1 := Scalar.ori v12 v13
  let v15 : BitVec 32 := Scalar.extui v14
  let c0_i32_1 : BitVec 32 := 0#32
  let v16 : BitVec 1 := Scalar.cmpi .ne v15 c0_i32_1
  v16

def k0_cond4 (i : grid0.Coords) : BitVec 1 :=
  let arg1 : BitVec 32 := BitVec.ofNat 32 (i 1).val
  let c2_i32 : BitVec 32 := 2#32
  let v17 : BitVec 1 := Scalar.cmpi .eq arg1 c2_i32
  let v18 : BitVec 32 := Scalar.extui v17
  let c0_i32_2 : BitVec 32 := 0#32
  let v19 : BitVec 1 := Scalar.cmpi .ne v18 c0_i32_2
  v19

def k0_cond5 (i : grid0.Coords) : BitVec 1 :=
  let arg1 : BitVec 32 := BitVec.ofNat 32 (i 1).val
  let c0_i32_3 : BitVec 32 := 0#32
  let v20 : BitVec 1 := Scalar.cmpi .eq arg1 c0_i32_3
  let c1_i32 : BitVec 32 := 1#32
  let v21 : BitVec 1 := Scalar.cmpi .eq arg1 c1_i32
  let v22 : BitVec 1 := Scalar.ori v20 v21
  let v23 : BitVec 32 := Scalar.extui v22
  let c0_i32_4 : BitVec 32 := 0#32
  let v24 : BitVec 1 := Scalar.cmpi .ne v23 c0_i32_4
  v24

def k0_cond6 (i : grid0.Coords) : BitVec 1 :=
  let arg1 : BitVec 32 := BitVec.ofNat 32 (i 1).val
  let c6_i32 : BitVec 32 := 6#32
  let v25 : BitVec 1 := Scalar.cmpi .eq arg1 c6_i32
  let c7_i32 : BitVec 32 := 7#32
  let v26 : BitVec 1 := Scalar.cmpi .eq arg1 c7_i32
  let v27 : BitVec 1 := Scalar.ori v25 v26
  let v28 : BitVec 32 := Scalar.extui v27
  let c0_i32_5 : BitVec 32 := 0#32
  let v29 : BitVec 1 := Scalar.cmpi .ne v28 c0_i32_5
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 1 := Scalar.cmpi .slt arg1 c6_i32
  let c512_i32 : BitVec 32 := 512#32
  let v1 : BitVec 32 := Scalar.muli arg1 c512_i32
  let c512_i32_0 : BitVec 32 := 512#32
  let v2 : BitVec 32 := Scalar.muli arg1 c512_i32_0
  let c1344_i32 : BitVec 32 := 1344#32
  let v3 : BitVec 32 := Scalar.addi c1344_i32 v2
  let v4 : BitVec 32 := Scalar.select v0 v1 v3
  let v5 : BitVec 32 := v4
  let c0_i32 : BitVec 32 := 0#32
  let c0_i32_1 : BitVec 32 := 0#32
  let c0_i32_2 : BitVec 32 := 0#32
  ![c0_i32.toNat, v5.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1408x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1408x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1408x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference6Ideal.lean ====
abbrev S8448x4096 : Shape := ⟨2, ![8448, 4096]⟩
abbrev S4x4096x7488 : Shape := ⟨3, ![4, 4096, 7488]⟩
abbrev S4x128 : Shape := ⟨2, ![4, 128]⟩
abbrev S1x4096x7488 : Shape := ⟨3, ![1, 4096, 7488]⟩
abbrev S4096x7488 : Shape := ⟨2, ![4096, 7488]⟩
abbrev S8448x7488 : Shape := ⟨2, ![8448, 7488]⟩
abbrev S8192 : Shape := ⟨1, ![8192]⟩
abbrev S_ : Shape := ⟨0, ![]⟩
abbrev S8448x1280 : Shape := ⟨2, ![8448, 1280]⟩
abbrev S8448x10x128 : Shape := ⟨3, ![8448, 10, 128]⟩
abbrev S8448x1024 : Shape := ⟨2, ![8448, 1024]⟩
abbrev S8448x8x128 : Shape := ⟨3, ![8448, 8, 128]⟩
abbrev S1x128 : Shape := ⟨2, ![1, 128]⟩
abbrev S128 : Shape := ⟨1, ![128]⟩
abbrev S8448x8 : Shape := ⟨2, ![8448, 8]⟩
abbrev S8448x8x1 : Shape := ⟨3, ![8448, 8, 1]⟩
abbrev S1x1x128 : Shape := ⟨3, ![1, 1, 128]⟩
abbrev S8448x256 : Shape := ⟨2, ![8448, 256]⟩
abbrev S8448x2x128 : Shape := ⟨3, ![8448, 2, 128]⟩
abbrev S8448x2 : Shape := ⟨2, ![8448, 2]⟩
abbrev S8448x2x1 : Shape := ⟨3, ![8448, 2, 1]⟩
abbrev S8448x20x128 : Shape := ⟨3, ![8448, 20, 128]⟩
abbrev S8192x20x128 : Shape := ⟨3, ![8192, 20, 128]⟩
abbrev S8192x20x64 : Shape := ⟨3, ![8192, 20, 64]⟩
abbrev S32 : Shape := ⟨1, ![32]⟩
abbrev S8192x1x1 : Shape := ⟨3, ![8192, 1, 1]⟩
abbrev S1x1x32 : Shape := ⟨3, ![1, 1, 32]⟩
abbrev S8192x1x32 : Shape := ⟨3, ![8192, 1, 32]⟩
abbrev S8192x20x32 : Shape := ⟨3, ![8192, 20, 32]⟩
abbrev S256x20x128 : Shape := ⟨3, ![256, 20, 128]⟩
abbrev S8448x2560 : Shape := ⟨2, ![8448, 2560]⟩
abbrev S8448x2048 : Shape := ⟨2, ![8448, 2048]⟩
abbrev S8448x6144 : Shape := ⟨2, ![8448, 6144]⟩

abbrev nBuf : Space → Nat
  | .hbm => 188
  | .vmem => 0
  | .smem => 0
  | _ => 0

abbrev hbmTy0_0 (i : Nat) : BufTy := match i % 128 with
  | 0 => ⟨S8448x4096, .bf16⟩
  | 1 => ⟨S4x4096x7488, .f32⟩
  | 2 => ⟨S4x128, .f32⟩
  | 3 => ⟨S4x128, .f32⟩
  | 4 => ⟨S8448x4096, .f32⟩
  | 5 => ⟨S1x4096x7488, .f32⟩
  | 6 => ⟨S4096x7488, .f32⟩
  | 7 => ⟨S8448x7488, .f32⟩
  | 8 => ⟨S8192, .i32⟩
  | 9 => ⟨S_, .i32⟩
  | 10 => ⟨S_, .i32⟩
  | 11 => ⟨S8192, .i32⟩
  | 12 => ⟨S8192, .i32⟩
  | 13 => ⟨S8192, .i32⟩
  | 14 => ⟨S_, .i32⟩
  | 15 => ⟨S8192, .i32⟩
  | 16 => ⟨S8192, .i1⟩
  | 17 => ⟨S8192, .i32⟩
  | 18 => ⟨S8192, .i32⟩
  | 19 => ⟨S_, .i32⟩
  | 20 => ⟨S8192, .i32⟩
  | 21 => ⟨S8192, .i1⟩
  | 22 => ⟨S8192, .i1⟩
  | 23 => ⟨S_, .i32⟩
  | 24 => ⟨S8192, .i32⟩
  | 25 => ⟨S8192, .i32⟩
  | 26 => ⟨S8192, .i32⟩
  | 27 => ⟨S_, .i32⟩
  | 28 => ⟨S_, .i32⟩
  | 29 => ⟨S_, .i32⟩
  | 30 => ⟨S_, .i1⟩
  | 31 => ⟨S_, .i32⟩
  | 32 => ⟨S_, .i32⟩
  | 33 => ⟨S8192, .i32⟩
  | 34 => ⟨S8192, .i32⟩
  | 35 => ⟨S_, .i32⟩
  | 36 => ⟨S8192, .i32⟩
  | 37 => ⟨S8192, .i1⟩
  | 38 => ⟨S_, .i32⟩
  | 39 => ⟨S8192, .i32⟩
  | 40 => ⟨S8192, .i1⟩
  | 41 => ⟨S_, .i32⟩
  | 42 => ⟨S_, .i1⟩
  | 43 => ⟨S8192, .i1⟩
  | 44 => ⟨S8192, .i1⟩
  | 45 => ⟨S8192, .i1⟩
  | 46 => ⟨S8192, .i32⟩
  | 47 => ⟨S8192, .i32⟩
  | 48 => ⟨S8192, .i32⟩
  | 49 => ⟨S8448x1280, .f32⟩
  | 50 => ⟨S8448x10x128, .f32⟩
  | 51 => ⟨S8448x1024, .f32⟩
  | 52 => ⟨S8448x8x128, .f32⟩
  | 53 => ⟨S1x128, .f32⟩
  | 54 => ⟨S128, .f32⟩
  | 55 => ⟨S8448x8x128, .f32⟩
  | 56 => ⟨S_, .f32⟩
  | 57 => ⟨S8448x8, .f32⟩
  | 58 => ⟨S8448x8x1, .f32⟩
  | 59 => ⟨S_, .f32⟩
  | 60 => ⟨S8448x8x1, .f32⟩
  | 61 => ⟨S8448x8x1, .f32⟩
  | 62 => ⟨S_, .f32⟩
  | 63 => ⟨S8448x8x1, .f32⟩
  | 64 => ⟨S8448x8x1, .f32⟩
  | 65 => ⟨S8448x8x1, .f32⟩
  | 66 => ⟨S8448x8x128, .f32⟩
  | 67 => ⟨S8448x8x128, .f32⟩
  | 68 => ⟨S1x1x128, .f32⟩
  | 69 => ⟨S8448x8x128, .f32⟩
  | 70 => ⟨S8448x8x128, .f32⟩
  | 71 => ⟨S8448x256, .f32⟩
  | 72 => ⟨S8448x2x128, .f32⟩
  | 73 => ⟨S1x128, .f32⟩
  | 74 => ⟨S128, .f32⟩
  | 75 => ⟨S8448x2x128, .f32⟩
  | 76 => ⟨S_, .f32⟩
  | 77 => ⟨S8448x2, .f32⟩
  | 78 => ⟨S8448x2x1, .f32⟩
  | 79 => ⟨S_, .f32⟩
  | 80 => ⟨S8448x2x1, .f32⟩
  | 81 => ⟨S8448x2x1, .f32⟩
  | 82 => ⟨S_, .f32⟩
  | 83 => ⟨S8448x2x1, .f32⟩
  | 84 => ⟨S8448x2x1, .f32⟩
  | 85 => ⟨S8448x2x1, .f32⟩
  | 86 => ⟨S8448x2x128, .f32⟩
  | 87 => ⟨S8448x2x128, .f32⟩
  | 88 => ⟨S1x1x128, .f32⟩
  | 89 => ⟨S8448x2x128, .f32⟩
  | 90 => ⟨S8448x2x128, .f32⟩
  | 91 => ⟨S8448x20x128, .f32⟩
  | 92 => ⟨S8192x20x128, .f32⟩
  | 93 => ⟨S8192x20x64, .f32⟩
  | 94 => ⟨S32, .f32⟩
  | 95 => ⟨S_, .f32⟩
  | 96 => ⟨S32, .f32⟩
  | 97 => ⟨S32, .f32⟩
  | 98 => ⟨S_, .f32⟩
  | 99 => ⟨S32, .f32⟩
  | 100 => ⟨S32, .f32⟩
  | 101 => ⟨S32, .f32⟩
  | 102 => ⟨S_, .f32⟩
  | 103 => ⟨S32, .f32⟩
  | 104 => ⟨S32, .f32⟩
  | 105 => ⟨S_, .f32⟩
  | 106 => ⟨S32, .f32⟩
  | 107 => ⟨S32, .f32⟩
  | 108 => ⟨S8192, .f32⟩
  | 109 => ⟨S8192x1x1, .f32⟩
  | 110 => ⟨S1x1x32, .f32⟩
  | 111 => ⟨S8192x1x32, .f32⟩
  | 112 => ⟨S8192x1x32, .f32⟩
  | 113 => ⟨S8192x1x32, .f32⟩
  | 114 => ⟨S8192x1x32, .f32⟩
  | 115 => ⟨S8192x1x32, .f32⟩
  | 116 => ⟨S8192x20x32, .f32⟩
  | 117 => ⟨S8192x20x32, .f32⟩
  | 118 => ⟨S8192x20x32, .f32⟩
  | 119 => ⟨S8192x20x32, .f32⟩
  | 120 => ⟨S8192x20x32, .f32⟩
  | 121 => ⟨S8192x20x32, .f32⟩
  | 122 => ⟨S8192x20x32, .f32⟩
  | 123 => ⟨S8192x20x32, .f32⟩
  | 124 => ⟨S8192x20x32, .f32⟩
  | 125 => ⟨S8192x20x32, .f32⟩
  | 126 => ⟨S8192x20x32, .f32⟩
  | 127 => ⟨S8192x20x32, .f32⟩
  | _ => ⟨S8448x4096, .bf16⟩

abbrev hbmTy0_1 (i : Nat) : BufTy := match i % 128 with
  | 0 => ⟨S8192x20x64, .f32⟩
  | 1 => ⟨S8192x20x64, .f32⟩
  | 2 => ⟨S32, .f32⟩
  | 3 => ⟨S_, .f32⟩
  | 4 => ⟨S32, .f32⟩
  | 5 => ⟨S32, .f32⟩
  | 6 => ⟨S_, .f32⟩
  | 7 => ⟨S32, .f32⟩
  | 8 => ⟨S32, .f32⟩
  | 9 => ⟨S32, .f32⟩
  | 10 => ⟨S_, .f32⟩
  | 11 => ⟨S32, .f32⟩
  | 12 => ⟨S32, .f32⟩
  | 13 => ⟨S_, .f32⟩
  | 14 => ⟨S32, .f32⟩
  | 15 => ⟨S32, .f32⟩
  | 16 => ⟨S8192, .f32⟩
  | 17 => ⟨S8192x1x1, .f32⟩
  | 18 => ⟨S1x1x32, .f32⟩
  | 19 => ⟨S8192x1x32, .f32⟩
  | 20 => ⟨S8192x1x32, .f32⟩
  | 21 => ⟨S8192x1x32, .f32⟩
  | 22 => ⟨S8192x1x32, .f32⟩
  | 23 => ⟨S8192x1x32, .f32⟩
  | 24 => ⟨S8192x20x32, .f32⟩
  | 25 => ⟨S8192x20x32, .f32⟩
  | 26 => ⟨S8192x20x32, .f32⟩
  | 27 => ⟨S8192x20x32, .f32⟩
  | 28 => ⟨S8192x20x32, .f32⟩
  | 29 => ⟨S8192x20x32, .f32⟩
  | 30 => ⟨S8192x20x32, .f32⟩
  | 31 => ⟨S8192x20x32, .f32⟩
  | 32 => ⟨S8192x20x32, .f32⟩
  | 33 => ⟨S8192x20x32, .f32⟩
  | 34 => ⟨S8192x20x32, .f32⟩
  | 35 => ⟨S8192x20x32, .f32⟩
  | 36 => ⟨S8192x20x64, .f32⟩
  | 37 => ⟨S8192x20x128, .f32⟩
  | 38 => ⟨S256x20x128, .f32⟩
  | 39 => ⟨S8448x20x128, .f32⟩
  | 40 => ⟨S8448x2560, .f32⟩
  | 41 => ⟨S8448x1024, .f32⟩
  | 42 => ⟨S_, .f32⟩
  | 43 => ⟨S8448x1024, .f32⟩
  | 44 => ⟨S8448x1024, .f32⟩
  | 45 => ⟨S8448x256, .f32⟩
  | 46 => ⟨S8448x256, .f32⟩
  | 47 => ⟨S8448x1024, .f32⟩
  | 48 => ⟨S_, .f32⟩
  | 49 => ⟨S8448x1024, .f32⟩
  | 50 => ⟨S8448x1024, .f32⟩
  | 51 => ⟨S8448x256, .f32⟩
  | 52 => ⟨S8448x256, .f32⟩
  | 53 => ⟨S8448x1024, .f32⟩
  | 54 => ⟨S_, .f32⟩
  | 55 => ⟨S8448x1024, .f32⟩
  | 56 => ⟨S8448x1024, .f32⟩
  | 57 => ⟨S8448x2048, .f32⟩
  | 58 => ⟨S8448x6144, .f32⟩
  | 59 => ⟨S8448x6144, .bf16⟩
  | _ => ⟨S8448x4096, .bf16⟩

abbrev hbmTy (i : Nat) : BufTy := match i / 128 with
  | 0 => hbmTy0_0 i
  | 1 => hbmTy0_1 i
  | _ => ⟨S8448x4096, .bf16⟩

abbrev bufTy : (tb : Table) → Fin (tcTables nBuf tb) → BufTy
  | .hbm, ⟨i, _⟩ => hbmTy i
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v5 : Ref sig .tc := ⟨.hbm, 26, rfl⟩
abbrev main_c_0 : Ref sig .tc := ⟨.hbm, 27, rfl⟩
abbrev main_call1_v0 : Ref sig .tc := ⟨.hbm, 28, rfl⟩
abbrev main_call1_c : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_c_1 : Ref sig .tc := ⟨.hbm, 35, rfl⟩
abbrev main_call1_v5 : Ref sig .tc := ⟨.hbm, 36, rfl⟩
abbrev main_call1_v6 : Ref sig .tc := ⟨.hbm, 37, rfl⟩
abbrev main_call1_c_2 : Ref sig .tc := ⟨.hbm, 38, rfl⟩
abbrev main_call1_v7 : Ref sig .tc := ⟨.hbm, 39, rfl⟩
abbrev main_call1_v8 : Ref sig .tc := ⟨.hbm, 40, rfl⟩
abbrev main_call1_c_3 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_cst : Ref sig .tc := ⟨.hbm, 56, rfl⟩
abbrev main_v14 : Ref sig .tc := ⟨.hbm, 57, rfl⟩
abbrev main_v15 : Ref sig .tc := ⟨.hbm, 58, rfl⟩
abbrev main_cst_1 : Ref sig .tc := ⟨.hbm, 59, rfl⟩
abbrev main_v16 : Ref sig .tc := ⟨.hbm, 60, rfl⟩
abbrev main_v17 : Ref sig .tc := ⟨.hbm, 61, rfl⟩
abbrev main_cst_2 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_cst_3 : Ref sig .tc := ⟨.hbm, 76, rfl⟩
abbrev main_v31 : Ref sig .tc := ⟨.hbm, 77, rfl⟩
abbrev main_v32 : Ref sig .tc := ⟨.hbm, 78, rfl⟩
abbrev main_cst_4 : Ref sig .tc := ⟨.hbm, 79, rfl⟩
abbrev main_v33 : Ref sig .tc := ⟨.hbm, 80, rfl⟩
abbrev main_v34 : Ref sig .tc := ⟨.hbm, 81, rfl⟩
abbrev main_cst_5 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_cst_6 : Ref sig .tc := ⟨.hbm, 95, rfl⟩
abbrev main_v47 : Ref sig .tc := ⟨.hbm, 96, rfl⟩
abbrev main_v48 : Ref sig .tc := ⟨.hbm, 97, rfl⟩
abbrev main_cst_7 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_cst_8 : Ref sig .tc := ⟨.hbm, 102, rfl⟩
abbrev main_v52 : Ref sig .tc := ⟨.hbm, 103, rfl⟩
abbrev main_v53 : Ref sig .tc := ⟨.hbm, 104, rfl⟩
abbrev main_cst_9 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_cst_10 : Ref sig .tc := ⟨.hbm, 131, rfl⟩
abbrev main_v79 : Ref sig .tc := ⟨.hbm, 132, rfl⟩
abbrev main_v80 : Ref sig .tc := ⟨.hbm, 133, rfl⟩
abbrev main_cst_11 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_cst_12 : Ref sig .tc := ⟨.hbm, 138, rfl⟩
abbrev main_v84 : Ref sig .tc := ⟨.hbm, 139, rfl⟩
abbrev main_v85 : Ref sig .tc := ⟨.hbm, 140, rfl⟩
abbrev main_cst_13 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_cst_14 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_cst_15 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_cst_16 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩

abbrev nD : Nat := 1
abbrev τ : Topo := Topo.v7x

variable {F : FTy → Type} [FloatOps F]
-- ==== Proof.Run.lean ====
/- What one grid point of the flash call stores, found by running its body symbolically: the pieces of the
   output block as a function of the inputs' blocks and of what the three scratch buffers held before. -/
module

public import proofs.«01_k».proof.Proof.Gen.KernelIdeal.Frame.Runs

@[expose] public section

set_option maxRecDepth 16384

noncomputable section

namespace Cert.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 1000000 in
/-- The pieces that the body stores into the output block, last first, as a function of what the scratch buffers held
    when it began, with the triple that says so. -/
def run (c : Dev nD) (i : grid0.Coords) (arg2 : Memref sig .tc .vmem S1024x512 .bf16) (harg2 : arg2.IsWhole)
    (arg3 : Memref sig .tc .vmem S8448x128 .bf16) (harg3 : arg3.IsWhole)
    (arg4 : Memref sig .tc .vmem S8448x128 .bf16) (harg4 : arg4.IsWhole)
    (arg6 : Memref sig .tc .vmem S1024x512 .bf16) (harg6 : arg6.IsWhole)
    (arg7 : Memref sig .tc .vmem S4x1024x128 .f32) (harg7 : arg7.IsWhole)
    (arg8 : Memref sig .tc .vmem S4x1024x128 .f32) (harg8 : arg8.IsWhole)
    (arg9 : Memref sig .tc .vmem S4x1024x128 .f32) (harg9 : arg9.IsWhole)
    (x0 : Vec F S1024x512 .bf16) (x1 : Vec F S8448x128 .bf16) (x2 : Vec F S8448x128 .bf16) :
    { L : BufTy.Contents (Elt F) arg7.view.ty → BufTy.Contents (Elt F) arg8.view.ty →
        BufTy.Contents (Elt F) arg9.view.ty → List (View.Piece (Elt F) S1024x512 .bf16) //
      ∀ (E : Set ℕ) (K : PUnit → sProp 𝕄) (g7 : BufTy.Contents (Elt F) arg7.view.ty)
        (g8 : BufTy.Contents (Elt F) arg8.view.ty) (g9 : BufTy.Contents (Elt F) arg9.view.ty),
        iprop(owns (c : Thread nD τ) arg2 fullShare x0 ∗ owns (c : Thread nD τ) arg3 fullShare x1
            ∗ owns (c : Thread nD τ) arg4 fullShare x2 ∗ (∃ d, owns (c : Thread nD τ) arg6 fullShare d)
            ∗ (arg7.view.loc (c : Thread nD τ) ↦[arg7.view.set]{fullShare} g7)
            ∗ (arg8.view.loc (c : Thread nD τ) ↦[arg8.view.set]{fullShare} g8)
            ∗ (arg9.view.loc (c : Thread nD τ) ↦[arg9.view.set]{fullShare} g9)
            ∗ (iprop(owns (c : Thread nD τ) arg2 fullShare x0 ∗ owns (c : Thread nD τ) arg3 fullShare x1
                ∗ owns (c : Thread nD τ) arg4 fullShare x2
                ∗ (∃ f, arg6.view.loc (c : Thread nD τ) ↦[arg6.view.set]{fullShare} arg6.view.writes (Elt F) f (L g7 g8 g9))
                ∗ (∃ d, owns (c : Thread nD τ) arg7 fullShare d) ∗ (∃ d, owns (c : Thread nD τ) arg8 fullShare d)
                ∗ (∃ d, owns (c : Thread nD τ) arg9 fullShare d)) -∗ K ⟨⟩))
          ⊢ wp frame (wpE (defs₀ (F := F)) Variants.none c none) E
              (cc0_flash i arg2 harg2 arg3 harg3 arg4 harg4 (Memref.whole main_arg1) (Memref.isWhole_whole _) arg6 harg6
                arg7 harg7 arg8 harg8 arg9 harg9) K } := by
  refine ⟨?_, fun E K g7 g8 g9 => ?run⟩
  case run =>
    simp only [cc0_flash_eq_skeleton]; unfold cc0_flash_skel
    simp only [k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%d3, %f3, -, H3⟩, HS0, HS1, HS2, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Flash

end
-- ==== Proof.Step.lean ====
module

public import proofs.«01_k».proof.Proof.Run

@[expose] public section

set_option maxRecDepth 16384

noncomputable section

namespace Cert.Flash

open Cert.KernelIdeal Cert.KernelIdeal.Gen Idealize.ShloMosaic Idealize.ShloMosaic.TcCoe
  Idealize.ShloMosaic.Tactic Idealize.SL.Sem

variable {F : FTy → Type} [FloatOps F]

/-! One step of the running softmax, over any floats: what a chunk of keys and values makes of a
head's running maximum, lane sums and accumulator. -/

/-- What a head keeps between chunks: its maximum, its sums per lane, its weighted values. -/
structure Chain (F : FTy → Type) [FloatOps F] where
  m : Vec F S1x1024x128 .f32
  l : Vec F S1x1024x128 .f32
  a : Vec F S1x1024x128 .f32

/-- The scores of a head's queries against a chunk of 2048 keys. -/
def score (q : Vec F S1024x128 .bf16) (k : Vec F S2048x128 .bf16) : FVec F S1024x2048 .f32 :=
  matmul dot_S1024x128_S2048x128_S1024x2048_1_1_0_0_n_n none
    (shapeCast S1024x128 q shapeCasts_S1024x128_S1024x128)
    (shapeCast S2048x128 k shapeCasts_S2048x128_S2048x128)
    (constant S1024x2048 .f32 0x00000000#32)

/-- A tile of 128 columns lies inside the chunk's scores. -/
theorem tile_fits (b : Fin 16) : S1024x2048.Slices ![0, 128 * b.val] S1024x128 := by
  revert b; decide

/-- The `b`-th tile of 128 columns. -/
def tile (s : FVec F S1024x2048 .f32) (b : Fin 16) : FVec F S1024x128 .f32 :=
  extractStridedSlice S1024x128 ![0, 128 * b.val] s (tile_fits b)

/-- The tiles after the first. -/
def tailTiles : List (Fin 16) := [1, 2, 3, 4, 5, 6, 7, 8, 9, 10, 11, 12, 13, 14, 15]

/-- A row's largest entry, in every lane. -/
def rowTop (x : FVec F S1024x128 .f32) : FVec F S1024x128 .f32 :=
  broadcastTo S1024x128 (shapeCast S1024x1 (shapeCast S1024x1
    (multiReduction .maximumf [1] S1024 x 0xFF800000#32 reduces_S1024x128_S1024 (.inl rfl) rfl)
    shapeCasts_S1024_S1024x1) shapeCasts_S1024x1_S1024x1) broadcasts_S1024x1_S1024x128

/-- The maximum after a chunk. -/
def nextTop (s : FVec F S1024x2048 .f32) (mp : FVec F S1024x128 .f32) : FVec F S1024x128 .f32 :=
  maximumf mp (rowTop (tailTiles.foldl (fun x b => maximumf x (tile s b)) (tile s 0)))

/-- A tile's weights against a maximum. -/
def wt (s : FVec F S1024x2048 .f32) (mn : FVec F S1024x128 .f32) (b : Fin 16) :
    FVec F S1024x128 .f32 := exp2 (subf (tile s b) mn)

/-- A tile's weights, narrowed. -/
def wtN (s : FVec F S1024x2048 .f32) (mn : FVec F S1024x128 .f32) (b : Fin 16) :
    FVec F S1024x128 .bf16 := truncf .bf16 (wt s mn b) bitsLt_bf16_f32

/-- All of a chunk's weights, side by side. -/
def wts (s : FVec F S1024x2048 .f32) (mn : FVec F S1024x128 .f32) : FVec F S1024x2048 .bf16 :=
  concatenate S1024x2048 1 [⟨S1024x128, wtN s mn 0⟩,
    ⟨S1024x128, wtN s mn 1⟩,
    ⟨S1024x128, wtN s mn 2⟩,
    ⟨S1024x128, wtN s mn 3⟩,
    ⟨S1024x128, wtN s mn 4⟩,
    ⟨S1024x128, wtN s mn 5⟩,
    ⟨S1024x128, wtN s mn 6⟩,
    ⟨S1024x128, wtN s mn 7⟩,
    ⟨S1024x128, wtN s mn 8⟩,
    ⟨S1024x128, wtN s mn 9⟩,
    ⟨S1024x128, wtN s mn 10⟩,
    ⟨S1024x128, wtN s mn 11⟩,
    ⟨S1024x128, wtN s mn 12⟩,
    ⟨S1024x128, wtN s mn 13⟩,
    ⟨S1024x128, wtN s mn 14⟩,
    ⟨S1024x128, wtN s mn 15⟩]
    concatenates_S1024x128_S1024x128_S1024x128_S1024x128_S1024x128_S1024x128_S1024x128_S1024x128_S1024x128_S1024x128_S1024x128_S1024x128_S1024x128_S1024x128_S1024x128_S1024x128_S1024x2048_d1

/-- A chunk's weights summed per lane. -/
def laneSum (s : FVec F S1024x2048 .f32) (mn : FVec F S1024x128 .f32) : FVec F S1024x128 .f32 :=
  tailTiles.foldl (fun x b => addf x (wt s mn b)) (wt s mn 0)

/-- A chunk's weighted values. -/
def weigh (s : FVec F S1024x2048 .f32) (mn : FVec F S1024x128 .f32) (v : Vec F S2048x128 .bf16) :
    FVec F S1024x128 .f32 :=
  matmul dot_S1024x2048_S2048x128_S1024x128_1_0_0_1_n_n none (wts s mn)
    (shapeCast S2048x128 v shapeCasts_S2048x128_S2048x128)
    (constant S1024x128 .f32 0x00000000#32)

/-- A slab without its leading axis of one. -/
def flat (x : Vec F S1x1024x128 .f32) : FVec F S1024x128 .f32 :=
  shapeCast S1024x128 x shapeCasts_S1x1024x128_S1024x128

/-- A slab with a leading axis of one. -/
def slab (x : FVec F S1024x128 .f32) : FVec F S1x1024x128 .f32 :=
  shapeCast S1x1024x128 x shapeCasts_S1024x128_S1x1024x128

/-- A head's state after a chunk of scores `s` and values `v`. -/
def stepS (s : FVec F S1024x2048 .f32) (v : Vec F S2048x128 .bf16) (c : Chain F) : Chain F where
  m := slab (nextTop s (flat c.m))
  l := slab (addf (mulf (exp2 (subf (flat c.m) (nextTop s (flat c.m)))) (flat c.l)) (laneSum s (nextTop s (flat c.m))))
  a := slab (addf (mulf (exp2 (subf (flat c.m) (nextTop s (flat c.m)))) (flat c.a)) (weigh s (nextTop s (flat c.m)) v))

/-- A head's state after a chunk of keys and values. -/
def step (q : Vec F S1024x128 .bf16) (k v : Vec F S2048x128 .bf16) (c : Chain F) : Chain F := stepS (score q k) v c

/-- The scores of a head's queries against the 256 context keys. -/
def score₀ (q : Vec F S1024x128 .bf16) (k : Vec F S256x128 .bf16) : FVec F S1024x256 .f32 :=
  matmul dot_S1024x128_S256x128_S1024x256_1_1_0_0_n_n none
    (shapeCast S1024x128 q shapeCasts_S1024x128_S1024x128)
    (shapeCast S256x128 k shapeCasts_S256x128_S256x128)
    (constant S1024x256 .f32 0x00000000#32)

/-- A tile of 128 columns lies inside the context's scores. -/
theorem tile₀_fits (b : Fin 2) : S1024x256.Slices ![0, 128 * b.val] S1024x128 := by
  revert b; decide

/-- The `b`-th tile of the context's scores. -/
def tile₀ (s : FVec F S1024x256 .f32) (b : Fin 2) : FVec F S1024x128 .f32 :=
  extractStridedSlice S1024x128 ![0, 128 * b.val] s (tile₀_fits b)

/-- The context's maximum. -/
def firstTop (s : FVec F S1024x256 .f32) : FVec F S1024x128 .f32 :=
  rowTop (maximumf (tile₀ s 0) (tile₀ s 1))

/-- A context tile's weights. -/
def wt₀ (s : FVec F S1024x256 .f32) (mn : FVec F S1024x128 .f32) (b : Fin 2) :
    FVec F S1024x128 .f32 := exp2 (subf (tile₀ s b) mn)

/-- The context's weights, side by side. -/
def wts₀ (s : FVec F S1024x256 .f32) (mn : FVec F S1024x128 .f32) : FVec F S1024x256 .bf16 :=
  concatenate S1024x256 1 [⟨S1024x128, truncf .bf16 (wt₀ s mn 0) bitsLt_bf16_f32⟩,
    ⟨S1024x128, truncf .bf16 (wt₀ s mn 1) bitsLt_bf16_f32⟩]
    concatenates_S1024x128_S1024x128_S1024x256_d1

/-- A head's state after the context's scores `s` and values `v`. -/
def firstS (s : FVec F S1024x256 .f32) (v : Vec F S256x128 .bf16) : Chain F where
  m := slab (firstTop s)
  l := slab (addf (wt₀ s (firstTop s) 0) (wt₀ s (firstTop s) 1))
  a := slab (matmul dot_S1024x256_S256x128_S1024x128_1_0_0_1_n_n none (wts₀ s (firstTop s))
    (shapeCast S256x128 v shapeCasts_S256x128_S256x128) (constant S1024x128 .f32 0x00000000#32))

/-- A head's state after the context. -/
def first (q : Vec F S1024x128 .bf16) (k v : Vec F S256x128 .bf16) : Chain F := firstS (score₀ q k) v

/-- A head's output: its weighted values over the sum of its weights. -/
def finish (l a : Vec F S1x1024x128 .f32) : FVec F S1024x128 .bf16 :=
  truncf .bf16 (mulf (flat a) (broadcastTo S1024x128
    (divf (broadcast S1024x1 (Scalar.ofBits .f32 0x3F800000#32)) (shapeCast S1024x1
      (multiReduction .add [1] S1024 (flat l) 0x00000000#32 reduces_S1024x128_S1024 (.inl rfl) rfl)
      shapeCasts_S1024_S1024x1)) broadcasts_S1024x1_S1024x128)) bitsLt_bf16_f32

/-! The stored pieces of the loop's trip, as steps. -/

/-- Slab `ci` of a scratch buffer lies inside it. -/
theorem slab_fits (ci : Fin 4) (a : Fin 3) :
    (![ci.val, 0, 0] : Fin 3 → Nat) a + S1x1024x128.size a ≤ S4x1024x128.size a := by
  revert ci a; decide

/-- Slab `ci` of a scratch buffer. -/
abbrev slabRect (ci : Fin 4) : Rect S4x1024x128 := Rect.unit ![ci.val, 0, 0] S1x1024x128.size (slab_fits ci)

/-- Slab `ci` of a scratch buffer's contents. -/
def rd {sg : RefSig} (arg : Memref sg .tc .vmem S4x1024x128 .f32) (f : BufTy.Contents (Elt F) arg.view.ty) (ci : Fin 4) :
    Vec F S1x1024x128 .f32 := View.readAt (Elt F) arg.view (slabRect ci).toLoadRect f

/-- The four stored slabs, last first. -/
def slabs (x : Fin 4 → Vec F S1x1024x128 .f32) : List (View.Piece (Elt F) S4x1024x128 .f32) :=
  [⟨Rect.unit ![3, 0, 0] ![1, 1024, 128] inb_S4x1024x128_S1x1024x128_3_0_0, x 3⟩,
    ⟨Rect.unit ![2, 0, 0] ![1, 1024, 128] inb_S4x1024x128_S1x1024x128_2_0_0, x 2⟩,
    ⟨Rect.unit ![1, 0, 0] ![1, 1024, 128] inb_S4x1024x128_S1x1024x128_1_0_0, x 1⟩,
    ⟨Rect.unit ![0, 0, 0] ![1, 1024, 128] inb_S4x1024x128_S1x1024x128_0_0_0, x 0⟩]

/-- Equal slabs make equal lists. -/
theorem slabs_of {x : Fin 4 → Vec F S1x1024x128 .f32} {a b c d : Vec F S1x1024x128 .f32} (h3 : a = x 3)
    (h2 : b = x 2) (h1 : c = x 1) (h0 : d = x 0) :
    ([⟨Rect.unit ![3, 0, 0] ![1, 1024, 128] inb_S4x1024x128_S1x1024x128_3_0_0, a⟩,
      ⟨Rect.unit ![2, 0, 0] ![1, 1024, 128] inb_S4x1024x128_S1x1024x128_2_0_0, b⟩,
      ⟨Rect.unit ![1, 0, 0] ![1, 1024, 128] inb_S4x1024x128_S1x1024x128_1_0_0, c⟩,
      ⟨Rect.unit ![0, 0, 0] ![1, 1024, 128] inb_S4x1024x128_S1x1024x128_0_0_0, d⟩] :
        List (View.Piece (Elt F) S4x1024x128 .f32)) = slabs x := by
  subst h3 h2 h1 h0; rfl

/-- Head `ci`'s columns lie inside the block of queries. -/
theorem head_fits (ci : Fin 4) (a : Fin 2) :
    (![0, 128 * ci.val] : Fin 2 → Nat) a + S1024x128.size a ≤ S1024x512.size a := by
  revert ci a; decide

/-- Head `ci`'s columns. -/
abbrev headRect (ci : Fin 4) : Rect S1024x512 := Rect.unit ![0, 128 * ci.val] S1024x128.size (head_fits ci)

/-- Head `ci`'s queries. -/
def rdQ (arg : Memref sig .tc .vmem S1024x512 .bf16) (f : BufTy.Contents (Elt F) arg.view.ty) (ci : Fin 4) :
    Vec F S1024x128 .bf16 := View.readAt (Elt F) arg.view (headRect ci).toLoadRect f

/-- Chunk `k` of the keys or values. -/
def rdK (arg : Memref sig .tc .vmem S8448x128 .bf16) (f : BufTy.Contents (Elt F) arg.view.ty)
    (k : Fin k0_t1_loop.trips) : Vec F S2048x128 .bf16 :=
  View.readAt (Elt F) arg.view (Rect.unit (s := S8448x128) (k0_off1 k) S2048x128.size (k0_off1_inb k)).toLoadRect f

/-- The context's keys or values. -/
def rdC (arg : Memref sig .tc .vmem S8448x128 .bf16) (f : BufTy.Contents (Elt F) arg.view.ty) :
    Vec F S256x128 .bf16 :=
  View.readAt (Elt F) arg.view (Rect.unit (s := S8448x128) ![8192, 0] S256x128.size inb_S8448x128_S256x128_8192_0).toLoadRect f

section Trip

variable (𝒱 : Variants) (c : Dev nD) (bd : Option 𝒱.V) (i : grid0.Coords) (arg2 : Memref sig .tc .vmem S1024x512 .bf16) (harg2 : arg2.IsWhole) (arg3 : Memref sig .tc .vmem S8448x128 .bf16) (harg3 : arg3.IsWhole) (arg4 : Memref sig .tc .vmem S8448x128 .bf16) (harg4 : arg4.IsWhole) (arg5 : Memref sig .tc .hbm S8448x4096 .bf16) (harg5 : arg5.IsWhole) (arg6 : Memref sig .tc .vmem S1024x512 .bf16) (harg6 : arg6.IsWhole) (arg7 : Memref sig .tc .vmem S4x1024x128 .f32) (harg7 : arg7.IsWhole) (arg8 : Memref sig .tc .vmem S4x1024x128 .f32) (harg8 : arg8.IsWhole) (arg9 : Memref sig .tc .vmem S4x1024x128 .f32) (harg9 : arg9.IsWhole) (v97 : FVec F S1024x128 .f32) (v106 : FVec F S1024x128 .f32) (v110 : Vec F S1x1024x128 .f32) (X2 : BufTy.Contents (Elt F) arg2.view.ty) (X3 : BufTy.Contents (Elt F) arg3.view.ty) (X4 : BufTy.Contents (Elt F) arg4.view.ty)
  (k : Fin k0_t1_loop.trips) (f7 : BufTy.Contents (Elt F) arg7.view.ty) (f8 : BufTy.Contents (Elt F) arg8.view.ty) (f9 : BufTy.Contents (Elt F) arg9.view.ty)

/-- A head's state as the scratch buffers hold it. -/
def held (ci : Fin 4) : Chain F := ⟨rd arg7 f7 ci, rd arg8 f8 ci, rd arg9 f9 ci⟩

/-- What a trip makes of a head's state. -/
def stepped (ci : Fin 4) : Chain F :=
  step (rdQ arg2 X2 ci) (rdK arg3 X3 k) (rdK arg4 X4 k) (held arg7 arg8 arg9 f7 f8 f9 ci)

/-- A trip stores each head's new maximum. -/
theorem trip_m :
    (trip_k0_t1 (F := F) 𝒱 c bd i arg2 harg2 arg3 harg3 arg4 harg4 arg5 harg5 arg6 harg6 arg7 harg7 arg8 harg8 arg9 harg9 v97 v106 v110 X2 X3 X4 k).1 f7 f8 f9
      = slabs fun ci => (stepped arg2 arg3 arg4 arg7 arg8 arg9 X2 X3 X4 k f7 f8 f9 ci).m := by
  unfold trip_k0_t1
  exact slabs_of rfl rfl rfl rfl

/-- A trip stores each head's new lane sums. -/
theorem trip_l :
    (trip_k0_t1 (F := F) 𝒱 c bd i arg2 harg2 arg3 harg3 arg4 harg4 arg5 harg5 arg6 harg6 arg7 harg7 arg8 harg8 arg9 harg9 v97 v106 v110 X2 X3 X4 k).2.1 f7 f8 f9
      = slabs fun ci => (stepped arg2 arg3 arg4 arg7 arg8 arg9 X2 X3 X4 k f7 f8 f9 ci).l := by
  unfold trip_k0_t1
  exact slabs_of rfl rfl rfl rfl

/-- A trip stores each head's new weighted values. -/
theorem trip_a :
    (trip_k0_t1 (F := F) 𝒱 c bd i arg2 harg2 arg3 harg3 arg4 harg4 arg5 harg5 arg6 harg6 arg7 harg7 arg8 harg8 arg9 harg9 v97 v106 v110 X2 X3 X4 k).2.2.1 f7 f8 f9
      = slabs fun ci => (stepped arg2 arg3 arg4 arg7 arg8 arg9 X2 X3 X4 k f7 f8 f9 ci).a := by
  unfold trip_k0_t1
  exact slabs_of rfl rfl rfl rfl

end Trip

end Cert.Flash
-- ==== Proof.State.lean ====
/- What one grid point stores, as a function of its blocks alone: the loop's scratch buffers followed trip by trip. -/
module

public import proofs.«01_k».proof.Proof.Step
public import Idealize.ShloMosaic.Lib.Pointwise

@[expose] public section

set_option maxRecDepth 16384

noncomputable section

namespace Cert.Flash

open Cert.KernelIdeal Cert.KernelIdeal.Gen Idealize.ShloMosaic Idealize.ShloMosaic.TcCoe
  Idealize.ShloMosaic.Tactic Idealize.SL.Sem

variable {F : FTy → Type} [FloatOps F]

/-- The four stored heads of the output block, last first. -/
def heads (x : Fin 4 → FVec F S1024x128 .bf16) : List (View.Piece (Elt F) S1024x512 .bf16) :=
  [⟨Rect.unit ![0, 384] ![1024, 128] inb_S1024x512_S1024x128_0_384, x 3⟩,
    ⟨Rect.unit ![0, 256] ![1024, 128] inb_S1024x512_S1024x128_0_256, x 2⟩,
    ⟨Rect.unit ![0, 128] ![1024, 128] inb_S1024x512_S1024x128_0_128, x 1⟩,
    ⟨Rect.unit ![0, 0] ![1024, 128] inb_S1024x512_S1024x128_0_0, x 0⟩]

/-- Equal heads make equal lists. -/
theorem heads_of {x : Fin 4 → FVec F S1024x128 .bf16} {a b c d : FVec F S1024x128 .bf16} (h3 : a = x 3)
    (h2 : b = x 2) (h1 : c = x 1) (h0 : d = x 0) :
    ([⟨Rect.unit ![0, 384] ![1024, 128] inb_S1024x512_S1024x128_0_384, a⟩,
      ⟨Rect.unit ![0, 256] ![1024, 128] inb_S1024x512_S1024x128_0_256, b⟩,
      ⟨Rect.unit ![0, 128] ![1024, 128] inb_S1024x512_S1024x128_0_128, c⟩,
      ⟨Rect.unit ![0, 0] ![1024, 128] inb_S1024x512_S1024x128_0_0, d⟩] :
        List (View.Piece (Elt F) S1024x512 .bf16)) = heads x := by
  subst h3 h2 h1 h0; rfl

/-- A slab read after four stores, whatever was there before, is what was stored. -/
theorem rd_slabs {sg : RefSig} (arg : Memref sg .tc .vmem S4x1024x128 .f32) (f : BufTy.Contents (Elt F) arg.view.ty)
    (x : Fin 4 → Vec F S1x1024x128 .f32) (ci : Fin 4) :
    rd arg (arg.view.writes (Elt F) f (slabs x)) ci = x ci := by
  funext j
  have hj : (j 0).val < 1 := (j 0).isLt
  have h0 : ((slabRect ci).toLoadRect.idx j 0).val = ci.val + 1 * (j 0).val := rfl
  have hy : ∀ a, ((slabRect ci).toLoadRect.idx j a).val = (![ci.val, 0, 0] : Fin 3 → ℕ) a + 1 * (j a).val := fun a => rfl
  show View.read (Elt F) arg.view (arg.view.writes (Elt F) f (slabs x)) ((slabRect ci).toLoadRect.idx j) = x ci j
  generalize (slabRect ci).toLoadRect.idx j = y at h0 hy
  unfold slabs
  have miss : ∀ (p : View.Piece (Elt F) S4x1024x128 .f32) (L : List (View.Piece (Elt F) S4x1024x128 .f32)) (o : ℕ),
      p.1.off 0 = o → p.1.stride 0 = 1 → p.1.size 0 = 1 → o ≠ ci.val →
      View.read (Elt F) arg.view (arg.view.writes (Elt F) f (p :: L)) y
        = View.read (Elt F) arg.view (arg.view.writes (Elt F) f L) y := fun p L o ho hs hn hne =>
    View.read_writes_cons_miss_of_axis arg.view f p L y 0 o 1 ho hs hn (by omega)
  obtain ⟨n, hn⟩ := ci
  have hc : n = 0 ∨ n = 1 ∨ n = 2 ∨ n = 3 := by omega
  rcases hc with rfl | rfl | rfl | rfl
  · rw [miss _ _ 3 rfl rfl rfl (by simp), miss _ _ 2 rfl rfl rfl (by simp), miss _ _ 1 rfl rfl rfl (by simp)]
    exact View.read_writes_cons_hit_of_coords arg.view f
      (Rect.unit ![0, 0, 0] ![1, 1024, 128] inb_S4x1024x128_S1x1024x128_0_0_0) (x 0) _ j y hy
  · rw [miss _ _ 3 rfl rfl rfl (by simp), miss _ _ 2 rfl rfl rfl (by simp)]
    exact View.read_writes_cons_hit_of_coords arg.view f
      (Rect.unit ![1, 0, 0] ![1, 1024, 128] inb_S4x1024x128_S1x1024x128_1_0_0) (x 1) _ j y hy
  · rw [miss _ _ 3 rfl rfl rfl (by simp)]
    exact View.read_writes_cons_hit_of_coords arg.view f
      (Rect.unit ![2, 0, 0] ![1, 1024, 128] inb_S4x1024x128_S1x1024x128_2_0_0) (x 2) _ j y hy
  · exact View.read_writes_cons_hit_of_coords arg.view f
      (Rect.unit ![3, 0, 0] ![1, 1024, 128] inb_S4x1024x128_S1x1024x128_3_0_0) (x 3) _ j y hy

/-- The same with older stores below. -/
theorem rd_slabs_append {sg : RefSig} (arg : Memref sg .tc .vmem S4x1024x128 .f32) (f : BufTy.Contents (Elt F) arg.view.ty)
    (x : Fin 4 → Vec F S1x1024x128 .f32) (L : List (View.Piece (Elt F) S4x1024x128 .f32)) (ci : Fin 4) :
    rd arg (arg.view.writes (Elt F) f (slabs x ++ L)) ci = x ci := by
  rw [View.writes_append, rd_slabs]

/-- Head `ci`'s queries in a block. -/
def headOf (x0 : Vec F S1024x512 .bf16) (ci : Fin 4) : Vec F S1024x128 .bf16 :=
  fun j => x0 ((headRect ci).toLoadRect.idx j)

/-- Chunk `k` of a block of keys or values. -/
def chunkOf (x : Vec F S8448x128 .bf16) (k : Fin k0_t1_loop.trips) : Vec F S2048x128 .bf16 :=
  fun j => x ((Rect.unit (s := S8448x128) (k0_off1 k) S2048x128.size (k0_off1_inb k)).toLoadRect.idx j)

/-- The context's part of a block of keys or values. -/
def ctxOf (x : Vec F S8448x128 .bf16) : Vec F S256x128 .bf16 :=
  fun j => x ((Rect.unit (s := S8448x128) ![8192, 0] S256x128.size inb_S8448x128_S256x128_8192_0).toLoadRect.idx j)

/-- A head's state after all keys and values. -/
def chainOf (x0 : Vec F S1024x512 .bf16) (x1 x2 : Vec F S8448x128 .bf16) (ci : Fin 4) : Chain F :=
  step (headOf x0 ci) (chunkOf x1 ⟨3, by decide⟩) (chunkOf x2 ⟨3, by decide⟩)
    (step (headOf x0 ci) (chunkOf x1 ⟨2, by decide⟩) (chunkOf x2 ⟨2, by decide⟩)
      (step (headOf x0 ci) (chunkOf x1 ⟨1, by decide⟩) (chunkOf x2 ⟨1, by decide⟩)
        (step (headOf x0 ci) (chunkOf x1 ⟨0, by decide⟩) (chunkOf x2 ⟨0, by decide⟩)
          (first (headOf x0 ci) (ctxOf x1) (ctxOf x2)))))

/-- A head's output. -/
def headOut (x0 : Vec F S1024x512 .bf16) (x1 x2 : Vec F S8448x128 .bf16) (ci : Fin 4) : FVec F S1024x128 .bf16 :=
  finish (chainOf x0 x1 x2 ci).l (chainOf x0 x1 x2 ci).a

/-- The output block: the four heads side by side. -/
def outBlock (x0 : Vec F S1024x512 .bf16) (x1 x2 : Vec F S8448x128 .bf16) : Vec F S1024x512 .bf16 := fun y =>
  headOut x0 x1 x2 ⟨(y 1).val / 128, by have : (y 1).val < 512 := (y 1).isLt; omega⟩
    (ix2 (n0 := 1024) (n1 := 128) (y 0) ⟨(y 1).val % 128, Nat.mod_lt _ (by decide)⟩)

section Loop

variable (c : Dev nD) (i : grid0.Coords) (arg2 : Memref sig .tc .vmem S1024x512 .bf16) (harg2 : arg2.IsWhole)
  (arg3 : Memref sig .tc .vmem S8448x128 .bf16) (harg3 : arg3.IsWhole)
  (arg4 : Memref sig .tc .vmem S8448x128 .bf16) (harg4 : arg4.IsWhole)
  (arg6 : Memref sig .tc .vmem S1024x512 .bf16) (harg6 : arg6.IsWhole)
  (arg7 : Memref sig .tc .vmem S4x1024x128 .f32) (harg7 : arg7.IsWhole)
  (arg8 : Memref sig .tc .vmem S4x1024x128 .f32) (harg8 : arg8.IsWhole)
  (arg9 : Memref sig .tc .vmem S4x1024x128 .f32) (harg9 : arg9.IsWhole)
  (x0 : Vec F S1024x512 .bf16) (x1 x2 : Vec F S8448x128 .bf16)
  (g7 : BufTy.Contents (Elt F) arg7.view.ty) (g8 : BufTy.Contents (Elt F) arg8.view.ty)
  (g9 : BufTy.Contents (Elt F) arg9.view.ty)

/-- A head's state after the context, from the blocks as they lie in memory. -/
def begun (ci : Fin 4) : Chain F :=
  first (rdQ arg2 (harg2.unread x0) ci) (rdC arg3 (harg3.unread x1)) (rdC arg4 (harg4.unread x2))

/-- The scratch buffers' stores before the loop and after `n` trips of it. -/
def after (v97 : FVec F S1024x128 .f32) (v106 : FVec F S1024x128 .f32) (v110 : Vec F S1x1024x128 .f32) (n : ℕ) :=
  pb_k0_t1 (F := F) Variants.none c none i arg2 harg2 arg3 harg3 arg4 harg4 (Memref.whole main_arg1)
    (Memref.isWhole_whole _) arg6 harg6 arg7 harg7 arg8 harg8 arg9 harg9 v97 v106 v110
    (harg2.unread x0) (harg3.unread x1) (harg4.unread x2)
    (arg7.view.writes (Elt F) arg7.view.junk (slabs fun ci => (begun arg2 harg2 arg3 harg3 arg4 harg4 x0 x1 x2 ci).m))
    (arg8.view.writes (Elt F) arg8.view.junk (slabs fun ci => (begun arg2 harg2 arg3 harg3 arg4 harg4 x0 x1 x2 ci).l))
    (arg9.view.writes (Elt F) arg9.view.junk (slabs fun ci => (begun arg2 harg2 arg3 harg3 arg4 harg4 x0 x1 x2 ci).a)) n

/-- What a grid point stores: each head's values over its sums, as the loop's stores left them. -/
theorem run_pieces : ∃ v97 v106 v110,
    (run (F := F) c i arg2 harg2 arg3 harg3 arg4 harg4 arg6 harg6 arg7 harg7 arg8 harg8 arg9 harg9 x0 x1 x2).1 g7 g8 g9
      = heads fun ci => finish
          (rd arg8 (arg8.view.writes (Elt F) arg8.view.junk
            ((after c i arg2 harg2 arg3 harg3 arg4 harg4 arg6 harg6 arg7 harg7 arg8 harg8 arg9 harg9 x0 x1 x2
              v97 v106 v110 k0_t1_loop.trips).2.1
              ++ slabs fun ci => (begun arg2 harg2 arg3 harg3 arg4 harg4 x0 x1 x2 ci).l)) ci)
          (rd arg9 (arg9.view.writes (Elt F) arg9.view.junk
            ((after c i arg2 harg2 arg3 harg3 arg4 harg4 arg6 harg6 arg7 harg7 arg8 harg8 arg9 harg9 x0 x1 x2
              v97 v106 v110 k0_t1_loop.trips).2.2
              ++ slabs fun ci => (begun arg2 harg2 arg3 harg3 arg4 harg4 x0 x1 x2 ci).a)) ci) := by
  unfold run
  refine ⟨run.sl.r_7 c arg2 harg2 arg3 harg3 x0 x1, run.sl.r_8 c arg2 harg2 arg3 harg3 arg4 harg4 x0 x1 x2,
    run.sl.v110 arg9 g9, heads_of ?_ ?_ ?_ ?_⟩
  all_goals sl_kernel_rfl

/-- A head's state as the loop's first `n` trips leave it. -/
def heldAfter (v97 : FVec F S1024x128 .f32) (v106 : FVec F S1024x128 .f32) (v110 : Vec F S1x1024x128 .f32) (n : ℕ)
    (ci : Fin 4) : Chain F :=
  let p := after c i arg2 harg2 arg3 harg3 arg4 harg4 arg6 harg6 arg7 harg7 arg8 harg8 arg9 harg9 x0 x1 x2
    v97 v106 v110 n
  ⟨rd arg7 (arg7.view.writes (Elt F) arg7.view.junk
      (p.1 ++ slabs fun ci => (begun arg2 harg2 arg3 harg3 arg4 harg4 x0 x1 x2 ci).m)) ci,
    rd arg8 (arg8.view.writes (Elt F) arg8.view.junk
      (p.2.1 ++ slabs fun ci => (begun arg2 harg2 arg3 harg3 arg4 harg4 x0 x1 x2 ci).l)) ci,
    rd arg9 (arg9.view.writes (Elt F) arg9.view.junk
      (p.2.2 ++ slabs fun ci => (begun arg2 harg2 arg3 harg3 arg4 harg4 x0 x1 x2 ci).a)) ci⟩

/-- Before the loop the scratch buffers hold what the context left. -/
theorem heldAfter_zero (v97 v106 v110) (ci : Fin 4) :
    heldAfter c i arg2 harg2 arg3 harg3 arg4 harg4 arg6 harg6 arg7 harg7 arg8 harg8 arg9 harg9 x0 x1 x2
      v97 v106 v110 0 ci = begun arg2 harg2 arg3 harg3 arg4 harg4 x0 x1 x2 ci := by
  unfold heldAfter after
  rw [pb_k0_t1.eq_1]
  simp only [List.nil_append, rd_slabs]

/-- A trip takes one step. -/
theorem heldAfter_succ (v97 v106 v110) (k : Fin k0_t1_loop.trips) (ci : Fin 4) :
    heldAfter c i arg2 harg2 arg3 harg3 arg4 harg4 arg6 harg6 arg7 harg7 arg8 harg8 arg9 harg9 x0 x1 x2
      v97 v106 v110 (k.val + 1) ci
      = step (rdQ arg2 (harg2.unread x0) ci) (rdK arg3 (harg3.unread x1) k) (rdK arg4 (harg4.unread x2) k)
          (heldAfter c i arg2 harg2 arg3 harg3 arg4 harg4 arg6 harg6 arg7 harg7 arg8 harg8 arg9 harg9 x0 x1 x2
            v97 v106 v110 k.val ci) := by
  unfold heldAfter after
  rw [pb_k0_t1_succ]
  unfold tripL_k0_t1
  simp only [trip_m, trip_l, trip_a, List.append_assoc, View.writes_append, rd_slabs]
  rfl

/-- The loop makes four trips. -/
theorem trips_four : k0_t1_loop.trips = 4 := by decide

/-- The whole loop on a head's state: four steps from the context's. -/
theorem heldAfter_four (v97 v106 v110) (ci : Fin 4) :
    heldAfter c i arg2 harg2 arg3 harg3 arg4 harg4 arg6 harg6 arg7 harg7 arg8 harg8 arg9 harg9 x0 x1 x2
      v97 v106 v110 k0_t1_loop.trips ci = chainOf x0 x1 x2 ci := by
  have hq : rdQ arg2 (harg2.unread x0) ci = headOf x0 ci := by
    funext j; show View.read (Elt F) arg2.view _ _ = _; rw [harg2.read_unread]; rfl
  have h3 : ∀ k, rdK arg3 (harg3.unread x1) k = chunkOf x1 k := fun k => by
    funext j; show View.read (Elt F) arg3.view _ _ = _; rw [harg3.read_unread]; rfl
  have h4 : ∀ k, rdK arg4 (harg4.unread x2) k = chunkOf x2 k := fun k => by
    funext j; show View.read (Elt F) arg4.view _ _ = _; rw [harg4.read_unread]; rfl
  have h3c : rdC arg3 (harg3.unread x1) = ctxOf x1 := by
    funext j; show View.read (Elt F) arg3.view _ _ = _; rw [harg3.read_unread]; rfl
  have h4c : rdC arg4 (harg4.unread x2) = ctxOf x2 := by
    funext j; show View.read (Elt F) arg4.view _ _ = _; rw [harg4.read_unread]; rfl
  have hs := fun n (h : n < k0_t1_loop.trips) => heldAfter_succ c i arg2 harg2 arg3 harg3 arg4 harg4 arg6 harg6
    arg7 harg7 arg8 harg8 arg9 harg9 x0 x1 x2 v97 v106 v110 ⟨n, h⟩ ci
  have e : k0_t1_loop.trips = 3 + 1 := by decide
  rw [congrArg (fun n => heldAfter c i arg2 harg2 arg3 harg3 arg4 harg4 arg6 harg6 arg7 harg7 arg8 harg8 arg9 harg9
    x0 x1 x2 v97 v106 v110 n ci) e]
  have h0 := hs 0 (by decide)
  have h1 := hs 1 (by decide)
  have h2 := hs 2 (by decide)
  have h3' := hs 3 (by decide)
  dsimp only at h0 h1 h2 h3' ⊢
  rw [h3', h2, h1, h0, heldAfter_zero]
  unfold begun chainOf
  rw [hq, h3c, h4c, h3, h3, h3, h3, h4, h4, h4, h4]

/-- What a grid point stores, from its blocks alone. -/
theorem run_heads :
    (run (F := F) c i arg2 harg2 arg3 harg3 arg4 harg4 arg6 harg6 arg7 harg7 arg8 harg8 arg9 harg9 x0 x1 x2).1 g7 g8 g9
      = heads fun ci => headOut x0 x1 x2 ci := by
  obtain ⟨v97, v106, v110, h⟩ := run_pieces c i arg2 harg2 arg3 harg3 arg4 harg4 arg6 harg6 arg7 harg7 arg8 harg8
    arg9 harg9 x0 x1 x2 g7 g8 g9
  rw [h]
  refine congrArg heads (funext fun ci => ?_)
  have e := heldAfter_four c i arg2 harg2 arg3 harg3 arg4 harg4 arg6 harg6 arg7 harg7 arg8 harg8 arg9 harg9 x0 x1 x2
    v97 v106 v110 ci
  unfold headOut
  rw [← e]
  rfl

end Loop

/-- What is stored, read back. -/
theorem read_heads (arg : Memref sig .tc .vmem S1024x512 .bf16) (f : BufTy.Contents (Elt F) arg.view.ty)
    (x0 : Vec F S1024x512 .bf16) (x1 x2 : Vec F S8448x128 .bf16) :
    View.read (Elt F) arg.view (arg.view.writes (Elt F) f (heads fun ci => headOut x0 x1 x2 ci)) = outBlock x0 x1 x2 := by
  funext y
  have hlt : (y 1).val < 512 := (y 1).isLt
  have miss : ∀ (p : View.Piece (Elt F) S1024x512 .bf16) (L : List (View.Piece (Elt F) S1024x512 .bf16)) (o : ℕ),
      p.1.off 1 = o → p.1.stride 1 = 1 → p.1.size 1 = 128 → (y 1).val < o →
      View.read (Elt F) arg.view (arg.view.writes (Elt F) f (p :: L)) y
        = View.read (Elt F) arg.view (arg.view.writes (Elt F) f L) y := fun p L o ho hs hn hne =>
    View.read_writes_cons_miss_of_axis arg.view f p L y 1 o 128 ho hs hn (by omega)
  have hy : ∀ (n : Fin 4), (y 1).val / 128 = n.val → ∀ a, (y a).val
      = (![0, 128 * n.val] : Fin 2 → ℕ) a + 1 * (ix2 (n0 := 1024) (n1 := 128) (y 0) ⟨(y 1).val % 128, Nat.mod_lt _ (by decide)⟩ a).val := by
    intro n hn a
    fin_cases a
    · show (y 0).val = 0 + 1 * (y 0).val; omega
    · show (y 1).val = 128 * n.val + 1 * ((y 1).val % 128); omega
  have hb : ∀ n : Fin 4, (y 1).val / 128 = n.val → outBlock x0 x1 x2 y
      = headOut x0 x1 x2 n (ix2 (n0 := 1024) (n1 := 128) (y 0) ⟨(y 1).val % 128, Nat.mod_lt _ (by decide)⟩) := by
    intro n hn
    have e : (⟨(y 1).val / 128, by omega⟩ : Fin 4) = n := Fin.ext hn
    unfold outBlock; rw [e]
  unfold heads
  have hc : (y 1).val / 128 = 0 ∨ (y 1).val / 128 = 1 ∨ (y 1).val / 128 = 2 ∨ (y 1).val / 128 = 3 := by omega
  rcases hc with h | h | h | h
  · rw [miss _ _ 384 rfl rfl rfl (by omega), miss _ _ 256 rfl rfl rfl (by omega), miss _ _ 128 rfl rfl rfl (by omega), hb 0 h]
    exact View.read_writes_cons_hit_of_coords arg.view f
      (Rect.unit ![0, 0] ![1024, 128] inb_S1024x512_S1024x128_0_0) (headOut x0 x1 x2 0) _ _ y (hy 0 h)
  · rw [miss _ _ 384 rfl rfl rfl (by omega), miss _ _ 256 rfl rfl rfl (by omega), hb 1 h]
    exact View.read_writes_cons_hit_of_coords arg.view f
      (Rect.unit ![0, 128] ![1024, 128] inb_S1024x512_S1024x128_0_128) (headOut x0 x1 x2 1) _ _ y (hy 1 h)
  · rw [miss _ _ 384 rfl rfl rfl (by omega), hb 2 h]
    exact View.read_writes_cons_hit_of_coords arg.view f
      (Rect.unit ![0, 256] ![1024, 128] inb_S1024x512_S1024x128_0_256) (headOut x0 x1 x2 2) _ _ y (hy 2 h)
  · rw [hb 3 h]
    exact View.read_writes_cons_hit_of_coords arg.view f
      (Rect.unit ![0, 384] ![1024, 128] inb_S1024x512_S1024x128_0_384) (headOut x0 x1 x2 3) _ _ y (hy 3 h)

end Cert.Flash
-- ==== Proof.Launch.lean ====
/- The flash call's launch: its windows' contents, point by point, and the run of the whole program. -/
module

public import proofs.«01_k».proof.Proof.State
public import Idealize.ShloMosaic.Lib.Claim

@[expose] public section

set_option maxRecDepth 16384

noncomputable section

namespace Cert.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the output window's buffer holds after a point: the block computed from the point's queries, keys, values. -/
def stored (c : Dev nD) (t : Fin cfg0.N) : Vec F S1024x512 .bf16 :=
  outBlock (X0_0 m c t) (iblk m c 1 t) (iblk m c 2 t)

/-- The launch's windows: the arrays as found, each input kept, the output at what is stored. -/
def flashDat (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => stored m c t
  Φ _ := Pipeline.ΦA spec0 c
  q w := Pipeline.shareOf spec0 w
  owed _ := 0

/-- The arrays are those that the host's operations leave. -/
theorem flash_A (c : Dev nD) (w : Fin cfg0.W) : (flashDat m 0 c).A w = V m c (Pipeline.arrRef spec0 w) := by
  dsimp only [flashDat]

/-- The queries' window keeps its block. -/
theorem flash_after0 (c : Dev nD) (t : Fin cfg0.N) : (flashDat m 0 c).after 0 t = X0_0 m c t := by dsimp only [flashDat]
/-- The keys' window keeps its block. -/
theorem flash_after1 (c : Dev nD) (t : Fin cfg0.N) : (flashDat m 0 c).after 1 t = iblk m c 1 t := by dsimp only [flashDat]
/-- The values' window keeps its block. -/
theorem flash_after2 (c : Dev nD) (t : Fin cfg0.N) : (flashDat m 0 c).after 2 t = iblk m c 2 t := by dsimp only [flashDat]
/-- The output's window ends at what is stored. -/
theorem flash_after3 (c : Dev nD) (t : Fin cfg0.N) : (flashDat m 0 c).after 3 t = stored m c t := by dsimp only [flashDat]

/-- A buffer owned at something is its cells at something. -/
theorem cells_of_owns (c : Dev nD) (M : Memref sig .tc .vmem S4x1024x128 .f32) :
    (iprop(∃ d, owns (c : Thread nD τ) M fullShare d) : sProp 𝕄)
      ⊢ iprop(∃ g, M.view.loc (c : Thread nD τ) ↦[M.view.set]{fullShare} g) := by
  unfold owns
  iintro ⟨%d, %f, -, H⟩
  iexists f
  iexact H

/-- The body on a point's buffers: inputs kept, the output at `stored`, the scratch buffers returned at something. -/
theorem point_runs (c : Dev nD) (t : Fin cfg0.N) :
    iprop((flashDat m 0 c).Φ t.castSucc ∗ (flashDat m 0 c).owesAt () t.castSucc
      ∗ (∃ d, owns (c : Thread nD τ) (ms0_0 t) fullShare ((flashDat m 0 c).before 0 t d))
      ∗ (∃ d, owns (c : Thread nD τ) (ms0_1 t) fullShare ((flashDat m 0 c).before 1 t d))
      ∗ (∃ d, owns (c : Thread nD τ) (ms0_2 t) fullShare ((flashDat m 0 c).before 2 t d))
      ∗ (∃ d, owns (c : Thread nD τ) (ms0_3 t) fullShare ((flashDat m 0 c).before 3 t d)))
    ⊢ wp frame (wpE (defs₀ (F := F)) Variants.none c none) Set.univ (bodyAt0 t) (fun _ =>
      iprop((flashDat m 0 c).Φ t.succ ∗ (flashDat m 0 c).owesAt () t.succ
        ∗ owns (c : Thread nD τ) (ms0_0 t) fullShare ((flashDat m 0 c).after 0 t)
        ∗ owns (c : Thread nD τ) (ms0_1 t) fullShare ((flashDat m 0 c).after 1 t)
        ∗ owns (c : Thread nD τ) (ms0_2 t) fullShare ((flashDat m 0 c).after 2 t)
        ∗ owns (c : Thread nD τ) (ms0_3 t) fullShare ((flashDat m 0 c).after 3 t))) := by
  have b0 := before0_0_of m (flashDat m 0 c) (flash_A m c 0) (flash_after0 m c) t
  have b1 := before0_1_of m (flashDat m 0 c) (flash_A m c 1) (flash_after1 m c) t
  have b2 := before0_2_of m (flashDat m 0 c) (flash_A m c 2) (flash_after2 m c) t
  simp only [b0, b1, b2]
  rw [show (flashDat m 0 c).Φ t.succ = Pipeline.ΦA spec0 c from rfl,
    show (flashDat m 0 c).owesAt () t.succ = (flashDat m 0 c).owesAt () t.castSucc from rfl,
    show (flashDat m 0 c).Φ t.castSucc = Pipeline.ΦA spec0 c from rfl,
    flash_after0, flash_after1, flash_after2, flash_after3, PhiA0_eq]
  unfold bodyAt0
  iintro ⟨⟨⟨S0, S1, S2⟩, Hg⟩, Ho, ⟨%d0, A0⟩, ⟨%d1, A1⟩, ⟨%d2, A2⟩, ⟨%d3, A3⟩⟩
  ihave T0 := (cells_of_owns c scM0_0) $$ S0
  ihave T1 := (cells_of_owns c scM0_1) $$ S1
  ihave T2 := (cells_of_owns c scM0_2) $$ S2
  icases T0 with ⟨%g7, S0⟩
  icases T1 with ⟨%g8, S1⟩
  icases T2 with ⟨%g9, S2⟩
  iapply ((run c (grid0.coords t) (ms0_0 t) (hs0_0 t) (ms0_1 t) (hs0_1 t) (ms0_2 t) (hs0_2 t) (ms0_3 t) (hs0_3 t)
    scM0_0 (Memref.isWhole_whole _) scM0_1 (Memref.isWhole_whole _) scM0_2 (Memref.isWhole_whole _)
    (X0_0 m c t) (iblk m c 1 t) (iblk m c 2 t)).2 Set.univ _ g7 g8 g9)
  isplitl [A0]; · iexact A0
  isplitl [A1]; · iexact A1
  isplitl [A2]; · iexact A2
  isplitl [A3]; · iexists _; iexact A3
  isplitl [S0]; · iexact S0
  isplitl [S1]; · iexact S1
  isplitl [S2]; · iexact S2
  iintro ⟨A0, A1, A2, ⟨%f, A3⟩, S0, S1, S2⟩
  isplitl [S0 S1 S2 Hg]
  · isplitl [S0 S1 S2]
    · isplitl [S0]
      · iexact S0
      isplitl [S1]
      · iexact S1
      iexact S2
    iexact Hg
  isplitl [Ho]; · iexact Ho
  isplitl [A0]; · iexact A0
  isplitl [A1]; · iexact A1
  isplitl [A2]; · iexact A2
  unfold owns; iexists _; isplitr
  swap; · iexact A3
  ipureintro
  rw [run_heads]
  exact read_heads _ _ _ _ _

/-- Every point meets the pipeline's obligation. -/
theorem point_obligation (c : Dev nD) :
    BodyObligation (flashDat (F := F) m 0 c) (defs₀ (F := F)) Variants.none () Set.univ := fun t => by
  rw [bigSep_W0, bigSep_W0, show defs₀ (F := F) .tc cfg0.body (cfg0.bodyArgs t (cfg0.slots t)) = bodyAt0 t by
    unfold defs₀; rw [Defs.onTc_tc]]
  exact triple_restated (point_runs m c t) rfl .rfl fun _ => .rfl

set_option backward.isDefEq.respectTransparency.types false in
/-- The program runs to its end: arrays as the windows tell, every counter at zero. -/
theorem flash_run : θ_run defs (onTc (τ := τ) (main (F := F))) (s₀ m ρ)
    (fun r => (Pipeline.FramePost cfgs (flashDat m) 0 (V m)) r ∧ r.2.sem = fun _ => 0) :=
  Pipeline.θ_run_frame_shared (Q' := _) cfgs (flashDat m) (0 : Fin 1) launch₀0 defs₀ Variants.none m ρ main
    (hbody := fun c => (point_obligation m c).loose) (hq := fun _ _ _ => rfl)
    (howed := fun _ _ => rfl) (V := V m) (hmain := hmain m Variants.none) (hA := flash_A m) (hΦ := fun _ _ => rfl)

/-- The arguments end as they began and every counter at zero. -/
theorem flash_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (flashDat m) (flash_A m) ((θ_run defs _ _).mono (fun _ h => h.1) (flash_run m ρ)))
    ((θ_run defs _ _).mono (fun _ h => h.2) (flash_run m ρ))

end Cert.Flash

end
-- ==== Proof.Read.lean ====
/- The running softmax's step over the extended reals, read one element at a time. -/
module

public import proofs.«01_k».proof.Proof.State
public import Idealize.ShloMosaic.Lib.Pipeline.Value

@[expose] public section

set_option maxRecDepth 16384

noncomputable section

namespace Cert.Flash

open Cert.KernelIdeal Cert.KernelIdeal.Gen Idealize.ShloMosaic

/-- A score is the dot product of a query and a key. -/
theorem score_at (q : Vec Ideal S1024x128 .bf16) (k : Vec Ideal S2048x128 .bf16) (r : Fin 1024) (j : Fin 2048) :
    score q k (ix2 r j) = ∑ d : Fin 128, q (ix2 r d) * k (ix2 j d) := by
  pointwise [score]

/-- A context score likewise. -/
theorem score₀_at (q : Vec Ideal S1024x128 .bf16) (k : Vec Ideal S256x128 .bf16) (r : Fin 1024) (j : Fin 256) :
    score₀ q k (ix2 r j) = ∑ d : Fin 128, q (ix2 r d) * k (ix2 j d) := by
  pointwise [score₀]

/-- A tile's entry is the score at the tile's offset. -/
theorem tile_at (s : FVec Ideal S1024x2048 .f32) (b : Fin 16) (r : Fin 1024) (j : Fin 128) :
    tile s b (ix2 r j) = s (ix2 r ⟨128 * b.val + j.val, by omega⟩) := by
  unfold tile extractStridedSlice
  refine congrArg s (funext fun a => Fin.ext ?_)
  fin_cases a
  · show 0 + r.val = r.val; omega
  · rfl

/-- A context tile's entry likewise. -/
theorem tile₀_at (s : FVec Ideal S1024x256 .f32) (b : Fin 2) (r : Fin 1024) (j : Fin 128) :
    tile₀ s b (ix2 r j) = s (ix2 r ⟨128 * b.val + j.val, by omega⟩) := by
  unfold tile₀ extractStridedSlice
  refine congrArg s (funext fun a => Fin.ext ?_)
  fin_cases a
  · show 0 + r.val = r.val; omega
  · rfl

/-- A slab's entry is the flat array's. -/
theorem slab_at (x : FVec Ideal S1024x128 .f32) (r : Fin 1024) (j : Fin 128) : slab x (ix3 0 r j) = x (ix2 r j) := by
  pointwise [slab]

/-- And back. -/
theorem flat_at (x : Vec Ideal S1x1024x128 .f32) (r : Fin 1024) (j : Fin 128) : flat x (ix2 r j) = x (ix3 0 r j) := by
  pointwise [flat]

/-- A row's top is the fold of the row, in every lane. -/
theorem rowTop_at (x : FVec Ideal S1024x128 .f32) (r : Fin 1024) (j : Fin 128) :
    rowTop x (ix2 r j) = Finset.univ.fold max (⊥ : EReal) (fun l : Fin 128 => x (ix2 r l)) := by
  have h : Ideal.ofBits .f32 (4286578688#32) = (⊥ : EReal) := by simp [Ideal.ofBits, Ideal.ieee]
  pointwise [rowTop]
  rw [h]

/-- The weights side by side: the tile that the column names. -/
theorem wts_at (s : FVec Ideal S1024x2048 .f32) (mn : FVec Ideal S1024x128 .f32) (r : Fin 1024) (j : Fin 2048) :
    wts s mn (ix2 r j) = wt s mn ⟨j.val / 128, by omega⟩ (ix2 r ⟨j.val % 128, Nat.mod_lt _ (by decide)⟩) := by
  have h := concatenate_ofFn_apply (t := S1024x2048) (s₁ := S1024x128) 1 (N := 16) (fun b => wtN s mn b)
    concatenates_S1024x128_S1024x128_S1024x128_S1024x128_S1024x128_S1024x128_S1024x128_S1024x128_S1024x128_S1024x128_S1024x128_S1024x128_S1024x128_S1024x128_S1024x128_S1024x128_S1024x2048_d1
    rfl 128 rfl (ix2 r j) ⟨j.val / 128, by omega⟩ rfl (ix2 r ⟨j.val % 128, Nat.mod_lt _ (by decide)⟩) rfl
    (fun b hb => by fin_cases b <;> first | rfl | exact absurd rfl hb)
  exact h

/-- The context's weights side by side. -/
theorem wts₀_at (s : FVec Ideal S1024x256 .f32) (mn : FVec Ideal S1024x128 .f32) (r : Fin 1024) (j : Fin 256) :
    wts₀ s mn (ix2 r j) = wt₀ s mn ⟨j.val / 128, by omega⟩ (ix2 r ⟨j.val % 128, Nat.mod_lt _ (by decide)⟩) := by
  have h := concatenate_ofFn_apply (t := S1024x256) (s₁ := S1024x128) 1 (N := 2)
    (fun b => truncf (F := Ideal) .bf16 (wt₀ s mn b) bitsLt_bf16_f32)
    concatenates_S1024x128_S1024x128_S1024x256_d1
    rfl 128 rfl (ix2 r j) ⟨j.val / 128, by omega⟩ rfl (ix2 r ⟨j.val % 128, Nat.mod_lt _ (by decide)⟩) rfl
    (fun b hb => by fin_cases b <;> first | rfl | exact absurd rfl hb)
  exact h

/-- A weight. -/
theorem wt_at (s : FVec Ideal S1024x2048 .f32) (mn : FVec Ideal S1024x128 .f32) (b : Fin 16) (r : Fin 1024) (j : Fin 128) :
    wt s mn b (ix2 r j) = Ideal.exp2 (s (ix2 r ⟨128 * b.val + j.val, by omega⟩) - mn (ix2 r j)) := by
  rw [← tile_at s b r j]; rfl

/-- A context weight. -/
theorem wt₀_at (s : FVec Ideal S1024x256 .f32) (mn : FVec Ideal S1024x128 .f32) (b : Fin 2) (r : Fin 1024) (j : Fin 128) :
    wt₀ s mn b (ix2 r j) = Ideal.exp2 (s (ix2 r ⟨128 * b.val + j.val, by omega⟩) - mn (ix2 r j)) := by
  rw [← tile₀_at s b r j]; rfl

/-- The weighted values of a chunk. -/
theorem weigh_at (s : FVec Ideal S1024x2048 .f32) (mn : FVec Ideal S1024x128 .f32) (v : Vec Ideal S2048x128 .bf16)
    (r : Fin 1024) (e : Fin 128) :
    weigh s mn v (ix2 r e) = ∑ j : Fin 2048, wts s mn (ix2 r j) * v (ix2 j e) := by
  pointwise [weigh]

/-- The output over the lane sums. -/
theorem finish_at (l a : Vec Ideal S1x1024x128 .f32) (r : Fin 1024) (e : Fin 128) :
    finish l a (ix2 r e) = a (ix3 0 r e) * Ideal.div 1 (∑ j : Fin 128, l (ix3 0 r j)) := by
  pointwise [finish, flat]

end Cert.Flash

end
-- ==== Proof.Holds.lean ====
/- What a head's running state says of the chunks read so far, and what its last division gives. -/
module

public import proofs.«01_k».proof.Proof.Read

@[expose] public section

set_option maxRecDepth 16384

noncomputable section

namespace Cert.Flash

open Cert.KernelIdeal Cert.KernelIdeal.Gen Idealize.ShloMosaic

/-- The value is a real number. -/
def Real' (x : EReal) : Prop := ∃ y : ℝ, x = ↑y

/-- The larger of two reals is a real. -/
theorem Real'.max {x y : EReal} (hx : Real' x) (hy : Real' y) : Real' (max x y) := by
  rcases max_choice x y with h | h <;> rw [h] <;> assumption

/-- The largest of a row of reals is a real. -/
theorem Real'.fold {n : ℕ} [NeZero n] {f : Fin n → EReal} (hf : ∀ l, Real' (f l)) :
    Real' (Finset.univ.fold Max.max (⊥ : EReal) f) := by
  have ht : Finset.univ.fold Max.max (⊥ : EReal) f ≠ ⊤ := by
    refine ne_of_lt ((Finset.fold_max_lt (c := ⊤)).2 ⟨bot_lt_top, fun l _ => ?_⟩)
    obtain ⟨y, hy⟩ := hf l
    rw [hy]; exact EReal.coe_lt_top y
  have hb : Finset.univ.fold Max.max (⊥ : EReal) f ≠ ⊥ := by
    refine (ne_of_lt ((Finset.lt_fold_max (c := ⊥)).2 (Or.inr ⟨0, Finset.mem_univ _, ?_⟩))).symm
    obtain ⟨y, hy⟩ := hf 0
    rw [hy]; exact EReal.bot_lt_coe y
  exact ⟨_, (EReal.coe_toReal ht hb).symm⟩

/-- A fold of maxima over tiles of reals is real at each entry. -/
theorem real_tiles {w : Fin 16 → FVec Ideal S1024x128 .f32} {i : S1024x128.Idx} (h : ∀ b, Real' (w b i)) :
    ∀ (L : List (Fin 16)) (x : FVec Ideal S1024x128 .f32), Real' (x i) →
      Real' (L.foldl (fun x b => maximumf x (w b)) x i)
  | [], x, hx => hx
  | b :: L, x, hx => real_tiles h L _ (by
      show Real' (max (x i) (w b i))
      exact hx.max (h b))

/-- Sixteen tiles added up, at an entry. -/
theorem tiles_sum (w : Fin 16 → FVec Ideal S1024x128 .f32) (i : S1024x128.Idx) :
    tailTiles.foldl (fun x b => addf x (w b)) (w 0) i = ∑ b : Fin 16, (w b i : EReal) := by
  simp only [Fin.sum_univ_castSucc, Fin.sum_univ_zero, zero_add]
  rfl

/-- A sum over blocks of 128 is the sum over all columns. -/
theorem sum_tiles {M : Type*} [AddCommMonoid M] {n N : ℕ} (hN : n * 128 = N) (f : Fin N → M) :
    ∑ j : Fin 128, ∑ b : Fin n, f ⟨128 * b.val + j.val, by omega⟩ = ∑ i : Fin N, f i := by
  subst hN
  rw [Finset.sum_comm, ← Fintype.sum_prod_type' (f := fun (b : Fin n) (j : Fin 128) => f ⟨128 * b.val + j.val, by omega⟩)]
  exact Fintype.sum_equiv finProdFinEquiv _ _ fun x =>
    congrArg f (Fin.ext (by simp [finProdFinEquiv, add_comm]))

/-- A nonnegative real factor goes into a sum of extended reals. -/
theorem coe_mul_sum {ι : Type*} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, ← ih]
    exact EReal.left_distrib_of_nonneg_of_ne_top (by exact_mod_cast hc) (EReal.coe_ne_top c) _ _

/-- What the running state of row `r` says: the maximum is some real in every lane; the lane sums add up to `S`
and the accumulator is `A`, both scaled down by the maximum's power of two. -/
def Holds (c : Chain Ideal) (r : Fin 1024) (S : ℝ) (A : Fin 128 → EReal) : Prop :=
  ∃ (μ : ℝ) (ℓ : Fin 128 → ℝ), (∀ j, c.m (ix3 0 r j) = (μ : EReal)) ∧
    (∀ j, c.l (ix3 0 r j) = (((2 : ℝ) ^ (-μ) * ℓ j : ℝ) : EReal)) ∧ ∑ j, ℓ j = S ∧
    ∀ e, c.a (ix3 0 r e) = (((2 : ℝ) ^ (-μ) : ℝ) : EReal) * A e

/-- A power of two of a difference of reals. -/
theorem exp2_sub (x y : ℝ) : Ideal.exp2 ((x : EReal) - (y : EReal)) = (((2 : ℝ) ^ (-y) * (2 : ℝ) ^ x : ℝ) : EReal) := by
  rw [← EReal.coe_sub, Ideal.exp2_coe]
  rw [← Real.rpow_add (by norm_num : (0 : ℝ) < 2)]
  congr 1
  show (2 : ℝ) ^ (x - y) = _
  congr 1; ring

/-- A power of two is not negative. -/
theorem pow_nonneg' (x : ℝ) : 0 ≤ (2 : ℝ) ^ x := (Real.rpow_pos_of_pos (by norm_num) x).le

/-- The state after the context's 256 keys. -/
theorem first_holds (s : FVec Ideal S1024x256 .f32) (v : Vec Ideal S256x128 .bf16) (r : Fin 1024)
    (T : Fin 256 → ℝ) (hT : ∀ j, s (ix2 r j) = (T j : EReal)) :
    Holds (firstS s v) r (∑ j, (2 : ℝ) ^ T j) (fun e => ∑ j, (((2 : ℝ) ^ T j : ℝ) : EReal) * v (ix2 j e)) := by
  obtain ⟨μ, hμ⟩ : ∃ μ : ℝ, ∀ j, firstTop s (ix2 r j) = (μ : EReal) := by
    obtain ⟨μ, hμ⟩ : Real' (Finset.univ.fold max (⊥ : EReal)
        (fun l : Fin 128 => maximumf (tile₀ s 0) (tile₀ s 1) (ix2 r l))) := by
      refine Real'.fold fun l => ?_
      show Real' (max (tile₀ s 0 (ix2 r l)) (tile₀ s 1 (ix2 r l)))
      rw [tile₀_at, tile₀_at, hT, hT]
      exact Real'.max ⟨_, rfl⟩ ⟨_, rfl⟩
    exact ⟨μ, fun j => (rowTop_at _ r j).trans hμ⟩
  have hw : ∀ b j, wt₀ s (firstTop s) b (ix2 r j) =
      (((2 : ℝ) ^ (-μ) * (2 : ℝ) ^ T ⟨128 * b.val + j.val, by omega⟩ : ℝ) : EReal) := fun b j => by
    rw [wt₀_at, hT, hμ, exp2_sub]
  refine ⟨μ, fun j => ∑ b : Fin 2, (2 : ℝ) ^ T ⟨128 * b.val + j.val, by omega⟩, fun j => ?_, fun j => ?_, ?_, fun e => ?_⟩
  · dsimp only [firstS, stepS]
    rw [slab_at, hμ]
  · dsimp only [firstS, stepS]
    rw [slab_at]
    show wt₀ _ _ 0 _ + wt₀ _ _ 1 _ = _
    rw [hw, hw, ← EReal.coe_add, Fin.sum_univ_two, mul_add]
  · exact sum_tiles (n := 2) (N := 256) rfl fun i => (2 : ℝ) ^ T i
  · dsimp only [firstS, stepS]
    rw [slab_at]
    rw [coe_mul_sum _ _ (pow_nonneg' _)]
    have hm : matmul (φ₂ := .bf16) dot_S1024x256_S256x128_S1024x128_1_0_0_1_n_n none
        (wts₀ s (firstTop s))
        (shapeCast S256x128 v shapeCasts_S256x128_S256x128) (constant S1024x128 .f32 0x00000000#32) (ix2 r e)
        = ∑ j : Fin 256, wts₀ s (firstTop s) (ix2 r j) * v (ix2 j e) := by
      pointwise
    rw [hm]
    refine Finset.sum_congr rfl fun j _ => ?_
    rw [wts₀_at, hw, EReal.coe_mul, mul_assoc]
    have : (⟨128 * (j.val / 128) + j.val % 128, by omega⟩ : Fin 256) = j := Fin.ext (Nat.div_add_mod _ _)
    rw [this]

/-- The state after one more chunk of 2048 keys. -/
theorem step_holds (s : FVec Ideal S1024x2048 .f32) (v : Vec Ideal S2048x128 .bf16) (c : Chain Ideal) (r : Fin 1024)
    (S : ℝ) (A : Fin 128 → EReal) (hc : Holds c r S A)
    (T : Fin 2048 → ℝ) (hT : ∀ j, s (ix2 r j) = (T j : EReal)) :
    Holds (stepS s v c) r (S + ∑ j, (2 : ℝ) ^ T j)
      (fun e => A e + ∑ j, (((2 : ℝ) ^ T j : ℝ) : EReal) * v (ix2 j e)) := by
  obtain ⟨μ₀, ℓ, hm, hl, hS, ha⟩ := hc
  have hf : ∀ j, flat c.m (ix2 r j) = (μ₀ : EReal) := fun j => by rw [flat_at, hm]
  obtain ⟨μ, hμ⟩ : ∃ μ : ℝ, ∀ j, nextTop s (flat c.m) (ix2 r j) = (μ : EReal) := by
    have ht : ∀ b l, Real' (tile s b (ix2 r l)) := fun b l => by
      rw [tile_at, hT]; exact ⟨_, rfl⟩
    obtain ⟨μ, hμ⟩ : Real' (max (μ₀ : EReal) (Finset.univ.fold max (⊥ : EReal)
        (fun l : Fin 128 => tailTiles.foldl (fun x b => maximumf x (tile s b)) (tile s 0) (ix2 r l)))) :=
      Real'.max ⟨_, rfl⟩ (Real'.fold fun l => real_tiles (fun b => ht b l) _ _ (ht 0 l))
    refine ⟨μ, fun j => ?_⟩
    show max (flat c.m (ix2 r j)) (rowTop _ (ix2 r j)) = _
    rw [hf, rowTop_at, hμ]
  have hw : ∀ b j, wt s (nextTop s (flat c.m)) b (ix2 r j) =
      (((2 : ℝ) ^ (-μ) * (2 : ℝ) ^ T ⟨128 * b.val + j.val, by omega⟩ : ℝ) : EReal) := fun b j => by
    rw [wt_at, hT, hμ, exp2_sub]
  have hcorr : ∀ j, exp2 (subf (flat c.m) (nextTop s (flat c.m))) (ix2 r j) =
      (((2 : ℝ) ^ (-μ) * (2 : ℝ) ^ μ₀ : ℝ) : EReal) := fun j => by
    show Ideal.exp2 (flat c.m (ix2 r j) - nextTop s (flat c.m) (ix2 r j)) = _
    rw [hf, hμ, exp2_sub]
  have h1 : (2 : ℝ) ^ μ₀ * (2 : ℝ) ^ (-μ₀) = 1 := by
    rw [← Real.rpow_add (by norm_num : (0 : ℝ) < 2)]; simp
  refine ⟨μ, fun j => ℓ j + ∑ b : Fin 16, (2 : ℝ) ^ T ⟨128 * b.val + j.val, by omega⟩, fun j => ?_, fun j => ?_, ?_, fun e => ?_⟩
  · dsimp only [firstS, stepS]
    rw [slab_at, hμ]
  · dsimp only [firstS, stepS]
    rw [slab_at]
    show exp2 (subf (flat c.m) (nextTop s (flat c.m))) (ix2 r j) * flat c.l (ix2 r j)
      + laneSum s (nextTop s (flat c.m)) (ix2 r j) = _
    rw [hcorr, flat_at, hl, laneSum, tiles_sum]
    simp only [hw]
    rw [← EReal.coe_mul]
    have : (∑ b : Fin 16, (((2 : ℝ) ^ (-μ) * (2 : ℝ) ^ T ⟨128 * b.val + j.val, by omega⟩ : ℝ) : EReal))
        = ((∑ b : Fin 16, (2 : ℝ) ^ (-μ) * (2 : ℝ) ^ T ⟨128 * b.val + j.val, by omega⟩ : ℝ) : EReal) := by
      norm_cast
    rw [this, ← EReal.coe_add, ← Finset.mul_sum, mul_add]
    congr 2
    calc (2 : ℝ) ^ (-μ) * 2 ^ μ₀ * (2 ^ (-μ₀) * ℓ j) = (2 : ℝ) ^ (-μ) * ((2 : ℝ) ^ μ₀ * 2 ^ (-μ₀)) * ℓ j := by ring
      _ = _ := by rw [h1, mul_one]
  · rw [Finset.sum_add_distrib, hS, sum_tiles (n := 16) (N := 2048) rfl fun i => (2 : ℝ) ^ T i]
  · dsimp only [firstS, stepS]
    rw [slab_at]
    show exp2 (subf (flat c.m) (nextTop s (flat c.m))) (ix2 r e) * flat c.a (ix2 r e)
      + weigh s (nextTop s (flat c.m)) v (ix2 r e) = _
    rw [hcorr, flat_at, ha, weigh_at,
      EReal.left_distrib_of_nonneg_of_ne_top (by exact_mod_cast pow_nonneg' (-μ)) (EReal.coe_ne_top _),
      coe_mul_sum _ _ (pow_nonneg' _)]
    congr 1
    · rw [← mul_assoc, ← EReal.coe_mul, mul_assoc, h1, mul_one]
    · refine Finset.sum_congr rfl fun j _ => ?_
      rw [wts_at, hw, EReal.coe_mul, mul_assoc]
      have : (⟨128 * (j.val / 128) + j.val % 128, by omega⟩ : Fin 2048) = j := Fin.ext (Nat.div_add_mod _ _)
      rw [this]

/-- The last division. -/
theorem finish_holds (c : Chain Ideal) (r : Fin 1024) (S : ℝ) (A : Fin 128 → EReal) (hc : Holds c r S A)
    (hS : 0 < S) (e : Fin 128) : finish c.l c.a (ix2 r e) = A e * ((1 / S : ℝ) : EReal) := by
  obtain ⟨μ, ℓ, hm, hl, hs, ha⟩ := hc
  have hp : (0 : ℝ) < (2 : ℝ) ^ (-μ) := Real.rpow_pos_of_pos (by norm_num) _
  rw [finish_at, ha]
  simp only [hl]
  have : (∑ j : Fin 128, (((2 : ℝ) ^ (-μ) * ℓ j : ℝ) : EReal)) = (((2 : ℝ) ^ (-μ) * S : ℝ) : EReal) := by
    rw [← hs, Finset.mul_sum]; norm_cast
  rw [this, Ideal.div_coe (by positivity), one_mul, mul_comm (_ : EReal) (A e), mul_assoc, ← EReal.coe_mul]
  congr 2
  field_simp

end Cert.Flash

end
-- ==== Proof.Attend.lean ====
/- A head's output over the extended reals, in closed form: the softmax average of the values. -/
module

public import proofs.«01_k».proof.Proof.Holds

@[expose] public section

set_option maxRecDepth 16384

noncomputable section

namespace Cert.Flash

open Cert.KernelIdeal Cert.KernelIdeal.Gen Idealize.ShloMosaic

/-- The row of the block that row `j` of chunk `k` is. -/
abbrev chunkRow (k : Fin k0_t1_loop.trips) (j : Fin 2048) : Fin 8448 :=
  ⟨2048 * k.val + j.val, by have : k.val < 4 := lt_of_lt_of_eq k.isLt (by decide); omega⟩

/-- The offset of each chunk. -/
theorem chunk_off : ∀ k : Fin k0_t1_loop.trips, k0_off1 k 0 = 2048 * k.val ∧ k0_off1 k 1 = 0 := by decide

/-- A chunk's entry. -/
theorem chunkOf_at (x : Vec Ideal S8448x128 .bf16) (k : Fin k0_t1_loop.trips) (j : Fin 2048) (e : Fin 128) :
    chunkOf x k (ix2 j e) = x (ix2 (chunkRow k j) e) := by
  unfold chunkOf
  refine congrArg x (funext fun a => Fin.ext ?_)
  have h := chunk_off k
  fin_cases a
  · show k0_off1 k 0 + 1 * j.val = 2048 * k.val + j.val
    rw [h.1]; omega
  · show k0_off1 k 1 + 1 * e.val = e.val
    rw [h.2]; omega

/-- The context's entry. -/
theorem ctxOf_at (x : Vec Ideal S8448x128 .bf16) (j : Fin 256) (e : Fin 128) :
    ctxOf x (ix2 j e) = x (ix2 ⟨8192 + j.val, by omega⟩ e) := by
  unfold ctxOf
  refine congrArg x (funext fun a => Fin.ext ?_)
  fin_cases a
  · show 8192 + 1 * j.val = 8192 + j.val; omega
  · show 0 + 1 * e.val = e.val; omega

/-- A head's query entry. -/
theorem headOf_at (x : Vec Ideal S1024x512 .bf16) (ci : Fin 4) (r : Fin 1024) (d : Fin 128) :
    headOf x ci (ix2 r d) = x (ix2 r ⟨128 * ci.val + d.val, by omega⟩) := by
  unfold headOf
  refine congrArg x (funext fun a => Fin.ext ?_)
  fin_cases a
  · show 0 + 1 * r.val = r.val; omega
  · show 128 * ci.val + 1 * d.val = 128 * ci.val + d.val; omega

/-- All rows: the context's, then the four chunks'. -/
theorem sum_rows {M : Type*} [AddCommMonoid M] (f : Fin 8448 → M) :
    ((((∑ j : Fin 256, f ⟨8192 + j.val, by omega⟩) + ∑ j, f (chunkRow ⟨0, by decide⟩ j))
      + ∑ j, f (chunkRow ⟨1, by decide⟩ j)) + ∑ j, f (chunkRow ⟨2, by decide⟩ j)) + ∑ j, f (chunkRow ⟨3, by decide⟩ j)
      = ∑ s, f s := by
  have h1 := Fin.sum_univ_add (a := 8192) (b := 256) f
  have h2 := Fin.sum_univ_add (a := 6144) (b := 2048) fun i : Fin 8192 => f (Fin.castAdd 256 i)
  have h3 := Fin.sum_univ_add (a := 4096) (b := 2048) fun i : Fin 6144 => f (Fin.castAdd 256 (Fin.castAdd 2048 i))
  have h4 := Fin.sum_univ_add (a := 2048) (b := 2048)
    fun i : Fin 4096 => f (Fin.castAdd 256 (Fin.castAdd 2048 (Fin.castAdd 2048 i)))
  have e0 : ∀ j : Fin 2048, chunkRow ⟨0, by decide⟩ j
      = Fin.castAdd 256 (Fin.castAdd 2048 (Fin.castAdd 2048 (Fin.castAdd 2048 j))) := fun j =>
    Fin.ext (by show 2048 * 0 + j.val = j.val; omega)
  have hc : ∀ a b c d e : M, (((a + b) + c) + d) + e = (((b + c) + d) + e) + a := fun a b c d e => by abel
  rw [h1, h2, h3, h4, hc]
  simp only [e0]
  rfl

/-- Four steps from the context's state, over scores `s₀` and `s` and the values' block `x2`. -/
def chainS (s₀ : FVec Ideal S1024x256 .f32) (s : Fin k0_t1_loop.trips → FVec Ideal S1024x2048 .f32)
    (x2 : Vec Ideal S8448x128 .bf16) : Chain Ideal :=
  stepS (s ⟨3, by decide⟩) (chunkOf x2 ⟨3, by decide⟩) (stepS (s ⟨2, by decide⟩) (chunkOf x2 ⟨2, by decide⟩)
    (stepS (s ⟨1, by decide⟩) (chunkOf x2 ⟨1, by decide⟩) (stepS (s ⟨0, by decide⟩) (chunkOf x2 ⟨0, by decide⟩)
      (firstS s₀ (ctxOf x2)))))

/-- With real scores `T`, the output is the values' average under weights `2 ^ T`. -/
theorem chainS_at (s₀ : FVec Ideal S1024x256 .f32) (s : Fin k0_t1_loop.trips → FVec Ideal S1024x2048 .f32)
    (x2 : Vec Ideal S8448x128 .bf16) (r : Fin 1024) (T : Fin 8448 → ℝ)
    (hT₀ : ∀ j : Fin 256, s₀ (ix2 r j) = (T ⟨8192 + j.val, by omega⟩ : EReal))
    (hT : ∀ k j, s k (ix2 r j) = (T (chunkRow k j) : EReal)) (e : Fin 128) :
    finish (chainS s₀ s x2).l (chainS s₀ s x2).a (ix2 r e) =
      (∑ s, (((2 : ℝ) ^ T s : ℝ) : EReal) * x2 (ix2 s e)) * ((1 / ∑ s, (2 : ℝ) ^ T s : ℝ) : EReal) := by
  have h0 := first_holds s₀ (ctxOf x2) r (fun j => T ⟨8192 + j.val, by omega⟩) hT₀
  have h1 := step_holds _ (chunkOf x2 ⟨0, by decide⟩) _ r _ _ h0 _ (hT ⟨0, by decide⟩)
  have h2 := step_holds _ (chunkOf x2 ⟨1, by decide⟩) _ r _ _ h1 _ (hT ⟨1, by decide⟩)
  have h3 := step_holds _ (chunkOf x2 ⟨2, by decide⟩) _ r _ _ h2 _ (hT ⟨2, by decide⟩)
  have h4 := step_holds _ (chunkOf x2 ⟨3, by decide⟩) _ r _ _ h3 _ (hT ⟨3, by decide⟩)
  have hS := sum_rows fun s => (2 : ℝ) ^ T s
  have hA := sum_rows fun s => (((2 : ℝ) ^ T s : ℝ) : EReal) * x2 (ix2 s e)
  have hpos : 0 < ∑ s, (2 : ℝ) ^ T s :=
    Finset.sum_pos (fun s _ => Real.rpow_pos_of_pos (by norm_num) _) ⟨0, Finset.mem_univ _⟩
  have h := finish_holds _ r _ _ h4 (by rw [hS]; exact hpos) e
  rw [hS] at h
  refine Eq.trans h ?_
  refine congrArg (· * _) ?_
  rw [← hA]
  simp only [chunkOf_at, ctxOf_at]

/-- A head's output: with real scores `T`, the values' average under weights `2 ^ T`. -/
theorem headOut_at (x0 : Vec Ideal S1024x512 .bf16) (x1 x2 : Vec Ideal S8448x128 .bf16) (ci : Fin 4) (r : Fin 1024)
    (T : Fin 8448 → ℝ)
    (hT : ∀ s, (∑ d : Fin 128, x0 (ix2 r ⟨128 * ci.val + d.val, by omega⟩) * x1 (ix2 s d)) = (T s : EReal)) (e : Fin 128) :
    headOut x0 x1 x2 ci (ix2 r e) =
      (∑ s, (((2 : ℝ) ^ T s : ℝ) : EReal) * x2 (ix2 s e)) * ((1 / ∑ s, (2 : ℝ) ^ T s : ℝ) : EReal) := by
  refine chainS_at (score₀ (headOf x0 ci) (ctxOf x1)) (fun k => score (headOf x0 ci) (chunkOf x1 k)) x2 r T (fun j => ?_)
    (fun k j => ?_) e
  · rw [score₀_at, ← hT]
    exact Finset.sum_congr rfl fun d _ => by rw [headOf_at, ctxOf_at]
  · rw [score_at, ← hT]
    exact Finset.sum_congr rfl fun d _ => by rw [headOf_at, chunkOf_at]

end Cert.Flash

end
-- ==== Proof.Host.lean ====
/- The host's work before the launch: the queries' columns of the main array times a scale, read at an index. -/
module

public import proofs.«01_k».proof.Proof.Launch
public import proofs.«01_k».proof.Proof.Attend

@[expose] public section

set_option maxRecDepth 16384

noncomputable section

namespace Cert.Flash

open Cert.KernelIdeal Cert.KernelIdeal.Gen Idealize.ShloMosaic Idealize.ShloMosaic.TcCoe Idealize.SL.Sem

section Any

variable {F : FTy → Type} [FloatOps F]

/-- The query columns. -/
def isQ : S8448x6144.Idx → BitVec 1 :=
  andi (cmpi .sge (iotaInDim S8448x6144 32 1) (broadcastInDim S8448x6144 ![] bcast_S_S8448x6144 (constantI S_ 32 1536#32)))
    (cmpi .slt (iotaInDim S8448x6144 32 1) (broadcastInDim S8448x6144 ![] bcast_S_S8448x6144 (constantI S_ 32 2560#32)))

/-- The scale: one over the root of the head's width times the logarithm of two. -/
def scaleQ : FVec F S_ .f32 :=
  Host.divf (constant S_ .f32 0x3F800000#32)
    (mulf (Host.sqrt (constant S_ .f32 0x43000000#32)) (Host.log (constant S_ .f32 0x40000000#32)))

/-- The main array with its query columns scaled. -/
def scaled (x : FVec F S8448x6144 .f32) : FVec F S8448x6144 .bf16 :=
  truncf .bf16 (mulf x (select isQ (broadcastInDim S8448x6144 ![] bcast_S_S8448x6144 (scaleQ (F := F)))
    (broadcastInDim S8448x6144 ![] bcast_S_S8448x6144 (constant S_ .f32 0x3F800000#32)))) bitsLt_bf16_f32

/-- The launch finds the scaled main array. -/
theorem V_main (m : (ℓ : Loc nD τ sig) → Buf (Elt F) ℓ) (c : Dev nD) :
    V m c main_v12 = scaled (m ((c : Thread nD τ).loc main_arg0)) := by
  show StableHlo.after (List.flatten [hostOps0, hostOps0_1, hostOps0_2]) _ _ = _
  simp only [hostOps0, hostOps0_1, hostOps0_2, List.flatten_cons, List.flatten_nil, List.append_nil, List.cons_append,
      List.nil_append]
  after_results_simp
  rfl

/-- And the output array's first contents, the second argument's. -/
theorem V_out (m : (ℓ : Loc nD τ sig) → Buf (Elt F) ℓ) (c : Dev nD) :
    V m c main_v13 = m ((c : Thread nD τ).loc main_arg1) := by
  show StableHlo.after (List.flatten [hostOps0, hostOps0_1, hostOps0_2]) _ _ = _
  simp only [hostOps0, hostOps0_1, hostOps0_2, List.flatten_cons, List.flatten_nil, List.append_nil, List.cons_append,
      List.nil_append]
  after_results_simp
  rfl

end Any

/-- The scale as a real number. -/
def c2 : ℝ := 1 / (Real.sqrt 128 * Real.log 2)

/-- The host's scale is one over the root of 128 times the logarithm of two. -/
theorem scaleQ_at : scaleQ (F := Ideal) (Shape.Idx.first (by decide)) = ((c2 : ℝ) : EReal) := by
  have h1 : Ideal.ofBits .f32 0x3F800000#32 = ((1 : ℝ) : EReal) := by
    simp [Ideal.ofBits, Ideal.ieee]; rw [← EReal.coe_mul]; norm_num
  have h128 : Ideal.ofBits .f32 0x43000000#32 = ((128 : ℝ) : EReal) := by
    simp [Ideal.ofBits, Ideal.ieee]; rw [← EReal.coe_mul]; norm_num
  have h2 : Ideal.ofBits .f32 0x40000000#32 = ((2 : ℝ) : EReal) := by
    simp [Ideal.ofBits, Ideal.ieee]; rw [← EReal.coe_mul]; norm_num
  show Ideal.div (Ideal.ofBits .f32 0x3F800000#32)
    (Ideal.sqrt (Ideal.ofBits .f32 0x43000000#32) * Ideal.log (Ideal.ofBits .f32 0x40000000#32)) = _
  rw [h1, h128, h2]
  have hs : Ideal.sqrt ((128 : ℝ) : EReal) = ((Real.sqrt 128 : ℝ) : EReal) := by simp [Ideal.sqrt_coe]
  have hl : Ideal.log ((2 : ℝ) : EReal) = ((Real.log 2 : ℝ) : EReal) := by
    show (if (2 : ℝ) ≤ 0 then ⊥ else ((Real.log 2 : ℝ) : EReal)) = _
    rw [if_neg (by norm_num)]
  have hne : Real.sqrt 128 * Real.log 2 ≠ 0 := by
    have : 0 < Real.log 2 := Real.log_pos (by norm_num)
    positivity
  rw [hs, hl, ← EReal.coe_mul, Ideal.div_coe hne, ← EReal.coe_mul, one_mul]
  rfl

/-- A column is a query column when its number lies between the two bounds. -/
theorem isQ_at (i : Fin 8448) (j : Fin 6144) :
    isQ (ix2 i j) = if 1536 ≤ j.val ∧ j.val < 2560 then 1#1 else 0#1 := by
  have hj : j.val < 6144 := j.isLt
  show BitVec.ofBool ((1536#32).sle (BitVec.ofNat 32 j.val)) &&& BitVec.ofBool ((BitVec.ofNat 32 j.val).slt 2560#32) = _
  have e : (BitVec.ofNat 32 j.val).toInt = j.val := by
    rw [BitVec.toInt_ofNat']
    exact Int.bmod_eq_of_le (by omega) (by omega)
  have e1 : ((1536#32).sle (BitVec.ofNat 32 j.val)) = decide (1536 ≤ j.val) := by
    rw [BitVec.sle_eq_decide, e]
    exact decide_eq_decide.2 (by show (1536 : ℤ) ≤ _ ↔ _; omega)
  have e2 : ((BitVec.ofNat 32 j.val).slt 2560#32) = decide (j.val < 2560) := by
    rw [BitVec.slt_eq_decide, e]
    exact decide_eq_decide.2 (by show _ < (2560 : ℤ) ↔ _; omega)
  rw [e1, e2]
  by_cases h1 : 1536 ≤ j.val <;> by_cases h2 : j.val < 2560 <;> simp [h1, h2]

/-- The scaled array at a query column. -/
theorem scaled_q (x : FVec Ideal S8448x6144 .f32) (i : Fin 8448) (j : Fin 6144) (h : 1536 ≤ j.val ∧ j.val < 2560) :
    scaled x (ix2 i j) = x (ix2 i j) * ((c2 : ℝ) : EReal) := by
  show x (ix2 i j) * (if isQ (ix2 i j) = 1#1 then _ else _) = _
  rw [isQ_at, if_pos h, if_pos rfl]
  exact congrArg _ scaleQ_at

/-- The scaled array at any other column. -/
theorem scaled_other (x : FVec Ideal S8448x6144 .f32) (i : Fin 8448) (j : Fin 6144) (h : ¬(1536 ≤ j.val ∧ j.val < 2560)) :
    scaled x (ix2 i j) = x (ix2 i j) := by
  show x (ix2 i j) * (if isQ (ix2 i j) = 1#1 then _ else Ideal.ofBits .f32 0x3F800000#32) = _
  rw [isQ_at, if_neg h, if_neg (by decide), Ideal.ofBits_one_f32, mul_one]

end Cert.Flash

end
-- ==== Proof.RefValue.lean ====
/- The reference's result at an index: the softmax average of the values. -/
module

public import proofs.«01_k».proof.Proof.Gen.ReferenceIdeal.Read
public import proofs.«01_k».proof.Proof.Holds
public import Idealize.ShloMosaic.Lib.Pointwise
public import Idealize.ShloMosaic.Lib.KernelVsHost

@[expose] public section

set_option maxRecDepth 16384

noncomputable section

namespace Cert.Flash.Ref

open Cert.ReferenceIdeal Cert.ReferenceIdeal.Gen Cert.ReferenceIdeal.Read Idealize.ShloMosaic

/-- A sum of reals, as a sum of extended reals. -/
theorem coe_sum {n : ℕ} (f : Fin n → ℝ) : ((∑ i, f i : ℝ) : EReal) = ∑ i, (f i : EReal) :=
  map_sum (⟨⟨fun x : ℝ => (x : EReal), EReal.coe_zero⟩, EReal.coe_add⟩ : ℝ →+ EReal) f Finset.univ

/-- The keys' order in the reference: the 256 context rows come first. -/
def rot : Fin 8448 ≃ Fin 8448 where
  toFun s := ⟨(s.val + 8192) % 8448, Nat.mod_lt _ (by decide)⟩
  invFun s := ⟨(s.val + 256) % 8448, Nat.mod_lt _ (by decide)⟩
  left_inv s := Fin.ext (by show ((s.val + 8192) % 8448 + 256) % 8448 = s.val; omega)
  right_inv s := Fin.ext (by show ((s.val + 256) % 8448 + 8192) % 8448 = s.val; omega)

variable (x0 : FVec Ideal S8448x6144 .f32)

/-- A key's entry. -/
theorem k_at (s : Fin 8448) (n : Fin 2) (d : Fin 128) :
    val_main_v14 (F := Ideal) x0 (ix3 s n d) = x0 (ix2 (rot s) ⟨2560 + 128 * n.val + d.val, by omega⟩) := by
  by_cases h : s.val < 256
  · have e := concatenate_pair_apply_left (s₁ := S256x2x128) (s₂ := S8192x2x128) (t := S8448x2x128) 0 (val_main_v11 (F := Ideal) x0) (val_main_v4 (F := Ideal) x0)
      concatenates_S256x2x128_S8192x2x128_S8448x2x128_d0 (ix3 s n d) rfl (ix3 ⟨s.val, h⟩ n d)
      (fun b => by fin_cases b <;> rfl)
    refine Eq.trans e ?_
    rw [val_main_v11_apply, val_main_v10_apply, val_main_v7_apply]
    refine congrArg x0 (funext fun a => Fin.ext ?_)
    fin_cases a
    · show 8192 + ((s.val * 2 + n.val) * 128 + d.val) / 256 = (s.val + 8192) % 8448; omega
    · show 1536 + (1024 + ((s.val * 2 + n.val) * 128 + d.val) % 256) = 2560 + 128 * n.val + d.val; omega
  · have e := concatenate_pair_apply_right (s₁ := S256x2x128) (s₂ := S8192x2x128) (t := S8448x2x128) 0 (val_main_v11 (F := Ideal) x0) (val_main_v4 (F := Ideal) x0)
      concatenates_S256x2x128_S8192x2x128_S8448x2x128_d0 (ix3 s n d) rfl rfl (ix3 ⟨s.val - 256, by omega⟩ n d)
      (fun b hb => by fin_cases b <;> first | rfl | exact absurd rfl hb)
      (by show s.val - 256 + 256 = s.val; omega)
    refine Eq.trans e ?_
    rw [val_main_v4_apply, val_main_v3_apply, val_main_v0_apply]
    refine congrArg x0 (funext fun a => Fin.ext ?_)
    fin_cases a
    · show ((((s.val - 256) * 2 + n.val) * 128 + d.val) / 256) = (s.val + 8192) % 8448; omega
    · show 1536 + (1024 + (((s.val - 256) * 2 + n.val) * 128 + d.val) % 256) = 2560 + 128 * n.val + d.val; omega

/-- A value's entry. -/
theorem v_at (s : Fin 8448) (n : Fin 2) (d : Fin 128) :
    val_main_v15 (F := Ideal) x0 (ix3 s n d) = x0 (ix2 (rot s) ⟨2816 + 128 * n.val + d.val, by omega⟩) := by
  by_cases h : s.val < 256
  · have e := concatenate_pair_apply_left (s₁ := S256x2x128) (s₂ := S8192x2x128) (t := S8448x2x128) 0 (val_main_v13 (F := Ideal) x0) (val_main_v6 (F := Ideal) x0)
      concatenates_S256x2x128_S8192x2x128_S8448x2x128_d0 (ix3 s n d) rfl (ix3 ⟨s.val, h⟩ n d)
      (fun b => by fin_cases b <;> rfl)
    refine Eq.trans e ?_
    rw [val_main_v13_apply, val_main_v12_apply, val_main_v7_apply]
    refine congrArg x0 (funext fun a => Fin.ext ?_)
    fin_cases a
    · show 8192 + ((s.val * 2 + n.val) * 128 + d.val) / 256 = (s.val + 8192) % 8448; omega
    · show 1536 + (1280 + ((s.val * 2 + n.val) * 128 + d.val) % 256) = 2816 + 128 * n.val + d.val; omega
  · have e := concatenate_pair_apply_right (s₁ := S256x2x128) (s₂ := S8192x2x128) (t := S8448x2x128) 0 (val_main_v13 (F := Ideal) x0) (val_main_v6 (F := Ideal) x0)
      concatenates_S256x2x128_S8192x2x128_S8448x2x128_d0 (ix3 s n d) rfl rfl (ix3 ⟨s.val - 256, by omega⟩ n d)
      (fun b hb => by fin_cases b <;> first | rfl | exact absurd rfl hb)
      (by show s.val - 256 + 256 = s.val; omega)
    refine Eq.trans e ?_
    rw [val_main_v6_apply, val_main_v5_apply, val_main_v0_apply]
    refine congrArg x0 (funext fun a => Fin.ext ?_)
    fin_cases a
    · show ((((s.val - 256) * 2 + n.val) * 128 + d.val) / 256) = (s.val + 8192) % 8448; omega
    · show 1536 + (1280 + (((s.val - 256) * 2 + n.val) * 128 + d.val) % 256) = 2816 + 128 * n.val + d.val; omega

/-- A query's entry. -/
theorem q_at (r : Fin 8192) (n : Fin 2) (g : Fin 4) (d : Fin 128) :
    val_main_v18 (F := Ideal) x0 (ix4 r n g d)
      = x0 (ix2 ⟨r.val, by omega⟩ ⟨1536 + 128 * (4 * n.val + g.val) + d.val, by omega⟩) := by
  rw [val_main_v18_apply, val_main_v2_apply, val_main_v1_apply, val_main_v0_apply]
  refine congrArg x0 (funext fun a => Fin.ext ?_)
  have hr := r.isLt; have hn := n.isLt; have hg := g.isLt; have hd := d.isLt
  fin_cases a
  · show (((((r.val * 2 + n.val) * 4 + g.val) * 128 + d.val) / 1024 * 8
      + (((r.val * 2 + n.val) * 4 + g.val) * 128 + d.val) / 128 % 8) * 128
      + (((r.val * 2 + n.val) * 4 + g.val) * 128 + d.val) % 128) / 1024 = r.val
    omega
  · show 1536 + (((((r.val * 2 + n.val) * 4 + g.val) * 128 + d.val) / 1024 * 8
      + (((r.val * 2 + n.val) * 4 + g.val) * 128 + d.val) / 128 % 8) * 128
      + (((r.val * 2 + n.val) * 4 + g.val) * 128 + d.val) % 128) % 1024 = 1536 + 128 * (4 * n.val + g.val) + d.val
    omega

/-- The scale as a real number. -/
def c1 : ℝ := 1 / Real.sqrt 128

/-- The reference's scale is one over the root of 128. -/
theorem scale_at (i : S_.Idx) : val_main_v17 (F := Ideal) i = ((c1 : ℝ) : EReal) := by
  have h128 : Ideal.ofBits .f32 0x43000000#32 = ((128 : ℝ) : EReal) := by
    simp [Ideal.ofBits, Ideal.ieee]; rw [← EReal.coe_mul]; norm_num
  show Ideal.div (Ideal.ofBits .f32 0x3F800000#32) (Ideal.sqrt (Ideal.ofBits .f32 0x43000000#32)) = _
  rw [h128, Ideal.ofBits_one_f32]
  have hs : Ideal.sqrt ((128 : ℝ) : EReal) = ((Real.sqrt 128 : ℝ) : EReal) := by simp [Ideal.sqrt_coe]
  rw [hs, Ideal.div_coe (by positivity), one_mul]
  rfl

variable (mv : Fin 8448 → Fin 6144 → ℝ)

/-- The dot product of row `r`'s query of head `h` and row `s`'s key of the head's group. -/
def dot (r : Fin 8448) (h : Fin 8) (s : Fin 8448) : ℝ :=
  ∑ d : Fin 128, mv r ⟨1536 + 128 * h.val + d.val, by omega⟩ * mv s ⟨2560 + 128 * (h.val / 4) + d.val, by omega⟩

/-- A weight before it is normalized. -/
def weight (r : Fin 8448) (h : Fin 8) (s : Fin 8448) : ℝ := Real.exp (dot mv r h s * c1)

/-- The attention's result for row `r`, head `h`, entry `e`. -/
def attn (r : Fin 8448) (h : Fin 8) (e : Fin 128) : EReal :=
  ∑ s, ((weight mv r h s / ∑ s, weight mv r h s : ℝ) : EReal) * x0 (ix2 s ⟨2816 + 128 * (h.val / 4) + e.val, by omega⟩)

/-- Head `g` of group `n`. -/
abbrev headNo (n : Fin 2) (g : Fin 4) : Fin 8 := ⟨4 * n.val + g.val, by omega⟩

variable (hM : ∀ i j, 1536 ≤ j.val → j.val < 2816 → x0 (ix2 i j) = (mv i j : EReal))
include hM

/-- A scaled score. -/
theorem s_at (n : Fin 2) (g : Fin 4) (r : Fin 8192) (s : Fin 8448) :
    val_main_v22 (F := Ideal) x0 (ix4 n g r s)
      = ((dot mv ⟨r.val, by omega⟩ (headNo n g) (rot s) * c1 : ℝ) : EReal) := by
  have hn := n.isLt; have hg := g.isLt
  rw [val_main_v22_apply, val_main_v20_apply, val_main_v21_apply, scale_at, val_main_v19_apply]
  show (∑ d : Fin 128, _) * _ = _
  have e : ∀ d : Fin 128, val_main_v14 (F := Ideal) x0 (lidx_main_v19 (idx_main_v20 (ix4 n g r s)) d)
      * val_main_v18 (F := Ideal) x0 (ridx_main_v19 (idx_main_v20 (ix4 n g r s)) d)
      = ((mv ⟨r.val, by omega⟩ ⟨1536 + 128 * (headNo n g).val + d.val, by omega⟩
        * mv (rot s) ⟨2560 + 128 * ((headNo n g).val / 4) + d.val, by omega⟩ : ℝ) : EReal) := fun d => by
    have hd := d.isLt
    have e1 : lidx_main_v19 (idx_main_v20 (ix4 n g r s)) d = ix3 s n d := by
      funext a; fin_cases a <;> rfl
    have e2 : ridx_main_v19 (idx_main_v20 (ix4 n g r s)) d = ix4 r n g d := by
      funext a; fin_cases a <;> rfl
    rw [e1, e2, k_at, q_at, hM _ _ (by show 1536 ≤ 2560 + 128 * n.val + d.val; omega) (by show 2560 + 128 * n.val + d.val < 2816; omega),
      hM _ _ (by show 1536 ≤ 1536 + 128 * (4 * n.val + g.val) + d.val; omega)
        (by show 1536 + 128 * (4 * n.val + g.val) + d.val < 2816; omega), mul_comm, ← EReal.coe_mul]
    have e3 : (⟨2560 + 128 * n.val + d.val, by omega⟩ : Fin 6144)
        = ⟨2560 + 128 * ((headNo n g).val / 4) + d.val, by omega⟩ := Fin.ext (by
      show 2560 + 128 * n.val + d.val = 2560 + 128 * ((4 * n.val + g.val) / 4) + d.val; omega)
    rw [e3]
  simp only [e]
  rw [EReal.coe_mul]
  refine congrArg (· * _) ?_
  unfold dot
  norm_cast

/-- The row's maximum is a real. -/
theorem top_at (n : Fin 2) (g : Fin 4) (r : Fin 8192) : Real' (val_main_v25 (F := Ideal) x0 (ix3 n g r)) := by
  have hb : Ideal.ofBits .f32 (4286578688#32) = (⊥ : EReal) := by simp [Ideal.ofBits, Ideal.ieee]
  have e24 : val_main_v24 (F := Ideal) (ix3 n g r) = (⊥ : EReal) := by
    rw [val_main_v24_apply]; exact hb
  have e23 : val_main_v23 (F := Ideal) x0 (ix3 n g r)
      = Finset.univ.fold max (⊥ : EReal) (fun s : Fin 8448 => val_main_v22 (F := Ideal) x0 (ix4 n g r s)) := by
    unfold val_main_v23 val_main_cst_1
    pointwise
    rw [hb]
  rw [val_main_v25_apply, e24, e23]
  show Real' (max ⊥ _)
  rw [max_eq_right bot_le]
  exact Real'.fold fun s => ⟨_, s_at x0 mv hM n g r s⟩

/-- A normalized weight. -/
theorem p_at (n : Fin 2) (g : Fin 4) (r : Fin 8192) (s : Fin 8448) :
    val_main_v33 (F := Ideal) x0 (ix4 n g r s)
      = ((weight mv ⟨r.val, by omega⟩ (headNo n g) (rot s) / ∑ s, weight mv ⟨r.val, by omega⟩ (headNo n g) s : ℝ) : EReal) := by
  obtain ⟨μ, hμ⟩ := top_at x0 mv hM n g r
  have hE : ∀ s, val_main_v29 (F := Ideal) x0 (ix4 n g r s)
      = ((Real.exp (-μ) * weight mv ⟨r.val, by omega⟩ (headNo n g) (rot s) : ℝ) : EReal) := fun s => by
    have e27 : val_main_v27 (F := Ideal) x0 (ix4 n g r s) = (μ : EReal) := by
      rw [val_main_v27_apply, val_main_v26_apply, ← hμ]
      refine congrArg _ ?_
      funext a; fin_cases a <;> rfl
    show Ideal.exp (val_main_v22 (F := Ideal) x0 (ix4 n g r s) - val_main_v27 (F := Ideal) x0 (ix4 n g r s)) = _
    rw [e27, s_at x0 mv hM, ← EReal.coe_sub, Ideal.exp_coe, weight, ← Real.exp_add,
      sub_eq_neg_add]
  have hL : val_main_v32 (F := Ideal) x0 (ix4 n g r s)
      = ((Real.exp (-μ) * ∑ s, weight mv ⟨r.val, by omega⟩ (headNo n g) s : ℝ) : EReal) := by
    rw [val_main_v32_apply, val_main_v31_apply, val_main_v30_apply]
    have e0 : val_main_cst_3 (F := Ideal) (Shape.Idx.first h_S_) = (0 : EReal) := Ideal.ofBits_zero_f32
    have ei : ∀ k, idx_main_v30 (idx_main_v31 (idx_main_v32 (ix4 n g r s))) k = ix4 n g r k := fun k => by
      funext a; fin_cases a <;> rfl
    rw [e0, zero_add]
    simp only [ei, hE]
    rw [← Equiv.sum_comp rot (fun s => weight mv ⟨r.val, by omega⟩ (headNo n g) s), Finset.mul_sum, coe_sum]
  have hpos : 0 < ∑ s, weight mv ⟨r.val, by omega⟩ (headNo n g) s :=
    Finset.sum_pos (fun s _ => Real.exp_pos _) ⟨0, Finset.mem_univ _⟩
  show Ideal.div (val_main_v29 (F := Ideal) x0 (ix4 n g r s)) (val_main_v32 (F := Ideal) x0 (ix4 n g r s)) = _
  have hx := Real.exp_pos (-μ)
  rw [hL, hE, Ideal.div_coe (by positivity), ← EReal.coe_mul]
  refine congrArg (fun x : ℝ => (x : EReal)) ?_
  field_simp

/-- The attention's part of the reference's result. -/
theorem out_at (r : Fin 8192) (C : Fin 1024) :
    val_main_v37 (F := Ideal) x0 (ix2 r C)
      = attn x0 mv ⟨r.val, by omega⟩ ⟨C.val / 128, by omega⟩ ⟨C.val % 128, Nat.mod_lt _ (by decide)⟩ := by
  have hr := r.isLt; have hC := C.isLt
  show val_main_v36 (F := Ideal) x0 (ix2 r C) = _
  have ei : idx_main_v35 (idx_main_v36 (ix2 r C)) = ix4 ⟨C.val / 512, by omega⟩ ⟨C.val % 128, by omega⟩ ⟨C.val / 128 % 4, by omega⟩ r := by
    funext a; refine Fin.ext ?_
    fin_cases a
    · show (r.val * 1024 + C.val) / 512 % 2 = C.val / 512; omega
    · show (r.val * 1024 + C.val) % 128 = C.val % 128; omega
    · show (r.val * 1024 + C.val) / 128 % 4 = C.val / 128 % 4; omega
    · show (r.val * 1024 + C.val) / 1024 = r.val; omega
  rw [val_main_v36_apply, val_main_v35_apply, ei, val_main_v34_apply, attn,
    ← Equiv.sum_comp rot (fun s => ((weight mv ⟨r.val, by omega⟩ ⟨C.val / 128, by omega⟩ s
      / ∑ s, weight mv ⟨r.val, by omega⟩ ⟨C.val / 128, by omega⟩ s : ℝ) : EReal)
      * x0 (ix2 s ⟨2816 + 128 * (C.val / 128 / 4) + C.val % 128, by omega⟩))]
  refine Finset.sum_congr rfl fun s _ => ?_
  have e1 : lidx_main_v34 (ix4 ⟨C.val / 512, by omega⟩ ⟨C.val % 128, by omega⟩ ⟨C.val / 128 % 4, by omega⟩ r) s
      = ix3 s ⟨C.val / 512, by omega⟩ ⟨C.val % 128, by omega⟩ := by funext a; fin_cases a <;> rfl
  have e2 : ridx_main_v34 (ix4 ⟨C.val / 512, by omega⟩ ⟨C.val % 128, by omega⟩ ⟨C.val / 128 % 4, by omega⟩ r) s
      = ix4 ⟨C.val / 512, by omega⟩ ⟨C.val / 128 % 4, by omega⟩ r s := by funext a; fin_cases a <;> rfl
  have e3 : headNo ⟨C.val / 512, by omega⟩ ⟨C.val / 128 % 4, by omega⟩ = ⟨C.val / 128, by omega⟩ := Fin.ext (by
    show 4 * (C.val / 512) + C.val / 128 % 4 = C.val / 128; omega)
  have e4 : (⟨2816 + 128 * (C.val / 512) + C.val % 128, by omega⟩ : Fin 6144)
      = ⟨2816 + 128 * (C.val / 128 / 4) + C.val % 128, by omega⟩ := Fin.ext (by
    show 2816 + 128 * (C.val / 512) + C.val % 128 = 2816 + 128 * (C.val / 128 / 4) + C.val % 128; omega)
  rw [e1, e2, v_at, p_at x0 mv hM, e3, mul_comm]
  exact congrArg (fun j => _ * x0 (ix2 (rot s) j)) e4

/-- The reference's result: the attention in its columns of the first 8192 rows, the second argument elsewhere. -/
theorem result_at (x1 : FVec Ideal S8448x4096 .bf16) (r : Fin 8448) (C : Fin 4096) :
    val_main_v38 (F := Ideal) x0 x1 (ix2 r C)
      = if h : r.val < 8192 ∧ 1024 ≤ C.val ∧ C.val < 2048 then
          attn x0 mv r ⟨(C.val - 1024) / 128, by omega⟩ ⟨(C.val - 1024) % 128, Nat.mod_lt _ (by decide)⟩
        else x1 (ix2 r C) := by
  unfold val_main_v38
  rw [Host.dynamicUpdateSlice_apply]
  have hs0 : Host.clampedStart S8448x4096 S8192x1024 updateFits_S8448x4096_S8192x1024.1
      (fun k => (((![val_main_c (F := Ideal), val_main_c_4 (F := Ideal)] : Fin 2 → (⟨S_, .i32⟩ : BufTy).Contents (Elt Ideal))) k (Shape.Idx.first h_S_)).toInt) 0 = 0 := by decide
  have hs1 : Host.clampedStart S8448x4096 S8192x1024 updateFits_S8448x4096_S8192x1024.1
      (fun k => (((![val_main_c (F := Ideal), val_main_c_4 (F := Ideal)] : Fin 2 → (⟨S_, .i32⟩ : BufTy).Contents (Elt Ideal))) k (Shape.Idx.first h_S_)).toInt) 1 = 1024 := by decide
  generalize hst : (fun k => (((![val_main_c (F := Ideal), val_main_c_4 (F := Ideal)] : Fin 2 → (⟨S_, .i32⟩ : BufTy).Contents (Elt Ideal))) k (Shape.Idx.first h_S_)).toInt) = st at hs0 hs1 ⊢
  by_cases h : r.val < 8192 ∧ 1024 ≤ C.val ∧ C.val < 2048
  · have k0 : Host.clampedStart S8448x4096 S8192x1024 updateFits_S8448x4096_S8192x1024.1 st 0 ≤ r.val
        ∧ r.val < Host.clampedStart S8448x4096 S8192x1024 updateFits_S8448x4096_S8192x1024.1 st 0 + 8192 := by
      rw [hs0]; omega
    have k1 : Host.clampedStart S8448x4096 S8192x1024 updateFits_S8448x4096_S8192x1024.1 st 1 ≤ C.val
        ∧ C.val < Host.clampedStart S8448x4096 S8192x1024 updateFits_S8448x4096_S8192x1024.1 st 1 + 1024 := by
      rw [hs1]; omega
    rw [dif_pos h, dif_pos (Fin.forall_fin_two.2 ⟨k0, k1⟩)]
    refine Eq.trans (congrArg (val_main_v37 (F := Ideal) x0) (?_ : _ = ix2 ⟨r.val, h.1⟩ ⟨C.val - 1024, by omega⟩)) (out_at x0 mv hM _ _)
    have m0 : r.val - Host.clampedStart S8448x4096 S8192x1024 updateFits_S8448x4096_S8192x1024.1 st 0 = r.val := by
      rw [hs0]; rfl
    have m1 : C.val - Host.clampedStart S8448x4096 S8192x1024 updateFits_S8448x4096_S8192x1024.1 st 1 = C.val - 1024 := by
      rw [hs1]
    funext a; refine Fin.ext ?_
    fin_cases a
    · exact m0
    · exact m1
  · rw [dif_neg h, dif_neg (by
      intro hh
      have h0 := hh 0; have h1 := hh 1
      have h0' : r.val < Host.clampedStart S8448x4096 S8192x1024 updateFits_S8448x4096_S8192x1024.1 st 0 + 8192 := h0.2
      have h1' : Host.clampedStart S8448x4096 S8192x1024 updateFits_S8448x4096_S8192x1024.1 st 1 ≤ C.val
        ∧ C.val < Host.clampedStart S8448x4096 S8192x1024 updateFits_S8448x4096_S8192x1024.1 st 1 + 1024 := h1
      rw [hs0] at h0'; rw [hs1] at h1'
      omega)]

end Cert.Flash.Ref

end
-- ==== Proof.Final.lean ====
/- The kernel's result at an index: the softmax average of the values, in the columns and rows the call writes. -/
module

public import proofs.«01_k».proof.Proof.Launch
public import proofs.«01_k».proof.Proof.Host
public import proofs.«01_k».proof.Proof.Attend
public import proofs.«01_k».proof.Proof.RefValue
public import Idealize.ShloMosaic.Lib.Pipeline.Value

@[expose] public section

set_option maxRecDepth 16384

noncomputable section

namespace Cert.Flash

open Cert.KernelIdeal Cert.KernelIdeal.Gen
open Idealize.ShloMosaic Idealize.ShloMosaic.TcCoe Idealize.SL.Sem

/-! ## Where the blocks lie -/

/-- The grid has 16 points. -/
theorem lt_16 (t : Fin cfg0.N) : t.val < 16 := t.isLt

/-- The queries' block at a point. -/
theorem at0 : ∀ t : Fin cfg0.N, win0_0.index t 0 = t.val % 8 ∧ win0_0.index t 1 = 3 + t.val / 8 :=
  (by decide +kernel : ∀ t : Fin grid0.N, win0_0.index t 0 = t.val % 8 ∧ win0_0.index t 1 = 3 + t.val / 8)
/-- The keys' block at a point. -/
theorem at1 : ∀ t : Fin cfg0.N, win0_1.index t 0 = 0 ∧ win0_1.index t 1 = 20 + t.val / 8 :=
  (by decide +kernel : ∀ t : Fin grid0.N, win0_1.index t 0 = 0 ∧ win0_1.index t 1 = 20 + t.val / 8)
/-- The values' block at a point. -/
theorem at2 : ∀ t : Fin cfg0.N, win0_2.index t 0 = 0 ∧ win0_2.index t 1 = 22 + t.val / 8 :=
  (by decide +kernel : ∀ t : Fin grid0.N, win0_2.index t 0 = 0 ∧ win0_2.index t 1 = 22 + t.val / 8)
/-- The output's block at a point. -/
theorem at3 : ∀ t : Fin cfg0.N, win0_3.index t 0 = t.val % 8 ∧ win0_3.index t 1 = 2 + t.val / 8 :=
  (by decide +kernel : ∀ t : Fin grid0.N, win0_3.index t 0 = t.val % 8 ∧ win0_3.index t 1 = 2 + t.val / 8)
/-- No output block is cut. -/
theorem uncut3 : ∀ t : Fin cfg0.N, ∀ a, (cfg0.win 3).xsize (cfg0.grid.coords t) a = (cfg0.win 3).size a :=
  (by decide +kernel : ∀ t : Fin grid0.N, ∀ a, win0_3.xsize (grid0.coords t) a = win0_3.size a)

section Any

variable {F : FTy → Type} [FloatOps F]
variable (m : (ℓ : Loc nD τ sig) → Buf (Elt F) ℓ)

/-- The queries' block, entry by entry. -/
theorem q_block (c : Dev nD) (t : Fin cfg0.N) (r : Fin 1024) (j : Fin 512) :
    X0_0 m c t (ix2 r j) = V m c main_v12 (ix2 (n0 := 8448) (n1 := 6144) ⟨1024 * (t.val % 8) + r.val, by omega⟩
      ⟨512 * (3 + t.val / 8) + j.val, by have := lt_16 t; omega⟩) := by
  unfold X0_0 Pipeline.Window.fill
  rw [dif_pos (moved0_0 t _)]
  unfold iblk
  rw [View.read_apply]
  refine congrArg (V m c main_v12) ?_
  obtain ⟨e0, e1⟩ := at0 t
  funext a; refine Fin.ext ?_
  fin_cases a
  · show win0_0.index t 0 * 1024 + 1 * r.val = 1024 * (t.val % 8) + r.val
    rw [e0]; omega
  · show win0_0.index t 1 * 512 + 1 * j.val = 512 * (3 + t.val / 8) + j.val
    rw [e1]; omega

/-- The keys' block, entry by entry. -/
theorem k_block (c : Dev nD) (t : Fin cfg0.N) (s : Fin 8448) (d : Fin 128) :
    iblk m c 1 t (ix2 (n0 := 8448) (n1 := 128) s d) = V m c main_v12 (ix2 (n0 := 8448) (n1 := 6144) s
      ⟨128 * (20 + t.val / 8) + d.val, by have := lt_16 t; omega⟩) := by
  unfold iblk
  rw [View.read_apply]
  refine congrArg (V m c main_v12) ?_
  obtain ⟨e0, e1⟩ := at1 t
  funext a; refine Fin.ext ?_
  fin_cases a
  · show win0_1.index t 0 * 8448 + 1 * s.val = s.val
    rw [e0]; omega
  · show win0_1.index t 1 * 128 + 1 * d.val = 128 * (20 + t.val / 8) + d.val
    rw [e1]; omega

/-- The values' block, entry by entry. -/
theorem v_block (c : Dev nD) (t : Fin cfg0.N) (s : Fin 8448) (d : Fin 128) :
    iblk m c 2 t (ix2 (n0 := 8448) (n1 := 128) s d) = V m c main_v12 (ix2 (n0 := 8448) (n1 := 6144) s
      ⟨128 * (22 + t.val / 8) + d.val, by have := lt_16 t; omega⟩) := by
  unfold iblk
  rw [View.read_apply]
  refine congrArg (V m c main_v12) ?_
  obtain ⟨e0, e1⟩ := at2 t
  funext a; refine Fin.ext ?_
  fin_cases a
  · show win0_2.index t 0 * 8448 + 1 * s.val = s.val
    rw [e0]; omega
  · show win0_2.index t 1 * 128 + 1 * d.val = 128 * (22 + t.val / 8) + d.val
    rw [e1]; omega

/-- Two points' output blocks share no index. -/
theorem apart3 (t t' : Fin cfg0.N) (_ : (cfg0.win 3).flush t = true) (_ : (cfg0.win 3).flush t' = true) (hne : t ≠ t') :
    Disjoint ((cfg0.win 3).blk t).view.set ((cfg0.win 3).blk t').view.set := by
  refine (cfg0.win 3).disjoint_blk fun h => hne (Fin.ext ?_)
  have h0 : win0_3.index t 0 = win0_3.index t' 0 := congrFun h 0
  have h1 : win0_3.index t 1 = win0_3.index t' 1 := congrFun h 1
  rw [(at3 t).1, (at3 t').1] at h0
  rw [(at3 t).2, (at3 t').2] at h1
  omega

/-- The final array inside a point's block: what that point stored. -/
theorem final_in (c : Dev nD) (t : Fin cfg0.N) (r : Fin 1024) (j : Fin 512) :
    (flashDat m 0 c).arrAt 3 cfg0.N (ix2 (n0 := 8448) (n1 := 4096) ⟨1024 * (t.val % 8) + r.val, by omega⟩
      ⟨512 * (2 + t.val / 8) + j.val, by have := lt_16 t; omega⟩) = stored m c t (ix2 r j) := by
  have e := (flashDat m 0 c).read_blk_arrAt_eq_flushed 3 apart3 cfg0.N t t.isLt (flush0_3 t)
  have hb : ∀ a, ((ix2 (n0 := 1024) (n1 := 512) r j) a).val < (cfg0.win 3).xsize (cfg0.grid.coords t) a := fun a => by
    rw [uncut3 t a]; exact ((ix2 (n0 := 1024) (n1 := 512) r j) a).isLt
  have e' := congrFun e (fun a => ⟨((ix2 (n0 := 1024) (n1 := 512) r j) a).val, hb a⟩)
  have e'' : (flashDat m 0 c).flushed 3 t (fun a => ⟨((ix2 (n0 := 1024) (n1 := 512) r j) a).val, hb a⟩) = stored m c t (ix2 r j) := by
    show (flashDat m 0 c).after 3 t _ = _
    rw [flash_after3]
    exact congrArg (stored m c t) (funext fun a => Fin.ext rfl)
  rw [View.read_apply, e''] at e'
  refine Eq.trans (congrArg ((flashDat m 0 c).arrAt 3 cfg0.N) ?_) e'
  obtain ⟨e0, e1⟩ := at3 t
  funext a; refine Fin.ext ?_
  fin_cases a
  · show 1024 * (t.val % 8) + r.val = win0_3.index t 0 * 1024 + 1 * r.val
    rw [e0]; omega
  · show 512 * (2 + t.val / 8) + j.val = win0_3.index t 1 * 512 + 1 * j.val
    rw [e1]; omega

/-- The final array outside every block: the second argument as it was. -/
theorem final_out (c : Dev nD) (r : Fin 8448) (C : Fin 4096) (h : ¬(r.val < 8192 ∧ 1024 ≤ C.val ∧ C.val < 2048)) :
    (flashDat m 0 c).arrAt 3 cfg0.N (ix2 r C) = m ((c : Thread nD τ).loc main_arg1) (ix2 r C) := by
  rw [(flashDat m 0 c).arrAt_apply_of_forall_not_mem 3 cfg0.N (ix2 r C) (fun t _ hf hm => ?_), flash_A]
  · exact congrFun (V_out m c) _
  · obtain ⟨x, -, hx⟩ := Finset.mem_map.mp hm
    obtain ⟨e0, e1⟩ := at3 t
    have h16 := lt_16 t
    have x0 : (x 0).val < 1024 := lt_of_lt_of_eq (x 0).isLt (uncut3 t 0)
    have x1 : (x 1).val < 512 := lt_of_lt_of_eq (x 1).isLt (uncut3 t 1)
    have f0 : win0_3.index t 0 * 1024 + 1 * (x 0).val = r.val := congrArg Fin.val (congrFun hx 0)
    have f1 : win0_3.index t 1 * 512 + 1 * (x 1).val = C.val := congrArg Fin.val (congrFun hx 1)
    rw [e0] at f0; rw [e1] at f1
    exact h (by omega)

end Any

/-! ## The value -/

/-- Powers of two of scores so scaled are exponentials of the scores scaled for them. -/
theorem two_pow (d : ℝ) : (2 : ℝ) ^ (d * c2) = Real.exp (d * Ref.c1) := by
  have hl : Real.log 2 ≠ 0 := (Real.log_pos (by norm_num)).ne'
  rw [Real.rpow_def_of_pos (by norm_num)]
  refine congrArg Real.exp ?_
  unfold c2 Ref.c1
  field_simp

/-- Averaging after the sum is averaging each weight before it. -/
theorem mean_eq (w : Fin 8448 → ℝ) (hw : ∀ s, 0 ≤ w s) (v : Fin 8448 → EReal) :
    (∑ s, (w s : EReal) * v s) * ((1 / ∑ s, w s : ℝ) : EReal) = ∑ s, ((w s / ∑ s', w s' : ℝ) : EReal) * v s := by
  have hz : 0 ≤ 1 / ∑ s, w s := by have := Finset.sum_nonneg fun s (_ : s ∈ Finset.univ) => hw s; positivity
  rw [mul_comm, coe_mul_sum _ _ hz]
  refine Finset.sum_congr rfl fun s _ => ?_
  rw [← mul_assoc, ← EReal.coe_mul, mul_comm (1 / _), mul_one_div]

variable (m : (ℓ : Loc nD τ sig) → Buf (Elt Ideal) ℓ)

/-- What a point stores, entry by entry: the attention of its row, head and column. -/
theorem stored_at (c : Dev nD) (mv : Fin 8448 → Fin 6144 → ℝ)
    (hM : ∀ i j, 1536 ≤ j.val → j.val < 2816 → m ((c : Thread nD τ).loc main_arg0) (ix2 (n0 := 8448) (n1 := 6144) i j) = (mv i j : EReal))
    (t : Fin cfg0.N) (r : Fin 1024) (j : Fin 512) :
    stored m c t (ix2 r j) = Ref.attn (m ((c : Thread nD τ).loc main_arg0)) mv ⟨1024 * (t.val % 8) + r.val, by omega⟩
      ⟨4 * (t.val / 8) + j.val / 128, by have := lt_16 t; omega⟩ ⟨j.val % 128, Nat.mod_lt _ (by decide)⟩ := by
  have h16 := lt_16 t
  set R : Fin 8448 := ⟨1024 * (t.val % 8) + r.val, by omega⟩ with hR
  set h : Fin 8 := ⟨4 * (t.val / 8) + j.val / 128, by omega⟩ with hh
  have hdiv : h.val / 4 = t.val / 8 := by show (4 * (t.val / 8) + j.val / 128) / 4 = t.val / 8; omega
  unfold stored outBlock
  refine Eq.trans (headOut_at _ _ _ ⟨j.val / 128, by omega⟩ r (fun s => Ref.dot mv R h s * c2) (fun s => ?_)
    ⟨j.val % 128, Nat.mod_lt _ (by decide)⟩) ?_
  · unfold Ref.dot
    rw [Finset.sum_mul, Ref.coe_sum]
    refine Finset.sum_congr rfl fun d _ => ?_
    rw [q_block, k_block, V_main, scaled_q _ _ _ ⟨by show 1536 ≤ 512 * (3 + t.val / 8) + (128 * (j.val / 128) + d.val); omega,
        by show 512 * (3 + t.val / 8) + (128 * (j.val / 128) + d.val) < 2560; omega⟩,
      scaled_other _ _ _ (by show ¬(1536 ≤ 128 * (20 + t.val / 8) + d.val ∧ 128 * (20 + t.val / 8) + d.val < 2560); omega),
      hM _ _ (by show 1536 ≤ 512 * (3 + t.val / 8) + (128 * (j.val / 128) + d.val); omega)
        (by show 512 * (3 + t.val / 8) + (128 * (j.val / 128) + d.val) < 2816; omega),
      hM _ _ (by show 1536 ≤ 128 * (20 + t.val / 8) + d.val; omega) (by show 128 * (20 + t.val / 8) + d.val < 2816; omega),
      ← EReal.coe_mul, ← EReal.coe_mul]
    refine congrArg _ ?_
    have ea : (⟨512 * (3 + t.val / 8) + (128 * (j.val / 128) + d.val), by omega⟩ : Fin 6144)
        = ⟨1536 + 128 * h.val + d.val, by omega⟩ := Fin.ext (by
      show 512 * (3 + t.val / 8) + (128 * (j.val / 128) + d.val) = 1536 + 128 * (4 * (t.val / 8) + j.val / 128) + d.val; omega)
    have eb : (⟨128 * (20 + t.val / 8) + d.val, by omega⟩ : Fin 6144)
        = ⟨2560 + 128 * (h.val / 4) + d.val, by omega⟩ := Fin.ext (by
      show 128 * (20 + t.val / 8) + d.val = 2560 + 128 * (h.val / 4) + d.val; rw [hdiv]; omega)
    refine Eq.trans (congrArg₂ (fun a b => mv R a * c2 * mv s b) ea eb) ?_
    ring
  · unfold Ref.attn
    simp only [two_pow]
    refine Eq.trans (mean_eq _ (fun s => (Real.exp_pos _).le) _) ?_
    refine Finset.sum_congr rfl fun s _ => ?_
    rw [v_block, V_main, scaled_other _ _ _ (by
      show ¬(1536 ≤ 128 * (22 + t.val / 8) + j.val % 128 ∧ 128 * (22 + t.val / 8) + j.val % 128 < 2560); omega)]
    have ev : (⟨128 * (22 + t.val / 8) + j.val % 128, by omega⟩ : Fin 6144)
        = ⟨2816 + 128 * (h.val / 4) + j.val % 128, by omega⟩ := Fin.ext (by
      show 128 * (22 + t.val / 8) + j.val % 128 = 2816 + 128 * (h.val / 4) + j.val % 128; rw [hdiv]; omega)
    exact congrArg (fun a => ((Ref.weight mv R h s / ∑ s', Ref.weight mv R h s' : ℝ) : EReal)
      * m ((c : Thread nD τ).loc main_arg0) (ix2 (n0 := 8448) (n1 := 6144) s a)) ev

/-- The kernel's result is the reference's. -/
theorem final_eq (c : Dev nD) (mv : Fin 8448 → Fin 6144 → ℝ)
    (hM : ∀ i j, 1536 ≤ j.val → j.val < 2816 → m ((c : Thread nD τ).loc main_arg0) (ix2 (n0 := 8448) (n1 := 6144) i j) = (mv i j : EReal)) :
    (flashDat m 0 c).arrAt 3 cfg0.N
      = Cert.ReferenceIdeal.Read.val_main_v38 (F := Ideal) (m ((c : Thread nD τ).loc main_arg0)) (m ((c : Thread nD τ).loc main_arg1)) := by
  funext i
  obtain ⟨r, C, rfl⟩ : ∃ (r : Fin 8448) (C : Fin 4096), i = ix2 r C := ⟨i 0, i 1, by funext a; fin_cases a <;> rfl⟩
  rw [Ref.result_at _ mv hM]
  by_cases h : r.val < 8192 ∧ 1024 ≤ C.val ∧ C.val < 2048
  · rw [dif_pos h]
    have hN : 8 * ((C.val - 1024) / 512) + r.val / 1024 < cfg0.N := by
      show _ < 16; omega
    let t : Fin cfg0.N := ⟨8 * ((C.val - 1024) / 512) + r.val / 1024, hN⟩
    have t1 : t.val % 8 = r.val / 1024 := by show (8 * ((C.val - 1024) / 512) + r.val / 1024) % 8 = _; omega
    have t2 : t.val / 8 = (C.val - 1024) / 512 := by show (8 * ((C.val - 1024) / 512) + r.val / 1024) / 8 = _; omega
    have e := (final_in m c t ⟨r.val % 1024, Nat.mod_lt _ (by decide)⟩ ⟨(C.val - 1024) % 512, Nat.mod_lt _ (by decide)⟩).trans
      (stored_at m c mv hM t _ _)
    have hr : (⟨1024 * (t.val % 8) + r.val % 1024, by omega⟩ : Fin 8448) = r := Fin.ext (by
      show 1024 * (t.val % 8) + r.val % 1024 = r.val; rw [t1]; omega)
    have hC : (⟨512 * (2 + t.val / 8) + (C.val - 1024) % 512, by rw [t2]; omega⟩ : Fin 4096) = C := Fin.ext (by
      show 512 * (2 + t.val / 8) + (C.val - 1024) % 512 = C.val; rw [t2]; omega)
    have hh : (⟨4 * (t.val / 8) + (C.val - 1024) % 512 / 128, by rw [t2]; omega⟩ : Fin 8) = ⟨(C.val - 1024) / 128, by omega⟩ :=
      Fin.ext (by show 4 * (t.val / 8) + (C.val - 1024) % 512 / 128 = (C.val - 1024) / 128; rw [t2]; omega)
    have he : (⟨(C.val - 1024) % 512 % 128, Nat.mod_lt _ (by decide)⟩ : Fin 128) = ⟨(C.val - 1024) % 128, Nat.mod_lt _ (by decide)⟩ :=
      Fin.ext (by show (C.val - 1024) % 512 % 128 = (C.val - 1024) % 128; omega)
    refine Eq.trans (congrArg₂ (fun a b => (flashDat m 0 c).arrAt 3 cfg0.N (ix2 (n0 := 8448) (n1 := 4096) a b)) hr.symm hC.symm) (e.trans ?_)
    exact Eq.trans (congrArg₂ (fun a b => Ref.attn (m ((c : Thread nD τ).loc main_arg0)) mv a b
      ⟨(C.val - 1024) % 512 % 128, Nat.mod_lt _ (by decide)⟩) hr hh) (congrArg _ he)
  · rw [dif_neg h]
    exact final_out m c r C h

end Cert.Flash

end
-- ==== Proof.Finite.lean ====
/- The precondition, read: every query, key and value is a real number. -/
module

public import proofs.«01_k».proof.Pre_finite
public import proofs.«01_k».proof.Proof.Holds
public import Idealize.ShloMosaic.Lib.Pointwise

@[expose] public section

set_option maxRecDepth 16384

noncomputable section

namespace Cert.Flash

open Cert.Pre_finite Idealize.ShloMosaic

/-- The precondition's shape facts. -/
theorem pre_facts : Cert.Pre_finite.Facts := ⟨by decide, by decide⟩

/-- An extended real whose absolute value is below infinity is real. -/
theorem real_of_abs (x : EReal) (h : max x (-x) < ⊤) : ((x.toReal : ℝ) : EReal) = x := by
  refine EReal.coe_toReal ?_ ?_
  · rintro rfl; simp at h
  · rintro rfl; simp at h

/-- What the precondition says of one entry. -/
theorem finite_at [Cert.Pre_finite.Facts] (x0 : FVec Ideal S8448x6144 .f32) (x1 : FVec Ideal S8448x4096 .bf16)
    (h : Cert.Pre_finite.fn x0 x1 = fun _ => 1#1) (i : Fin 8448) (j : Fin 6144) (h1 : 1536 ≤ j.val) (h2 : j.val < 2816) :
    x0 (ix2 i j) = ((x0 (ix2 i j)).toReal : EReal) := by
  have e := congrFun h (ix2 (n0 := 8448) (n1 := 1280) i ⟨j.val - 1536, by omega⟩)
  have ej : x0 (fun a => ⟨(![0, 1536] : Fin 2 → ℕ) a + ((ix2 (n0 := 8448) (n1 := 1280) i ⟨j.val - 1536, by omega⟩) a).val, by
      fin_cases a
      · show 0 + i.val < 8448; omega
      · show 1536 + (j.val - 1536) < 6144; omega⟩) = x0 (ix2 i j) := by
    refine congrArg x0 (funext fun a => Fin.ext ?_)
    fin_cases a
    · show 0 + i.val = i.val; omega
    · show 1536 + (j.val - 1536) = j.val; omega
  have et : Ideal.ofBits .f32 0x7F800000#32 = ⊤ := by simp [Ideal.ofBits, Ideal.ieee]
  have e' : BitVec.ofBool (decide (max (x0 (ix2 i j)) (-(x0 (ix2 i j))) < Ideal.ofBits .f32 0x7F800000#32)) = 1#1 := by
    rw [← ej]; exact e
  rw [et] at e'
  refine (real_of_abs _ ?_).symm
  by_contra hn
  rw [decide_eq_false hn] at e'
  exact absurd e' (by decide)

end Cert.Flash

end
-- ==== Proof.Gate.lean ====
/- The feed-forward step's gate call: each entry of its result is the gate's product through `silu` times the other product. -/
module

public import proofs.«01_k».proof.Proof.Gen.Kernel2Ideal.Value
public import proofs.«01_k».proof.Proof.Gen.Reference2Ideal.Read
public import Idealize.ShloMosaic.Lib.Pointwise
public import Idealize.ShloMosaic.Lib.Pipeline.Value

@[expose] public section

set_option maxRecDepth 16384

noncomputable section

namespace Cert.Gate

open Cert.Kernel2Ideal Cert.Kernel2Ideal.Gen Cert.Kernel2Ideal.Value
open Idealize.ShloMosaic Idealize.ShloMosaic.TcCoe Idealize.SL.Sem

/-- The gate's function on the extended reals. -/
def silu (x : EReal) : EReal := Ideal.div x (1 + Ideal.exp (-x))

/-- One plus an exponential is not zero. -/
theorem one_add_exp_ne (x : EReal) : 1 + Ideal.exp x ≠ 0 := by
  have h : (0 : EReal) ≤ Ideal.exp x := by
    induction x using EReal.rec with
    | bot => exact le_rfl
    | top => exact le_top
    | coe r => exact EReal.coe_nonneg.mpr (Real.exp_pos r).le
  exact (lt_of_lt_of_le zero_lt_one (le_add_of_nonneg_right h)).ne'

/-- The reference multiplies by the quotient where the kernel divides. -/
theorem mul_div_one (x : EReal) : x * Ideal.div 1 (1 + Ideal.exp (-x)) = silu x := by
  unfold silu Ideal.div
  rw [if_neg (one_add_exp_ne _), if_neg (one_add_exp_ne _), one_mul]

/-! ## A block of the result -/

/-- What a point computes from its blocks. -/
def blockOf (x0 : Vec Ideal S1408x4096 .bf16) (x1 x2 : Vec Ideal S1x4096x256 .f32) : Vec Ideal S1408x256 .bf16 := fun i =>
  silu (∑ k : Fin 4096, x0 (ix2 (i 0) k) * x1 (ix3 0 k (i 1))) * ∑ k : Fin 4096, x0 (ix2 (i 0) k) * x2 (ix3 0 k (i 1))

/-- A half of the rows, entry by entry. -/
theorem pay3_at (x1 x2 : Vec Ideal S1x4096x256 .f32) (x : Vec Ideal S704x4096 .bf16) (r : Fin 704) (j : Fin 256) :
    k0_pay3 x1 x2 x (ix2 r j)
      = silu (∑ k : Fin 4096, x (ix2 r k) * x1 (ix3 0 k j)) * ∑ k : Fin 4096, x (ix2 r k) * x2 (ix3 0 k j) := by
  unfold silu
  pointwise [k0_pay3, k0_pay1, k0_pay2]
  rw [zero_sub]

/-- The other half likewise. -/
theorem pay4_at (x1 x2 : Vec Ideal S1x4096x256 .f32) (x : Vec Ideal S704x4096 .bf16) (r : Fin 704) (j : Fin 256) :
    k0_pay4 x1 x2 x (ix2 r j)
      = silu (∑ k : Fin 4096, x (ix2 r k) * x1 (ix3 0 k j)) * ∑ k : Fin 4096, x (ix2 r k) * x2 (ix3 0 k j) := by
  unfold silu
  pointwise [k0_pay4, k0_pay1, k0_pay2]
  rw [zero_sub]

/-- Both halves together are the block. -/
theorem out_eq (x0 : Vec Ideal S1408x4096 .bf16) (x1 x2 : Vec Ideal S1x4096x256 .f32) : out0_3 x0 x1 x2 = blockOf x0 x1 x2 := by
  funext y
  unfold out0_3
  refine View.canon_apply_of_pieces (blockOf x0 x1 x2) _ (fun p hp x => ?_) y (cover0_3 _ _ y)
  have h1 : View.ld x1 r0_0 = x1 := View.ld_unit_zero (by funext a; fin_cases a <;> rfl) _ _
  have h2 : View.ld x2 r0_0 = x2 := View.ld_unit_zero (by funext a; fin_cases a <;> rfl) _ _
  rw [h1, h2] at hp
  rcases List.mem_cons.mp hp with rfl | hp
  · obtain ⟨r, j, rfl⟩ : ∃ (r : Fin 704) (j : Fin 256), x = ix2 r j := ⟨x 0, x 1, by funext a; fin_cases a <;> rfl⟩
    refine (pay4_at x1 x2 _ r j).trans ?_
    have hx : ∀ k : Fin 4096, View.ld x0 r0_3 (ix2 (n0 := 704) (n1 := 4096) r k) = x0 (ix2 ((r0_4.emb (ix2 r j)) 0) k) := fun k =>
      congrArg x0 (by funext a; refine Fin.ext ?_; fin_cases a
                      · rfl
                      · show 0 + 1 * k.val = k.val; omega)
    have hj : (r0_4.emb (ix2 r j)) 1 = j := Fin.ext (by show 0 + 1 * j.val = j.val; omega)
    unfold blockOf
    rw [hj]
    simp only [hx]
  · obtain rfl := List.mem_singleton.mp hp
    obtain ⟨r, j, rfl⟩ : ∃ (r : Fin 704) (j : Fin 256), x = ix2 r j := ⟨x 0, x 1, by funext a; fin_cases a <;> rfl⟩
    refine (pay3_at x1 x2 _ r j).trans ?_
    have hx : ∀ k : Fin 4096, View.ld x0 r0_1 (ix2 (n0 := 704) (n1 := 4096) r k) = x0 (ix2 ((r0_2.emb (ix2 r j)) 0) k) := fun k =>
      congrArg x0 (by funext a; refine Fin.ext ?_; fin_cases a
                      · rfl
                      · show 0 + 1 * k.val = k.val; omega)
    have hj : (r0_2.emb (ix2 r j)) 1 = j := Fin.ext (by show 0 + 1 * j.val = j.val; omega)
    unfold blockOf
    rw [hj]
    simp only [hx]

/-! ## Where the blocks lie -/

/-- The grid has 120 points. -/
theorem lt_120 (t : Fin cfg0.N) : t.val < 120 := t.isLt

/-- The activations' block at a point. -/
theorem at0 : ∀ t : Fin cfg0.N, win0_0.index t 0 = t.val / 20 ∧ win0_0.index t 1 = 0 :=
  (by decide +kernel : ∀ t : Fin grid0.N, win0_0.index t 0 = t.val / 20 ∧ win0_0.index t 1 = 0)
/-- The gate's weights' block at a point. -/
theorem at1 : ∀ t : Fin cfg0.N, win0_1.index t 0 = 0 ∧ win0_1.index t 1 = 0 ∧ win0_1.index t 2 = t.val % 20 :=
  (by decide +kernel : ∀ t : Fin grid0.N, win0_1.index t 0 = 0 ∧ win0_1.index t 1 = 0 ∧ win0_1.index t 2 = t.val % 20)
/-- The other weights' block at a point. -/
theorem at2 : ∀ t : Fin cfg0.N, win0_2.index t 0 = 0 ∧ win0_2.index t 1 = 0 ∧ win0_2.index t 2 = t.val % 20 + 20 :=
  (by decide +kernel : ∀ t : Fin grid0.N, win0_2.index t 0 = 0 ∧ win0_2.index t 1 = 0 ∧ win0_2.index t 2 = t.val % 20 + 20)
/-- The result's block at a point. -/
theorem at3 : ∀ t : Fin cfg0.N, win0_3.index t 0 = t.val / 20 ∧ win0_3.index t 1 = t.val % 20 :=
  (by decide +kernel : ∀ t : Fin grid0.N, win0_3.index t 0 = t.val / 20 ∧ win0_3.index t 1 = t.val % 20)
/-- Every point writes its block back. -/
theorem flush3 : ∀ t : Fin cfg0.N, (cfg0.win 3).flush t = true :=
  (by decide +kernel : ∀ t : Fin grid0.N, win0_3.flush t = true)

variable (m : (ℓ : Loc nD τ sig) → Buf (Elt Ideal) ℓ)

/-- The activations. -/
abbrev acts (c : Dev nD) : S8448x4096.Idx → EReal := m ((c : Thread nD τ).loc main_arg0)
/-- The weights. -/
abbrev wts (c : Dev nD) : S4x4096x10240.Idx → EReal := m ((c : Thread nD τ).loc main_arg1)

/-- The activations' block, entry by entry. -/
theorem blk0 (c : Dev nD) (t : Fin cfg0.N) (r : Fin 1408) (k : Fin 4096) :
    iblk m c 0 t (ix2 (n0 := 1408) (n1 := 4096) r k)
      = acts m c (ix2 (n0 := 8448) (n1 := 4096) ⟨1408 * (t.val / 20) + r.val, by have := lt_120 t; omega⟩ k) := by
  unfold iblk
  rw [View.read_apply]
  refine congrArg (acts m c) ?_
  obtain ⟨e0, e1⟩ := at0 t
  funext a; refine Fin.ext ?_
  fin_cases a
  · show win0_0.index t 0 * 1408 + 1 * r.val = 1408 * (t.val / 20) + r.val
    rw [e0]; omega
  · show win0_0.index t 1 * 4096 + 1 * k.val = k.val
    rw [e1]; omega

/-- The gate's weights' block, entry by entry. -/
theorem blk1 (c : Dev nD) (t : Fin cfg0.N) (k : Fin 4096) (j : Fin 256) :
    iblk m c 1 t (ix3 (n0 := 1) (n1 := 4096) (n2 := 256) 0 k j)
      = wts m c (ix3 (n0 := 4) (n1 := 4096) (n2 := 10240) 0 k ⟨256 * (t.val % 20) + j.val, by omega⟩) := by
  unfold iblk
  rw [View.read_apply]
  refine congrArg (wts m c) ?_
  obtain ⟨e0, e1, e2⟩ := at1 t
  funext a; refine Fin.ext ?_
  fin_cases a
  · show win0_1.index t 0 * 1 + 1 * 0 = 0
    rw [e0]
  · show win0_1.index t 1 * 4096 + 1 * k.val = k.val
    rw [e1]; omega
  · show win0_1.index t 2 * 256 + 1 * j.val = 256 * (t.val % 20) + j.val
    rw [e2]; omega

/-- The other weights' block, entry by entry. -/
theorem blk2 (c : Dev nD) (t : Fin cfg0.N) (k : Fin 4096) (j : Fin 256) :
    iblk m c 2 t (ix3 (n0 := 1) (n1 := 4096) (n2 := 256) 0 k j)
      = wts m c (ix3 (n0 := 4) (n1 := 4096) (n2 := 10240) 0 k ⟨5120 + (256 * (t.val % 20) + j.val), by omega⟩) := by
  unfold iblk
  rw [View.read_apply]
  refine congrArg (wts m c) ?_
  obtain ⟨e0, e1, e2⟩ := at2 t
  funext a; refine Fin.ext ?_
  fin_cases a
  · show win0_2.index t 0 * 1 + 1 * 0 = 0
    rw [e0]
  · show win0_2.index t 1 * 4096 + 1 * k.val = k.val
    rw [e1]; omega
  · show win0_2.index t 2 * 256 + 1 * j.val = 5120 + (256 * (t.val % 20) + j.val)
    rw [e2]; omega

/-! ## The two results -/

/-- The result at row `r`, column `C`. -/
def res (h : S8448x4096.Idx → EReal) (w : S4x4096x10240.Idx → EReal) (r : Fin 8448) (C : Fin 5120) : EReal :=
  silu (∑ k : Fin 4096, h (ix2 r k) * w (ix3 0 k ⟨C.val, by omega⟩)) * ∑ k : Fin 4096, h (ix2 r k) * w (ix3 0 k ⟨5120 + C.val, by omega⟩)

/-- A block's entry is the result's where the blocks' entries are the arguments'. -/
theorem blockOf_at (x0 : Vec Ideal S1408x4096 .bf16) (x1 x2 : Vec Ideal S1x4096x256 .f32)
    (h : S8448x4096.Idx → EReal) (w : S4x4096x10240.Idx → EReal) (R : Fin 8448) (C : Fin 5120) (r : Fin 1408) (j : Fin 256)
    (h0 : ∀ k : Fin 4096, x0 (ix2 r k) = h (ix2 R k)) (h1 : ∀ k : Fin 4096, x1 (ix3 0 k j) = w (ix3 0 k ⟨C.val, by omega⟩))
    (h2 : ∀ k : Fin 4096, x2 (ix3 0 k j) = w (ix3 0 k ⟨5120 + C.val, by omega⟩)) : blockOf x0 x1 x2 (ix2 r j) = res h w R C := by
  show silu (∑ k : Fin 4096, x0 (ix2 r k) * x1 (ix3 0 k j)) * (∑ k : Fin 4096, x0 (ix2 r k) * x2 (ix3 0 k j)) = _
  unfold res
  exact congrArg₂ (fun a b => silu a * b) (Finset.sum_congr rfl fun k _ => congrArg₂ _ (h0 k) (h1 k))
    (Finset.sum_congr rfl fun k _ => congrArg₂ _ (h0 k) (h2 k))

/-- The kernel's final array, entry by entry. -/
theorem final_at (c : Dev nD) (t : Fin cfg0.N) (r : Fin 1408) (j : Fin 256) :
    (dats m 0 c).arrAt 3 cfg0.N (ix2 (n0 := 8448) (n1 := 5120) ⟨1408 * (t.val / 20) + r.val, by have := lt_120 t; omega⟩
      ⟨256 * (t.val % 20) + j.val, by omega⟩)
    = res (acts m c) (wts m c) ⟨1408 * (t.val / 20) + r.val, by have := lt_120 t; omega⟩ ⟨256 * (t.val % 20) + j.val, by omega⟩ := by
  have e := congrFun ((blocks3 m c t (flush3 t)).trans (flushed3 m c t)) (ix2 (n0 := 1408) (n1 := 256) r j)
  rw [View.read_apply] at e
  refine Eq.trans (congrArg ((dats m 0 c).arrAt 3 cfg0.N) ?_) (e.trans ?_)
  · obtain ⟨e0, e1⟩ := at3 t
    funext a; refine Fin.ext ?_
    fin_cases a
    · show 1408 * (t.val / 20) + r.val = win0_3.index t 0 * 1408 + 1 * r.val
      rw [e0]; omega
    · show 256 * (t.val % 20) + j.val = win0_3.index t 1 * 256 + 1 * j.val
      rw [e1]; omega
  · exact (congrFun (out_eq (iblk m c 0 t) (iblk m c 1 t) (iblk m c 2 t)) (ix2 (n0 := 1408) (n1 := 256) r j)).trans
      (blockOf_at _ _ _ _ _ _ _ _ _ (blk0 m c t r) (fun k => blk1 m c t k j) (fun k => blk2 m c t k j))

/-- The reference's result, entry by entry. -/
theorem ref_at (h : S8448x4096.Idx → EReal) (w : S4x4096x10240.Idx → EReal) (r : Fin 8448) (C : Fin 5120) :
    Cert.Reference2Ideal.Read.val_main_v8 (F := Ideal) h w (ix2 (n0 := 8448) (n1 := 5120) r C) = res h w r C := by
  have hdot : ∀ D : Fin 10240, Cert.Reference2Ideal.Read.val_main_v3 (F := Ideal) h w (ix2 (n0 := 8448) (n1 := 10240) r D)
      = ∑ k : Fin 4096, h (ix2 r k) * w (ix3 0 k D) := fun D => by
    rw [Cert.Reference2Ideal.Read.val_main_v3_apply]
    refine Finset.sum_congr rfl fun k _ => ?_
    rw [Cert.Reference2Ideal.Read.val_main_v2_apply, Cert.Reference2Ideal.Read.val_main_v1_apply]
    refine congrArg₂ (fun a b => h a * w b) ?_ ?_
    · funext a; fin_cases a <;> rfl
    · have hk := k.isLt; have hD := D.isLt
      funext a; refine Fin.ext ?_
      fin_cases a
      · rfl
      · show (k.val * 10240 + D.val) / 10240 % 4096 = k.val; omega
      · show (k.val * 10240 + D.val) % 10240 = D.val; omega
  have hg : Cert.Reference2Ideal.Read.val_main_v4 (F := Ideal) h w (ix2 (n0 := 8448) (n1 := 5120) r C)
      = ∑ k : Fin 4096, h (ix2 r k) * w (ix3 0 k ⟨C.val, by omega⟩) := by
    rw [Cert.Reference2Ideal.Read.val_main_v4_apply]
    refine Eq.trans (congrArg (Cert.Reference2Ideal.Read.val_main_v3 (F := Ideal) h w) ?_) (hdot ⟨C.val, by omega⟩)
    funext a; fin_cases a <;> rfl
  have hu : Cert.Reference2Ideal.Read.val_main_v5 (F := Ideal) h w (ix2 (n0 := 8448) (n1 := 5120) r C)
      = ∑ k : Fin 4096, h (ix2 r k) * w (ix3 0 k ⟨5120 + C.val, by omega⟩) := by
    rw [Cert.Reference2Ideal.Read.val_main_v5_apply]
    refine Eq.trans (congrArg (Cert.Reference2Ideal.Read.val_main_v3 (F := Ideal) h w) ?_) (hdot ⟨5120 + C.val, by omega⟩)
    funext a; fin_cases a <;> rfl
  have e : Cert.Reference2Ideal.Read.val_main_v8 (F := Ideal) h w (ix2 (n0 := 8448) (n1 := 5120) r C)
      = (Cert.Reference2Ideal.Read.val_main_v4 (F := Ideal) h w (ix2 (n0 := 8448) (n1 := 5120) r C)
        * Ideal.div (Ideal.ofBits .f32 0x3F800000#32) (Ideal.ofBits .f32 0x3F800000#32
          + Ideal.exp (-Cert.Reference2Ideal.Read.val_main_v4 (F := Ideal) h w (ix2 (n0 := 8448) (n1 := 5120) r C))))
        * Cert.Reference2Ideal.Read.val_main_v5 (F := Ideal) h w (ix2 (n0 := 8448) (n1 := 5120) r C) := by
    rw [Cert.Reference2Ideal.Read.val_main_v8_apply, Cert.Reference2Ideal.Read.val_main_v7_apply,
      Cert.Reference2Ideal.Read.val_main_v6_apply, Cert.Reference2Ideal.Read.val_main_call0_v5_apply,
      Cert.Reference2Ideal.Read.val_main_call0_v4_apply, Cert.Reference2Ideal.Read.val_main_call0_v3_apply,
      Cert.Reference2Ideal.Read.val_main_call0_v2_apply, Cert.Reference2Ideal.Read.val_main_call0_v1_apply,
      Cert.Reference2Ideal.Read.val_main_call0_v0_apply, Cert.Reference2Ideal.Read.val_main_call0_cst_apply,
      Cert.Reference2Ideal.Read.val_main_call0_cst_0_apply]
    rfl
  rw [e, Ideal.ofBits_one_f32, mul_div_one, hg, hu]
  rfl

/-- The two results are equal. -/
theorem final_eq (c : Dev nD) :
    (dats m 0 c).arrAt 3 cfg0.N = Cert.Reference2Ideal.Read.val_main_v8 (F := Ideal) (acts m c) (wts m c) := by
  funext i
  obtain ⟨r, C, rfl⟩ : ∃ (r : Fin 8448) (C : Fin 5120), i = ix2 r C := ⟨i 0, i 1, by funext a; fin_cases a <;> rfl⟩
  rw [ref_at]
  have hr := r.isLt; have hC := C.isLt
  let t : Fin cfg0.N := ⟨20 * (r.val / 1408) + C.val / 256, by show _ < 120; omega⟩
  have e := final_at m c t ⟨r.val % 1408, by omega⟩ ⟨C.val % 256, by omega⟩
  have er : (⟨1408 * (t.val / 20) + r.val % 1408, by have := lt_120 t; omega⟩ : Fin 8448) = r := Fin.ext (by
    show 1408 * ((20 * (r.val / 1408) + C.val / 256) / 20) + r.val % 1408 = r.val; omega)
  have eC : (⟨256 * (t.val % 20) + C.val % 256, by omega⟩ : Fin 5120) = C := Fin.ext (by
    show 256 * ((20 * (r.val / 1408) + C.val / 256) % 20) + C.val % 256 = C.val; omega)
  exact Eq.trans (congrArg₂ (fun a b => (dats m 0 c).arrAt 3 cfg0.N (ix2 (n0 := 8448) (n1 := 5120) a b)) er.symm eC.symm)
    (e.trans (congrArg₂ (res (acts m c) (wts m c)) er eC))

end Cert.Gate

end
-- ==== Proof.Rows.lean ====
/- The residual steps' rows: which belong to the latent stream. -/
module

public import Idealize.ShloMosaic.Lib.Pointwise

@[expose] public section

namespace Cert.Rows

open Idealize.ShloMosaic

/-- The kernel's comparison of a row's number with 8192, for every block and row of a block. -/
theorem mask : ∀ (i : Fin 11) (r : Fin 768),
    IntOp.cmpi CmpIPredicate.slt (IntOp.addi (Scalar.muli (BitVec.ofNat 32 i.val) 768#32) (BitVec.ofNat 32 r.val)) 8192#32
      = if 768 * i.val + r.val < 8192 then 1#1 else 0#1 := by
  decide +kernel

/-- A selection by it. -/
theorem select_mask (i : Fin 11) (r : Fin 768) (x y : EReal) :
    Scalar.select (IntOp.cmpi CmpIPredicate.slt
        (IntOp.addi (Scalar.muli (BitVec.ofNat 32 i.val) 768#32) (BitVec.ofNat 32 r.val)) 8192#32) x y
      = if 768 * i.val + r.val < 8192 then x else y := by
  rw [mask]
  split <;> rfl

end Cert.Rows

end
-- ==== Proof.Down.lean ====
/- The feed-forward step's down projection: each entry of its result is the residual stream's entry plus the
   stream's gate times the product, halved. -/
module

public import proofs.«01_k».proof.Proof.Rows
public import proofs.«01_k».proof.Proof.Gen.Kernel3Ideal.Value
public import proofs.«01_k».proof.Proof.Gen.Reference3Ideal.Read
public import Idealize.ShloMosaic.Lib.Pointwise
public import Idealize.ShloMosaic.Lib.Pipeline.Value

@[expose] public section

set_option maxRecDepth 16384

noncomputable section

namespace Cert.Down

open Cert.Kernel3Ideal Cert.Kernel3Ideal.Gen Cert.Kernel3Ideal.Value
open Idealize.ShloMosaic Idealize.ShloMosaic.TcCoe Idealize.SL.Sem

/-- The step's factor. -/
abbrev coef : EReal := Ideal.ofBits .f32 0x3F000000#32

/-! ## A block of the result -/

/-- What a point computes from its blocks. -/
def blockOf (n : ℕ) (x0 : Vec Ideal S768x5120 .bf16) (x1 : Vec Ideal S1x5120x512 .bf16) (x2 : Vec Ideal S768x512 .f32)
    (x3 : Vec Ideal S2x1x1x512 .f32) (r : Fin 768) (j : Fin 512) : EReal :=
  x2 (ix2 r j) + coef * (if 768 * n + r.val < 8192 then x3 (ix4 0 0 0 j) else x3 (ix4 1 0 0 j))
    * ∑ k : Fin 5120, x0 (ix2 r k) * x1 (ix3 0 k j)

/-- What a point stores, from its loads, entry by entry. -/
theorem pay_at (i : grid0.Coords) (a : Vec Ideal S768x5120 .bf16) (w : Vec Ideal S1x5120x512 .bf16)
    (g0 g1 : Vec Ideal S1x1x1x512 .f32) (x : Vec Ideal S768x512 .f32) (r : Fin 768) (j : Fin 512) :
    k0_pay1 i a w g0 g1 x (ix2 r j) = x (ix2 r j)
      + coef * (if 768 * (i 0).val + r.val < 8192 then g0 (ix4 0 0 0 j) else g1 (ix4 0 0 0 j))
        * ∑ k : Fin 5120, a (ix2 r k) * w (ix3 0 k j) := by
  pointwise [k0_pay1]
  exact congrArg (fun g => x (ix2 r j) + coef * g * ∑ k : Fin 5120, a (ix2 r k) * w (ix3 0 k j))
    (Rows.select_mask (i 0) r _ _)

/-- What a point stores, from its blocks. -/
theorem out_at (i : grid0.Coords) (x0 : Vec Ideal S768x5120 .bf16) (x1 : Vec Ideal S1x5120x512 .bf16) (x2 : Vec Ideal S768x512 .f32)
    (x3 : Vec Ideal S2x1x1x512 .f32) (r : Fin 768) (j : Fin 512) :
    out0_4 i x0 x1 x2 x3 (ix2 r j) = blockOf (i 0).val x0 x1 x2 x3 r j := by
  unfold out0_4
  have h0 : View.ld x0 r0_0 = x0 := View.ld_unit_zero (by funext a; fin_cases a <;> rfl) _ _
  have h1 : View.ld x1 r0_1 = x1 := View.ld_unit_zero (by funext a; fin_cases a <;> rfl) _ _
  have h2 : View.ld x2 r0_4 = x2 := View.ld_unit_zero (by funext a; fin_cases a <;> rfl) _ _
  rw [h0, h1, h2, View.canon_unit_zero (by funext a; fin_cases a <;> rfl), pay_at]
  have g0 : View.ld x3 r0_2 (ix4 (n0 := 1) (n1 := 1) (n2 := 1) (n3 := 512) 0 0 0 j) = x3 (ix4 0 0 0 j) :=
    congrArg x3 (by
      funext a; refine Fin.ext ?_
      fin_cases a
      · rfl
      · rfl
      · rfl
      · show 0 + 1 * j.val = j.val; omega)
  have g1 : View.ld x3 r0_3 (ix4 (n0 := 1) (n1 := 1) (n2 := 1) (n3 := 512) 0 0 0 j) = x3 (ix4 1 0 0 j) :=
    congrArg x3 (by
      funext a; refine Fin.ext ?_
      fin_cases a
      · rfl
      · rfl
      · rfl
      · show 0 + 1 * j.val = j.val; omega)
  unfold blockOf
  exact congrArg₂ (fun u v => x2 (ix2 r j) + coef * (if 768 * (i 0).val + r.val < 8192 then u else v)
    * ∑ k : Fin 5120, x0 (ix2 r k) * x1 (ix3 0 k j)) g0 g1

/-! ## Where the blocks lie -/

/-- The grid has 88 points. -/
theorem lt_88 (t : Fin cfg0.N) : t.val < 88 := t.isLt

/-- A point's first coordinate. -/
theorem coord0 : ∀ t : Fin cfg0.N, (grid0.coords t 0).val = t.val / 8 :=
  (by decide +kernel : ∀ t : Fin grid0.N, (grid0.coords t 0).val = t.val / 8)
/-- The left operand's block at a point. -/
theorem at0 : ∀ t : Fin cfg0.N, win0_0.index t 0 = t.val / 8 ∧ win0_0.index t 1 = 0 :=
  (by decide +kernel : ∀ t : Fin grid0.N, win0_0.index t 0 = t.val / 8 ∧ win0_0.index t 1 = 0)
/-- The weights' block at a point. -/
theorem at1 : ∀ t : Fin cfg0.N, win0_1.index t 0 = 0 ∧ win0_1.index t 1 = 0 ∧ win0_1.index t 2 = t.val % 8 :=
  (by decide +kernel : ∀ t : Fin grid0.N, win0_1.index t 0 = 0 ∧ win0_1.index t 1 = 0 ∧ win0_1.index t 2 = t.val % 8)
/-- The residual stream's block at a point. -/
theorem at2 : ∀ t : Fin cfg0.N, win0_2.index t 0 = t.val / 8 ∧ win0_2.index t 1 = t.val % 8 :=
  (by decide +kernel : ∀ t : Fin grid0.N, win0_2.index t 0 = t.val / 8 ∧ win0_2.index t 1 = t.val % 8)
/-- The gates' block at a point. -/
theorem at3 : ∀ t : Fin cfg0.N, win0_3.index t 0 = 0 ∧ win0_3.index t 1 = 2 ∧ win0_3.index t 2 = 0 ∧ win0_3.index t 3 = t.val % 8 :=
  (by decide +kernel : ∀ t : Fin grid0.N,
    win0_3.index t 0 = 0 ∧ win0_3.index t 1 = 2 ∧ win0_3.index t 2 = 0 ∧ win0_3.index t 3 = t.val % 8)
/-- The result's block at a point. -/
theorem at4 : ∀ t : Fin cfg0.N, win0_4.index t 0 = t.val / 8 ∧ win0_4.index t 1 = t.val % 8 :=
  (by decide +kernel : ∀ t : Fin grid0.N, win0_4.index t 0 = t.val / 8 ∧ win0_4.index t 1 = t.val % 8)
/-- Every point writes its block back. -/
theorem flush4 : ∀ t : Fin cfg0.N, (cfg0.win 4).flush t = true :=
  (by decide +kernel : ∀ t : Fin grid0.N, win0_4.flush t = true)

variable (m : (ℓ : Loc nD τ sig) → Buf (Elt Ideal) ℓ)

/-- The left operand. -/
abbrev lhs (c : Dev nD) : S8448x5120.Idx → EReal := m ((c : Thread nD τ).loc main_arg0)
/-- The weights. -/
abbrev wts (c : Dev nD) : S4x5120x4096.Idx → EReal := m ((c : Thread nD τ).loc main_arg1)
/-- The residual stream. -/
abbrev xs (c : Dev nD) : S8448x4096.Idx → EReal := m ((c : Thread nD τ).loc main_arg2)
/-- The modulation. -/
abbrev mods (c : Dev nD) : S2x9x1x4096.Idx → EReal := m ((c : Thread nD τ).loc main_arg3)

/-- The launch finds the weights cast, on the extended reals the weights themselves. -/
theorem V_w (c : Dev nD) : V m c main_v0 = wts m c := by
  show StableHlo.after (List.flatten [hostOps0]) _ _ = _
  simp only [hostOps0, List.flatten_cons, List.flatten_nil, List.append_nil, List.cons_append, List.nil_append]
  after_results_simp
  rfl

/-- The left operand's block, entry by entry. -/
theorem blk0 (c : Dev nD) (t : Fin cfg0.N) (r : Fin 768) (k : Fin 5120) :
    iblk m c 0 t (ix2 (n0 := 768) (n1 := 5120) r k)
      = lhs m c (ix2 (n0 := 8448) (n1 := 5120) ⟨768 * (t.val / 8) + r.val, by have := lt_88 t; omega⟩ k) := by
  unfold iblk
  rw [View.read_apply]
  refine Eq.trans (congrFun (V_main_arg0 m c) _) (congrArg (lhs m c) ?_)
  obtain ⟨e0, e1⟩ := at0 t
  funext a; refine Fin.ext ?_
  fin_cases a
  · show win0_0.index t 0 * 768 + 1 * r.val = 768 * (t.val / 8) + r.val
    rw [e0]; omega
  · show win0_0.index t 1 * 5120 + 1 * k.val = k.val
    rw [e1]; omega

/-- The weights' block, entry by entry. -/
theorem blk1 (c : Dev nD) (t : Fin cfg0.N) (k : Fin 5120) (j : Fin 512) :
    iblk m c 1 t (ix3 (n0 := 1) (n1 := 5120) (n2 := 512) 0 k j)
      = wts m c (ix3 (n0 := 4) (n1 := 5120) (n2 := 4096) 0 k ⟨512 * (t.val % 8) + j.val, by omega⟩) := by
  unfold iblk
  rw [View.read_apply]
  refine Eq.trans (congrFun (V_w m c) _) (congrArg (wts m c) ?_)
  obtain ⟨e0, e1, e2⟩ := at1 t
  funext a; refine Fin.ext ?_
  fin_cases a
  · show win0_1.index t 0 * 1 + 1 * 0 = 0
    rw [e0]
  · show win0_1.index t 1 * 5120 + 1 * k.val = k.val
    rw [e1]; omega
  · show win0_1.index t 2 * 512 + 1 * j.val = 512 * (t.val % 8) + j.val
    rw [e2]; omega

/-- The residual stream's block, entry by entry. -/
theorem blk2 (c : Dev nD) (t : Fin cfg0.N) (r : Fin 768) (j : Fin 512) :
    iblk m c 2 t (ix2 (n0 := 768) (n1 := 512) r j)
      = xs m c (ix2 (n0 := 8448) (n1 := 4096) ⟨768 * (t.val / 8) + r.val, by have := lt_88 t; omega⟩
          ⟨512 * (t.val % 8) + j.val, by omega⟩) := by
  unfold iblk
  rw [View.read_apply]
  refine Eq.trans (congrFun (V_main_arg2 m c) _) (congrArg (xs m c) ?_)
  obtain ⟨e0, e1⟩ := at2 t
  funext a; refine Fin.ext ?_
  fin_cases a
  · show win0_2.index t 0 * 768 + 1 * r.val = 768 * (t.val / 8) + r.val
    rw [e0]; omega
  · show win0_2.index t 1 * 512 + 1 * j.val = 512 * (t.val % 8) + j.val
    rw [e1]; omega

/-- The gates' block, entry by entry. -/
theorem blk3 (c : Dev nD) (t : Fin cfg0.N) (s : Fin 2) (j : Fin 512) :
    iblk m c 3 t (ix4 (n0 := 2) (n1 := 1) (n2 := 1) (n3 := 512) s 0 0 j)
      = mods m c (ix4 (n0 := 2) (n1 := 9) (n2 := 1) (n3 := 4096) s 2 0 ⟨512 * (t.val % 8) + j.val, by omega⟩) := by
  unfold iblk
  rw [View.read_apply]
  refine Eq.trans (congrFun (V_main_arg3 m c) _) (congrArg (mods m c) ?_)
  obtain ⟨e0, e1, e2, e3⟩ := at3 t
  funext a; refine Fin.ext ?_
  fin_cases a
  · show win0_3.index t 0 * 2 + 1 * s.val = s.val
    rw [e0]; omega
  · show win0_3.index t 1 * 1 + 1 * 0 = 2
    rw [e1]
  · show win0_3.index t 2 * 1 + 1 * 0 = 0
    rw [e2]
  · show win0_3.index t 3 * 512 + 1 * j.val = 512 * (t.val % 8) + j.val
    rw [e3]; omega

/-! ## The two results -/

/-- The result at row `r`, column `C`. -/
def res (a : S8448x5120.Idx → EReal) (w : S4x5120x4096.Idx → EReal) (x : S8448x4096.Idx → EReal) (g : S2x9x1x4096.Idx → EReal)
    (r : Fin 8448) (C : Fin 4096) : EReal :=
  x (ix2 r C) + coef * (if r.val < 8192 then g (ix4 0 2 0 C) else g (ix4 1 2 0 C)) * ∑ k : Fin 5120, a (ix2 r k) * w (ix3 0 k C)

/-- A block's entry is the result's where the blocks' entries are the arguments'. -/
theorem blockOf_at (n : ℕ) (x0 : Vec Ideal S768x5120 .bf16) (x1 : Vec Ideal S1x5120x512 .bf16) (x2 : Vec Ideal S768x512 .f32)
    (x3 : Vec Ideal S2x1x1x512 .f32) (a : S8448x5120.Idx → EReal) (w : S4x5120x4096.Idx → EReal) (x : S8448x4096.Idx → EReal)
    (g : S2x9x1x4096.Idx → EReal) (R : Fin 8448) (C : Fin 4096) (r : Fin 768) (j : Fin 512) (hR : 768 * n + r.val = R.val)
    (h0 : ∀ k : Fin 5120, x0 (ix2 r k) = a (ix2 R k)) (h1 : ∀ k : Fin 5120, x1 (ix3 0 k j) = w (ix3 0 k C))
    (h2 : x2 (ix2 r j) = x (ix2 R C)) (h3 : ∀ s : Fin 2, x3 (ix4 s 0 0 j) = g (ix4 s 2 0 C)) :
    blockOf n x0 x1 x2 x3 r j = res a w x g R C := by
  unfold blockOf res
  rw [hR, h2, h3 0, h3 1]
  exact congrArg (fun u => x (ix2 R C) + coef * (if R.val < 8192 then g (ix4 0 2 0 C) else g (ix4 1 2 0 C)) * u)
    (Finset.sum_congr rfl fun k _ => congrArg₂ _ (h0 k) (h1 k))

/-- The kernel's final array, entry by entry. -/
theorem final_at (c : Dev nD) (t : Fin cfg0.N) (r : Fin 768) (j : Fin 512) :
    (dats m 0 c).arrAt 4 cfg0.N (ix2 (n0 := 8448) (n1 := 4096) ⟨768 * (t.val / 8) + r.val, by have := lt_88 t; omega⟩
      ⟨512 * (t.val % 8) + j.val, by omega⟩)
    = res (lhs m c) (wts m c) (xs m c) (mods m c) ⟨768 * (t.val / 8) + r.val, by have := lt_88 t; omega⟩
      ⟨512 * (t.val % 8) + j.val, by omega⟩ := by
  have e := congrFun ((blocks4 m c t (flush4 t)).trans (flushed4 m c t)) (ix2 (n0 := 768) (n1 := 512) r j)
  rw [View.read_apply] at e
  refine Eq.trans (congrArg ((dats m 0 c).arrAt 4 cfg0.N) ?_) (e.trans ?_)
  · obtain ⟨e0, e1⟩ := at4 t
    funext a; refine Fin.ext ?_
    fin_cases a
    · show 768 * (t.val / 8) + r.val = win0_4.index t 0 * 768 + 1 * r.val
      rw [e0]; omega
    · show 512 * (t.val % 8) + j.val = win0_4.index t 1 * 512 + 1 * j.val
      rw [e1]; omega
  · exact (out_at (grid0.coords t) (iblk m c 0 t) (iblk m c 1 t) (iblk m c 2 t) (iblk m c 3 t) r j).trans
      (blockOf_at _ _ _ _ _ _ _ _ _ _ _ _ _ (by rw [coord0]) (blk0 m c t r) (fun k => blk1 m c t k j) (blk2 m c t r j)
        (fun s => blk3 m c t s j))

section Reference

open Cert.Reference3Ideal.Read

variable (a : S8448x5120.Idx → EReal) (w : S4x5120x4096.Idx → EReal) (x : S8448x4096.Idx → EReal) (g : S2x9x1x4096.Idx → EReal)

/-- The reference's product, entry by entry. -/
theorem dot_at (r : Fin 8448) (C : Fin 4096) :
    val_main_v3 (F := Ideal) a w (ix2 (n0 := 8448) (n1 := 4096) r C) = ∑ k : Fin 5120, a (ix2 r k) * w (ix3 0 k C) := by
  rw [val_main_v3_apply]
  refine Finset.sum_congr rfl fun k _ => ?_
  rw [val_main_v2_apply, val_main_v1_apply]
  refine congrArg₂ (fun u v => a u * w v) ?_ ?_
  · funext b; fin_cases b <;> rfl
  · have hk := k.isLt; have hC := C.isLt
    funext b; refine Fin.ext ?_
    fin_cases b
    · rfl
    · show (k.val * 4096 + C.val) / 4096 % 5120 = k.val; omega
    · show (k.val * 4096 + C.val) % 4096 = C.val; omega

/-- The latent stream's gate. -/
theorem gate0_at (C : Fin 4096) : val_main_v5 (F := Ideal) g (ix2 (n0 := 1) (n1 := 4096) 0 C) = g (ix4 0 2 0 C) := by
  rw [val_main_v5_apply, val_main_v4_apply]
  refine congrArg g ?_
  have hC := C.isLt
  funext b; refine Fin.ext ?_
  fin_cases b
  · rfl
  · rfl
  · rfl
  · show (0 * 4096 + C.val) % 4096 = C.val; omega

/-- The context stream's gate. -/
theorem gate1_at (C : Fin 4096) : val_main_v7 (F := Ideal) g (ix2 (n0 := 1) (n1 := 4096) 0 C) = g (ix4 1 2 0 C) := by
  rw [val_main_v7_apply, val_main_v6_apply]
  refine congrArg g ?_
  have hC := C.isLt
  funext b; refine Fin.ext ?_
  fin_cases b
  · rfl
  · rfl
  · rfl
  · show (0 * 4096 + C.val) % 4096 = C.val; omega

/-- A latent row of the reference's result. -/
theorem lat_at (r : Fin 8192) (C : Fin 4096) :
    val_main_v15 (F := Ideal) a w x g (ix2 (n0 := 8192) (n1 := 4096) r C) = res a w x g ⟨r.val, by omega⟩ C := by
  have ey : val_main_v12 (F := Ideal) a w (ix2 (n0 := 8192) (n1 := 4096) r C) = ∑ k : Fin 5120, a (ix2 ⟨r.val, by omega⟩ k) * w (ix3 0 k C) := by
    rw [val_main_v12_apply]
    refine Eq.trans (congrArg (val_main_v3 (F := Ideal) a w) ?_) (dot_at a w ⟨r.val, by omega⟩ C)
    funext b; fin_cases b <;> rfl
  have ex : val_main_v8 (F := Ideal) x (ix2 (n0 := 8192) (n1 := 4096) r C) = x (ix2 ⟨r.val, by omega⟩ C) := by
    rw [val_main_v8_apply]
    refine congrArg x ?_
    funext b; fin_cases b <;> rfl
  have eg : val_main_v13 (F := Ideal) g (ix2 (n0 := 8192) (n1 := 4096) r C) = coef * g (ix4 0 2 0 C) := by
    rw [val_main_v13_apply]
    refine Eq.trans (congrArg (val_main_v11 (F := Ideal) g) (show _ = ix2 (n0 := 1) (n1 := 4096) 0 C from ?_)) ?_
    · funext b; fin_cases b <;> rfl
    · rw [val_main_v11_apply, val_main_v10_apply, gate0_at]; rfl
  rw [val_main_v15_apply, val_main_v14_apply, ey, ex, eg]
  unfold res
  rw [if_pos r.isLt]
  rfl

/-- A context row of the reference's result. -/
theorem ctx_at (r : Fin 256) (C : Fin 4096) :
    val_main_v21 (F := Ideal) a w x g (ix2 (n0 := 256) (n1 := 4096) r C) = res a w x g ⟨8192 + r.val, by omega⟩ C := by
  have ey : val_main_v18 (F := Ideal) a w (ix2 (n0 := 256) (n1 := 4096) r C) = ∑ k : Fin 5120, a (ix2 ⟨8192 + r.val, by omega⟩ k) * w (ix3 0 k C) := by
    rw [val_main_v18_apply]
    refine Eq.trans (congrArg (val_main_v3 (F := Ideal) a w) ?_) (dot_at a w ⟨8192 + r.val, by omega⟩ C)
    funext b; fin_cases b <;> rfl
  have ex : val_main_v9 (F := Ideal) x (ix2 (n0 := 256) (n1 := 4096) r C) = x (ix2 ⟨8192 + r.val, by omega⟩ C) := by
    rw [val_main_v9_apply]
    refine congrArg x ?_
    funext b; fin_cases b <;> rfl
  have eg : val_main_v19 (F := Ideal) g (ix2 (n0 := 256) (n1 := 4096) r C) = coef * g (ix4 1 2 0 C) := by
    rw [val_main_v19_apply]
    refine Eq.trans (congrArg (val_main_v17 (F := Ideal) g) (show _ = ix2 (n0 := 1) (n1 := 4096) 0 C from ?_)) ?_
    · funext b; fin_cases b <;> rfl
    · rw [val_main_v17_apply, val_main_v16_apply, gate1_at]; rfl
  rw [val_main_v21_apply, val_main_v20_apply, ey, ex, eg]
  unfold res
  rw [if_neg (by show ¬(8192 + r.val < 8192); omega)]
  rfl

/-- The reference's result, entry by entry. -/
theorem ref_at (r : Fin 8448) (C : Fin 4096) :
    val_main_v22 (F := Ideal) a w x g (ix2 (n0 := 8448) (n1 := 4096) r C) = res a w x g r C := by
  have hr := r.isLt
  by_cases h : r.val < 8192
  · have e := concatenate_pair_apply_left (s₁ := Cert.Reference3Ideal.S8192x4096) (s₂ := Cert.Reference3Ideal.S256x4096) (t := Cert.Reference3Ideal.S8448x4096) 0 (val_main_v15 (F := Ideal) a w x g)
      (val_main_v21 (F := Ideal) a w x g) Cert.Reference3Ideal.Facts₀.concatenates_S8192x4096_S256x4096_S8448x4096_d0 (ix2 r C) rfl
      (ix2 ⟨r.val, h⟩ C) (fun b => by fin_cases b <;> rfl)
    exact e.trans (lat_at a w x g ⟨r.val, h⟩ C)
  · have e := concatenate_pair_apply_right (s₁ := Cert.Reference3Ideal.S8192x4096) (s₂ := Cert.Reference3Ideal.S256x4096) (t := Cert.Reference3Ideal.S8448x4096) 0 (val_main_v15 (F := Ideal) a w x g)
      (val_main_v21 (F := Ideal) a w x g) Cert.Reference3Ideal.Facts₀.concatenates_S8192x4096_S256x4096_S8448x4096_d0 (ix2 r C) rfl rfl
      (ix2 ⟨r.val - 8192, by omega⟩ C) (fun b hb => by
        fin_cases b
        · exact absurd rfl hb
        · rfl)
      (by show r.val - 8192 + 8192 = r.val; omega)
    refine e.trans ((ctx_at a w x g ⟨r.val - 8192, by omega⟩ C).trans ?_)
    exact congrArg (fun q => res a w x g q C) (Fin.ext (by show 8192 + (r.val - 8192) = r.val; omega))

end Reference

/-- The two results are equal. -/
theorem final_eq (c : Dev nD) :
    (dats m 0 c).arrAt 4 cfg0.N = Cert.Reference3Ideal.Read.val_main_v22 (F := Ideal) (lhs m c) (wts m c) (xs m c) (mods m c) := by
  funext i
  obtain ⟨r, C, rfl⟩ : ∃ (r : Fin 8448) (C : Fin 4096), i = ix2 r C := ⟨i 0, i 1, by funext a; fin_cases a <;> rfl⟩
  rw [ref_at]
  have hr := r.isLt; have hC := C.isLt
  let t : Fin cfg0.N := ⟨8 * (r.val / 768) + C.val / 512, by show _ < 88; omega⟩
  have e := final_at m c t ⟨r.val % 768, by omega⟩ ⟨C.val % 512, by omega⟩
  have er : (⟨768 * (t.val / 8) + r.val % 768, by have := lt_88 t; omega⟩ : Fin 8448) = r := Fin.ext (by
    show 768 * ((8 * (r.val / 768) + C.val / 512) / 8) + r.val % 768 = r.val; omega)
  have eC : (⟨512 * (t.val % 8) + C.val % 512, by omega⟩ : Fin 4096) = C := Fin.ext (by
    show 512 * ((8 * (r.val / 768) + C.val / 512) % 8) + C.val % 512 = C.val; omega)
  exact Eq.trans (congrArg₂ (fun a b => (dats m 0 c).arrAt 4 cfg0.N (ix2 (n0 := 8448) (n1 := 4096) a b)) er.symm eC.symm)
    (e.trans (congrArg₂ (res (lhs m c) (wts m c) (xs m c) (mods m c)) er eC))

end Cert.Down

end
-- ==== Proof.Out.lean ====
/- The mixers' output projection: each entry of its result is the residual stream's entry plus the
   stream's gate times the product. -/
module

public import proofs.«01_k».proof.Proof.Rows
public import proofs.«01_k».proof.Proof.Gen.Kernel4Ideal.Value
public import proofs.«01_k».proof.Proof.Gen.Reference4Ideal.Read
public import Idealize.ShloMosaic.Lib.Pointwise
public import Idealize.ShloMosaic.Lib.Pipeline.Value

@[expose] public section

set_option maxRecDepth 16384

noncomputable section

namespace Cert.Out

open Cert.Kernel4Ideal Cert.Kernel4Ideal.Gen Cert.Kernel4Ideal.Value
open Idealize.ShloMosaic Idealize.ShloMosaic.TcCoe Idealize.SL.Sem

/-- The step's factor. -/
abbrev coef : EReal := Ideal.ofBits .f32 0x3F800000#32

/-! ## A block of the result -/

/-- What a point computes from its blocks. -/
def blockOf (n : ℕ) (x0 : Vec Ideal S768x4096 .bf16) (x1 : Vec Ideal S1x4096x512 .bf16) (x2 : Vec Ideal S768x512 .f32)
    (x3 : Vec Ideal S2x1x1x512 .f32) (r : Fin 768) (j : Fin 512) : EReal :=
  x2 (ix2 r j) + coef * (if 768 * n + r.val < 8192 then x3 (ix4 0 0 0 j) else x3 (ix4 1 0 0 j))
    * ∑ k : Fin 4096, x0 (ix2 r k) * x1 (ix3 0 k j)

/-- What a point stores, from its loads, entry by entry. -/
theorem pay_at (i : grid0.Coords) (a : Vec Ideal S768x4096 .bf16) (w : Vec Ideal S1x4096x512 .bf16)
    (g0 g1 : Vec Ideal S1x1x1x512 .f32) (x : Vec Ideal S768x512 .f32) (r : Fin 768) (j : Fin 512) :
    k0_pay1 i a w g0 g1 x (ix2 r j) = x (ix2 r j)
      + coef * (if 768 * (i 0).val + r.val < 8192 then g0 (ix4 0 0 0 j) else g1 (ix4 0 0 0 j))
        * ∑ k : Fin 4096, a (ix2 r k) * w (ix3 0 k j) := by
  pointwise [k0_pay1]
  exact congrArg (fun g => x (ix2 r j) + g * ∑ k : Fin 4096, a (ix2 r k) * w (ix3 0 k j))
    (Rows.select_mask (i 0) r _ _)

/-- What a point stores, from its blocks. -/
theorem out_at (i : grid0.Coords) (x0 : Vec Ideal S768x4096 .bf16) (x1 : Vec Ideal S1x4096x512 .bf16) (x2 : Vec Ideal S768x512 .f32)
    (x3 : Vec Ideal S2x1x1x512 .f32) (r : Fin 768) (j : Fin 512) :
    out0_4 i x0 x1 x2 x3 (ix2 r j) = blockOf (i 0).val x0 x1 x2 x3 r j := by
  unfold out0_4
  have h0 : View.ld x0 r0_0 = x0 := View.ld_unit_zero (by funext a; fin_cases a <;> rfl) _ _
  have h1 : View.ld x1 r0_1 = x1 := View.ld_unit_zero (by funext a; fin_cases a <;> rfl) _ _
  have h2 : View.ld x2 r0_4 = x2 := View.ld_unit_zero (by funext a; fin_cases a <;> rfl) _ _
  rw [h0, h1, h2, View.canon_unit_zero (by funext a; fin_cases a <;> rfl), pay_at]
  have g0 : View.ld x3 r0_2 (ix4 (n0 := 1) (n1 := 1) (n2 := 1) (n3 := 512) 0 0 0 j) = x3 (ix4 0 0 0 j) :=
    congrArg x3 (by
      funext a; refine Fin.ext ?_
      fin_cases a
      · rfl
      · rfl
      · rfl
      · show 0 + 1 * j.val = j.val; omega)
  have g1 : View.ld x3 r0_3 (ix4 (n0 := 1) (n1 := 1) (n2 := 1) (n3 := 512) 0 0 0 j) = x3 (ix4 1 0 0 j) :=
    congrArg x3 (by
      funext a; refine Fin.ext ?_
      fin_cases a
      · rfl
      · rfl
      · rfl
      · show 0 + 1 * j.val = j.val; omega)
  unfold blockOf
  exact congrArg₂ (fun u v => x2 (ix2 r j) + coef * (if 768 * (i 0).val + r.val < 8192 then u else v)
    * ∑ k : Fin 4096, x0 (ix2 r k) * x1 (ix3 0 k j)) g0 g1

/-! ## Where the blocks lie -/

/-- The grid has 88 points. -/
theorem lt_88 (t : Fin cfg0.N) : t.val < 88 := t.isLt

/-- A point's first coordinate. -/
theorem coord0 : ∀ t : Fin cfg0.N, (grid0.coords t 0).val = t.val / 8 :=
  (by decide +kernel : ∀ t : Fin grid0.N, (grid0.coords t 0).val = t.val / 8)
/-- The left operand's block at a point. -/
theorem at0 : ∀ t : Fin cfg0.N, win0_0.index t 0 = t.val / 8 ∧ win0_0.index t 1 = 0 :=
  (by decide +kernel : ∀ t : Fin grid0.N, win0_0.index t 0 = t.val / 8 ∧ win0_0.index t 1 = 0)
/-- The weights' block at a point. -/
theorem at1 : ∀ t : Fin cfg0.N, win0_1.index t 0 = 0 ∧ win0_1.index t 1 = 0 ∧ win0_1.index t 2 = t.val % 8 :=
  (by decide +kernel : ∀ t : Fin grid0.N, win0_1.index t 0 = 0 ∧ win0_1.index t 1 = 0 ∧ win0_1.index t 2 = t.val % 8)
/-- The residual stream's block at a point. -/
theorem at2 : ∀ t : Fin cfg0.N, win0_2.index t 0 = t.val / 8 ∧ win0_2.index t 1 = t.val % 8 :=
  (by decide +kernel : ∀ t : Fin grid0.N, win0_2.index t 0 = t.val / 8 ∧ win0_2.index t 1 = t.val % 8)
/-- The gates' block at a point. -/
theorem at3 : ∀ t : Fin cfg0.N, win0_3.index t 0 = 0 ∧ win0_3.index t 1 = 5 ∧ win0_3.index t 2 = 0 ∧ win0_3.index t 3 = t.val % 8 :=
  (by decide +kernel : ∀ t : Fin grid0.N,
    win0_3.index t 0 = 0 ∧ win0_3.index t 1 = 5 ∧ win0_3.index t 2 = 0 ∧ win0_3.index t 3 = t.val % 8)
/-- The result's block at a point. -/
theorem at4 : ∀ t : Fin cfg0.N, win0_4.index t 0 = t.val / 8 ∧ win0_4.index t 1 = t.val % 8 :=
  (by decide +kernel : ∀ t : Fin grid0.N, win0_4.index t 0 = t.val / 8 ∧ win0_4.index t 1 = t.val % 8)
/-- Every point writes its block back. -/
theorem flush4 : ∀ t : Fin cfg0.N, (cfg0.win 4).flush t = true :=
  (by decide +kernel : ∀ t : Fin grid0.N, win0_4.flush t = true)

variable (m : (ℓ : Loc nD τ sig) → Buf (Elt Ideal) ℓ)

/-- The left operand. -/
abbrev lhs (c : Dev nD) : S8448x4096.Idx → EReal := m ((c : Thread nD τ).loc main_arg0)
/-- The weights. -/
abbrev wts (c : Dev nD) : S4x4096x4096.Idx → EReal := m ((c : Thread nD τ).loc main_arg1)
/-- The residual stream. -/
abbrev xs (c : Dev nD) : S8448x4096.Idx → EReal := m ((c : Thread nD τ).loc main_arg2)
/-- The modulation. -/
abbrev mods (c : Dev nD) : S2x9x1x4096.Idx → EReal := m ((c : Thread nD τ).loc main_arg3)

/-- The launch finds the weights cast, on the extended reals the weights themselves. -/
theorem V_w (c : Dev nD) : V m c main_v0 = wts m c := by
  show StableHlo.after (List.flatten [hostOps0]) _ _ = _
  simp only [hostOps0, List.flatten_cons, List.flatten_nil, List.append_nil, List.cons_append, List.nil_append]
  after_results_simp
  rfl

/-- The left operand's block, entry by entry. -/
theorem blk0 (c : Dev nD) (t : Fin cfg0.N) (r : Fin 768) (k : Fin 4096) :
    iblk m c 0 t (ix2 (n0 := 768) (n1 := 4096) r k)
      = lhs m c (ix2 (n0 := 8448) (n1 := 4096) ⟨768 * (t.val / 8) + r.val, by have := lt_88 t; omega⟩ k) := by
  unfold iblk
  rw [View.read_apply]
  refine Eq.trans (congrFun (V_main_arg0 m c) _) (congrArg (lhs m c) ?_)
  obtain ⟨e0, e1⟩ := at0 t
  funext a; refine Fin.ext ?_
  fin_cases a
  · show win0_0.index t 0 * 768 + 1 * r.val = 768 * (t.val / 8) + r.val
    rw [e0]; omega
  · show win0_0.index t 1 * 4096 + 1 * k.val = k.val
    rw [e1]; omega

/-- The weights' block, entry by entry. -/
theorem blk1 (c : Dev nD) (t : Fin cfg0.N) (k : Fin 4096) (j : Fin 512) :
    iblk m c 1 t (ix3 (n0 := 1) (n1 := 4096) (n2 := 512) 0 k j)
      = wts m c (ix3 (n0 := 4) (n1 := 4096) (n2 := 4096) 0 k ⟨512 * (t.val % 8) + j.val, by omega⟩) := by
  unfold iblk
  rw [View.read_apply]
  refine Eq.trans (congrFun (V_w m c) _) (congrArg (wts m c) ?_)
  obtain ⟨e0, e1, e2⟩ := at1 t
  funext a; refine Fin.ext ?_
  fin_cases a
  · show win0_1.index t 0 * 1 + 1 * 0 = 0
    rw [e0]
  · show win0_1.index t 1 * 4096 + 1 * k.val = k.val
    rw [e1]; omega
  · show win0_1.index t 2 * 512 + 1 * j.val = 512 * (t.val % 8) + j.val
    rw [e2]; omega

/-- The residual stream's block, entry by entry. -/
theorem blk2 (c : Dev nD) (t : Fin cfg0.N) (r : Fin 768) (j : Fin 512) :
    iblk m c 2 t (ix2 (n0 := 768) (n1 := 512) r j)
      = xs m c (ix2 (n0 := 8448) (n1 := 4096) ⟨768 * (t.val / 8) + r.val, by have := lt_88 t; omega⟩
          ⟨512 * (t.val % 8) + j.val, by omega⟩) := by
  unfold iblk
  rw [View.read_apply]
  refine Eq.trans (congrFun (V_main_arg2 m c) _) (congrArg (xs m c) ?_)
  obtain ⟨e0, e1⟩ := at2 t
  funext a; refine Fin.ext ?_
  fin_cases a
  · show win0_2.index t 0 * 768 + 1 * r.val = 768 * (t.val / 8) + r.val
    rw [e0]; omega
  · show win0_2.index t 1 * 512 + 1 * j.val = 512 * (t.val % 8) + j.val
    rw [e1]; omega

/-- The gates' block, entry by entry. -/
theorem blk3 (c : Dev nD) (t : Fin cfg0.N) (s : Fin 2) (j : Fin 512) :
    iblk m c 3 t (ix4 (n0 := 2) (n1 := 1) (n2 := 1) (n3 := 512) s 0 0 j)
      = mods m c (ix4 (n0 := 2) (n1 := 9) (n2 := 1) (n3 := 4096) s 5 0 ⟨512 * (t.val % 8) + j.val, by omega⟩) := by
  unfold iblk
  rw [View.read_apply]
  refine Eq.trans (congrFun (V_main_arg3 m c) _) (congrArg (mods m c) ?_)
  obtain ⟨e0, e1, e2, e3⟩ := at3 t
  funext a; refine Fin.ext ?_
  fin_cases a
  · show win0_3.index t 0 * 2 + 1 * s.val = s.val
    rw [e0]; omega
  · show win0_3.index t 1 * 1 + 1 * 0 = 5
    rw [e1]
  · show win0_3.index t 2 * 1 + 1 * 0 = 0
    rw [e2]
  · show win0_3.index t 3 * 512 + 1 * j.val = 512 * (t.val % 8) + j.val
    rw [e3]; omega

/-! ## The two results -/

/-- The result at row `r`, column `C`. -/
def res (a : S8448x4096.Idx → EReal) (w : S4x4096x4096.Idx → EReal) (x : S8448x4096.Idx → EReal) (g : S2x9x1x4096.Idx → EReal)
    (r : Fin 8448) (C : Fin 4096) : EReal :=
  x (ix2 r C) + coef * (if r.val < 8192 then g (ix4 0 5 0 C) else g (ix4 1 5 0 C)) * ∑ k : Fin 4096, a (ix2 r k) * w (ix3 0 k C)

/-- A block's entry is the result's where the blocks' entries are the arguments'. -/
theorem blockOf_at (n : ℕ) (x0 : Vec Ideal S768x4096 .bf16) (x1 : Vec Ideal S1x4096x512 .bf16) (x2 : Vec Ideal S768x512 .f32)
    (x3 : Vec Ideal S2x1x1x512 .f32) (a : S8448x4096.Idx → EReal) (w : S4x4096x4096.Idx → EReal) (x : S8448x4096.Idx → EReal)
    (g : S2x9x1x4096.Idx → EReal) (R : Fin 8448) (C : Fin 4096) (r : Fin 768) (j : Fin 512) (hR : 768 * n + r.val = R.val)
    (h0 : ∀ k : Fin 4096, x0 (ix2 r k) = a (ix2 R k)) (h1 : ∀ k : Fin 4096, x1 (ix3 0 k j) = w (ix3 0 k C))
    (h2 : x2 (ix2 r j) = x (ix2 R C)) (h3 : ∀ s : Fin 2, x3 (ix4 s 0 0 j) = g (ix4 s 5 0 C)) :
    blockOf n x0 x1 x2 x3 r j = res a w x g R C := by
  unfold blockOf res
  rw [hR, h2, h3 0, h3 1]
  exact congrArg (fun u => x (ix2 R C) + coef * (if R.val < 8192 then g (ix4 0 5 0 C) else g (ix4 1 5 0 C)) * u)
    (Finset.sum_congr rfl fun k _ => congrArg₂ _ (h0 k) (h1 k))

/-- The kernel's final array, entry by entry. -/
theorem final_at (c : Dev nD) (t : Fin cfg0.N) (r : Fin 768) (j : Fin 512) :
    (dats m 0 c).arrAt 4 cfg0.N (ix2 (n0 := 8448) (n1 := 4096) ⟨768 * (t.val / 8) + r.val, by have := lt_88 t; omega⟩
      ⟨512 * (t.val % 8) + j.val, by omega⟩)
    = res (lhs m c) (wts m c) (xs m c) (mods m c) ⟨768 * (t.val / 8) + r.val, by have := lt_88 t; omega⟩
      ⟨512 * (t.val % 8) + j.val, by omega⟩ := by
  have e := congrFun ((blocks4 m c t (flush4 t)).trans (flushed4 m c t)) (ix2 (n0 := 768) (n1 := 512) r j)
  rw [View.read_apply] at e
  refine Eq.trans (congrArg ((dats m 0 c).arrAt 4 cfg0.N) ?_) (e.trans ?_)
  · obtain ⟨e0, e1⟩ := at4 t
    funext a; refine Fin.ext ?_
    fin_cases a
    · show 768 * (t.val / 8) + r.val = win0_4.index t 0 * 768 + 1 * r.val
      rw [e0]; omega
    · show 512 * (t.val % 8) + j.val = win0_4.index t 1 * 512 + 1 * j.val
      rw [e1]; omega
  · exact (out_at (grid0.coords t) (iblk m c 0 t) (iblk m c 1 t) (iblk m c 2 t) (iblk m c 3 t) r j).trans
      (blockOf_at _ _ _ _ _ _ _ _ _ _ _ _ _ (by rw [coord0]) (blk0 m c t r) (fun k => blk1 m c t k j) (blk2 m c t r j)
        (fun s => blk3 m c t s j))

section Reference

open Cert.Reference4Ideal.Read

variable (a : S8448x4096.Idx → EReal) (w : S4x4096x4096.Idx → EReal) (x : S8448x4096.Idx → EReal) (g : S2x9x1x4096.Idx → EReal)

/-- The reference's product, entry by entry. -/
theorem dot_at (r : Fin 8448) (C : Fin 4096) :
    val_main_v3 (F := Ideal) a w (ix2 (n0 := 8448) (n1 := 4096) r C) = ∑ k : Fin 4096, a (ix2 r k) * w (ix3 0 k C) := by
  rw [val_main_v3_apply]
  refine Finset.sum_congr rfl fun k _ => ?_
  rw [val_main_v2_apply, val_main_v1_apply]
  refine congrArg₂ (fun u v => a u * w v) ?_ ?_
  · funext b; fin_cases b <;> rfl
  · have hk := k.isLt; have hC := C.isLt
    funext b; refine Fin.ext ?_
    fin_cases b
    · rfl
    · show (k.val * 4096 + C.val) / 4096 % 4096 = k.val; omega
    · show (k.val * 4096 + C.val) % 4096 = C.val; omega

/-- The latent stream's gate. -/
theorem gate0_at (C : Fin 4096) : val_main_v5 (F := Ideal) g (ix2 (n0 := 1) (n1 := 4096) 0 C) = g (ix4 0 5 0 C) := by
  rw [val_main_v5_apply, val_main_v4_apply]
  refine congrArg g ?_
  have hC := C.isLt
  funext b; refine Fin.ext ?_
  fin_cases b
  · rfl
  · rfl
  · rfl
  · show (0 * 4096 + C.val) % 4096 = C.val; omega

/-- The context stream's gate. -/
theorem gate1_at (C : Fin 4096) : val_main_v7 (F := Ideal) g (ix2 (n0 := 1) (n1 := 4096) 0 C) = g (ix4 1 5 0 C) := by
  rw [val_main_v7_apply, val_main_v6_apply]
  refine congrArg g ?_
  have hC := C.isLt
  funext b; refine Fin.ext ?_
  fin_cases b
  · rfl
  · rfl
  · rfl
  · show (0 * 4096 + C.val) % 4096 = C.val; omega

/-- A latent row of the reference's result. -/
theorem lat_at (r : Fin 8192) (C : Fin 4096) :
    val_main_v13 (F := Ideal) a w x g (ix2 (n0 := 8192) (n1 := 4096) r C) = res a w x g ⟨r.val, by omega⟩ C := by
  have ey : val_main_v10 (F := Ideal) a w (ix2 (n0 := 8192) (n1 := 4096) r C) = ∑ k : Fin 4096, a (ix2 ⟨r.val, by omega⟩ k) * w (ix3 0 k C) := by
    rw [val_main_v10_apply]
    refine Eq.trans (congrArg (val_main_v3 (F := Ideal) a w) ?_) (dot_at a w ⟨r.val, by omega⟩ C)
    funext b; fin_cases b <;> rfl
  have ex : val_main_v8 (F := Ideal) x (ix2 (n0 := 8192) (n1 := 4096) r C) = x (ix2 ⟨r.val, by omega⟩ C) := by
    rw [val_main_v8_apply]
    refine congrArg x ?_
    funext b; fin_cases b <;> rfl
  have eg : val_main_v11 (F := Ideal) g (ix2 (n0 := 8192) (n1 := 4096) r C) = coef * g (ix4 0 5 0 C) := by
    rw [val_main_v11_apply]
    refine Eq.trans (congrArg (val_main_v5 (F := Ideal) g) (show _ = ix2 (n0 := 1) (n1 := 4096) 0 C from ?_)) ?_
    · funext b; fin_cases b <;> rfl
    · rw [gate0_at, show coef = 1 from Ideal.ofBits_one_f32, one_mul]
  rw [val_main_v13_apply, val_main_v12_apply, ey, ex, eg]
  unfold res
  rw [if_pos r.isLt]
  rfl

/-- A context row of the reference's result. -/
theorem ctx_at (r : Fin 256) (C : Fin 4096) :
    val_main_v17 (F := Ideal) a w x g (ix2 (n0 := 256) (n1 := 4096) r C) = res a w x g ⟨8192 + r.val, by omega⟩ C := by
  have ey : val_main_v14 (F := Ideal) a w (ix2 (n0 := 256) (n1 := 4096) r C) = ∑ k : Fin 4096, a (ix2 ⟨8192 + r.val, by omega⟩ k) * w (ix3 0 k C) := by
    rw [val_main_v14_apply]
    refine Eq.trans (congrArg (val_main_v3 (F := Ideal) a w) ?_) (dot_at a w ⟨8192 + r.val, by omega⟩ C)
    funext b; fin_cases b <;> rfl
  have ex : val_main_v9 (F := Ideal) x (ix2 (n0 := 256) (n1 := 4096) r C) = x (ix2 ⟨8192 + r.val, by omega⟩ C) := by
    rw [val_main_v9_apply]
    refine congrArg x ?_
    funext b; fin_cases b <;> rfl
  have eg : val_main_v15 (F := Ideal) g (ix2 (n0 := 256) (n1 := 4096) r C) = coef * g (ix4 1 5 0 C) := by
    rw [val_main_v15_apply]
    refine Eq.trans (congrArg (val_main_v7 (F := Ideal) g) (show _ = ix2 (n0 := 1) (n1 := 4096) 0 C from ?_)) ?_
    · funext b; fin_cases b <;> rfl
    · rw [gate1_at, show coef = 1 from Ideal.ofBits_one_f32, one_mul]
  rw [val_main_v17_apply, val_main_v16_apply, ey, ex, eg]
  unfold res
  rw [if_neg (by show ¬(8192 + r.val < 8192); omega)]
  rfl

/-- The reference's result, entry by entry. -/
theorem ref_at (r : Fin 8448) (C : Fin 4096) :
    val_main_v18 (F := Ideal) a w x g (ix2 (n0 := 8448) (n1 := 4096) r C) = res a w x g r C := by
  have hr := r.isLt
  by_cases h : r.val < 8192
  · have e := concatenate_pair_apply_left (s₁ := Cert.Reference4Ideal.S8192x4096) (s₂ := Cert.Reference4Ideal.S256x4096) (t := Cert.Reference4Ideal.S8448x4096) 0 (val_main_v13 (F := Ideal) a w x g)
      (val_main_v17 (F := Ideal) a w x g) Cert.Reference4Ideal.Facts₀.concatenates_S8192x4096_S256x4096_S8448x4096_d0 (ix2 r C) rfl
      (ix2 ⟨r.val, h⟩ C) (fun b => by fin_cases b <;> rfl)
    exact e.trans (lat_at a w x g ⟨r.val, h⟩ C)
  · have e := concatenate_pair_apply_right (s₁ := Cert.Reference4Ideal.S8192x4096) (s₂ := Cert.Reference4Ideal.S256x4096) (t := Cert.Reference4Ideal.S8448x4096) 0 (val_main_v13 (F := Ideal) a w x g)
      (val_main_v17 (F := Ideal) a w x g) Cert.Reference4Ideal.Facts₀.concatenates_S8192x4096_S256x4096_S8448x4096_d0 (ix2 r C) rfl rfl
      (ix2 ⟨r.val - 8192, by omega⟩ C) (fun b hb => by
        fin_cases b
        · exact absurd rfl hb
        · rfl)
      (by show r.val - 8192 + 8192 = r.val; omega)
    refine e.trans ((ctx_at a w x g ⟨r.val - 8192, by omega⟩ C).trans ?_)
    exact congrArg (fun q => res a w x g q C) (Fin.ext (by show 8192 + (r.val - 8192) = r.val; omega))

end Reference

/-- The two results are equal. -/
theorem final_eq (c : Dev nD) :
    (dats m 0 c).arrAt 4 cfg0.N = Cert.Reference4Ideal.Read.val_main_v18 (F := Ideal) (lhs m c) (wts m c) (xs m c) (mods m c) := by
  funext i
  obtain ⟨r, C, rfl⟩ : ∃ (r : Fin 8448) (C : Fin 4096), i = ix2 r C := ⟨i 0, i 1, by funext a; fin_cases a <;> rfl⟩
  rw [ref_at]
  have hr := r.isLt; have hC := C.isLt
  let t : Fin cfg0.N := ⟨8 * (r.val / 768) + C.val / 512, by show _ < 88; omega⟩
  have e := final_at m c t ⟨r.val % 768, by omega⟩ ⟨C.val % 512, by omega⟩
  have er : (⟨768 * (t.val / 8) + r.val % 768, by have := lt_88 t; omega⟩ : Fin 8448) = r := Fin.ext (by
    show 768 * ((8 * (r.val / 768) + C.val / 512) / 8) + r.val % 768 = r.val; omega)
  have eC : (⟨512 * (t.val % 8) + C.val % 512, by omega⟩ : Fin 4096) = C := Fin.ext (by
    show 512 * ((8 * (r.val / 768) + C.val / 512) % 8) + C.val % 512 = C.val; omega)
  exact Eq.trans (congrArg₂ (fun a b => (dats m 0 c).arrAt 4 cfg0.N (ix2 (n0 := 8448) (n1 := 4096) a b)) er.symm eC.symm)
    (e.trans (congrArg₂ (res (lhs m c) (wts m c) (xs m c) (mods m c)) er eC))

end Cert.Out

end
-- ==== Proof.LatentRun.lean ====
/- What one grid point of the latent flash call stores, found by running its body symbolically: the pieces of the
   output block as a function of the inputs' blocks and of what the three scratch buffers held before. -/
module

public import proofs.«01_k».proof.Proof.Gen.Kernel5Ideal.Frame.Runs

@[expose] public section

set_option maxRecDepth 16384

noncomputable section

namespace Cert.Latent

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 1000000 in
/-- The pieces that the body stores into the output block, last first, as a function of what the scratch buffers held
    when it began, with the triple that says so. -/
def run (c : Dev nD) (i : grid0.Coords) (arg2 : Memref sig .tc .vmem S4096x256 .bf16) (harg2 : arg2.IsWhole)
    (arg3 : Memref sig .tc .vmem S8448x256 .bf16) (harg3 : arg3.IsWhole)
    (arg4 : Memref sig .tc .vmem S8448x128 .bf16) (harg4 : arg4.IsWhole)
    (arg6 : Memref sig .tc .vmem S4096x128 .bf16) (harg6 : arg6.IsWhole)
    (arg7 : Memref sig .tc .vmem S4x1024x128 .f32) (harg7 : arg7.IsWhole)
    (arg8 : Memref sig .tc .vmem S4x1024x128 .f32) (harg8 : arg8.IsWhole)
    (arg9 : Memref sig .tc .vmem S4x1024x128 .f32) (harg9 : arg9.IsWhole)
    (x0 : Vec F S4096x256 .bf16) (x1 : Vec F S8448x256 .bf16) (x2 : Vec F S8448x128 .bf16) :
    { L : BufTy.Contents (Elt F) arg7.view.ty → BufTy.Contents (Elt F) arg8.view.ty →
        BufTy.Contents (Elt F) arg9.view.ty → List (View.Piece (Elt F) S4096x128 .bf16) //
      ∀ (E : Set ℕ) (K : PUnit → sProp 𝕄) (g7 : BufTy.Contents (Elt F) arg7.view.ty)
        (g8 : BufTy.Contents (Elt F) arg8.view.ty) (g9 : BufTy.Contents (Elt F) arg9.view.ty),
        iprop(owns (c : Thread nD τ) arg2 fullShare x0 ∗ owns (c : Thread nD τ) arg3 fullShare x1
            ∗ owns (c : Thread nD τ) arg4 fullShare x2 ∗ (∃ d, owns (c : Thread nD τ) arg6 fullShare d)
            ∗ (arg7.view.loc (c : Thread nD τ) ↦[arg7.view.set]{fullShare} g7)
            ∗ (arg8.view.loc (c : Thread nD τ) ↦[arg8.view.set]{fullShare} g8)
            ∗ (arg9.view.loc (c : Thread nD τ) ↦[arg9.view.set]{fullShare} g9)
            ∗ (iprop(owns (c : Thread nD τ) arg2 fullShare x0 ∗ owns (c : Thread nD τ) arg3 fullShare x1
                ∗ owns (c : Thread nD τ) arg4 fullShare x2
                ∗ (∃ f, arg6.view.loc (c : Thread nD τ) ↦[arg6.view.set]{fullShare} arg6.view.writes (Elt F) f (L g7 g8 g9))
                ∗ (∃ d, owns (c : Thread nD τ) arg7 fullShare d) ∗ (∃ d, owns (c : Thread nD τ) arg8 fullShare d)
                ∗ (∃ d, owns (c : Thread nD τ) arg9 fullShare d)) -∗ K ⟨⟩))
          ⊢ wp frame (wpE (defs₀ (F := F)) Variants.none c none) E
              (cc0_flash i arg2 harg2 arg3 harg3 arg4 harg4 (Memref.whole main_arg4) (Memref.isWhole_whole _) arg6 harg6
                arg7 harg7 arg8 harg8 arg9 harg9) K } := by
  refine ⟨?_, fun E K g7 g8 g9 => ?run⟩
  case run =>
    simp only [cc0_flash_eq_skeleton]; unfold cc0_flash_skel
    simp only [k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%d3, %f3, -, H3⟩, HS0, HS1, HS2, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Latent

end
-- ==== Proof.LatentStep.lean ====
/- The latent flash call's steps: the same running softmax over scores of 256 features, and what a trip of its loop stores. -/
module

public import proofs.«01_k».proof.Proof.LatentRun
public import proofs.«01_k».proof.Proof.State

@[expose] public section

set_option maxRecDepth 16384

noncomputable section

namespace Cert.Latent

open Cert.Kernel5Ideal Cert.Kernel5Ideal.Gen Idealize.ShloMosaic Idealize.ShloMosaic.TcCoe
  Idealize.ShloMosaic.Tactic Idealize.SL.Sem
open Cert.Flash (Chain stepS firstS finish slabs slabs_of rd)

variable {F : FTy → Type} [FloatOps F]

/-- The scores of a chain's queries against a chunk of 2048 keys. -/
def score (q : Vec F S1024x256 .bf16) (k : Vec F S2048x256 .bf16) : FVec F S1024x2048 .f32 :=
  matmul dot_S1024x256_S2048x256_S1024x2048_1_1_0_0_n_n none
    (shapeCast S1024x256 q shapeCasts_S1024x256_S1024x256)
    (shapeCast S2048x256 k shapeCasts_S2048x256_S2048x256)
    (constant S1024x2048 .f32 0x00000000#32)

/-- The scores of a chain's queries against the 256 context keys. -/
def score₀ (q : Vec F S1024x256 .bf16) (k : Vec F S256x256 .bf16) : FVec F S1024x256 .f32 :=
  matmul dot_S1024x256_S256x256_S1024x256_1_1_0_0_n_n none
    (shapeCast S1024x256 q shapeCasts_S1024x256_S1024x256)
    (shapeCast S256x256 k shapeCasts_S256x256_S256x256)
    (constant S1024x256 .f32 0x00000000#32)

/-- Chain `ci`'s rows lie inside the block of queries. -/
theorem rows_fit (ci : Fin 4) (a : Fin 2) :
    (![1024 * ci.val, 0] : Fin 2 → Nat) a + S1024x256.size a ≤ S4096x256.size a := by
  revert ci a; decide

/-- Chain `ci`'s rows. -/
abbrev rowsRect (ci : Fin 4) : Rect S4096x256 := Rect.unit ![1024 * ci.val, 0] S1024x256.size (rows_fit ci)

/-- Chain `ci`'s queries. -/
def rdQ (arg : Memref sig .tc .vmem S4096x256 .bf16) (f : BufTy.Contents (Elt F) arg.view.ty) (ci : Fin 4) :
    Vec F S1024x256 .bf16 := View.readAt (Elt F) arg.view (rowsRect ci).toLoadRect f

/-- Chunk `k` of the keys. -/
def rdK (arg : Memref sig .tc .vmem S8448x256 .bf16) (f : BufTy.Contents (Elt F) arg.view.ty)
    (k : Fin k0_t1_loop.trips) : Vec F S2048x256 .bf16 :=
  View.readAt (Elt F) arg.view (Rect.unit (s := S8448x256) (k0_off1 k) S2048x256.size (k0_off1_inb k)).toLoadRect f

/-- Chunk `k` of the values. -/
def rdV (arg : Memref sig .tc .vmem S8448x128 .bf16) (f : BufTy.Contents (Elt F) arg.view.ty)
    (k : Fin k0_t1_loop.trips) : Vec F S2048x128 .bf16 :=
  View.readAt (Elt F) arg.view (Rect.unit (s := S8448x128) (k0_off2 k) S2048x128.size (k0_off2_inb k)).toLoadRect f

/-- The context's keys. -/
def rdKC (arg : Memref sig .tc .vmem S8448x256 .bf16) (f : BufTy.Contents (Elt F) arg.view.ty) :
    Vec F S256x256 .bf16 :=
  View.readAt (Elt F) arg.view (Rect.unit (s := S8448x256) ![8192, 0] S256x256.size inb_S8448x256_S256x256_8192_0).toLoadRect f

/-- The context's values. -/
def rdVC (arg : Memref sig .tc .vmem S8448x128 .bf16) (f : BufTy.Contents (Elt F) arg.view.ty) :
    Vec F S256x128 .bf16 :=
  View.readAt (Elt F) arg.view (Rect.unit (s := S8448x128) ![8192, 0] S256x128.size inb_S8448x128_S256x128_8192_0).toLoadRect f

section Trip

variable (𝒱 : Variants) (c : Dev nD) (bd : Option 𝒱.V) (i : grid0.Coords) (arg2 : Memref sig .tc .vmem S4096x256 .bf16) (harg2 : arg2.IsWhole) (arg3 : Memref sig .tc .vmem S8448x256 .bf16) (harg3 : arg3.IsWhole) (arg4 : Memref sig .tc .vmem S8448x128 .bf16) (harg4 : arg4.IsWhole) (arg5 : Memref sig .tc .hbm S8448x4096 .bf16) (harg5 : arg5.IsWhole) (arg6 : Memref sig .tc .vmem S4096x128 .bf16) (harg6 : arg6.IsWhole) (arg7 : Memref sig .tc .vmem S4x1024x128 .f32) (harg7 : arg7.IsWhole) (arg8 : Memref sig .tc .vmem S4x1024x128 .f32) (harg8 : arg8.IsWhole) (arg9 : Memref sig .tc .vmem S4x1024x128 .f32) (harg9 : arg9.IsWhole) (v97 : FVec F S1024x128 .f32) (v106 : FVec F S1024x128 .f32) (v110 : Vec F S1x1024x128 .f32) (X2 : BufTy.Contents (Elt F) arg2.view.ty) (X3 : BufTy.Contents (Elt F) arg3.view.ty) (X4 : BufTy.Contents (Elt F) arg4.view.ty)
  (k : Fin k0_t1_loop.trips) (f7 : BufTy.Contents (Elt F) arg7.view.ty) (f8 : BufTy.Contents (Elt F) arg8.view.ty) (f9 : BufTy.Contents (Elt F) arg9.view.ty)

/-- What a trip makes of a chain's state as the scratch buffers hold it. -/
def stepped (ci : Fin 4) : Chain F :=
  stepS (score (rdQ arg2 X2 ci) (rdK arg3 X3 k)) (rdV arg4 X4 k) ⟨rd arg7 f7 ci, rd arg8 f8 ci, rd arg9 f9 ci⟩

/-- A trip stores each chain's new maximum. -/
theorem trip_m :
    (trip_k0_t1 (F := F) 𝒱 c bd i arg2 harg2 arg3 harg3 arg4 harg4 arg5 harg5 arg6 harg6 arg7 harg7 arg8 harg8 arg9 harg9 v97 v106 v110 X2 X3 X4 k).1 f7 f8 f9
      = slabs fun ci => (stepped arg2 arg3 arg4 arg7 arg8 arg9 X2 X3 X4 k f7 f8 f9 ci).m := by
  unfold trip_k0_t1
  exact slabs_of rfl rfl rfl rfl

/-- A trip stores each chain's new lane sums. -/
theorem trip_l :
    (trip_k0_t1 (F := F) 𝒱 c bd i arg2 harg2 arg3 harg3 arg4 harg4 arg5 harg5 arg6 harg6 arg7 harg7 arg8 harg8 arg9 harg9 v97 v106 v110 X2 X3 X4 k).2.1 f7 f8 f9
      = slabs fun ci => (stepped arg2 arg3 arg4 arg7 arg8 arg9 X2 X3 X4 k f7 f8 f9 ci).l := by
  unfold trip_k0_t1
  exact slabs_of rfl rfl rfl rfl

/-- A trip stores each chain's new weighted values. -/
theorem trip_a :
    (trip_k0_t1 (F := F) 𝒱 c bd i arg2 harg2 arg3 harg3 arg4 harg4 arg5 harg5 arg6 harg6 arg7 harg7 arg8 harg8 arg9 harg9 v97 v106 v110 X2 X3 X4 k).2.2.1 f7 f8 f9
      = slabs fun ci => (stepped arg2 arg3 arg4 arg7 arg8 arg9 X2 X3 X4 k f7 f8 f9 ci).a := by
  unfold trip_k0_t1
  exact slabs_of rfl rfl rfl rfl

end Trip

end Cert.Latent
-- ==== Proof.LatentState.lean ====
/- What one grid point of the latent flash call stores, as a function of its blocks alone. -/
module

public import proofs.«01_k».proof.Proof.LatentStep

@[expose] public section

set_option maxRecDepth 16384

noncomputable section

namespace Cert.Latent

open Cert.Kernel5Ideal Cert.Kernel5Ideal.Gen Idealize.ShloMosaic Idealize.ShloMosaic.TcCoe
  Idealize.ShloMosaic.Tactic Idealize.SL.Sem
open Cert.Flash (Chain stepS firstS finish slabs rd rd_slabs)

variable {F : FTy → Type} [FloatOps F]

/-- The four stored pieces of the output block, last first. -/
def pieces (x : Fin 4 → FVec F S1024x128 .bf16) : List (View.Piece (Elt F) S4096x128 .bf16) :=
  [⟨Rect.unit ![3072, 0] ![1024, 128] inb_S4096x128_S1024x128_3072_0, x 3⟩,
    ⟨Rect.unit ![2048, 0] ![1024, 128] inb_S4096x128_S1024x128_2048_0, x 2⟩,
    ⟨Rect.unit ![1024, 0] ![1024, 128] inb_S4096x128_S1024x128_1024_0, x 1⟩,
    ⟨Rect.unit ![0, 0] ![1024, 128] inb_S4096x128_S1024x128_0_0, x 0⟩]

/-- Equal pieces make equal lists. -/
theorem pieces_of {x : Fin 4 → FVec F S1024x128 .bf16} {a b c d : FVec F S1024x128 .bf16} (h3 : a = x 3)
    (h2 : b = x 2) (h1 : c = x 1) (h0 : d = x 0) :
    ([⟨Rect.unit ![3072, 0] ![1024, 128] inb_S4096x128_S1024x128_3072_0, a⟩,
      ⟨Rect.unit ![2048, 0] ![1024, 128] inb_S4096x128_S1024x128_2048_0, b⟩,
      ⟨Rect.unit ![1024, 0] ![1024, 128] inb_S4096x128_S1024x128_1024_0, c⟩,
      ⟨Rect.unit ![0, 0] ![1024, 128] inb_S4096x128_S1024x128_0_0, d⟩] :
        List (View.Piece (Elt F) S4096x128 .bf16)) = pieces x := by
  subst h3 h2 h1 h0; rfl

/-- Chain `ci`'s queries in a block. -/
def rowsOf (x0 : Vec F S4096x256 .bf16) (ci : Fin 4) : Vec F S1024x256 .bf16 :=
  fun j => x0 ((rowsRect ci).toLoadRect.idx j)

/-- Chunk `k` of a block of keys. -/
def keysOf (x : Vec F S8448x256 .bf16) (k : Fin k0_t1_loop.trips) : Vec F S2048x256 .bf16 :=
  fun j => x ((Rect.unit (s := S8448x256) (k0_off1 k) S2048x256.size (k0_off1_inb k)).toLoadRect.idx j)

/-- Chunk `k` of a block of values. -/
def valuesOf (x : Vec F S8448x128 .bf16) (k : Fin k0_t1_loop.trips) : Vec F S2048x128 .bf16 :=
  fun j => x ((Rect.unit (s := S8448x128) (k0_off2 k) S2048x128.size (k0_off2_inb k)).toLoadRect.idx j)

/-- The context's part of a block of keys. -/
def keysCtx (x : Vec F S8448x256 .bf16) : Vec F S256x256 .bf16 :=
  fun j => x ((Rect.unit (s := S8448x256) ![8192, 0] S256x256.size inb_S8448x256_S256x256_8192_0).toLoadRect.idx j)

/-- The context's part of a block of values. -/
def valuesCtx (x : Vec F S8448x128 .bf16) : Vec F S256x128 .bf16 :=
  fun j => x ((Rect.unit (s := S8448x128) ![8192, 0] S256x128.size inb_S8448x128_S256x128_8192_0).toLoadRect.idx j)

/-- What a chunk makes of a chain's state. -/
def stepOf (x0 : Vec F S4096x256 .bf16) (x1 : Vec F S8448x256 .bf16) (x2 : Vec F S8448x128 .bf16) (ci : Fin 4)
    (k : Fin k0_t1_loop.trips) (c : Chain F) : Chain F :=
  stepS (score (rowsOf x0 ci) (keysOf x1 k)) (valuesOf x2 k) c

/-- A chain's state after all keys and values. -/
def chainOf (x0 : Vec F S4096x256 .bf16) (x1 : Vec F S8448x256 .bf16) (x2 : Vec F S8448x128 .bf16) (ci : Fin 4) : Chain F :=
  stepOf x0 x1 x2 ci ⟨3, by decide⟩ (stepOf x0 x1 x2 ci ⟨2, by decide⟩ (stepOf x0 x1 x2 ci ⟨1, by decide⟩
    (stepOf x0 x1 x2 ci ⟨0, by decide⟩ (firstS (score₀ (rowsOf x0 ci) (keysCtx x1)) (valuesCtx x2)))))

/-- A chain's output. -/
def rowsOut (x0 : Vec F S4096x256 .bf16) (x1 : Vec F S8448x256 .bf16) (x2 : Vec F S8448x128 .bf16) (ci : Fin 4) :
    FVec F S1024x128 .bf16 := finish (chainOf x0 x1 x2 ci).l (chainOf x0 x1 x2 ci).a

/-- The output block: the four chains' rows, one under the other. -/
def outBlock (x0 : Vec F S4096x256 .bf16) (x1 : Vec F S8448x256 .bf16) (x2 : Vec F S8448x128 .bf16) :
    Vec F S4096x128 .bf16 := fun y =>
  rowsOut x0 x1 x2 ⟨(y 0).val / 1024, by have : (y 0).val < 4096 := (y 0).isLt; omega⟩
    (ix2 (n0 := 1024) (n1 := 128) ⟨(y 0).val % 1024, Nat.mod_lt _ (by decide)⟩ (y 1))

section Loop

variable (c : Dev nD) (i : grid0.Coords) (arg2 : Memref sig .tc .vmem S4096x256 .bf16) (harg2 : arg2.IsWhole)
  (arg3 : Memref sig .tc .vmem S8448x256 .bf16) (harg3 : arg3.IsWhole)
  (arg4 : Memref sig .tc .vmem S8448x128 .bf16) (harg4 : arg4.IsWhole)
  (arg6 : Memref sig .tc .vmem S4096x128 .bf16) (harg6 : arg6.IsWhole)
  (arg7 : Memref sig .tc .vmem S4x1024x128 .f32) (harg7 : arg7.IsWhole)
  (arg8 : Memref sig .tc .vmem S4x1024x128 .f32) (harg8 : arg8.IsWhole)
  (arg9 : Memref sig .tc .vmem S4x1024x128 .f32) (harg9 : arg9.IsWhole)
  (x0 : Vec F S4096x256 .bf16) (x1 : Vec F S8448x256 .bf16) (x2 : Vec F S8448x128 .bf16)
  (g7 : BufTy.Contents (Elt F) arg7.view.ty) (g8 : BufTy.Contents (Elt F) arg8.view.ty)
  (g9 : BufTy.Contents (Elt F) arg9.view.ty)

/-- A chain's state after the context, from the blocks as they lie in memory. -/
def begun (ci : Fin 4) : Chain F :=
  firstS (score₀ (rdQ arg2 (harg2.unread x0) ci) (rdKC arg3 (harg3.unread x1))) (rdVC arg4 (harg4.unread x2))

/-- The scratch buffers' stores before the loop and after `n` trips of it. -/
def after (v97 : FVec F S1024x128 .f32) (v106 : FVec F S1024x128 .f32) (v110 : Vec F S1x1024x128 .f32) (n : ℕ) :=
  pb_k0_t1 (F := F) Variants.none c none i arg2 harg2 arg3 harg3 arg4 harg4 (Memref.whole main_arg4)
    (Memref.isWhole_whole _) arg6 harg6 arg7 harg7 arg8 harg8 arg9 harg9 v97 v106 v110
    (harg2.unread x0) (harg3.unread x1) (harg4.unread x2)
    (arg7.view.writes (Elt F) arg7.view.junk (slabs fun ci => (begun arg2 harg2 arg3 harg3 arg4 harg4 x0 x1 x2 ci).m))
    (arg8.view.writes (Elt F) arg8.view.junk (slabs fun ci => (begun arg2 harg2 arg3 harg3 arg4 harg4 x0 x1 x2 ci).l))
    (arg9.view.writes (Elt F) arg9.view.junk (slabs fun ci => (begun arg2 harg2 arg3 harg3 arg4 harg4 x0 x1 x2 ci).a)) n

/-- What a grid point stores: each chain's values over its sums, as the loop's stores left them. -/
theorem run_pieces : ∃ v97 v106 v110,
    (run (F := F) c i arg2 harg2 arg3 harg3 arg4 harg4 arg6 harg6 arg7 harg7 arg8 harg8 arg9 harg9 x0 x1 x2).1 g7 g8 g9
      = pieces fun ci => finish
          (rd arg8 (arg8.view.writes (Elt F) arg8.view.junk
            ((after c i arg2 harg2 arg3 harg3 arg4 harg4 arg6 harg6 arg7 harg7 arg8 harg8 arg9 harg9 x0 x1 x2
              v97 v106 v110 k0_t1_loop.trips).2.1
              ++ slabs fun ci => (begun arg2 harg2 arg3 harg3 arg4 harg4 x0 x1 x2 ci).l)) ci)
          (rd arg9 (arg9.view.writes (Elt F) arg9.view.junk
            ((after c i arg2 harg2 arg3 harg3 arg4 harg4 arg6 harg6 arg7 harg7 arg8 harg8 arg9 harg9 x0 x1 x2
              v97 v106 v110 k0_t1_loop.trips).2.2
              ++ slabs fun ci => (begun arg2 harg2 arg3 harg3 arg4 harg4 x0 x1 x2 ci).a)) ci) := by
  unfold run
  refine ⟨run.sl.r_7 c arg2 harg2 arg3 harg3 x0 x1, run.sl.r_8 c arg2 harg2 arg3 harg3 arg4 harg4 x0 x1 x2,
    run.sl.v110 arg9 g9, pieces_of ?_ ?_ ?_ ?_⟩
  all_goals sl_kernel_rfl

/-- A chain's state as the loop's first `n` trips leave it. -/
def heldAfter (v97 : FVec F S1024x128 .f32) (v106 : FVec F S1024x128 .f32) (v110 : Vec F S1x1024x128 .f32) (n : ℕ)
    (ci : Fin 4) : Chain F :=
  let p := after c i arg2 harg2 arg3 harg3 arg4 harg4 arg6 harg6 arg7 harg7 arg8 harg8 arg9 harg9 x0 x1 x2
    v97 v106 v110 n
  ⟨rd arg7 (arg7.view.writes (Elt F) arg7.view.junk
      (p.1 ++ slabs fun ci => (begun arg2 harg2 arg3 harg3 arg4 harg4 x0 x1 x2 ci).m)) ci,
    rd arg8 (arg8.view.writes (Elt F) arg8.view.junk
      (p.2.1 ++ slabs fun ci => (begun arg2 harg2 arg3 harg3 arg4 harg4 x0 x1 x2 ci).l)) ci,
    rd arg9 (arg9.view.writes (Elt F) arg9.view.junk
      (p.2.2 ++ slabs fun ci => (begun arg2 harg2 arg3 harg3 arg4 harg4 x0 x1 x2 ci).a)) ci⟩

/-- Before the loop the scratch buffers hold what the context left. -/
theorem heldAfter_zero (v97 v106 v110) (ci : Fin 4) :
    heldAfter c i arg2 harg2 arg3 harg3 arg4 harg4 arg6 harg6 arg7 harg7 arg8 harg8 arg9 harg9 x0 x1 x2
      v97 v106 v110 0 ci = begun arg2 harg2 arg3 harg3 arg4 harg4 x0 x1 x2 ci := by
  unfold heldAfter after
  rw [pb_k0_t1.eq_1]
  simp only [List.nil_append, rd_slabs]

/-- A trip takes one step. -/
theorem heldAfter_succ (v97 v106 v110) (k : Fin k0_t1_loop.trips) (ci : Fin 4) :
    heldAfter c i arg2 harg2 arg3 harg3 arg4 harg4 arg6 harg6 arg7 harg7 arg8 harg8 arg9 harg9 x0 x1 x2
      v97 v106 v110 (k.val + 1) ci
      = stepS (score (rdQ arg2 (harg2.unread x0) ci) (rdK arg3 (harg3.unread x1) k)) (rdV arg4 (harg4.unread x2) k)
          (heldAfter c i arg2 harg2 arg3 harg3 arg4 harg4 arg6 harg6 arg7 harg7 arg8 harg8 arg9 harg9 x0 x1 x2
            v97 v106 v110 k.val ci) := by
  unfold heldAfter after
  rw [pb_k0_t1_succ]
  unfold tripL_k0_t1
  simp only [trip_m, trip_l, trip_a, List.append_assoc, View.writes_append, rd_slabs]
  rfl

/-- The loop makes four trips. -/
theorem trips_four : k0_t1_loop.trips = 4 := by decide

/-- The whole loop on a chain's state: four steps from the context's. -/
theorem heldAfter_four (v97 v106 v110) (ci : Fin 4) :
    heldAfter c i arg2 harg2 arg3 harg3 arg4 harg4 arg6 harg6 arg7 harg7 arg8 harg8 arg9 harg9 x0 x1 x2
      v97 v106 v110 k0_t1_loop.trips ci = chainOf x0 x1 x2 ci := by
  have hq : rdQ arg2 (harg2.unread x0) ci = rowsOf x0 ci := by
    funext j; show View.read (Elt F) arg2.view _ _ = _; rw [harg2.read_unread]; rfl
  have h3 : ∀ k, rdK arg3 (harg3.unread x1) k = keysOf x1 k := fun k => by
    funext j; show View.read (Elt F) arg3.view _ _ = _; rw [harg3.read_unread]; rfl
  have h4 : ∀ k, rdV arg4 (harg4.unread x2) k = valuesOf x2 k := fun k => by
    funext j; show View.read (Elt F) arg4.view _ _ = _; rw [harg4.read_unread]; rfl
  have h3c : rdKC arg3 (harg3.unread x1) = keysCtx x1 := by
    funext j; show View.read (Elt F) arg3.view _ _ = _; rw [harg3.read_unread]; rfl
  have h4c : rdVC arg4 (harg4.unread x2) = valuesCtx x2 := by
    funext j; show View.read (Elt F) arg4.view _ _ = _; rw [harg4.read_unread]; rfl
  have hs := fun n (h : n < k0_t1_loop.trips) => heldAfter_succ c i arg2 harg2 arg3 harg3 arg4 harg4 arg6 harg6
    arg7 harg7 arg8 harg8 arg9 harg9 x0 x1 x2 v97 v106 v110 ⟨n, h⟩ ci
  have e : k0_t1_loop.trips = 3 + 1 := by decide
  rw [congrArg (fun n => heldAfter c i arg2 harg2 arg3 harg3 arg4 harg4 arg6 harg6 arg7 harg7 arg8 harg8 arg9 harg9
    x0 x1 x2 v97 v106 v110 n ci) e]
  have h0 := hs 0 (by decide)
  have h1 := hs 1 (by decide)
  have h2 := hs 2 (by decide)
  have h3' := hs 3 (by decide)
  dsimp only at h0 h1 h2 h3' ⊢
  rw [h3', h2, h1, h0, heldAfter_zero]
  unfold begun chainOf stepOf
  rw [hq, h3c, h4c, h3, h3, h3, h3, h4, h4, h4, h4]

/-- What a grid point stores, from its blocks alone. -/
theorem run_rows :
    (run (F := F) c i arg2 harg2 arg3 harg3 arg4 harg4 arg6 harg6 arg7 harg7 arg8 harg8 arg9 harg9 x0 x1 x2).1 g7 g8 g9
      = pieces fun ci => rowsOut x0 x1 x2 ci := by
  obtain ⟨v97, v106, v110, h⟩ := run_pieces c i arg2 harg2 arg3 harg3 arg4 harg4 arg6 harg6 arg7 harg7 arg8 harg8
    arg9 harg9 x0 x1 x2 g7 g8 g9
  rw [h]
  refine congrArg pieces (funext fun ci => ?_)
  have e := heldAfter_four c i arg2 harg2 arg3 harg3 arg4 harg4 arg6 harg6 arg7 harg7 arg8 harg8 arg9 harg9 x0 x1 x2
    v97 v106 v110 ci
  unfold rowsOut
  rw [← e]
  rfl

end Loop

/-- What is stored, read back. -/
theorem read_rows (arg : Memref sig .tc .vmem S4096x128 .bf16) (f : BufTy.Contents (Elt F) arg.view.ty)
    (x0 : Vec F S4096x256 .bf16) (x1 : Vec F S8448x256 .bf16) (x2 : Vec F S8448x128 .bf16) :
    View.read (Elt F) arg.view (arg.view.writes (Elt F) f (pieces fun ci => rowsOut x0 x1 x2 ci)) = outBlock x0 x1 x2 := by
  funext y
  have hlt : (y 0).val < 4096 := (y 0).isLt
  have miss : ∀ (p : View.Piece (Elt F) S4096x128 .bf16) (L : List (View.Piece (Elt F) S4096x128 .bf16)) (o : ℕ),
      p.1.off 0 = o → p.1.stride 0 = 1 → p.1.size 0 = 1024 → (y 0).val < o →
      View.read (Elt F) arg.view (arg.view.writes (Elt F) f (p :: L)) y
        = View.read (Elt F) arg.view (arg.view.writes (Elt F) f L) y := fun p L o ho hs hn hne =>
    View.read_writes_cons_miss_of_axis arg.view f p L y 0 o 1024 ho hs hn (by omega)
  have hy : ∀ (n : Fin 4), (y 0).val / 1024 = n.val → ∀ a, (y a).val
      = (![1024 * n.val, 0] : Fin 2 → ℕ) a + 1 * (ix2 (n0 := 1024) (n1 := 128) ⟨(y 0).val % 1024, Nat.mod_lt _ (by decide)⟩ (y 1) a).val := by
    intro n hn a
    fin_cases a
    · show (y 0).val = 1024 * n.val + 1 * ((y 0).val % 1024); omega
    · show (y 1).val = 0 + 1 * (y 1).val; omega
  have hb : ∀ n : Fin 4, (y 0).val / 1024 = n.val → outBlock x0 x1 x2 y
      = rowsOut x0 x1 x2 n (ix2 (n0 := 1024) (n1 := 128) ⟨(y 0).val % 1024, Nat.mod_lt _ (by decide)⟩ (y 1)) := by
    intro n hn
    have e : (⟨(y 0).val / 1024, by omega⟩ : Fin 4) = n := Fin.ext hn
    unfold outBlock; rw [e]
  unfold pieces
  have hc : (y 0).val / 1024 = 0 ∨ (y 0).val / 1024 = 1 ∨ (y 0).val / 1024 = 2 ∨ (y 0).val / 1024 = 3 := by omega
  rcases hc with h | h | h | h
  · rw [miss _ _ 3072 rfl rfl rfl (by omega), miss _ _ 2048 rfl rfl rfl (by omega), miss _ _ 1024 rfl rfl rfl (by omega), hb 0 h]
    exact View.read_writes_cons_hit_of_coords arg.view f
      (Rect.unit ![0, 0] ![1024, 128] inb_S4096x128_S1024x128_0_0) (rowsOut x0 x1 x2 0) _ _ y (hy 0 h)
  · rw [miss _ _ 3072 rfl rfl rfl (by omega), miss _ _ 2048 rfl rfl rfl (by omega), hb 1 h]
    exact View.read_writes_cons_hit_of_coords arg.view f
      (Rect.unit ![1024, 0] ![1024, 128] inb_S4096x128_S1024x128_1024_0) (rowsOut x0 x1 x2 1) _ _ y (hy 1 h)
  · rw [miss _ _ 3072 rfl rfl rfl (by omega), hb 2 h]
    exact View.read_writes_cons_hit_of_coords arg.view f
      (Rect.unit ![2048, 0] ![1024, 128] inb_S4096x128_S1024x128_2048_0) (rowsOut x0 x1 x2 2) _ _ y (hy 2 h)
  · rw [hb 3 h]
    exact View.read_writes_cons_hit_of_coords arg.view f
      (Rect.unit ![3072, 0] ![1024, 128] inb_S4096x128_S1024x128_3072_0) (rowsOut x0 x1 x2 3) _ _ y (hy 3 h)

end Cert.Latent
-- ==== Proof.LatentLaunch.lean ====
/- The latent flash call's launch: its windows' contents, point by point, and the run of the whole program. -/
module

public import proofs.«01_k».proof.Proof.LatentState
public import Idealize.ShloMosaic.Lib.Claim

@[expose] public section

set_option maxRecDepth 16384

noncomputable section

namespace Cert.Latent

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the output window's buffer holds after a point: the block computed from the point's queries, keys, values. -/
def stored (c : Dev nD) (t : Fin cfg0.N) : Vec F S4096x128 .bf16 :=
  outBlock (X0_0 m c t) (iblk m c 1 t) (iblk m c 2 t)

/-- The launch's windows: the arrays as found, each input kept, the output at what is stored. -/
def latDat (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => stored m c t
  Φ _ := Pipeline.ΦA spec0 c
  q _ := fullShare
  owed _ := 0

/-- The arrays are those that the host's operations leave. -/
theorem lat_A (c : Dev nD) (w : Fin cfg0.W) : (latDat m 0 c).A w = V m c (Pipeline.arrRef spec0 w) := by
  dsimp only [latDat]

/-- The queries' window keeps its block. -/
theorem lat_after0 (c : Dev nD) (t : Fin cfg0.N) : (latDat m 0 c).after 0 t = X0_0 m c t := by dsimp only [latDat]
/-- The keys' window keeps its block. -/
theorem lat_after1 (c : Dev nD) (t : Fin cfg0.N) : (latDat m 0 c).after 1 t = iblk m c 1 t := by dsimp only [latDat]
/-- The values' window keeps its block. -/
theorem lat_after2 (c : Dev nD) (t : Fin cfg0.N) : (latDat m 0 c).after 2 t = iblk m c 2 t := by dsimp only [latDat]
/-- The output's window ends at what is stored. -/
theorem lat_after3 (c : Dev nD) (t : Fin cfg0.N) : (latDat m 0 c).after 3 t = stored m c t := by dsimp only [latDat]

/-- A buffer owned at something is its cells at something. -/
theorem cells_of_owns (c : Dev nD) (M : Memref sig .tc .vmem S4x1024x128 .f32) :
    (iprop(∃ d, owns (c : Thread nD τ) M fullShare d) : sProp 𝕄)
      ⊢ iprop(∃ g, M.view.loc (c : Thread nD τ) ↦[M.view.set]{fullShare} g) := by
  unfold owns
  iintro ⟨%d, %f, -, H⟩
  iexists f
  iexact H

/-- The body on a point's buffers: inputs kept, the output at `stored`, the scratch buffers returned at something. -/
theorem point_runs (c : Dev nD) (t : Fin cfg0.N) :
    iprop((latDat m 0 c).Φ t.castSucc ∗ (latDat m 0 c).owesAt () t.castSucc
      ∗ (∃ d, owns (c : Thread nD τ) (ms0_0 t) fullShare ((latDat m 0 c).before 0 t d))
      ∗ (∃ d, owns (c : Thread nD τ) (ms0_1 t) fullShare ((latDat m 0 c).before 1 t d))
      ∗ (∃ d, owns (c : Thread nD τ) (ms0_2 t) fullShare ((latDat m 0 c).before 2 t d))
      ∗ (∃ d, owns (c : Thread nD τ) (ms0_3 t) fullShare ((latDat m 0 c).before 3 t d)))
    ⊢ wp frame (wpE (defs₀ (F := F)) Variants.none c none) Set.univ (bodyAt0 t) (fun _ =>
      iprop((latDat m 0 c).Φ t.succ ∗ (latDat m 0 c).owesAt () t.succ
        ∗ owns (c : Thread nD τ) (ms0_0 t) fullShare ((latDat m 0 c).after 0 t)
        ∗ owns (c : Thread nD τ) (ms0_1 t) fullShare ((latDat m 0 c).after 1 t)
        ∗ owns (c : Thread nD τ) (ms0_2 t) fullShare ((latDat m 0 c).after 2 t)
        ∗ owns (c : Thread nD τ) (ms0_3 t) fullShare ((latDat m 0 c).after 3 t))) := by
  have b0 := before0_0_of m (latDat m 0 c) (lat_A m c 0) (lat_after0 m c) t
  have b1 := before0_1_of m (latDat m 0 c) (lat_A m c 1) (lat_after1 m c) t
  have b2 := before0_2_of m (latDat m 0 c) (lat_A m c 2) (lat_after2 m c) t
  simp only [b0, b1, b2]
  rw [show (latDat m 0 c).Φ t.succ = Pipeline.ΦA spec0 c from rfl,
    show (latDat m 0 c).owesAt () t.succ = (latDat m 0 c).owesAt () t.castSucc from rfl,
    show (latDat m 0 c).Φ t.castSucc = Pipeline.ΦA spec0 c from rfl,
    lat_after0, lat_after1, lat_after2, lat_after3, PhiA0_eq]
  unfold bodyAt0
  iintro ⟨⟨⟨S0, S1, S2⟩, Hg⟩, Ho, ⟨%d0, A0⟩, ⟨%d1, A1⟩, ⟨%d2, A2⟩, ⟨%d3, A3⟩⟩
  ihave T0 := (cells_of_owns c scM0_0) $$ S0
  ihave T1 := (cells_of_owns c scM0_1) $$ S1
  ihave T2 := (cells_of_owns c scM0_2) $$ S2
  icases T0 with ⟨%g7, S0⟩
  icases T1 with ⟨%g8, S1⟩
  icases T2 with ⟨%g9, S2⟩
  iapply ((run c (grid0.coords t) (ms0_0 t) (hs0_0 t) (ms0_1 t) (hs0_1 t) (ms0_2 t) (hs0_2 t) (ms0_3 t) (hs0_3 t)
    scM0_0 (Memref.isWhole_whole _) scM0_1 (Memref.isWhole_whole _) scM0_2 (Memref.isWhole_whole _)
    (X0_0 m c t) (iblk m c 1 t) (iblk m c 2 t)).2 Set.univ _ g7 g8 g9)
  isplitl [A0]; · iexact A0
  isplitl [A1]; · iexact A1
  isplitl [A2]; · iexact A2
  isplitl [A3]; · iexists _; iexact A3
  isplitl [S0]; · iexact S0
  isplitl [S1]; · iexact S1
  isplitl [S2]; · iexact S2
  iintro ⟨A0, A1, A2, ⟨%f, A3⟩, S0, S1, S2⟩
  isplitl [S0 S1 S2 Hg]
  · isplitl [S0 S1 S2]
    · isplitl [S0]
      · iexact S0
      isplitl [S1]
      · iexact S1
      iexact S2
    iexact Hg
  isplitl [Ho]; · iexact Ho
  isplitl [A0]; · iexact A0
  isplitl [A1]; · iexact A1
  isplitl [A2]; · iexact A2
  unfold owns; iexists _; isplitr
  swap; · iexact A3
  ipureintro
  rw [run_rows]
  exact read_rows _ _ _ _ _

/-- Every point meets the pipeline's obligation. -/
theorem point_obligation (c : Dev nD) :
    BodyObligation (latDat (F := F) m 0 c) (defs₀ (F := F)) Variants.none () Set.univ := fun t => by
  rw [bigSep_W0, bigSep_W0, show defs₀ (F := F) .tc cfg0.body (cfg0.bodyArgs t (cfg0.slots t)) = bodyAt0 t by
    unfold defs₀; rw [Defs.onTc_tc]]
  exact triple_restated (point_runs m c t) rfl .rfl fun _ => .rfl

set_option backward.isDefEq.respectTransparency.types false in
/-- The program runs to its end: arrays as the windows tell, every counter at zero. -/
theorem lat_run : θ_run defs (onTc (τ := τ) (main (F := F))) (s₀ m ρ)
    (fun r => (Pipeline.FramePost cfgs (latDat m) 0 (V m)) r ∧ r.2.sem = fun _ => 0) :=
  Pipeline.θ_run_frame (Q' := _) cfgs (latDat m) (0 : Fin 1) launch0 defs₀ Variants.none m ρ main
    (hbody := fun c => (point_obligation m c).loose) (hshare := fun c w => by fin_cases w <;> rfl)
    (howed := fun _ _ => rfl) (V := V m) (hmain := hmain m Variants.none) (hA := lat_A m) (hΦ := fun _ _ => rfl)

/-- The arguments end as they began and every counter at zero. -/
theorem lat_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (latDat m) (lat_A m) ((θ_run defs _ _).mono (fun _ h => h.1) (lat_run m ρ)))
    ((θ_run defs _ _).mono (fun _ h => h.2) (lat_run m ρ))

end Cert.Latent

end
-- ==== Proof.LatentHost.lean ====
/- The host's work before the latent flash call: queries scaled and padded, keys joined from their two parts and padded. -/
module

public import proofs.«01_k».proof.Proof.LatentLaunch
public import proofs.«01_k».proof.Proof.Holds
public import Idealize.ShloMosaic.Lib.KernelVsHost

@[expose] public section

set_option maxRecDepth 16384

noncomputable section

namespace Cert.Latent

open Cert.Kernel5Ideal Cert.Kernel5Ideal.Gen Idealize.ShloMosaic Idealize.ShloMosaic.TcCoe Idealize.SL.Sem

section Any

variable {F : FTy → Type} [FloatOps F]

/-- The scale: one over the root of a score's width times the logarithm of two. -/
def scaleQ : FVec F S_ .f32 :=
  Host.divf (constant S_ .f32 0x3F800000#32)
    (mulf (Host.sqrt (constant S_ .f32 0x43400000#32)) (Host.log (constant S_ .f32 0x40000000#32)))

/-- Each head's 192 columns with 64 zero columns after them, the heads side by side. -/
def padded (x : FVec F S8448x8x192 .bf16) : FVec F S8448x2048 .bf16 :=
  shapeCast S8448x2048 (pad S8448x8x256 ![0, 0, 0] ![0, 0, 64] ![0, 0, 0] x
    (sitofp .bf16 (constantI S_ 32 0#32) : FVec F S_ .bf16) pads_S8448x8x192_S8448x8x256_000_000_0640 h_S_)
    shapeCasts_S8448x8x256_S8448x2048

/-- The queries, scaled. -/
def scaled (x : FVec F S8448x8x192 .f32) : FVec F S8448x8x192 .bf16 :=
  truncf .bf16 (mulf x (broadcastInDim S8448x8x192 ![] bcast_S_S8448x8x192 (scaleQ (F := F)))) bitsLt_bf16_f32

/-- The keys: a head's own part and the rotary part that all heads share. -/
def joined (x : FVec F S8448x8x128 .f32) (p : FVec F S8448x64 .f32) : FVec F S8448x8x192 .bf16 :=
  truncf .bf16 (concatenate S8448x8x192 2 [⟨S8448x8x128, x⟩, ⟨S8448x8x64, broadcastInDim S8448x8x64 ![0, 1, 2]
    bcast_S8448x1x64_S8448x8x64_0_1_2 (broadcastInDim S8448x1x64 ![0, 2] bcast_S8448x64_S8448x1x64_0_2 p)⟩]
    concatenates_S8448x8x128_S8448x8x64_S8448x8x192_d2) bitsLt_bf16_f32

/-- The values, the heads side by side. -/
def sided (x : FVec F S8448x8x128 .f32) : FVec F S8448x1024 .bf16 :=
  shapeCast S8448x1024 (truncf .bf16 x bitsLt_bf16_f32) shapeCasts_S8448x8x128_S8448x1024

variable (m : (ℓ : Loc nD τ sig) → Buf (Elt F) ℓ) (c : Dev nD)

/-- The launch finds the padded queries. -/
theorem V_q : V m c main_v10 = padded (scaled (m ((c : Thread nD τ).loc main_arg0))) := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil,
      List.cons_append, List.nil_append]
  after_results_simp
  rfl

/-- The padded keys. -/
theorem V_k : V m c main_v14
    = padded (joined (m ((c : Thread nD τ).loc main_arg1)) (m ((c : Thread nD τ).loc main_arg2))) := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil,
      List.cons_append, List.nil_append]
  after_results_simp
  rfl

/-- The values. -/
theorem V_v : V m c main_v16 = sided (m ((c : Thread nD τ).loc main_arg3)) := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil,
      List.cons_append, List.nil_append]
  after_results_simp
  rfl

/-- And the output array's first contents, the last argument's. -/
theorem V_out : V m c main_v17 = m ((c : Thread nD τ).loc main_arg4) := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil,
      List.cons_append, List.nil_append]
  after_results_simp
  rfl

end Any

/-- The scale as a real number. -/
def c2 : ℝ := 1 / (Real.sqrt 192 * Real.log 2)

/-- The host's scale is one over the root of 192 times the logarithm of two. -/
theorem scaleQ_at : scaleQ (F := Ideal) (Shape.Idx.first (by decide)) = ((c2 : ℝ) : EReal) := by
  have h1 : Ideal.ofBits .f32 0x3F800000#32 = ((1 : ℝ) : EReal) := by
    simp [Ideal.ofBits, Ideal.ieee]; rw [← EReal.coe_mul]; norm_num
  have h192 : Ideal.ofBits .f32 0x43400000#32 = ((192 : ℝ) : EReal) := by
    simp [Ideal.ofBits, Ideal.ieee]; rw [← EReal.coe_mul]; norm_num
  have h2 : Ideal.ofBits .f32 0x40000000#32 = ((2 : ℝ) : EReal) := by
    simp [Ideal.ofBits, Ideal.ieee]; rw [← EReal.coe_mul]; norm_num
  show Ideal.div (Ideal.ofBits .f32 0x3F800000#32)
    (Ideal.sqrt (Ideal.ofBits .f32 0x43400000#32) * Ideal.log (Ideal.ofBits .f32 0x40000000#32)) = _
  rw [h1, h192, h2]
  have hs : Ideal.sqrt ((192 : ℝ) : EReal) = ((Real.sqrt 192 : ℝ) : EReal) := by simp [Ideal.sqrt_coe]
  have hl : Ideal.log ((2 : ℝ) : EReal) = ((Real.log 2 : ℝ) : EReal) := by
    show (if (2 : ℝ) ≤ 0 then ⊥ else ((Real.log 2 : ℝ) : EReal)) = _
    rw [if_neg (by norm_num)]
  have hne : Real.sqrt 192 * Real.log 2 ≠ 0 := by
    have : 0 < Real.log 2 := Real.log_pos (by norm_num)
    positivity
  rw [hs, hl, ← EReal.coe_mul, Ideal.div_coe hne, ← EReal.coe_mul, one_mul]
  rfl

/-- A padded column that holds an entry. -/
theorem padded_in (x : FVec Ideal S8448x8x192 .bf16) (i : Fin 8448) (n : Fin 8) (d : Fin 192) :
    padded x (ix2 i ⟨256 * n.val + d.val, by omega⟩) = x (ix3 i n d) := by
  unfold padded
  rw [shapeCast_apply _ shapeCasts_S8448x8x256_S8448x2048 _ (ix3 (n0 := 8448) (n1 := 8) (n2 := 256) i n ⟨d.val, by omega⟩) (by
    rw [Shape.rowMajor_val_three, Shape.rowMajor_val_two]
    show (i.val * 8 + n.val) * 256 + d.val = i.val * 2048 + (256 * n.val + d.val); omega)]
  exact pad_apply_of_inside _ _ _ _ _ _ _ _ (ix3 i n d) (fun a => by
    fin_cases a
    · show i.val = 0 + i.val * (0 + 1); omega
    · show n.val = 0 + n.val * (0 + 1); omega
    · show d.val = 0 + d.val * (0 + 1); omega)

/-- A padded column that holds none is zero. -/
theorem padded_out (x : FVec Ideal S8448x8x192 .bf16) (i : Fin 8448) (n : Fin 8) (d : Fin 64) :
    padded x (ix2 i ⟨256 * n.val + (192 + d.val), by omega⟩) = 0 := by
  unfold padded
  rw [shapeCast_apply _ shapeCasts_S8448x8x256_S8448x2048 _ (ix3 (n0 := 8448) (n1 := 8) (n2 := 256) i n ⟨192 + d.val, by omega⟩) (by
    rw [Shape.rowMajor_val_three, Shape.rowMajor_val_two]
    show (i.val * 8 + n.val) * 256 + (192 + d.val) = i.val * 2048 + (256 * n.val + (192 + d.val)); omega)]
  refine Eq.trans (pad_apply_of_not_inside _ _ _ _ _ _ _ _ 2 (fun h => ?_)) ?_
  · have h2 : (192 + d.val - 0) / (0 + 1) < 192 := h.2.2
    omega
  · show ((((0#32 : BitVec 32).toInt : ℝ)) : EReal) = 0
    simp

/-- A scaled query's entry. -/
theorem scaled_at (x : FVec Ideal S8448x8x192 .f32) (i : S8448x8x192.Idx) : scaled x i = x i * ((c2 : ℝ) : EReal) :=
  congrArg (x i * ·) scaleQ_at

/-- A head's part of a key. -/
theorem joined_nope (x : FVec Ideal S8448x8x128 .f32) (p : FVec Ideal S8448x64 .f32) (i : Fin 8448) (n : Fin 8) (d : Fin 128) :
    joined x p (ix3 i n ⟨d.val, by omega⟩) = x (ix3 i n d) :=
  concatenate_pair_apply_left (s₁ := S8448x8x128) (s₂ := S8448x8x64) (t := S8448x8x192) 2 x _
    concatenates_S8448x8x128_S8448x8x64_S8448x8x192_d2 (ix3 i n ⟨d.val, by omega⟩) rfl (ix3 i n d)
    (fun b => by fin_cases b <;> rfl)

/-- The rotary part of a key. -/
theorem joined_rope (x : FVec Ideal S8448x8x128 .f32) (p : FVec Ideal S8448x64 .f32) (i : Fin 8448) (n : Fin 8) (d : Fin 64) :
    joined x p (ix3 i n ⟨128 + d.val, by omega⟩) = p (ix2 i d) := by
  refine Eq.trans (concatenate_pair_apply_right (s₁ := S8448x8x128) (s₂ := S8448x8x64) (t := S8448x8x192) 2 x _
    concatenates_S8448x8x128_S8448x8x64_S8448x8x192_d2 (ix3 i n ⟨128 + d.val, by omega⟩) rfl rfl (ix3 i n d)
    (fun b hb => by fin_cases b <;> first | rfl | exact absurd rfl hb)
    (by show d.val + 128 = 128 + d.val; omega)) ?_
  unfold broadcastInDim
  refine congrArg p (funext fun a => ?_)
  fin_cases a <;> rfl

/-- A value's entry. -/
theorem sided_at (x : FVec Ideal S8448x8x128 .f32) (i : Fin 8448) (n : Fin 8) (e : Fin 128) :
    sided x (ix2 i ⟨128 * n.val + e.val, by omega⟩) = x (ix3 i n e) := by
  unfold sided
  exact shapeCast_apply _ shapeCasts_S8448x8x128_S8448x1024 _ (ix3 i n e) (by
    rw [Shape.rowMajor_val_three, Shape.rowMajor_val_two]
    show (i.val * 8 + n.val) * 128 + e.val = i.val * 1024 + (128 * n.val + e.val); omega)

end Cert.Latent

end
-- ==== Proof.LatentRef.lean ====
/- The reference's latent attention at an index: the softmax average of the values. -/
module

public import proofs.«01_k».proof.Proof.Gen.Reference5Ideal.Read
public import proofs.«01_k».proof.Proof.RefValue

@[expose] public section

set_option maxRecDepth 16384

noncomputable section

namespace Cert.Latent.Ref

open Cert.Reference5Ideal Cert.Reference5Ideal.Gen Cert.Reference5Ideal.Read Idealize.ShloMosaic
open Cert.Flash (Real')
open Cert.Flash.Ref (coe_sum rot)

variable (x0 : FVec Ideal S8448x8x192 .f32) (x1 x3 : FVec Ideal S8448x8x128 .f32) (x2 : FVec Ideal S8448x64 .f32)

/-- A head's part of a key: the 256 context rows come first. -/
theorem k_at (s : Fin 8448) (n : Fin 8) (d : Fin 128) :
    val_main_v4 (F := Ideal) x1 (ix3 s n d) = x1 (ix3 (rot s) n d) := by
  by_cases h : s.val < 256
  · have e := concatenate_pair_apply_left (s₁ := S256x8x128) (s₂ := S8192x8x128) (t := S8448x8x128) 0 (val_main_v2 (F := Ideal) x1) (val_main_v3 (F := Ideal) x1)
      concatenates_S256x8x128_S8192x8x128_S8448x8x128_d0 (ix3 s n d) rfl (ix3 ⟨s.val, h⟩ n d)
      (fun b => by fin_cases b <;> rfl)
    refine Eq.trans e ?_
    rw [val_main_v2_apply]
    refine congrArg x1 (funext fun a => Fin.ext ?_)
    fin_cases a
    · show 8192 + s.val = (s.val + 8192) % 8448; omega
    · rfl
    · rfl
  · have e := concatenate_pair_apply_right (s₁ := S256x8x128) (s₂ := S8192x8x128) (t := S8448x8x128) 0 (val_main_v2 (F := Ideal) x1) (val_main_v3 (F := Ideal) x1)
      concatenates_S256x8x128_S8192x8x128_S8448x8x128_d0 (ix3 s n d) rfl rfl (ix3 ⟨s.val - 256, by omega⟩ n d)
      (fun b hb => by fin_cases b <;> first | rfl | exact absurd rfl hb)
      (by show s.val - 256 + 256 = s.val; omega)
    refine Eq.trans e ?_
    rw [val_main_v3_apply]
    refine congrArg x1 (funext fun a => Fin.ext ?_)
    fin_cases a
    · show s.val - 256 = (s.val + 8192) % 8448; omega
    · rfl
    · rfl

/-- A value's entry: the same reordering. -/
theorem v_at (s : Fin 8448) (n : Fin 8) (d : Fin 128) :
    val_main_v10 (F := Ideal) x3 (ix3 s n d) = x3 (ix3 (rot s) n d) := k_at x3 s n d

/-- The rotary part of a key. -/
theorem p_at (s : Fin 8448) (d : Fin 64) :
    val_main_v7 (F := Ideal) x2 (ix2 s d) = x2 (ix2 (rot s) d) := by
  by_cases h : s.val < 256
  · have e := concatenate_pair_apply_left (s₁ := S256x64) (s₂ := S8192x64) (t := S8448x64) 0 (val_main_v5 (F := Ideal) x2) (val_main_v6 (F := Ideal) x2)
      concatenates_S256x64_S8192x64_S8448x64_d0 (ix2 s d) rfl (ix2 ⟨s.val, h⟩ d)
      (fun b => by fin_cases b <;> rfl)
    refine Eq.trans e ?_
    rw [val_main_v5_apply]
    refine congrArg x2 (funext fun a => Fin.ext ?_)
    fin_cases a
    · show 8192 + s.val = (s.val + 8192) % 8448; omega
    · rfl
  · have e := concatenate_pair_apply_right (s₁ := S256x64) (s₂ := S8192x64) (t := S8448x64) 0 (val_main_v5 (F := Ideal) x2) (val_main_v6 (F := Ideal) x2)
      concatenates_S256x64_S8192x64_S8448x64_d0 (ix2 s d) rfl rfl (ix2 ⟨s.val - 256, by omega⟩ d)
      (fun b hb => by fin_cases b <;> first | rfl | exact absurd rfl hb)
      (by show s.val - 256 + 256 = s.val; omega)
    refine Eq.trans e ?_
    rw [val_main_v6_apply]
    refine congrArg x2 (funext fun a => Fin.ext ?_)
    fin_cases a
    · show s.val - 256 = (s.val + 8192) % 8448; omega
    · rfl

/-- The head's part of a query. -/
theorem qn_at (r : Fin 8192) (n : Fin 8) (d : Fin 128) :
    val_main_v0 (F := Ideal) x0 (ix3 r n d) = x0 (ix3 ⟨r.val, by omega⟩ n ⟨d.val, by omega⟩) := by
  rw [val_main_v0_apply]
  refine congrArg x0 (funext fun a => Fin.ext ?_)
  fin_cases a <;> rfl

/-- The rotary part of a query. -/
theorem qp_at (r : Fin 8192) (n : Fin 8) (d : Fin 64) :
    val_main_v1 (F := Ideal) x0 (ix3 r n d) = x0 (ix3 ⟨r.val, by omega⟩ n ⟨128 + d.val, by omega⟩) := by
  rw [val_main_v1_apply]
  refine congrArg x0 (funext fun a => Fin.ext ?_)
  fin_cases a <;> rfl

/-- The scale as a real number. -/
def c1 : ℝ := 1 / Real.sqrt 192

/-- The reference's scale is one over the root of 192. -/
theorem scale_at (i : S_.Idx) : val_main_v12 (F := Ideal) i = ((c1 : ℝ) : EReal) := by
  have h192 : Ideal.ofBits .f32 0x43400000#32 = ((192 : ℝ) : EReal) := by
    simp [Ideal.ofBits, Ideal.ieee]; rw [← EReal.coe_mul]; norm_num
  show Ideal.div (Ideal.ofBits .f32 0x3F800000#32) (Ideal.sqrt (Ideal.ofBits .f32 0x43400000#32)) = _
  rw [h192, Ideal.ofBits_one_f32]
  have hs : Ideal.sqrt ((192 : ℝ) : EReal) = ((Real.sqrt 192 : ℝ) : EReal) := by simp [Ideal.sqrt_coe]
  rw [hs, Ideal.div_coe (by positivity), one_mul]
  rfl

variable (qv : Fin 8448 → Fin 8 → Fin 192 → ℝ) (kv : Fin 8448 → Fin 8 → Fin 128 → ℝ) (pv : Fin 8448 → Fin 64 → ℝ)

/-- The product of row `r`'s query of head `n` and row `s`'s key: the head's part and the rotary part. -/
def dot (r : Fin 8448) (n : Fin 8) (s : Fin 8448) : ℝ :=
  (∑ d : Fin 128, qv r n ⟨d.val, by omega⟩ * kv s n d) + ∑ d : Fin 64, qv r n ⟨128 + d.val, by omega⟩ * pv s d

/-- A weight before it is normalized. -/
def weight (r : Fin 8448) (n : Fin 8) (s : Fin 8448) : ℝ := Real.exp (dot qv kv pv r n s * c1)

/-- The attention's result for row `r`, head `n`, entry `e`. -/
def attn (r : Fin 8448) (n : Fin 8) (e : Fin 128) : EReal :=
  ∑ s, ((weight qv kv pv r n s / ∑ s, weight qv kv pv r n s : ℝ) : EReal) * x3 (ix3 s n e)

variable (hQ : ∀ i n d, x0 (ix3 i n d) = (qv i n d : EReal)) (hK : ∀ i n d, x1 (ix3 i n d) = (kv i n d : EReal))
  (hP : ∀ i d, x2 (ix2 i d) = (pv i d : EReal))
include hQ hK hP

/-- A scaled score. -/
theorem s_at (n : Fin 8) (r : Fin 8192) (s : Fin 8448) :
    val_main_v18 (F := Ideal) x0 x1 x2 (ix3 n r s) = ((dot qv kv pv ⟨r.val, by omega⟩ n (rot s) * c1 : ℝ) : EReal) := by
  rw [val_main_v18_apply, val_main_v17_apply, scale_at, val_main_v16_apply, val_main_v15_apply, val_main_v13_apply,
    val_main_v14_apply]
  show ((∑ d : Fin 128, _) + ∑ d : Fin 64, _) * _ = _
  have e : ∀ d : Fin 128, val_main_v0 (F := Ideal) x0 (lidx_main_v13 (ix3 n r s) d)
      * val_main_v4 (F := Ideal) x1 (ridx_main_v13 (ix3 n r s) d)
      = ((qv ⟨r.val, by omega⟩ n ⟨d.val, by omega⟩ * kv (rot s) n d : ℝ) : EReal) := fun d => by
    have e1 : lidx_main_v13 (ix3 n r s) d = ix3 r n d := by funext a; fin_cases a <;> rfl
    have e2 : ridx_main_v13 (ix3 n r s) d = ix3 s n d := by funext a; fin_cases a <;> rfl
    rw [e1, e2, k_at, qn_at, hQ, hK, ← EReal.coe_mul]
  have e' : ∀ d : Fin 64, val_main_v7 (F := Ideal) x2 (lidx_main_v14 (idx_main_v15 (ix3 n r s)) d)
      * val_main_v1 (F := Ideal) x0 (ridx_main_v14 (idx_main_v15 (ix3 n r s)) d)
      = ((qv ⟨r.val, by omega⟩ n ⟨128 + d.val, by omega⟩ * pv (rot s) d : ℝ) : EReal) := fun d => by
    have e1 : lidx_main_v14 (idx_main_v15 (ix3 n r s)) d = ix2 s d := by funext a; fin_cases a <;> rfl
    have e2 : ridx_main_v14 (idx_main_v15 (ix3 n r s)) d = ix3 r n d := by funext a; fin_cases a <;> rfl
    rw [e1, e2, p_at, qp_at, hQ, hP, mul_comm, ← EReal.coe_mul]
  simp only [e, e']
  rw [EReal.coe_mul]
  refine congrArg (· * _) ?_
  unfold dot
  norm_cast

/-- The row's maximum is a real. -/
theorem top_at (n : Fin 8) (r : Fin 8192) : Real' (val_main_v21 (F := Ideal) x0 x1 x2 (ix2 n r)) := by
  have hb : Ideal.ofBits .f32 (4286578688#32) = (⊥ : EReal) := by simp [Ideal.ofBits, Ideal.ieee]
  have e20 : val_main_v20 (F := Ideal) (ix2 n r) = (⊥ : EReal) := by
    rw [val_main_v20_apply]; exact hb
  have e19 : val_main_v19 (F := Ideal) x0 x1 x2 (ix2 n r)
      = Finset.univ.fold max (⊥ : EReal) (fun s : Fin 8448 => val_main_v18 (F := Ideal) x0 x1 x2 (ix3 n r s)) := by
    unfold val_main_v19 val_main_cst_1
    pointwise
    rw [hb]
  rw [val_main_v21_apply, e20, e19]
  show Real' (max ⊥ _)
  rw [max_eq_right bot_le]
  exact Real'.fold fun s => ⟨_, s_at x0 x1 x2 qv kv pv hQ hK hP n r s⟩

/-- A normalized weight. -/
theorem w_at (n : Fin 8) (r : Fin 8192) (s : Fin 8448) :
    val_main_v29 (F := Ideal) x0 x1 x2 (ix3 n r s)
      = ((weight qv kv pv ⟨r.val, by omega⟩ n (rot s) / ∑ s, weight qv kv pv ⟨r.val, by omega⟩ n s : ℝ) : EReal) := by
  obtain ⟨μ, hμ⟩ := top_at x0 x1 x2 qv kv pv hQ hK hP n r
  have hE : ∀ s, val_main_v25 (F := Ideal) x0 x1 x2 (ix3 n r s)
      = ((Real.exp (-μ) * weight qv kv pv ⟨r.val, by omega⟩ n (rot s) : ℝ) : EReal) := fun s => by
    have e23 : val_main_v23 (F := Ideal) x0 x1 x2 (ix3 n r s) = (μ : EReal) := by
      rw [val_main_v23_apply, val_main_v22_apply, ← hμ]
      refine congrArg _ ?_
      funext a; fin_cases a <;> rfl
    show Ideal.exp (val_main_v18 (F := Ideal) x0 x1 x2 (ix3 n r s) - val_main_v23 (F := Ideal) x0 x1 x2 (ix3 n r s)) = _
    rw [e23, s_at x0 x1 x2 qv kv pv hQ hK hP, ← EReal.coe_sub, Ideal.exp_coe, weight, ← Real.exp_add,
      sub_eq_neg_add]
  have hL : val_main_v28 (F := Ideal) x0 x1 x2 (ix3 n r s)
      = ((Real.exp (-μ) * ∑ s, weight qv kv pv ⟨r.val, by omega⟩ n s : ℝ) : EReal) := by
    rw [val_main_v28_apply, val_main_v27_apply, val_main_v26_apply]
    have e0 : val_main_cst_3 (F := Ideal) (Shape.Idx.first h_S_) = (0 : EReal) := Ideal.ofBits_zero_f32
    have ei : ∀ k, idx_main_v26 (idx_main_v27 (idx_main_v28 (ix3 n r s))) k = ix3 n r k := fun k => by
      funext a; fin_cases a <;> rfl
    rw [e0, zero_add]
    simp only [ei, hE]
    rw [← Equiv.sum_comp rot (fun s => weight qv kv pv ⟨r.val, by omega⟩ n s), Finset.mul_sum, coe_sum]
  have hpos : 0 < ∑ s, weight qv kv pv ⟨r.val, by omega⟩ n s :=
    Finset.sum_pos (fun s _ => Real.exp_pos _) ⟨0, Finset.mem_univ _⟩
  show Ideal.div (val_main_v25 (F := Ideal) x0 x1 x2 (ix3 n r s)) (val_main_v28 (F := Ideal) x0 x1 x2 (ix3 n r s)) = _
  have hx := Real.exp_pos (-μ)
  rw [hL, hE, Ideal.div_coe (by positivity), ← EReal.coe_mul]
  refine congrArg (fun x : ℝ => (x : EReal)) ?_
  field_simp

/-- The attention's part of the reference's result. -/
theorem out_at (r : Fin 8192) (C : Fin 1024) :
    val_main_v33 (F := Ideal) x0 x1 x2 x3 (ix2 r C)
      = attn x3 qv kv pv ⟨r.val, by omega⟩ ⟨C.val / 128, by omega⟩ ⟨C.val % 128, Nat.mod_lt _ (by decide)⟩ := by
  have hr := r.isLt; have hC := C.isLt
  show val_main_v32 (F := Ideal) x0 x1 x2 x3 (ix2 r C) = _
  have ei : idx_main_v31 (idx_main_v32 (ix2 r C)) = ix3 ⟨C.val / 128, by omega⟩ ⟨C.val % 128, by omega⟩ r := by
    funext a; refine Fin.ext ?_
    fin_cases a
    · show (r.val * 1024 + C.val) / 128 % 8 = C.val / 128; omega
    · show (r.val * 1024 + C.val) % 128 = C.val % 128; omega
    · show (r.val * 1024 + C.val) / 1024 = r.val; omega
  rw [val_main_v32_apply, val_main_v31_apply, ei, val_main_v30_apply, attn,
    ← Equiv.sum_comp rot (fun s => ((weight qv kv pv ⟨r.val, by omega⟩ ⟨C.val / 128, by omega⟩ s
      / ∑ s, weight qv kv pv ⟨r.val, by omega⟩ ⟨C.val / 128, by omega⟩ s : ℝ) : EReal)
      * x3 (ix3 s ⟨C.val / 128, by omega⟩ ⟨C.val % 128, Nat.mod_lt _ (by decide)⟩))]
  refine Finset.sum_congr rfl fun s _ => ?_
  have e1 : lidx_main_v30 (ix3 ⟨C.val / 128, by omega⟩ ⟨C.val % 128, by omega⟩ r) s
      = ix3 s ⟨C.val / 128, by omega⟩ ⟨C.val % 128, by omega⟩ := by funext a; fin_cases a <;> rfl
  have e2 : ridx_main_v30 (ix3 ⟨C.val / 128, by omega⟩ ⟨C.val % 128, by omega⟩ r) s
      = ix3 ⟨C.val / 128, by omega⟩ r s := by funext a; fin_cases a <;> rfl
  rw [e1, e2, v_at, w_at x0 x1 x2 qv kv pv hQ hK hP, mul_comm]

/-- The reference's result: the attention in its columns of the first 8192 rows, the last argument elsewhere. -/
theorem result_at (x4 : FVec Ideal S8448x4096 .bf16) (r : Fin 8448) (C : Fin 4096) :
    val_main_v34 (F := Ideal) x0 x1 x2 x3 x4 (ix2 r C)
      = if h : r.val < 8192 ∧ 2048 ≤ C.val ∧ C.val < 3072 then
          attn x3 qv kv pv r ⟨(C.val - 2048) / 128, by omega⟩ ⟨(C.val - 2048) % 128, Nat.mod_lt _ (by decide)⟩
        else x4 (ix2 r C) := by
  unfold val_main_v34
  rw [Host.dynamicUpdateSlice_apply]
  have hs0 : Host.clampedStart S8448x4096 S8192x1024 updateFits_S8448x4096_S8192x1024.1
      (fun k => (((![val_main_c (F := Ideal), val_main_c_4 (F := Ideal)] : Fin 2 → (⟨S_, .i32⟩ : BufTy).Contents (Elt Ideal))) k (Shape.Idx.first h_S_)).toInt) 0 = 0 := by decide
  have hs1 : Host.clampedStart S8448x4096 S8192x1024 updateFits_S8448x4096_S8192x1024.1
      (fun k => (((![val_main_c (F := Ideal), val_main_c_4 (F := Ideal)] : Fin 2 → (⟨S_, .i32⟩ : BufTy).Contents (Elt Ideal))) k (Shape.Idx.first h_S_)).toInt) 1 = 2048 := by decide
  generalize hst : (fun k => (((![val_main_c (F := Ideal), val_main_c_4 (F := Ideal)] : Fin 2 → (⟨S_, .i32⟩ : BufTy).Contents (Elt Ideal))) k (Shape.Idx.first h_S_)).toInt) = st at hs0 hs1 ⊢
  by_cases h : r.val < 8192 ∧ 2048 ≤ C.val ∧ C.val < 3072
  · have k0 : Host.clampedStart S8448x4096 S8192x1024 updateFits_S8448x4096_S8192x1024.1 st 0 ≤ r.val
        ∧ r.val < Host.clampedStart S8448x4096 S8192x1024 updateFits_S8448x4096_S8192x1024.1 st 0 + 8192 := by
      rw [hs0]; omega
    have k1 : Host.clampedStart S8448x4096 S8192x1024 updateFits_S8448x4096_S8192x1024.1 st 1 ≤ C.val
        ∧ C.val < Host.clampedStart S8448x4096 S8192x1024 updateFits_S8448x4096_S8192x1024.1 st 1 + 1024 := by
      rw [hs1]; omega
    rw [dif_pos h, dif_pos (Fin.forall_fin_two.2 ⟨k0, k1⟩)]
    refine Eq.trans (congrArg (val_main_v33 (F := Ideal) x0 x1 x2 x3) (?_ : _ = ix2 ⟨r.val, h.1⟩ ⟨C.val - 2048, by omega⟩)) (out_at x0 x1 x3 x2 qv kv pv hQ hK hP _ _)
    have m0 : r.val - Host.clampedStart S8448x4096 S8192x1024 updateFits_S8448x4096_S8192x1024.1 st 0 = r.val := by
      rw [hs0]; rfl
    have m1 : C.val - Host.clampedStart S8448x4096 S8192x1024 updateFits_S8448x4096_S8192x1024.1 st 1 = C.val - 2048 := by
      rw [hs1]
    funext a; refine Fin.ext ?_
    fin_cases a
    · exact m0
    · exact m1
  · rw [dif_neg h, dif_neg (by
      intro hh
      have h0 := hh 0; have h1 := hh 1
      have h0' : r.val < Host.clampedStart S8448x4096 S8192x1024 updateFits_S8448x4096_S8192x1024.1 st 0 + 8192 := h0.2
      have h1' : Host.clampedStart S8448x4096 S8192x1024 updateFits_S8448x4096_S8192x1024.1 st 1 ≤ C.val
        ∧ C.val < Host.clampedStart S8448x4096 S8192x1024 updateFits_S8448x4096_S8192x1024.1 st 1 + 1024 := h1
      rw [hs0] at h0'; rw [hs1] at h1'
      omega)]

end Cert.Latent.Ref

end
-- ==== Proof.LatentFinal.lean ====
/- The latent flash call's result at an index: the softmax average of the values, in the columns and rows the call writes. -/
module

public import proofs.«01_k».proof.Proof.LatentHost
public import proofs.«01_k».proof.Proof.LatentRef
public import proofs.«01_k».proof.Proof.Final

@[expose] public section

set_option maxRecDepth 16384

noncomputable section

namespace Cert.Latent

open Cert.Kernel5Ideal Cert.Kernel5Ideal.Gen
open Idealize.ShloMosaic Idealize.ShloMosaic.TcCoe Idealize.SL.Sem
open Cert.Flash (chunkRow chainS_at mean_eq)

/-! ## Where the blocks lie -/

/-- The grid has 16 points. -/
theorem lt_16 (t : Fin cfg0.N) : t.val < 16 := t.isLt

/-- The queries' block at a point. -/
theorem at0 : ∀ t : Fin cfg0.N, win0_0.index t 0 = t.val % 2 ∧ win0_0.index t 1 = t.val / 2 :=
  (by decide +kernel : ∀ t : Fin grid0.N, win0_0.index t 0 = t.val % 2 ∧ win0_0.index t 1 = t.val / 2)
/-- The keys' block at a point. -/
theorem at1 : ∀ t : Fin cfg0.N, win0_1.index t 0 = 0 ∧ win0_1.index t 1 = t.val / 2 :=
  (by decide +kernel : ∀ t : Fin grid0.N, win0_1.index t 0 = 0 ∧ win0_1.index t 1 = t.val / 2)
/-- The values' block at a point. -/
theorem at2 : ∀ t : Fin cfg0.N, win0_2.index t 0 = 0 ∧ win0_2.index t 1 = t.val / 2 :=
  (by decide +kernel : ∀ t : Fin grid0.N, win0_2.index t 0 = 0 ∧ win0_2.index t 1 = t.val / 2)
/-- The output's block at a point. -/
theorem at3 : ∀ t : Fin cfg0.N, win0_3.index t 0 = t.val % 2 ∧ win0_3.index t 1 = 16 + t.val / 2 :=
  (by decide +kernel : ∀ t : Fin grid0.N, win0_3.index t 0 = t.val % 2 ∧ win0_3.index t 1 = 16 + t.val / 2)
/-- No output block is cut. -/
theorem uncut3 : ∀ t : Fin cfg0.N, ∀ a, (cfg0.win 3).xsize (cfg0.grid.coords t) a = (cfg0.win 3).size a :=
  (by decide +kernel : ∀ t : Fin grid0.N, ∀ a, win0_3.xsize (grid0.coords t) a = win0_3.size a)

section Any

variable {F : FTy → Type} [FloatOps F]
variable (m : (ℓ : Loc nD τ sig) → Buf (Elt F) ℓ)

/-- The queries' block, entry by entry. -/
theorem q_block (c : Dev nD) (t : Fin cfg0.N) (r : Fin 4096) (j : Fin 256) :
    X0_0 m c t (ix2 r j) = V m c main_v10 (ix2 (n0 := 8448) (n1 := 2048) ⟨4096 * (t.val % 2) + r.val, by omega⟩
      ⟨256 * (t.val / 2) + j.val, by have := lt_16 t; omega⟩) := by
  unfold X0_0 Pipeline.Window.fill
  rw [dif_pos (moved0_0 t _)]
  unfold iblk
  rw [View.read_apply]
  refine congrArg (V m c main_v10) ?_
  obtain ⟨e0, e1⟩ := at0 t
  funext a; refine Fin.ext ?_
  fin_cases a
  · show win0_0.index t 0 * 4096 + 1 * r.val = 4096 * (t.val % 2) + r.val
    rw [e0]; omega
  · show win0_0.index t 1 * 256 + 1 * j.val = 256 * (t.val / 2) + j.val
    rw [e1]; omega

/-- The keys' block, entry by entry. -/
theorem k_block (c : Dev nD) (t : Fin cfg0.N) (s : Fin 8448) (d : Fin 256) :
    iblk m c 1 t (ix2 (n0 := 8448) (n1 := 256) s d) = V m c main_v14 (ix2 (n0 := 8448) (n1 := 2048) s
      ⟨256 * (t.val / 2) + d.val, by have := lt_16 t; omega⟩) := by
  unfold iblk
  rw [View.read_apply]
  refine congrArg (V m c main_v14) ?_
  obtain ⟨e0, e1⟩ := at1 t
  funext a; refine Fin.ext ?_
  fin_cases a
  · show win0_1.index t 0 * 8448 + 1 * s.val = s.val
    rw [e0]; omega
  · show win0_1.index t 1 * 256 + 1 * d.val = 256 * (t.val / 2) + d.val
    rw [e1]; omega

/-- The values' block, entry by entry. -/
theorem v_block (c : Dev nD) (t : Fin cfg0.N) (s : Fin 8448) (d : Fin 128) :
    iblk m c 2 t (ix2 (n0 := 8448) (n1 := 128) s d) = V m c main_v16 (ix2 (n0 := 8448) (n1 := 1024) s
      ⟨128 * (t.val / 2) + d.val, by have := lt_16 t; omega⟩) := by
  unfold iblk
  rw [View.read_apply]
  refine congrArg (V m c main_v16) ?_
  obtain ⟨e0, e1⟩ := at2 t
  funext a; refine Fin.ext ?_
  fin_cases a
  · show win0_2.index t 0 * 8448 + 1 * s.val = s.val
    rw [e0]; omega
  · show win0_2.index t 1 * 128 + 1 * d.val = 128 * (t.val / 2) + d.val
    rw [e1]; omega

/-- Two points' output blocks share no index. -/
theorem apart3 (t t' : Fin cfg0.N) (_ : (cfg0.win 3).flush t = true) (_ : (cfg0.win 3).flush t' = true) (hne : t ≠ t') :
    Disjoint ((cfg0.win 3).blk t).view.set ((cfg0.win 3).blk t').view.set := by
  refine (cfg0.win 3).disjoint_blk fun h => hne (Fin.ext ?_)
  have h0 : win0_3.index t 0 = win0_3.index t' 0 := congrFun h 0
  have h1 : win0_3.index t 1 = win0_3.index t' 1 := congrFun h 1
  rw [(at3 t).1, (at3 t').1] at h0
  rw [(at3 t).2, (at3 t').2] at h1
  omega

/-- The final array inside a point's block: what that point stored. -/
theorem final_in (c : Dev nD) (t : Fin cfg0.N) (r : Fin 4096) (j : Fin 128) :
    (latDat m 0 c).arrAt 3 cfg0.N (ix2 (n0 := 8448) (n1 := 4096) ⟨4096 * (t.val % 2) + r.val, by omega⟩
      ⟨128 * (16 + t.val / 2) + j.val, by have := lt_16 t; omega⟩) = stored m c t (ix2 r j) := by
  have e := (latDat m 0 c).read_blk_arrAt_eq_flushed 3 apart3 cfg0.N t t.isLt (flush0_3 t)
  have hb : ∀ a, ((ix2 (n0 := 4096) (n1 := 128) r j) a).val < (cfg0.win 3).xsize (cfg0.grid.coords t) a := fun a => by
    rw [uncut3 t a]; exact ((ix2 (n0 := 4096) (n1 := 128) r j) a).isLt
  have e' := congrFun e (fun a => ⟨((ix2 (n0 := 4096) (n1 := 128) r j) a).val, hb a⟩)
  have e'' : (latDat m 0 c).flushed 3 t (fun a => ⟨((ix2 (n0 := 4096) (n1 := 128) r j) a).val, hb a⟩) = stored m c t (ix2 r j) := by
    show (latDat m 0 c).after 3 t _ = _
    rw [lat_after3]
    exact congrArg (stored m c t) (funext fun a => Fin.ext rfl)
  rw [View.read_apply, e''] at e'
  refine Eq.trans (congrArg ((latDat m 0 c).arrAt 3 cfg0.N) ?_) e'
  obtain ⟨e0, e1⟩ := at3 t
  funext a; refine Fin.ext ?_
  fin_cases a
  · show 4096 * (t.val % 2) + r.val = win0_3.index t 0 * 4096 + 1 * r.val
    rw [e0]; omega
  · show 128 * (16 + t.val / 2) + j.val = win0_3.index t 1 * 128 + 1 * j.val
    rw [e1]; omega

/-- The final array outside every block: the last argument as it was. -/
theorem final_out (c : Dev nD) (r : Fin 8448) (C : Fin 4096) (h : ¬(r.val < 8192 ∧ 2048 ≤ C.val ∧ C.val < 3072)) :
    (latDat m 0 c).arrAt 3 cfg0.N (ix2 r C) = m ((c : Thread nD τ).loc main_arg4) (ix2 r C) := by
  rw [(latDat m 0 c).arrAt_apply_of_forall_not_mem 3 cfg0.N (ix2 r C) (fun t _ hf hm => ?_), lat_A]
  · exact congrFun (V_out m c) _
  · obtain ⟨x, -, hx⟩ := Finset.mem_map.mp hm
    obtain ⟨e0, e1⟩ := at3 t
    have h16 := lt_16 t
    have x0 : (x 0).val < 4096 := lt_of_lt_of_eq (x 0).isLt (uncut3 t 0)
    have x1 : (x 1).val < 128 := lt_of_lt_of_eq (x 1).isLt (uncut3 t 1)
    have f0 : win0_3.index t 0 * 4096 + 1 * (x 0).val = r.val := congrArg Fin.val (congrFun hx 0)
    have f1 : win0_3.index t 1 * 128 + 1 * (x 1).val = C.val := congrArg Fin.val (congrFun hx 1)
    rw [e0] at f0; rw [e1] at f1
    exact h (by omega)

end Any

/-! ## A chain's rows -/

/-- A score is the dot product of a query and a key. -/
theorem score_at (q : Vec Ideal S1024x256 .bf16) (k : Vec Ideal S2048x256 .bf16) (r : Fin 1024) (j : Fin 2048) :
    score q k (ix2 r j) = ∑ d : Fin 256, q (ix2 r d) * k (ix2 j d) := by
  pointwise [score]

/-- A context score likewise. -/
theorem score₀_at (q : Vec Ideal S1024x256 .bf16) (k : Vec Ideal S256x256 .bf16) (r : Fin 1024) (j : Fin 256) :
    score₀ q k (ix2 r j) = ∑ d : Fin 256, q (ix2 r d) * k (ix2 j d) := by
  pointwise [score₀]

/-- A chain's query entry. -/
theorem rowsOf_at (x : Vec Ideal S4096x256 .bf16) (ci : Fin 4) (r : Fin 1024) (d : Fin 256) :
    rowsOf x ci (ix2 r d) = x (ix2 ⟨1024 * ci.val + r.val, by omega⟩ d) := by
  unfold rowsOf
  refine congrArg x (funext fun a => Fin.ext ?_)
  fin_cases a
  · show 1024 * ci.val + 1 * r.val = 1024 * ci.val + r.val; omega
  · show 0 + 1 * d.val = d.val; omega

/-- The offset of each chunk of keys. -/
theorem chunk_off : ∀ k : Fin k0_t1_loop.trips, k0_off1 k 0 = 2048 * k.val ∧ k0_off1 k 1 = 0 := by decide

/-- A chunk's key entry. -/
theorem keysOf_at (x : Vec Ideal S8448x256 .bf16) (k : Fin k0_t1_loop.trips) (j : Fin 2048) (d : Fin 256) :
    keysOf x k (ix2 j d) = x (ix2 (chunkRow k j) d) := by
  unfold keysOf
  refine congrArg x (funext fun a => Fin.ext ?_)
  have h := chunk_off k
  fin_cases a
  · show k0_off1 k 0 + 1 * j.val = 2048 * k.val + j.val
    rw [h.1]; omega
  · show k0_off1 k 1 + 1 * d.val = d.val
    rw [h.2]; omega

/-- The context's key entry. -/
theorem keysCtx_at (x : Vec Ideal S8448x256 .bf16) (j : Fin 256) (d : Fin 256) :
    keysCtx x (ix2 j d) = x (ix2 ⟨8192 + j.val, by omega⟩ d) := by
  unfold keysCtx
  refine congrArg x (funext fun a => Fin.ext ?_)
  fin_cases a
  · show 8192 + 1 * j.val = 8192 + j.val; omega
  · show 0 + 1 * d.val = d.val; omega

/-- A chain is mixer B's chain of steps over these scores. -/
theorem chainOf_eq (x0 : Vec Ideal S4096x256 .bf16) (x1 : Vec Ideal S8448x256 .bf16) (x2 : Vec Ideal S8448x128 .bf16)
    (ci : Fin 4) : chainOf x0 x1 x2 ci
      = Cert.Flash.chainS (score₀ (rowsOf x0 ci) (keysCtx x1)) (fun k => score (rowsOf x0 ci) (keysOf x1 k)) x2 := rfl

/-- A chain's output: with real scores `T`, the values' average under weights `2 ^ T`. -/
theorem rowsOut_at (x0 : Vec Ideal S4096x256 .bf16) (x1 : Vec Ideal S8448x256 .bf16) (x2 : Vec Ideal S8448x128 .bf16)
    (ci : Fin 4) (r : Fin 1024) (T : Fin 8448 → ℝ)
    (hT : ∀ s, (∑ d : Fin 256, x0 (ix2 ⟨1024 * ci.val + r.val, by omega⟩ d) * x1 (ix2 s d)) = (T s : EReal)) (e : Fin 128) :
    rowsOut x0 x1 x2 ci (ix2 r e) =
      (∑ s, (((2 : ℝ) ^ T s : ℝ) : EReal) * x2 (ix2 s e)) * ((1 / ∑ s, (2 : ℝ) ^ T s : ℝ) : EReal) := by
  unfold rowsOut
  rw [chainOf_eq]
  refine chainS_at _ _ x2 r T (fun j => ?_) (fun k j => ?_) e
  · rw [score₀_at, ← hT]
    exact Finset.sum_congr rfl fun d _ => by rw [rowsOf_at, keysCtx_at]
  · rw [score_at, ← hT]
    exact Finset.sum_congr rfl fun d _ => by rw [rowsOf_at, keysOf_at]

/-! ## The value -/

/-- Powers of two of scores so scaled are exponentials of the scores scaled for them. -/
theorem two_pow (d : ℝ) : (2 : ℝ) ^ (d * c2) = Real.exp (d * Ref.c1) := by
  have hl : Real.log 2 ≠ 0 := (Real.log_pos (by norm_num)).ne'
  rw [Real.rpow_def_of_pos (by norm_num)]
  refine congrArg Real.exp ?_
  unfold c2 Ref.c1
  field_simp

/-- A sum over a head's columns: its own, the rotary ones, the padding. -/
theorem sum_cols (f : Fin 256 → EReal) :
    ∑ d, f d = ((∑ d : Fin 128, f ⟨d.val, by omega⟩) + ∑ d : Fin 64, f ⟨128 + d.val, by omega⟩)
      + ∑ d : Fin 64, f ⟨192 + d.val, by omega⟩ := by
  have h1 := Fin.sum_univ_add (a := 192) (b := 64) f
  have h2 := Fin.sum_univ_add (a := 128) (b := 64) fun i : Fin 192 => f (Fin.castAdd 64 i)
  rw [h1, h2]
  rfl

/-- A score over the padded columns is the scaled product of the two parts. -/
theorem padded_dot (q : FVec Ideal S8448x8x192 .f32) (x : FVec Ideal S8448x8x128 .f32) (p : FVec Ideal S8448x64 .f32)
    (qv : Fin 8448 → Fin 8 → Fin 192 → ℝ) (kv : Fin 8448 → Fin 8 → Fin 128 → ℝ) (pv : Fin 8448 → Fin 64 → ℝ)
    (hQ : ∀ i n d, q (ix3 i n d) = (qv i n d : EReal)) (hK : ∀ i n d, x (ix3 i n d) = (kv i n d : EReal))
    (hP : ∀ i d, p (ix2 i d) = (pv i d : EReal)) (i : Fin 8448) (n : Fin 8) (s : Fin 8448) :
    ∑ d : Fin 256, padded (scaled q) (ix2 i ⟨256 * n.val + d.val, by omega⟩)
      * padded (joined x p) (ix2 s ⟨256 * n.val + d.val, by omega⟩) = ((Ref.dot qv kv pv i n s * c2 : ℝ) : EReal) := by
  have ea : ∀ d : Fin 128, padded (scaled q) (ix2 i ⟨256 * n.val + d.val, by omega⟩)
      * padded (joined x p) (ix2 s ⟨256 * n.val + d.val, by omega⟩)
      = ((qv i n ⟨d.val, by omega⟩ * kv s n d * c2 : ℝ) : EReal) := fun d => by
    have e1 := padded_in (scaled q) i n ⟨d.val, by omega⟩
    have e2 := padded_in (joined x p) s n ⟨d.val, by omega⟩
    refine Eq.trans (congrArg₂ (· * ·) e1 e2) ?_
    rw [scaled_at, joined_nope, hQ, hK, ← EReal.coe_mul, ← EReal.coe_mul, mul_right_comm]
  have eb : ∀ d : Fin 64, padded (scaled q) (ix2 i ⟨256 * n.val + (128 + d.val), by omega⟩)
      * padded (joined x p) (ix2 s ⟨256 * n.val + (128 + d.val), by omega⟩)
      = ((qv i n ⟨128 + d.val, by omega⟩ * pv s d * c2 : ℝ) : EReal) := fun d => by
    have e1 := padded_in (scaled q) i n ⟨128 + d.val, by omega⟩
    have e2 := padded_in (joined x p) s n ⟨128 + d.val, by omega⟩
    refine Eq.trans (congrArg₂ (· * ·) e1 e2) ?_
    rw [scaled_at, joined_rope, hQ, hP, ← EReal.coe_mul, ← EReal.coe_mul, mul_right_comm]
  have ec : ∀ d : Fin 64, padded (scaled q) (ix2 i ⟨256 * n.val + (192 + d.val), by omega⟩)
      * padded (joined x p) (ix2 s ⟨256 * n.val + (192 + d.val), by omega⟩) = 0 := fun d => by
    rw [padded_out, zero_mul]
  rw [sum_cols]
  show ((∑ d : Fin 128, _) + ∑ d : Fin 64, _) + ∑ d : Fin 64, _ = _
  rw [Finset.sum_congr rfl fun d _ => ea d, Finset.sum_congr rfl fun d _ => eb d, Finset.sum_congr rfl fun d _ => ec d,
    Finset.sum_const_zero, add_zero, ← Cert.Flash.Ref.coe_sum, ← Cert.Flash.Ref.coe_sum, ← EReal.coe_add]
  unfold Ref.dot
  rw [add_mul, Finset.sum_mul, Finset.sum_mul]

variable (m : (ℓ : Loc nD τ sig) → Buf (Elt Ideal) ℓ) (c : Dev nD)
variable (qv : Fin 8448 → Fin 8 → Fin 192 → ℝ) (kv : Fin 8448 → Fin 8 → Fin 128 → ℝ) (pv : Fin 8448 → Fin 64 → ℝ)
variable (hQ : ∀ i n d, m ((c : Thread nD τ).loc main_arg0) (ix3 (n0 := 8448) (n1 := 8) (n2 := 192) i n d) = (qv i n d : EReal))
  (hK : ∀ i n d, m ((c : Thread nD τ).loc main_arg1) (ix3 (n0 := 8448) (n1 := 8) (n2 := 128) i n d) = (kv i n d : EReal))
  (hP : ∀ i d, m ((c : Thread nD τ).loc main_arg2) (ix2 (n0 := 8448) (n1 := 64) i d) = (pv i d : EReal))
include hQ hK hP

/-- What a point stores, entry by entry: the attention of its row, head and column. -/
theorem stored_at (t : Fin cfg0.N) (r : Fin 4096) (j : Fin 128) :
    stored m c t (ix2 r j) = Ref.attn (m ((c : Thread nD τ).loc main_arg3)) qv kv pv ⟨4096 * (t.val % 2) + r.val, by omega⟩
      ⟨t.val / 2, by have := lt_16 t; omega⟩ j := by
  have h16 := lt_16 t
  set R : Fin 8448 := ⟨4096 * (t.val % 2) + r.val, by omega⟩ with hR
  set n : Fin 8 := ⟨t.val / 2, by omega⟩ with hn
  unfold stored outBlock
  refine Eq.trans (rowsOut_at _ _ _ ⟨r.val / 1024, by omega⟩ ⟨r.val % 1024, Nat.mod_lt _ (by decide)⟩
    (fun s => Ref.dot qv kv pv R n s * c2) (fun s => ?_) j) ?_
  · rw [← padded_dot _ _ _ qv kv pv hQ hK hP R n s]
    refine Finset.sum_congr rfl fun d _ => ?_
    have er : (⟨1024 * (r.val / 1024) + r.val % 1024, by omega⟩ : Fin 4096) = r := Fin.ext (by
      show 1024 * (r.val / 1024) + r.val % 1024 = r.val; omega)
    refine congrArg₂ (· * ·) ?_ ?_
    · refine Eq.trans (congrArg (fun a => X0_0 m c t (ix2 (n0 := 4096) (n1 := 256) a d)) er) ?_
      rw [q_block, V_q]
    · rw [k_block, V_k]
  · unfold Ref.attn
    simp only [two_pow]
    refine Eq.trans (mean_eq _ (fun s => (Real.exp_pos _).le) _) ?_
    refine Finset.sum_congr rfl fun s _ => ?_
    rw [v_block, V_v]
    exact congrArg (_ * ·) (sided_at _ s n j)

/-- The kernel's result is the reference's. -/
theorem final_eq :
    (latDat m 0 c).arrAt 3 cfg0.N
      = Cert.Reference5Ideal.Read.val_main_v34 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  funext i
  obtain ⟨r, C, rfl⟩ : ∃ (r : Fin 8448) (C : Fin 4096), i = ix2 r C := ⟨i 0, i 1, by funext a; fin_cases a <;> rfl⟩
  rw [Ref.result_at _ _ _ _ qv kv pv hQ hK hP]
  by_cases h : r.val < 8192 ∧ 2048 ≤ C.val ∧ C.val < 3072
  · rw [dif_pos h]
    have hN : 2 * ((C.val - 2048) / 128) + r.val / 4096 < cfg0.N := by
      show _ < 16; omega
    let t : Fin cfg0.N := ⟨2 * ((C.val - 2048) / 128) + r.val / 4096, hN⟩
    have t1 : t.val % 2 = r.val / 4096 := by show (2 * ((C.val - 2048) / 128) + r.val / 4096) % 2 = _; omega
    have t2 : t.val / 2 = (C.val - 2048) / 128 := by show (2 * ((C.val - 2048) / 128) + r.val / 4096) / 2 = _; omega
    have e := (final_in m c t ⟨r.val % 4096, Nat.mod_lt _ (by decide)⟩ ⟨(C.val - 2048) % 128, Nat.mod_lt _ (by decide)⟩).trans
      (stored_at m c qv kv pv hQ hK hP t _ _)
    have hr : (⟨4096 * (t.val % 2) + r.val % 4096, by omega⟩ : Fin 8448) = r := Fin.ext (by
      show 4096 * (t.val % 2) + r.val % 4096 = r.val; rw [t1]; omega)
    have hC : (⟨128 * (16 + t.val / 2) + (C.val - 2048) % 128, by rw [t2]; omega⟩ : Fin 4096) = C := Fin.ext (by
      show 128 * (16 + t.val / 2) + (C.val - 2048) % 128 = C.val; rw [t2]; omega)
    have hh : (⟨t.val / 2, by rw [t2]; omega⟩ : Fin 8) = ⟨(C.val - 2048) / 128, by omega⟩ := Fin.ext t2
    refine Eq.trans (congrArg₂ (fun a b => (latDat m 0 c).arrAt 3 cfg0.N (ix2 (n0 := 8448) (n1 := 4096) a b)) hr.symm hC.symm) (e.trans ?_)
    exact congrArg₂ (fun a b => Ref.attn (m ((c : Thread nD τ).loc main_arg3)) qv kv pv a b
      ⟨(C.val - 2048) % 128, Nat.mod_lt _ (by decide)⟩) hr hh
  · rw [dif_neg h]
    exact final_out m c r C h

end Cert.Latent

end
-- ==== Proof.LatentFinite.lean ====
/- The latent flash call's precondition, read: every query and both parts of every key are real numbers. -/
module

public import proofs.«01_k».proof.Pre_finite5
public import proofs.«01_k».proof.Proof.Finite
public import Idealize.ShloMosaic.Lib.Pipeline.Value

@[expose] public section

set_option maxRecDepth 16384

noncomputable section

namespace Cert.Latent

open Cert.Pre_finite5 Idealize.ShloMosaic

/-- The precondition's shape facts. -/
theorem pre_facts : Cert.Pre_finite5.Facts := ⟨by decide, by decide, by decide, by decide⟩

variable [Cert.Pre_finite5.Facts] (x0 : FVec Ideal S8448x8x192 .f32) (x1 : FVec Ideal S8448x8x128 .f32)
  (x2 : FVec Ideal S8448x64 .f32) (x3 : FVec Ideal S8448x8x128 .f32) (x4 : FVec Ideal S8448x4096 .bf16)

/-- The queries and both parts of the keys, side by side. -/
def beside : FVec Ideal S8448x2624 .f32 :=
  concatenate S8448x2624 1 [⟨S8448x1536, shapeCast S8448x1536 x0 Facts.shapeCasts_S8448x8x192_S8448x1536⟩,
    ⟨S8448x1024, shapeCast S8448x1024 x1 Facts.shapeCasts_S8448x8x128_S8448x1024⟩, ⟨S8448x64, x2⟩]
    Facts.concatenates_S8448x1536_S8448x1024_S8448x64_S8448x2624_d1

/-- What the precondition says of one of these entries. -/
theorem beside_real (h : Cert.Pre_finite5.fn x0 x1 x2 x3 x4 = fun _ => 1#1) (j : S8448x2624.Idx) :
    beside x0 x1 x2 j = ((beside x0 x1 x2 j).toReal : EReal) := by
  have e := congrFun h j
  have et : Ideal.ofBits .f32 0x7F800000#32 = ⊤ := by simp [Ideal.ofBits, Ideal.ieee]
  have e' : BitVec.ofBool (decide (max (beside x0 x1 x2 j) (-(beside x0 x1 x2 j)) < Ideal.ofBits .f32 0x7F800000#32)) = 1#1 := e
  rw [et] at e'
  refine (Cert.Flash.real_of_abs _ ?_).symm
  by_contra hn
  rw [decide_eq_false hn] at e'
  exact absurd e' (by decide)

/-- The queries' entries lie first. -/
theorem beside_q (i : Fin 8448) (n : Fin 8) (d : Fin 192) :
    beside x0 x1 x2 (ix2 i ⟨192 * n.val + d.val, by omega⟩) = x0 (ix3 i n d) := by
  unfold beside
  rw [concatenate_apply_piece (t := S8448x2624) 1 _ _ (ix2 i ⟨192 * n.val + d.val, by omega⟩) 0 (by simp) S8448x1536
    (shapeCast S8448x1536 x0 Facts.shapeCasts_S8448x8x192_S8448x1536) rfl rfl 0 rfl
    (ix2 i ⟨192 * n.val + d.val, by omega⟩) (fun b _ => by fin_cases b <;> rfl)
    (by show 0 + (192 * n.val + d.val) = 192 * n.val + d.val; omega)]
  exact shapeCast_apply _ _ _ (ix3 i n d) (by
    rw [Shape.rowMajor_val_three, Shape.rowMajor_val_two]
    show (i.val * 8 + n.val) * 192 + d.val = i.val * 1536 + (192 * n.val + d.val); omega)

/-- Then the heads' parts of the keys. -/
theorem beside_k (i : Fin 8448) (n : Fin 8) (d : Fin 128) :
    beside x0 x1 x2 (ix2 i ⟨1536 + (128 * n.val + d.val), by omega⟩) = x1 (ix3 i n d) := by
  unfold beside
  rw [concatenate_apply_piece (t := S8448x2624) 1 _ _ (ix2 i ⟨1536 + (128 * n.val + d.val), by omega⟩) 1 (by simp) S8448x1024
    (shapeCast S8448x1024 x1 Facts.shapeCasts_S8448x8x128_S8448x1024) rfl rfl 1536 rfl
    (ix2 i ⟨128 * n.val + d.val, by omega⟩)
    (fun b hb => by
      fin_cases b
      · rfl
      · exact absurd rfl hb) rfl]
  exact shapeCast_apply _ _ _ (ix3 i n d) (by
    rw [Shape.rowMajor_val_three, Shape.rowMajor_val_two]
    show (i.val * 8 + n.val) * 128 + d.val = i.val * 1024 + (128 * n.val + d.val); omega)

/-- And the keys' rotary part. -/
theorem beside_p (i : Fin 8448) (d : Fin 64) :
    beside x0 x1 x2 (ix2 i ⟨2560 + d.val, by omega⟩) = x2 (ix2 i d) := by
  unfold beside
  exact concatenate_apply_piece (t := S8448x2624) 1 _ _ (ix2 i ⟨2560 + d.val, by omega⟩) 2 (by simp) S8448x64
    x2 rfl rfl 2560 rfl (ix2 i d)
    (fun b hb => by
      fin_cases b
      · rfl
      · exact absurd rfl hb) rfl

variable (h : Cert.Pre_finite5.fn x0 x1 x2 x3 x4 = fun _ => 1#1)
include h

/-- A query's entry is real. -/
theorem q_real (i : Fin 8448) (n : Fin 8) (d : Fin 192) : x0 (ix3 i n d) = ((x0 (ix3 i n d)).toReal : EReal) := by
  rw [← beside_q x0 x1 x2]; exact beside_real x0 x1 x2 x3 x4 h _

/-- An entry of a key's part by head is real. -/
theorem k_real (i : Fin 8448) (n : Fin 8) (d : Fin 128) : x1 (ix3 i n d) = ((x1 (ix3 i n d)).toReal : EReal) := by
  rw [← beside_k x0 x1 x2]; exact beside_real x0 x1 x2 x3 x4 h _

/-- An entry of a key's rotary part is real. -/
theorem p_real (i : Fin 8448) (d : Fin 64) : x2 (ix2 i d) = ((x2 (ix2 i d)).toReal : EReal) := by
  rw [← beside_p x0 x1 x2]; exact beside_real x0 x1 x2 x3 x4 h _

end Cert.Latent

end
-- ==== Proof.ProjRun.lean ====
/- What one grid point of the input projection stores: four chunks of rows, each in four blocks of columns, a block's
   columns a product with its weights through the block's own operation. -/
module

public import proofs.«01_k».proof.Proof.Gen.Kernel6Ideal.Value

@[expose] public section

set_option maxRecDepth 16384

noncomputable section

namespace Cert.Proj

open Cert.Kernel6Ideal Cert.Kernel6Ideal.Gen Cert.Kernel6Ideal.Value
open Idealize.ShloMosaic Idealize.ShloMosaic.TcCoe Idealize.ShloMosaic.Tactic Idealize.SL.Sem

/-- What a block of 128 columns goes through after the product. -/
inductive Kind
  | copy | rope | ropeScale | normQ | normK | scale

variable {F : FTy → Type} [FloatOps F]

/-- The product of a chunk of rows with a block of weights. -/
def prod (h : Vec F S352x4096 .bf16) (w : Vec F S1x512x4096 .bf16) : FVec F S352x512 .f32 :=
  matmul dot_S352x4096_S512x4096_S352x512_1_1_0_0_n_n none h (shapeCast S512x4096 w shapeCasts_S1x512x4096_S512x4096)
    (constant S352x512 .f32 0x00000000#32)

/-- Block `b` of the product's columns. -/
def cutAt (b : Fin 4) (y : FVec F S352x512 .f32) : FVec F S352x128 .f32 :=
  match b with
  | 0 => extractStridedSlice S352x128 ![0, 0] y slices_S352x512_o0_0_S352x128
  | 1 => extractStridedSlice S352x128 ![0, 128] y slices_S352x512_o0_128_S352x128
  | 2 => extractStridedSlice S352x128 ![0, 256] y slices_S352x512_o0_256_S352x128
  | 3 => extractStridedSlice S352x128 ![0, 384] y slices_S352x512_o0_384_S352x128

/-- The head norm. -/
def normed (x : FVec F S352x128 .f32) (g : Vec F S1x128 .f32) : FVec F S352x128 .f32 :=
  mulf (mulf x (broadcastTo S352x128
    (rsqrt (addf
      (divf (shapeCast S352x1 (multiReduction .add [1] S352 (mulf x x) 0x00000000#32 reduces_S352x128_S352 (.inl rfl) rfl)
          shapeCasts_S352_S352x1)
        (broadcast S352x1 (Scalar.ofBits .f32 0x43000000#32)))
      (broadcast S352x1 (Scalar.ofBits .f32 0x358637BD#32)))) broadcasts_S352x1_S352x128))
    (broadcastTo S352x128 (shapeCast S1x128 g shapeCasts_S1x128_S1x128) broadcasts_S1x128_S352x128)

/-- Which columns are the first of their pair. -/
def firsts : IVec S352x128 1 :=
  cmpi .slt (andi (iota .tc S352x128 32 [1] iota_S352x128_d1_w32) (broadcast S352x128 63#32)) (broadcast S352x128 32#32)

/-- The rotary. -/
def roped (x : FVec F S352x128 .f32) (c s : Vec F S352x128 .f32) : FVec F S352x128 .f32 :=
  addf (mulf x (shapeCast S352x128 c shapeCasts_S352x128_S352x128))
    (mulf (select firsts (dynamicRotate 1 96#32 none x rotates_S352x128_d1) (dynamicRotate 1 32#32 none x rotates_S352x128_d1))
      (shapeCast S352x128 s shapeCasts_S352x128_S352x128))

/-- The query scale. -/
def scaled (x : FVec F S352x128 .f32) : FVec F S352x128 .f32 :=
  mulf x (broadcast S352x128 (Scalar.ofBits .f32 0x3E0293EE#32))

/-- A block's operation. -/
def op (k : Kind) (x : FVec F S352x128 .f32) (c s : Vec F S352x128 .f32) (gq gk : Vec F S1x128 .f32) : FVec F S352x128 .f32 :=
  match k with
  | .copy => x
  | .rope => roped x c s
  | .ropeScale => scaled (roped x c s)
  | .normQ => scaled (roped (normed x gq) c s)
  | .normK => roped (normed x gk) c s
  | .scale => scaled x

/-- What is stored at a chunk of rows and a block of columns. -/
def stored (k : Kind) (b : Fin 4) (h : Vec F S352x4096 .bf16) (w : Vec F S1x512x4096 .bf16) (c s : Vec F S352x128 .f32)
    (gq gk : Vec F S1x128 .f32) : FVec F S352x128 .bf16 := truncf .bf16 (op k (cutAt b (prod h w)) c s gq gk) bitsLt_bf16_f32

/-- Chunk `q` of the activations. -/
def hRect (q : Fin 4) : Rect S1408x4096 :=
  Rect.unit ![352 * q.val, 0] ![352, 4096] (by intro a; have := q.isLt; fin_cases a <;> simp <;> omega)
/-- Chunk `q` of a table. -/
def tRect (q : Fin 4) : Rect S1408x128 :=
  Rect.unit ![352 * q.val, 0] ![352, 128] (by intro a; have := q.isLt; fin_cases a <;> simp <;> omega)
/-- All of the weights' block. -/
def wRect : Rect S1x512x4096 := Rect.unit ![0, 0, 0] ![1, 512, 4096] inb_S1x512x4096_S1x512x4096_0_0_0
/-- All of a gain. -/
def gRect : Rect S1x128 := Rect.unit ![0, 0] ![1, 128] (by intro a; fin_cases a <;> simp)
/-- Where chunk `q` and block `b` lie in the output block. -/
def oRect (q b : Fin 4) : Rect S1408x512 :=
  Rect.unit ![352 * q.val, 128 * b.val] ![352, 128] (by
    intro a; have := q.isLt; have := b.isLt; fin_cases a <;> simp <;> omega)

/-- The chunks and blocks, last first. -/
def places : List (Fin 4 × Fin 4) :=
  [(3, 3), (3, 2), (3, 1), (3, 0), (2, 3), (2, 2), (2, 1), (2, 0), (1, 3), (1, 2), (1, 1), (1, 0), (0, 3), (0, 2), (0, 1), (0, 0)]

/-- The stored pieces. -/
def pieces (x : Fin 4 → Fin 4 → FVec F S352x128 .bf16) : List (View.Piece (Elt F) S1408x512 .bf16) :=
  places.map fun p => ⟨oRect p.1 p.2, x p.1 p.2⟩

/-- The operations of the columns of a point, by the point's column block. -/
def kinds (j : ℕ) : Fin 4 → Kind := fun b =>
  if 8 ≤ j then .copy
  else if j = 5 then (if b.val < 2 then .normK else .copy)
  else if 3 ≤ j ∧ j ≤ 4 then .normQ
  else if j = 2 then (if b.val < 2 then .rope else .copy)
  else if j ≤ 1 then .ropeScale else .scale

section Runs

variable (c : Dev nD) (i : grid0.Coords) (arg2 : Memref sig .tc .vmem S1408x4096 .bf16) (harg2 : arg2.IsWhole)
  (arg3 : Memref sig .tc .vmem S1x512x4096 .bf16) (harg3 : arg3.IsWhole)
  (arg4 : Memref sig .tc .vmem S1408x128 .f32) (harg4 : arg4.IsWhole)
  (arg5 : Memref sig .tc .vmem S1408x128 .f32) (harg5 : arg5.IsWhole)
  (arg6 : Memref sig .tc .vmem S1x128 .f32) (harg6 : arg6.IsWhole)
  (arg7 : Memref sig .tc .vmem S1x128 .f32) (harg7 : arg7.IsWhole)
  (arg8 : Memref sig .tc .vmem S1408x512 .bf16) (harg8 : arg8.IsWhole)
  (x0 : Vec F S1408x4096 .bf16) (x1 : Vec F S1x512x4096 .bf16) (x2 : Vec F S1408x128 .f32) (x3 : Vec F S1408x128 .f32)
  (x4 : Vec F S1x128 .f32) (x5 : Vec F S1x128 .f32)

/-- A point's pieces, from the blocks as they lie in memory. -/
def held (k : Fin 4 → Kind) : List (View.Piece (Elt F) S1408x512 .bf16) := pieces fun q b =>
  stored (k b) b (View.readAt (Elt F) arg2.view (hRect q).toLoadRect (harg2.unread x0))
    (View.readAt (Elt F) arg3.view wRect.toLoadRect (harg3.unread x1))
    (View.readAt (Elt F) arg4.view (tRect q).toLoadRect (harg4.unread x2))
    (View.readAt (Elt F) arg5.view (tRect q).toLoadRect (harg5.unread x3))
    (View.readAt (Elt F) arg6.view gRect.toLoadRect (harg6.unread x4))
    (View.readAt (Elt F) arg7.view gRect.toLoadRect (harg7.unread x5))

/-- The last four column blocks are stored as they are. -/
theorem run_F (hc0 : cond0_0 i) (hc1 : ¬cond0_1 i) (hc2 : ¬cond0_2 i) (hc3 : ¬cond0_3 i) (hc4 : ¬cond0_4 i) (hc5 : ¬cond0_5 i) :
    (kernelRun0_F c i arg2 harg2 arg3 harg3 arg4 harg4 arg5 harg5 arg6 harg6 arg7 harg7 arg8 harg8 hc0 hc1 hc2 hc3 hc4 hc5
      x0 x1 x2 x3 x4 x5).1 = held arg2 harg2 arg3 harg3 arg4 harg4 arg5 harg5 arg6 harg6 arg7 harg7 x0 x1 x2 x3 x4 x5 (kinds 8) := by
  unfold kernelRun0_F
  sl_kernel_rfl

/-- The first two hold mixer A's queries. -/
theorem run_A (hc0 : ¬cond0_0 i) (hc1 : ¬cond0_1 i) (hc2 : ¬cond0_2 i) (hc3 : ¬cond0_3 i) (hc4 : cond0_4 i) (hc5 : ¬cond0_5 i) :
    (kernelRun0_A c i arg2 harg2 arg3 harg3 arg4 harg4 arg5 harg5 arg6 harg6 arg7 harg7 arg8 harg8 hc0 hc1 hc2 hc3 hc4 hc5
      x0 x1 x2 x3 x4 x5).1 = held arg2 harg2 arg3 harg3 arg4 harg4 arg5 harg5 arg6 harg6 arg7 harg7 x0 x1 x2 x3 x4 x5 (kinds 0) := by
  unfold kernelRun0_A
  sl_kernel_rfl

/-- The third its keys and values. -/
theorem run_B (hc0 : ¬cond0_0 i) (hc1 : ¬cond0_1 i) (hc2 : ¬cond0_2 i) (hc3 : cond0_3 i) (hc4 : ¬cond0_4 i) (hc5 : ¬cond0_5 i) :
    (kernelRun0_B c i arg2 harg2 arg3 harg3 arg4 harg4 arg5 harg5 arg6 harg6 arg7 harg7 arg8 harg8 hc0 hc1 hc2 hc3 hc4 hc5
      x0 x1 x2 x3 x4 x5).1 = held arg2 harg2 arg3 harg3 arg4 harg4 arg5 harg5 arg6 harg6 arg7 harg7 x0 x1 x2 x3 x4 x5 (kinds 2) := by
  unfold kernelRun0_B
  sl_kernel_rfl

/-- The next two mixer B's queries. -/
theorem run_C (hc0 : ¬cond0_0 i) (hc1 : ¬cond0_1 i) (hc2 : cond0_2 i) (hc3 : ¬cond0_3 i) (hc4 : ¬cond0_4 i) (hc5 : ¬cond0_5 i) :
    (kernelRun0_C c i arg2 harg2 arg3 harg3 arg4 harg4 arg5 harg5 arg6 harg6 arg7 harg7 arg8 harg8 hc0 hc1 hc2 hc3 hc4 hc5
      x0 x1 x2 x3 x4 x5).1 = held arg2 harg2 arg3 harg3 arg4 harg4 arg5 harg5 arg6 harg6 arg7 harg7 x0 x1 x2 x3 x4 x5 (kinds 3) := by
  unfold kernelRun0_C
  sl_kernel_rfl

/-- The sixth mixer B's keys and values. -/
theorem run_D (hc0 : ¬cond0_0 i) (hc1 : cond0_1 i) (hc2 : ¬cond0_2 i) (hc3 : ¬cond0_3 i) (hc4 : ¬cond0_4 i) (hc5 : ¬cond0_5 i) :
    (kernelRun0_D c i arg2 harg2 arg3 harg3 arg4 harg4 arg5 harg5 arg6 harg6 arg7 harg7 arg8 harg8 hc0 hc1 hc2 hc3 hc4 hc5
      x0 x1 x2 x3 x4 x5).1 = held arg2 harg2 arg3 harg3 arg4 harg4 arg5 harg5 arg6 harg6 arg7 harg7 x0 x1 x2 x3 x4 x5 (kinds 5) := by
  unfold kernelRun0_D
  sl_kernel_rfl

/-- The next two mixer D's queries. -/
theorem run_E (hc0 : ¬cond0_0 i) (hc1 : ¬cond0_1 i) (hc2 : ¬cond0_2 i) (hc3 : ¬cond0_3 i) (hc4 : ¬cond0_4 i) (hc5 : cond0_5 i) :
    (kernelRun0_E c i arg2 harg2 arg3 harg3 arg4 harg4 arg5 harg5 arg6 harg6 arg7 harg7 arg8 harg8 hc0 hc1 hc2 hc3 hc4 hc5
      x0 x1 x2 x3 x4 x5).1 = held arg2 harg2 arg3 harg3 arg4 harg4 arg5 harg5 arg6 harg6 arg7 harg7 x0 x1 x2 x3 x4 x5 (kinds 6) := by
  unfold kernelRun0_E
  sl_kernel_rfl

end Runs

end Cert.Proj

end
-- ==== Proof.ProjRow.lean ====
/- The blocks' operations row by row, and the output block of a grid point entry by entry. -/
module

public import proofs.«01_k».proof.Proof.ProjRun
public import Idealize.ShloMosaic.Lib.Pointwise
public import Idealize.ShloMosaic.Lib.Pipeline.Value
public import Idealize.ShloMosaic.Lib.WholeRead
public import Idealize.ShloMosaic.Lib.KernelVsHost

@[expose] public section

set_option maxRecDepth 16384

noncomputable section

namespace Cert.Proj

open Cert.Kernel6Ideal Cert.Kernel6Ideal.Gen Cert.Kernel6Ideal.Value
open Idealize.ShloMosaic Idealize.ShloMosaic.TcCoe Idealize.SL.Sem

/-- The other column of a column's pair. -/
def mate (l : Fin 128) : Fin 128 :=
  if h : l.val % 64 < 32 then ⟨l.val + 32, by omega⟩ else ⟨l.val - 32, by omega⟩

/-- The rotary of a row. -/
def ropeRow (y c s : Fin 128 → EReal) (l : Fin 128) : EReal := y l * c l + y (mate l) * s l

/-- The head norm of a row. -/
def normRow (y g : Fin 128 → EReal) (l : Fin 128) : EReal :=
  y l * Ideal.rsqrt (Ideal.div (∑ k : Fin 128, y k * y k) (Ideal.ofBits .f32 0x43000000#32) + Ideal.ofBits .f32 0x358637BD#32) * g l

/-- The query scale. -/
def sc : EReal := Ideal.ofBits .f32 0x3E0293EE#32

/-- A block's operation on a row. -/
def rowOp (k : Kind) (y c s gq gk : Fin 128 → EReal) (l : Fin 128) : EReal :=
  match k with
  | .copy => y l
  | .rope => ropeRow y c s l
  | .ropeScale => ropeRow y c s l * sc
  | .normQ => ropeRow (normRow y gq) c s l * sc
  | .normK => ropeRow (normRow y gk) c s l
  | .scale => y l * sc

/-- The columns marked are those in the lower half of their 64. -/
theorem firsts_at (r : Fin 352) (l : Fin 128) : firsts (ix2 (n0 := 352) (n1 := 128) r l) = if l.val % 64 < 32 then 1#1 else 0#1 := by
  unfold firsts
  pointwise
  revert l; decide +kernel

/-- The rotary, row by row. -/
theorem roped_at (x c s : FVec Ideal S352x128 .f32) (r : Fin 352) (l : Fin 128) :
    roped x c s (ix2 r l) = ropeRow (fun l => x (ix2 r l)) (fun l => c (ix2 r l)) (fun l => s (ix2 r l)) l := by
  have hc : ∀ y : FVec Ideal S352x128 .f32, shapeCast S352x128 y shapeCasts_S352x128_S352x128 = y := fun y => by
    funext j; exact shapeCast_apply _ _ j j rfl
  have hl := l.isLt
  have h96 : dynamicRotate (s := S352x128) 1 96#32 none x rotates_S352x128_d1 (ix2 (n0 := 352) (n1 := 128) r l)
      = x (ix2 (n0 := 352) (n1 := 128) r ⟨(l.val + 128 - 96) % 128, Nat.mod_lt _ (by decide)⟩) :=
    dynamicRotate_apply (s := S352x128) 1 96#32 x _ _ _ (by intro b; fin_cases b <;> rfl)
  have h32 : dynamicRotate (s := S352x128) 1 32#32 none x rotates_S352x128_d1 (ix2 (n0 := 352) (n1 := 128) r l)
      = x (ix2 (n0 := 352) (n1 := 128) r ⟨(l.val + 128 - 32) % 128, Nat.mod_lt _ (by decide)⟩) :=
    dynamicRotate_apply (s := S352x128) 1 32#32 x _ _ _ (by intro b; fin_cases b <;> rfl)
  unfold roped
  rw [hc, hc]
  show x (ix2 r l) * c (ix2 r l) + (if firsts (ix2 r l) = 1#1 then dynamicRotate (s := S352x128) 1 96#32 none x rotates_S352x128_d1 (ix2 r l)
    else dynamicRotate (s := S352x128) 1 32#32 none x rotates_S352x128_d1 (ix2 r l)) * s (ix2 r l) = _
  rw [h96, h32, firsts_at]
  unfold ropeRow mate
  by_cases h : l.val % 64 < 32
  · rw [if_pos h, if_pos rfl, dif_pos h]
    have e : (⟨(l.val + 128 - 96) % 128, Nat.mod_lt _ (by decide)⟩ : Fin 128) = ⟨l.val + 32, by omega⟩ := Fin.ext (by
      show (l.val + 128 - 96) % 128 = l.val + 32; omega)
    rw [e]
  · rw [if_neg h, if_neg (by decide), dif_neg h]
    have e : (⟨(l.val + 128 - 32) % 128, Nat.mod_lt _ (by decide)⟩ : Fin 128) = ⟨l.val - 32, by omega⟩ := Fin.ext (by
      show (l.val + 128 - 32) % 128 = l.val - 32; omega)
    rw [e]

/-- The head norm, row by row. -/
theorem normed_at (x : FVec Ideal S352x128 .f32) (g : FVec Ideal S1x128 .f32) (r : Fin 352) (l : Fin 128) :
    normed x g (ix2 r l) = normRow (fun l => x (ix2 r l)) (fun l => g (ix2 0 l)) l := by
  unfold normRow
  pointwise [normed]

/-- The product's block of columns. -/
theorem cut_at (b : Fin 4) (h : Vec Ideal S352x4096 .bf16) (w : Vec Ideal S1x512x4096 .bf16) (r : Fin 352) (l : Fin 128) :
    cutAt b (prod h w) (ix2 r l)
      = ∑ k : Fin 4096, h (ix2 r k) * w (ix3 0 ⟨128 * b.val + l.val, by have := b.isLt; omega⟩ k) := by
  have hp : ∀ C : Fin 512, prod h w (ix2 r C) = ∑ k : Fin 4096, h (ix2 r k) * w (ix3 0 C k) := fun C => by
    pointwise [prod]
  rw [← hp]
  have hx : ∀ (o : ℕ) (ho : S352x512.Slices ![0, o] S352x128) (D : Fin 512), D.val = o + l.val →
      extractStridedSlice S352x128 ![0, o] (prod h w) ho (ix2 (n0 := 352) (n1 := 128) r l) = prod h w (ix2 r D) := fun o ho D hD =>
    extractStridedSlice_apply (s := S352x512) (t := S352x128) _ (prod h w) ho _ _ (fun a => by
      fin_cases a
      · exact (Nat.zero_add _).symm
      · exact hD)
  obtain rfl | rfl | rfl | rfl : b = 0 ∨ b = 1 ∨ b = 2 ∨ b = 3 := by revert b; decide
  · exact hx 0 slices_S352x512_o0_0_S352x128 _ rfl
  · exact hx 128 slices_S352x512_o0_128_S352x128 _ rfl
  · exact hx 256 slices_S352x512_o0_256_S352x128 _ rfl
  · exact hx 384 slices_S352x512_o0_384_S352x128 _ rfl

/-- A stored entry is its block's operation on the product's row. -/
theorem stored_at (k : Kind) (b : Fin 4) (h : Vec Ideal S352x4096 .bf16) (w : Vec Ideal S1x512x4096 .bf16)
    (c s : Vec Ideal S352x128 .f32) (gq gk : Vec Ideal S1x128 .f32) (r : Fin 352) (l : Fin 128) :
    stored k b h w c s gq gk (ix2 r l)
      = rowOp k (fun l => ∑ k : Fin 4096, h (ix2 r k) * w (ix3 0 ⟨128 * b.val + l.val, by have := b.isLt; omega⟩ k))
          (fun l => c (ix2 r l)) (fun l => s (ix2 r l)) (fun l => gq (ix2 0 l)) (fun l => gk (ix2 0 l)) l := by
  have hs : ∀ x : FVec Ideal S352x128 .f32, scaled x (ix2 r l) = x (ix2 r l) * sc := fun x => rfl
  have e : stored k b h w c s gq gk (ix2 r l) = op k (cutAt b (prod h w)) c s gq gk (ix2 r l) := rfl
  rw [e]
  cases k <;> simp only [op, rowOp, hs, roped_at, normed_at, cut_at]

/-- The output block of a point. -/
def blockOf (k : Fin 4 → Kind) (x0 : Vec Ideal S1408x4096 .bf16) (x1 : Vec Ideal S1x512x4096 .bf16) (x2 x3 : Vec Ideal S1408x128 .f32)
    (x4 x5 : Vec Ideal S1x128 .f32) : Vec Ideal S1408x512 .bf16 := fun y =>
  have h1 : (y 1).val < 512 := (y 1).isLt
  rowOp (k ⟨(y 1).val / 128, by omega⟩)
    (fun l => ∑ k : Fin 4096, x0 (ix2 (n0 := 1408) (n1 := 4096) (y 0) k)
      * x1 (ix3 (n0 := 1) (n1 := 512) (n2 := 4096) 0 ⟨128 * ((y 1).val / 128) + l.val, by omega⟩ k))
    (fun l => x2 (ix2 (n0 := 1408) (n1 := 128) (y 0) l)) (fun l => x3 (ix2 (n0 := 1408) (n1 := 128) (y 0) l))
    (fun l => x4 (ix2 (n0 := 1) (n1 := 128) 0 l)) (fun l => x5 (ix2 (n0 := 1) (n1 := 128) 0 l))
    ⟨(y 1).val % 128, Nat.mod_lt _ (by decide)⟩

section Runs

variable (c : Dev nD) (i : grid0.Coords) (arg2 : Memref sig .tc .vmem S1408x4096 .bf16) (harg2 : arg2.IsWhole)
  (arg3 : Memref sig .tc .vmem S1x512x4096 .bf16) (harg3 : arg3.IsWhole)
  (arg4 : Memref sig .tc .vmem S1408x128 .f32) (harg4 : arg4.IsWhole)
  (arg5 : Memref sig .tc .vmem S1408x128 .f32) (harg5 : arg5.IsWhole)
  (arg6 : Memref sig .tc .vmem S1x128 .f32) (harg6 : arg6.IsWhole)
  (arg7 : Memref sig .tc .vmem S1x128 .f32) (harg7 : arg7.IsWhole)
  (arg8 : Memref sig .tc .vmem S1408x512 .bf16) (harg8 : arg8.IsWhole)
  (x0 : Vec Ideal S1408x4096 .bf16) (x1 : Vec Ideal S1x512x4096 .bf16) (x2 : Vec Ideal S1408x128 .f32) (x3 : Vec Ideal S1408x128 .f32)
  (x4 : Vec Ideal S1x128 .f32) (x5 : Vec Ideal S1x128 .f32)

/-- Each stored piece holds the output block's entries at its place. -/
theorem held_at (k : Fin 4 → Kind)
    (p : View.Piece (Elt Ideal) S1408x512 .bf16)
    (hp : p ∈ held arg2 harg2 arg3 harg3 arg4 harg4 arg5 harg5 arg6 harg6 arg7 harg7 x0 x1 x2 x3 x4 x5 k)
    (x : p.1.shape.Idx) : p.2 x = blockOf k x0 x1 x2 x3 x4 x5 (p.1.emb x) := by
  unfold held pieces at hp
  obtain ⟨⟨q, b⟩, _, rfl⟩ := List.mem_map.mp hp
  have hq := q.isLt; have hb := b.isLt
  obtain ⟨r, l, rfl⟩ : ∃ (r : Fin 352) (l : Fin 128), x = ix2 r l := ⟨x 0, x 1, by funext a; fin_cases a <;> rfl⟩
  refine (stored_at _ _ _ _ _ _ _ _ r l).trans ?_
  have hy0 : ((oRect q b).emb (ix2 (n0 := 352) (n1 := 128) r l)) 0 = (⟨352 * q.val + r.val, by omega⟩ : Fin 1408) :=
    Fin.ext (show 352 * q.val + 1 * r.val = 352 * q.val + r.val by omega)
  have hy1 : (((oRect q b).emb (ix2 (n0 := 352) (n1 := 128) r l)) 1).val = 128 * b.val + l.val := by
    show 128 * b.val + 1 * l.val = _; omega
  unfold blockOf
  rw [hy0]
  have hdiv : (((oRect q b).emb (ix2 (n0 := 352) (n1 := 128) r l)) 1).val / 128 = b.val := by rw [hy1]; omega
  have hmod : (((oRect q b).emb (ix2 (n0 := 352) (n1 := 128) r l)) 1).val % 128 = l.val := by rw [hy1]; omega
  have e1 : ∀ n (h : n < 4), n = b.val → (⟨n, h⟩ : Fin 4) = b := fun n h e => Fin.ext e
  have e2 : (⟨(((oRect q b).emb (ix2 (n0 := 352) (n1 := 128) r l)) 1).val % 128, Nat.mod_lt _ (by decide)⟩ : Fin 128) = l :=
    Fin.ext hmod
  dsimp only
  rw [e1 _ _ hdiv, e2]
  have r0 : ∀ k : Fin 4096, View.readAt (Elt Ideal) arg2.view (hRect q).toLoadRect (harg2.unread x0) (ix2 (n0 := 352) (n1 := 4096) r k)
      = x0 (ix2 (n0 := 1408) (n1 := 4096) ⟨352 * q.val + r.val, by omega⟩ k) := fun k =>
    (harg2.readAt_unread x0 _ _).trans (congrArg x0 (by
      funext a; refine Fin.ext ?_; fin_cases a
      · show 352 * q.val + 1 * r.val = _; simp [ix2]
      · show 0 + 1 * k.val = k.val; omega))
  have r1 : ∀ (C : Fin 512) (k : Fin 4096), View.readAt (Elt Ideal) arg3.view wRect.toLoadRect (harg3.unread x1) (ix3 (n0 := 1) (n1 := 512) (n2 := 4096) 0 C k)
      = x1 (ix3 0 C k) := fun C k =>
    (harg3.readAt_unread x1 _ _).trans (congrArg x1 (by
      funext a; refine Fin.ext ?_; fin_cases a
      · rfl
      · show 0 + 1 * C.val = C.val; omega
      · show 0 + 1 * k.val = k.val; omega))
  have r2 : ∀ l : Fin 128, View.readAt (Elt Ideal) arg4.view (tRect q).toLoadRect (harg4.unread x2) (ix2 (n0 := 352) (n1 := 128) r l)
      = x2 (ix2 (n0 := 1408) (n1 := 128) ⟨352 * q.val + r.val, by omega⟩ l) := fun l =>
    (harg4.readAt_unread x2 _ _).trans (congrArg x2 (by
      funext a; refine Fin.ext ?_; fin_cases a
      · show 352 * q.val + 1 * r.val = _; simp [ix2]
      · show 0 + 1 * l.val = l.val; omega))
  have r3 : ∀ l : Fin 128, View.readAt (Elt Ideal) arg5.view (tRect q).toLoadRect (harg5.unread x3) (ix2 (n0 := 352) (n1 := 128) r l)
      = x3 (ix2 (n0 := 1408) (n1 := 128) ⟨352 * q.val + r.val, by omega⟩ l) := fun l =>
    (harg5.readAt_unread x3 _ _).trans (congrArg x3 (by
      funext a; refine Fin.ext ?_; fin_cases a
      · show 352 * q.val + 1 * r.val = _; simp [ix2]
      · show 0 + 1 * l.val = l.val; omega))
  have r4 : ∀ l : Fin 128, View.readAt (Elt Ideal) arg6.view gRect.toLoadRect (harg6.unread x4) (ix2 (n0 := 1) (n1 := 128) 0 l)
      = x4 (ix2 0 l) := fun l =>
    (harg6.readAt_unread x4 _ _).trans (congrArg x4 (by
      funext a; refine Fin.ext ?_; fin_cases a
      · rfl
      · show 0 + 1 * l.val = l.val; omega))
  have r5 : ∀ l : Fin 128, View.readAt (Elt Ideal) arg7.view gRect.toLoadRect (harg7.unread x5) (ix2 (n0 := 1) (n1 := 128) 0 l)
      = x5 (ix2 0 l) := fun l =>
    (harg7.readAt_unread x5 _ _).trans (congrArg x5 (by
      funext a; refine Fin.ext ?_; fin_cases a
      · rfl
      · show 0 + 1 * l.val = l.val; omega))
  have ec : ∀ l' : Fin 128, (⟨128 * b.val + l'.val, by omega⟩ : Fin 512)
      = ⟨128 * ((((oRect q b).emb (ix2 (n0 := 352) (n1 := 128) r l)) 1).val / 128) + l'.val, by rw [hdiv]; omega⟩ := fun l' =>
    Fin.ext (by show _ = 128 * ((((oRect q b).emb (ix2 (n0 := 352) (n1 := 128) r l)) 1).val / 128) + l'.val; rw [hdiv])
  simp only [r0, r1, r2, r3, r4, r5, ec]

end Runs

end Cert.Proj

end
-- ==== Proof.ProjBlock.lean ====
/- What a point of the input projection writes back, and where its blocks lie. -/
module

public import proofs.«01_k».proof.Proof.ProjRow

@[expose] public section

set_option maxRecDepth 16384

noncomputable section

namespace Cert.Proj

open Cert.Kernel6Ideal Cert.Kernel6Ideal.Gen Cert.Kernel6Ideal.Value
open Idealize.ShloMosaic Idealize.ShloMosaic.TcCoe Idealize.SL.Sem

/-- Pieces that cover the output block hold its entries. -/
theorem read_held (arg2 : Memref sig .tc .vmem S1408x4096 .bf16) (harg2 : arg2.IsWhole)
    (arg3 : Memref sig .tc .vmem S1x512x4096 .bf16) (harg3 : arg3.IsWhole)
    (arg4 : Memref sig .tc .vmem S1408x128 .f32) (harg4 : arg4.IsWhole)
    (arg5 : Memref sig .tc .vmem S1408x128 .f32) (harg5 : arg5.IsWhole)
    (arg6 : Memref sig .tc .vmem S1x128 .f32) (harg6 : arg6.IsWhole)
    (arg7 : Memref sig .tc .vmem S1x128 .f32) (harg7 : arg7.IsWhole)
    (x0 : Vec Ideal S1408x4096 .bf16) (x1 : Vec Ideal S1x512x4096 .bf16) (x2 x3 : Vec Ideal S1408x128 .f32)
    (x4 x5 : Vec Ideal S1x128 .f32) (k : Fin 4 → Kind) (L : List (View.Piece (Elt Ideal) S1408x512 .bf16))
    (hL : L = held arg2 harg2 arg3 harg3 arg4 harg4 arg5 harg5 arg6 harg6 arg7 harg7 x0 x1 x2 x3 x4 x5 k)
    (hc : ∀ y : S1408x512.Idx, ∃ p ∈ L, y ∈ p.1.set) :
    VO0_6.read (Elt Ideal) (VO0_6.writes (Elt Ideal) VO0_6.junk L) = blockOf k x0 x1 x2 x3 x4 x5 := by
  funext y
  exact View.read_writes_apply_of_pieces _ _ _ L
    (fun p hp x => held_at arg2 harg2 arg3 harg3 arg4 harg4 arg5 harg5 arg6 harg6 arg7 harg7 x0 x1 x2 x3 x4 x5 k p (hL ▸ hp) x) y (hc y)

variable (m : (ℓ : Loc nD τ sig) → Buf (Elt Ideal) ℓ)

/-- The output block of a point. -/
abbrev blockAt (c : Dev nD) (t : Fin cfg0.N) (k : Fin 4 → Kind) : Vec Ideal S1408x512 .bf16 :=
  blockOf k (iblk m c 0 t) (iblk m c 1 t) (iblk m c 2 t) (iblk m c 3 t) (iblk m c 4 t) (iblk m c 5 t)

/-- A point writes its output block back. -/
theorem flushed_eq (c : Dev nD) (t : Fin cfg0.N) :
    (dats m 0 c).flushed 6 t = (cfg0.win 6).cut (grid0.coords t) (blockAt m c t (kinds (t.val % 12))) := by
  have h12 : t.val % 12 < 12 := Nat.mod_lt _ (by decide)
  by_cases h0 : 8 ≤ t.val % 12
  · refine (flushed6_F m c t h0 (by omega) (by omega) (by omega) (by omega) (by omega)).trans (congrArg _ ?_)
    have e : kinds (t.val % 12) = kinds 8 := by unfold kinds; simp [h0]
    rw [e]
    exact read_held _ _ _ _ _ _ _ _ _ _ _ _ _ _ _ _ _ _ _ _ (run_F ..) (fun y => cover0_F_6 (y := y) ..)
  by_cases h1 : t.val % 12 = 5
  · refine (flushed6_D m c t h0 h1 (by omega) (by omega) (by omega) (by omega)).trans (congrArg _ ?_)
    rw [show kinds (t.val % 12) = kinds 5 from congrArg kinds h1]
    exact read_held _ _ _ _ _ _ _ _ _ _ _ _ _ _ _ _ _ _ _ _ (run_D ..) (fun y => cover0_D_6 (y := y) ..)
  by_cases h2 : 3 ≤ t.val % 12 ∧ t.val % 12 ≤ 4
  · refine (flushed6_C m c t h0 h1 h2 (by omega) (by omega) (by omega)).trans (congrArg _ ?_)
    have e : kinds (t.val % 12) = kinds 3 := by unfold kinds; simp [h0, h1, h2]
    rw [e]
    exact read_held _ _ _ _ _ _ _ _ _ _ _ _ _ _ _ _ _ _ _ _ (run_C ..) (fun y => cover0_C_6 (y := y) ..)
  by_cases h3 : t.val % 12 = 2
  · refine (flushed6_B m c t h0 h1 h2 h3 (by omega) (by omega)).trans (congrArg _ ?_)
    rw [show kinds (t.val % 12) = kinds 2 from congrArg kinds h3]
    exact read_held _ _ _ _ _ _ _ _ _ _ _ _ _ _ _ _ _ _ _ _ (run_B ..) (fun y => cover0_B_6 (y := y) ..)
  by_cases h4 : t.val % 12 ≤ 1
  · refine (flushed6_A m c t h0 h1 h2 h3 h4 (by omega)).trans (congrArg _ ?_)
    have e : kinds (t.val % 12) = kinds 0 := by unfold kinds; simp [h0, h1, h2, h3, h4]
    rw [e]
    exact read_held _ _ _ _ _ _ _ _ _ _ _ _ _ _ _ _ _ _ _ _ (run_A ..) (fun y => cover0_A_6 (y := y) ..)
  · refine (flushed6_E m c t h0 h1 h2 h3 h4 (by omega)).trans (congrArg _ ?_)
    have e : kinds (t.val % 12) = kinds 6 := by unfold kinds; simp [h0, h1, h2, h3, h4]
    rw [e]
    exact read_held _ _ _ _ _ _ _ _ _ _ _ _ _ _ _ _ _ _ _ _ (run_E ..) (fun y => cover0_E_6 (y := y) ..)

/-! ## Where the blocks lie -/

/-- The grid has 72 points. -/
theorem lt_72 (t : Fin cfg0.N) : t.val < 72 := t.isLt

/-- The activations' block at a point. -/
theorem at0 : ∀ t : Fin cfg0.N, win0_0.index t 0 = t.val / 12 ∧ win0_0.index t 1 = 0 :=
  (by decide +kernel : ∀ t : Fin grid0.N, win0_0.index t 0 = t.val / 12 ∧ win0_0.index t 1 = 0)
/-- Where the weights' block begins at a point. -/
def wStart (j : ℕ) : ℕ := if j < 6 then 512 * j else 1344 + 512 * j
/-- The weights' block at a point. -/
theorem at1 : ∀ t : Fin cfg0.N, cc0_transform_1 (grid0.coords t) 0 = 0 ∧ cc0_transform_1 (grid0.coords t) 1 = wStart (t.val % 12)
    ∧ cc0_transform_1 (grid0.coords t) 2 = 0 :=
  (by decide +kernel : ∀ t : Fin grid0.N, cc0_transform_1 (grid0.coords t) 0 = 0 ∧ cc0_transform_1 (grid0.coords t) 1 = wStart (t.val % 12)
    ∧ cc0_transform_1 (grid0.coords t) 2 = 0)
/-- The tables' blocks at a point. -/
theorem at23 : ∀ t : Fin cfg0.N, win0_2.index t 0 = t.val / 12 ∧ win0_2.index t 1 = 0 ∧ win0_3.index t 0 = t.val / 12 ∧ win0_3.index t 1 = 0 :=
  (by decide +kernel : ∀ t : Fin grid0.N, win0_2.index t 0 = t.val / 12 ∧ win0_2.index t 1 = 0 ∧ win0_3.index t 0 = t.val / 12
    ∧ win0_3.index t 1 = 0)
/-- The gains' blocks at a point. -/
theorem at45 : ∀ t : Fin cfg0.N, win0_4.index t 0 = 0 ∧ win0_4.index t 1 = 0 ∧ win0_5.index t 0 = 0 ∧ win0_5.index t 1 = 0 :=
  (by decide +kernel : ∀ t : Fin grid0.N, win0_4.index t 0 = 0 ∧ win0_4.index t 1 = 0 ∧ win0_5.index t 0 = 0 ∧ win0_5.index t 1 = 0)
/-- The result's block at a point. -/
theorem at6 : ∀ t : Fin cfg0.N, win0_6.index t 0 = t.val / 12 ∧ win0_6.index t 1 = t.val % 12 :=
  (by decide +kernel : ∀ t : Fin grid0.N, win0_6.index t 0 = t.val / 12 ∧ win0_6.index t 1 = t.val % 12)
/-- Every point writes its block back. -/
theorem flush6 : ∀ t : Fin cfg0.N, (cfg0.win 6).flush t = true :=
  (by decide +kernel : ∀ t : Fin grid0.N, win0_6.flush t = true)

/-- The activations' block, entry by entry. -/
theorem blk0 (c : Dev nD) (t : Fin cfg0.N) (r : Fin 1408) (k : Fin 4096) :
    iblk m c 0 t (ix2 (n0 := 1408) (n1 := 4096) r k)
      = m ((c : Thread nD τ).loc main_arg0) (ix2 (n0 := 8448) (n1 := 4096) ⟨1408 * (t.val / 12) + r.val, by have := lt_72 t; omega⟩ k) := by
  unfold iblk
  rw [View.read_apply]
  refine congrArg (m ((c : Thread nD τ).loc main_arg0)) ?_
  obtain ⟨e0, e1⟩ := at0 t
  funext a; refine Fin.ext ?_
  fin_cases a
  · show win0_0.index t 0 * 1408 + 1 * r.val = 1408 * (t.val / 12) + r.val
    rw [e0]; omega
  · show win0_0.index t 1 * 4096 + 1 * k.val = k.val
    rw [e1]; omega

/-- A weights' row is one of the array's. -/
theorem wStart_lt (t : Fin cfg0.N) (C : Fin 512) : wStart (t.val % 12) + C.val < 7488 := by
  have := lt_72 t; unfold wStart; split <;> omega

/-- The weights' block, entry by entry. -/
theorem blk1 (c : Dev nD) (t : Fin cfg0.N) (C : Fin 512) (k : Fin 4096) :
    iblk m c 1 t (ix3 (n0 := 1) (n1 := 512) (n2 := 4096) 0 C k)
      = V m c main_v103 (ix3 (n0 := 4) (n1 := 7488) (n2 := 4096) 0 ⟨wStart (t.val % 12) + C.val, wStart_lt t C⟩ k) := by
  unfold iblk
  rw [View.read_apply]
  refine congrArg (V m c main_v103) ?_
  obtain ⟨e0, e1, e2⟩ := at1 t
  funext a; refine Fin.ext ?_
  fin_cases a
  · show cc0_transform_1 (grid0.coords t) 0 + 1 * 0 = 0
    rw [e0]
  · show cc0_transform_1 (grid0.coords t) 1 + 1 * C.val = wStart (t.val % 12) + C.val
    rw [e1]; omega
  · show cc0_transform_1 (grid0.coords t) 2 + 1 * k.val = k.val
    rw [e2]; omega

/-- The cosines' block, entry by entry. -/
theorem blk2 (c : Dev nD) (t : Fin cfg0.N) (r : Fin 1408) (l : Fin 128) :
    iblk m c 2 t (ix2 (n0 := 1408) (n1 := 128) r l)
      = V m c main_v51 (ix2 (n0 := 8448) (n1 := 128) ⟨1408 * (t.val / 12) + r.val, by have := lt_72 t; omega⟩ l) := by
  unfold iblk
  rw [View.read_apply]
  refine congrArg (V m c main_v51) ?_
  obtain ⟨e0, e1, _, _⟩ := at23 t
  funext a; refine Fin.ext ?_
  fin_cases a
  · show win0_2.index t 0 * 1408 + 1 * r.val = 1408 * (t.val / 12) + r.val
    rw [e0]; omega
  · show win0_2.index t 1 * 128 + 1 * l.val = l.val
    rw [e1]; omega

/-- The sines' block, entry by entry. -/
theorem blk3 (c : Dev nD) (t : Fin cfg0.N) (r : Fin 1408) (l : Fin 128) :
    iblk m c 3 t (ix2 (n0 := 1408) (n1 := 128) r l)
      = V m c main_v53 (ix2 (n0 := 8448) (n1 := 128) ⟨1408 * (t.val / 12) + r.val, by have := lt_72 t; omega⟩ l) := by
  unfold iblk
  rw [View.read_apply]
  refine congrArg (V m c main_v53) ?_
  obtain ⟨_, _, e0, e1⟩ := at23 t
  funext a; refine Fin.ext ?_
  fin_cases a
  · show win0_3.index t 0 * 1408 + 1 * r.val = 1408 * (t.val / 12) + r.val
    rw [e0]; omega
  · show win0_3.index t 1 * 128 + 1 * l.val = l.val
    rw [e1]; omega

/-- The queries' gain's block is the gain. -/
theorem blk4 (c : Dev nD) (t : Fin cfg0.N) (l : Fin 128) :
    iblk m c 4 t (ix2 (n0 := 1) (n1 := 128) 0 l) = V m c main_v108 (ix2 (n0 := 1) (n1 := 128) 0 l) := by
  unfold iblk
  rw [View.read_apply]
  refine congrArg (V m c main_v108) ?_
  obtain ⟨e0, e1, _, _⟩ := at45 t
  funext a; refine Fin.ext ?_
  fin_cases a
  · show win0_4.index t 0 * 1 + 1 * 0 = 0
    rw [e0]
  · show win0_4.index t 1 * 128 + 1 * l.val = l.val
    rw [e1]; omega

/-- The keys' gain's block is the gain. -/
theorem blk5 (c : Dev nD) (t : Fin cfg0.N) (l : Fin 128) :
    iblk m c 5 t (ix2 (n0 := 1) (n1 := 128) 0 l) = V m c main_v109 (ix2 (n0 := 1) (n1 := 128) 0 l) := by
  unfold iblk
  rw [View.read_apply]
  refine congrArg (V m c main_v109) ?_
  obtain ⟨_, _, e0, e1⟩ := at45 t
  funext a; refine Fin.ext ?_
  fin_cases a
  · show win0_5.index t 0 * 1 + 1 * 0 = 0
    rw [e0]
  · show win0_5.index t 1 * 128 + 1 * l.val = l.val
    rw [e1]; omega

end Cert.Proj

end
-- ==== Proof.ProjTable.lean ====
/- The arrays the input projection's call is given: the weights transposed, the gains, and the tables of the rotary's
   cosines and signed sines, a row of 128 columns per position. -/
module

public import proofs.«01_k».proof.Proof.ProjRow

@[expose] public section

set_option maxRecDepth 16384

noncomputable section

namespace Cert.Proj

open Cert.Kernel6Ideal Cert.Kernel6Ideal.Gen
open Idealize.ShloMosaic Idealize.ShloMosaic.TcCoe Idealize.SL.Sem

/-- The quotient of the host's integers, rounded down. -/
def floorDiv {S : Shape} (hb : S_.BroadcastsInDim S (![] : Fin 0 → Fin S.rank)) (x : IVec S 32) (k : IVec S_ 32) : IVec S 32 :=
  select (andi (cmpi .ne (signi x) (broadcastInDim S ![] hb (signi k)))
      (cmpi .ne (Host.remsi x (broadcastInDim S ![] hb k)) (broadcastInDim S ![] hb (constantI S_ 32 0#32))))
    (subi (Host.divsi x (broadcastInDim S ![] hb k)) (broadcastInDim S ![] hb (constantI S_ 32 1#32)))
    (Host.divsi x (broadcastInDim S ![] hb k))

/-- The divisor of a remainder, one for zero. -/
def divisor (k : IVec S_ 32) : IVec S_ 32 := select (cmpi .eq k (constantI S_ 32 0#32)) (constantI S_ 32 1#32) k

/-- The remainder of that quotient. -/
def floorRem {S : Shape} (hb : S_.BroadcastsInDim S (![] : Fin 0 → Fin S.rank)) (x : IVec S 32) (k : IVec S_ 32) : IVec S 32 :=
  select (andi (cmpi .ne (cmpi .slt (Host.remsi x (broadcastInDim S ![] hb (divisor k))) (broadcastInDim S ![] hb (constantI S_ 32 0#32)))
        (broadcastInDim S ![] hb (cmpi .slt (divisor k) (constantI S_ 32 0#32))))
      (cmpi .ne (Host.remsi x (broadcastInDim S ![] hb (divisor k))) (broadcastInDim S ![] hb (constantI S_ 32 0#32))))
    (addi (Host.remsi x (broadcastInDim S ![] hb (divisor k))) (broadcastInDim S ![] hb (divisor k)))
    (Host.remsi x (broadcastInDim S ![] hb (divisor k)))

/-- A column's place among its frequencies. -/
def place : IVec S128 32 :=
  select (cmpi .slt (floorRem bcast_S_S128 (iotaInDim S128 32 0) (constantI S_ 32 32#32)) (broadcastInDim S128 ![] bcast_S_S128 (constantI S_ 32 0#32)))
    (addi (floorRem bcast_S_S128 (iotaInDim S128 32 0) (constantI S_ 32 32#32)) (broadcastInDim S128 ![] bcast_S_S128 (constantI S_ 32 32#32)))
    (floorRem bcast_S_S128 (iotaInDim S128 32 0) (constantI S_ 32 32#32))

/-- Which columns turn with the position's row. -/
def byRow : IVec S128 1 :=
  cmpi .eq (floorRem bcast_S_S128 (floorDiv bcast_S_S128 (iotaInDim S128 32 0) (constantI S_ 32 64#32)) (constantI S_ 32 2#32))
    (broadcastInDim S128 ![] bcast_S_S128 (constantI S_ 32 0#32))

/-- Which columns are the lower ones of their half. -/
def lower : IVec S128 1 :=
  cmpi .slt (floorRem bcast_S_S128 (iotaInDim S128 32 0) (constantI S_ 32 64#32)) (broadcastInDim S128 ![] bcast_S_S128 (constantI S_ 32 32#32))

/-- Which columns are turned: all. -/
def turned : IVec S128 1 := cmpi .slt (iotaInDim S128 32 0) (broadcastInDim S128 ![] bcast_S_S128 (constantI S_ 32 128#32))

section Any

variable {F : FTy → Type} [FloatOps F]

/-- A position's row. -/
def rowPos : FVec F S8192 .f32 := sitofp .f32 (floorDiv bcast_S_S8192 (iotaInDim S8192 32 0) (constantI S_ 32 64#32))
/-- A position's column. -/
def colPos : FVec F S8192 .f32 := sitofp .f32 (floorRem bcast_S_S8192 (iotaInDim S8192 32 0) (constantI S_ 32 64#32))

/-- The frequencies. -/
def freqs : FVec F S32 .f32 :=
  Host.powf (broadcastInDim S32 ![] bcast_S_S32 (constant S_ .f32 0x461C4000#32))
    (Host.divf (Host.negf (addf (broadcastInDim S32 ![] bcast_S_S32 (constant S_ .f32 0x00000000#32))
        (mulf (broadcastInDim S32 ![] bcast_S_S32 (constant S_ .f32 0x40000000#32)) (sitofp .f32 (iotaInDim S32 32 0)))))
      (broadcastInDim S32 ![] bcast_S_S32 (constant S_ .f32 0x42800000#32)))

/-- A column's frequency. -/
def freqAt : FVec F S128 .f32 :=
  Host.gather gather_S32_S128x1_S128_n_0_n_n_0_1_1 (freqs (F := F)) (broadcastInDim S128x1 ![0] bcast_S128_S128x1_0 place)

/-- The angles. -/
def angles : FVec F S8192x128 .f32 :=
  mulf (select (broadcastInDim S8192x128 ![0, 1] bcast_S1x128_S8192x128_0_1 (broadcastInDim S1x128 ![1] bcast_S128_S1x128_1 byRow))
      (broadcastInDim S8192x128 ![0, 1] bcast_S8192x1_S8192x128_0_1 (broadcastInDim S8192x1 ![0] bcast_S8192_S8192x1_0 (rowPos (F := F))))
      (broadcastInDim S8192x128 ![0, 1] bcast_S8192x1_S8192x128_0_1 (broadcastInDim S8192x1 ![0] bcast_S8192_S8192x1_0 (colPos (F := F)))))
    (broadcastInDim S8192x128 ![0, 1] bcast_S1x128_S8192x128_0_1 (broadcastInDim S1x128 ![1] bcast_S128_S1x128_1 (freqAt (F := F))))

/-- A column's sign. -/
def signs : FVec F S128 .f32 :=
  select lower (broadcastInDim S128 ![] bcast_S_S128 (constant S_ .f32 0xBF800000#32))
    (broadcastInDim S128 ![] bcast_S_S128 (constant S_ .f32 0x3F800000#32))

/-- A table: its entries on the latent rows, and one value on the context rows. -/
def table (x : FVec F S8192x128 .f32) (v : BitVec 32) : FVec F S8448x128 .f32 :=
  concatenate S8448x128 0 [
    ⟨S8192x128, select (broadcastInDim S8192x128 ![0, 1] bcast_S1x128_S8192x128_0_1 (broadcastInDim S1x128 ![1] bcast_S128_S1x128_1 turned))
      x (broadcastInDim S8192x128 ![] bcast_S_S8192x128 (constant S_ .f32 v))⟩,
    ⟨S256x128, broadcastInDim S256x128 ![] bcast_S_S256x128 (constant S_ .f32 v)⟩] concatenates_S8192x128_S256x128_S8448x128_d0

/-- The table of cosines. -/
def cosines : FVec F S8448x128 .f32 := table (Host.cos (angles (F := F))) 0x3F800000#32

/-- The table of signed sines. -/
def sines : FVec F S8448x128 .f32 :=
  table (mulf (Host.sin (angles (F := F)))
    (broadcastInDim S8192x128 ![0, 1] bcast_S1x128_S8192x128_0_1 (broadcastInDim S1x128 ![1] bcast_S128_S1x128_1 (signs (F := F))))) 0x00000000#32

/-- The first layer's gain. -/
def gain (g : FVec F S4x128 .f32) : FVec F S1x128 .f32 :=
  shapeCast S1x128 (shapeCast S128 (extractStridedSlice S1x128 ![0, 0] g slices_S4x128_S1x128_0_0) shapeCasts_S1x128_S128) shapeCasts_S128_S1x128

/-- The weights, a column's entries side by side. -/
def turnedW (w : FVec F S4x4096x7488 .f32) : FVec F S4x7488x4096 .bf16 :=
  truncf .bf16 (transpose S4x7488x4096 [0, 2, 1] w transposes_S4x4096x7488_S4x7488x4096_0_2_1) bitsLt_bf16_f32

end Any

/-! ## Entry by entry -/

/-- A column's place is its remainder by 32. -/
theorem place_min : ∀ l : Fin 128, min (place (ix1 l)).toInt.toNat 31 = l.val % 32 := by decide +kernel
/-- The first half of the columns turn with the row. -/
theorem byRow_at : ∀ l : Fin 128, byRow (ix1 l) = if l.val < 64 then 1#1 else 0#1 := by decide +kernel
/-- The lower columns of a half are its first 32. -/
theorem lower_at : ∀ l : Fin 128, lower (ix1 l) = if l.val % 64 < 32 then 1#1 else 0#1 := by decide +kernel
/-- All columns are turned. -/
theorem turned_at : ∀ l : Fin 128, turned (ix1 l) = 1#1 := by decide +kernel

/-- A column's frequency is its place's. -/
theorem freqAt_at (l : Fin 128) : freqAt (F := Ideal) (ix1 l) = freqs (F := Ideal) (ix1 ⟨l.val % 32, Nat.mod_lt _ (by decide)⟩) := by
  unfold freqAt Host.gather
  congr 1
  funext a
  obtain rfl : a = 0 := Subsingleton.elim _ _
  refine Fin.ext ?_
  show (gather_S32_S128x1_S128_n_0_n_n_0_1_1).start (ix1 l) (broadcastInDim S128x1 ![0] bcast_S128_S128x1_0 place) 0
    + (gather_S32_S128x1_S128_n_0_n_n_0_1_1).batchCoord (ix1 l) 0 + (gather_S32_S128x1_S128_n_0_n_n_0_1_1).offCoord (ix1 l) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gather_S32_S128x1_S128_n_0_n_n_0_1_1).startIndexMap from List.mem_singleton.mpr rfl)]
  have hb : ∀ j : S128x1.Idx, broadcastInDim S128x1 ![0] bcast_S128_S128x1_0 place j = place (ix1 ⟨(j 0).val, (j 0).isLt⟩) := fun j =>
    broadcastInDim_apply _ _ _ _ _ (fun a => by fin_cases a; rfl)
  rw [hb]
  exact place_min l

/-- The position of a column's half. -/
def posAt (T : Fin 8192) (l : Fin 128) : EReal := if l.val < 64 then rowPos (F := Ideal) (ix1 T) else colPos (F := Ideal) (ix1 T)

/-- The angle at a position and a column. -/
def angleAt (T : Fin 8192) (l : Fin 128) : EReal :=
  posAt T l * freqs (F := Ideal) (ix1 ⟨l.val % 32, Nat.mod_lt _ (by decide)⟩)

/-- The angles, entry by entry. -/
theorem angles_at (T : Fin 8192) (l : Fin 128) : angles (F := Ideal) (ix2 T l) = angleAt T l := by
  unfold angleAt posAt
  rw [← freqAt_at]
  pointwise [angles]
  rw [byRow_at]
  by_cases h : l.val < 64
  · rw [if_pos h, if_pos h]; rfl
  · rw [if_neg h, if_neg h]; rfl

/-- Minus one. -/
theorem neg_one_lit : Ideal.ofBits .f32 0xBF800000#32 = -1 := by
  rw [show (-1 : EReal) = ((-(1 : ℝ) : ℝ) : EReal) from by rw [EReal.coe_neg, EReal.coe_one]]
  simp [Ideal.ofBits, Ideal.ieee, -EReal.coe_mul, -EReal.coe_neg]; norm_num

/-- A column's sign. -/
theorem signs_at (l : Fin 128) : signs (F := Ideal) (ix1 l) = if l.val % 64 < 32 then -1 else 1 := by
  pointwise [signs]
  rw [lower_at, neg_one_lit]
  by_cases h : l.val % 64 < 32
  · rw [if_pos h, if_pos h]; rfl
  · rw [if_neg h, if_neg h]; rfl

/-- A table on the latent rows. -/
theorem table_lat (x : FVec Ideal S8192x128 .f32) (v : BitVec 32) (R : Fin 8448) (hR : R.val < 8192) (l : Fin 128) :
    table x v (ix2 (n0 := 8448) (n1 := 128) R l) = x (ix2 (n0 := 8192) (n1 := 128) ⟨R.val, hR⟩ l) := by
  refine (concatenate_pair_apply_left (s₁ := S8192x128) (s₂ := S256x128) (t := S8448x128) 0 _ _ _ (ix2 (n0 := 8448) (n1 := 128) R l)
    rfl (ix2 (n0 := 8192) (n1 := 128) ⟨R.val, hR⟩ l) (fun b => by fin_cases b <;> rfl)).trans ?_
  pointwise
  rw [turned_at]
  rfl

/-- A table on the context rows. -/
theorem table_ctx (x : FVec Ideal S8192x128 .f32) (v : BitVec 32) (R : Fin 8448) (hR : ¬R.val < 8192) (l : Fin 128) :
    table x v (ix2 (n0 := 8448) (n1 := 128) R l) = Ideal.ofBits .f32 v := by
  have hlt := R.isLt
  refine (concatenate_pair_apply_right (s₁ := S8192x128) (s₂ := S256x128) (t := S8448x128) 0 _ _ _ (ix2 (n0 := 8448) (n1 := 128) R l)
    rfl rfl (ix2 (n0 := 256) (n1 := 128) ⟨R.val - 8192, by omega⟩ l) (by
      intro b hb
      fin_cases b
      · exact absurd rfl hb
      · rfl)
    (by show R.val - 8192 + 8192 = R.val; omega)).trans ?_
  pointwise

/-- The cosine at a row and a column: one on the context rows. -/
def cosAt (R : Fin 8448) (l : Fin 128) : EReal :=
  if h : R.val < 8192 then Ideal.hostUnary .cos (angleAt ⟨R.val, h⟩ l) else 1

/-- The sine at a row and a column, without its sign: zero on the context rows. -/
def sinAt (R : Fin 8448) (l : Fin 128) : EReal :=
  if h : R.val < 8192 then Ideal.hostUnary .sin (angleAt ⟨R.val, h⟩ l) else 0

/-- The table of cosines, entry by entry. -/
theorem cosines_at (R : Fin 8448) (l : Fin 128) : cosines (F := Ideal) (ix2 R l) = cosAt R l := by
  unfold cosines cosAt
  by_cases h : R.val < 8192
  · rw [table_lat _ _ R h, dif_pos h, ← angles_at]; rfl
  · rw [table_ctx _ _ R h, dif_neg h, Ideal.ofBits_one_f32]

/-- The table of sines, entry by entry. -/
theorem sines_at (R : Fin 8448) (l : Fin 128) :
    sines (F := Ideal) (ix2 R l) = if l.val % 64 < 32 then -sinAt R l else sinAt R l := by
  unfold sines sinAt
  by_cases h : R.val < 8192
  · rw [table_lat _ _ R h, dif_pos h, ← angles_at]
    pointwise
    rw [signs_at]
    by_cases hl : l.val % 64 < 32
    · rw [if_pos hl, if_pos hl, mul_neg, mul_one]; rfl
    · rw [if_neg hl, if_neg hl, mul_one]; rfl
  · rw [table_ctx _ _ R h, dif_neg h, Ideal.ofBits_zero_f32]
    simp

/-- The gain, entry by entry. -/
theorem gain_at (g : FVec Ideal S4x128 .f32) (l : Fin 128) : gain g (ix2 (n0 := 1) (n1 := 128) 0 l) = g (ix2 (n0 := 4) (n1 := 128) 0 l) := by
  pointwise [gain]

/-- The weights, entry by entry. -/
theorem turnedW_at (w : FVec Ideal S4x4096x7488 .f32) (C : Fin 7488) (k : Fin 4096) :
    turnedW w (ix3 (n0 := 4) (n1 := 7488) (n2 := 4096) 0 C k) = w (ix3 (n0 := 4) (n1 := 4096) (n2 := 7488) 0 k C) := by
  pointwise [turnedW]

end Cert.Proj

end
-- ==== Proof.ProjHost.lean ====
/- The host's work before the input projection's call: the weights transposed, the gains taken, and the tables of the
   rotary's cosines and signed sines, a row of 128 columns per position. -/
module

public import proofs.«01_k».proof.Proof.ProjTable
public import Idealize.ShloMosaic.Lib.StableHlo.RunRead

@[expose] public section

set_option maxRecDepth 16384

noncomputable section

namespace Cert.Proj

open Cert.Kernel6Ideal Cert.Kernel6Ideal.Gen
open Idealize.ShloMosaic Idealize.ShloMosaic.TcCoe Idealize.SL.Sem Idealize.ShloMosaic.StableHlo

variable {F : FTy → Type} [FloatOps F]

variable (W : Valuation τ sig (Elt F))

/-- The host's operations up to the frequencies. -/
abbrev lineA : List (HloOp τ sig (Elt F)) := List.flatten [hostOps0, hostOps0_1, hostOps0_2, hostOps0_3, hostOps0_4]

/-- The operations up to each column's frequency. -/
abbrev lineB : List (HloOp τ sig (Elt F)) := List.flatten [hostOps0_5, hostOps0_6]

/-- The operations up to each column's group of 64. -/
abbrev lineC : List (HloOp τ sig (Elt F)) := List.flatten [hostOps0_7, hostOps0_8]

/-- The operations up to the group's remainder. -/
abbrev lineD : List (HloOp τ sig (Elt F)) := List.flatten [hostOps0_9]

/-- The operations up to the angles. -/
abbrev lineE : List (HloOp τ sig (Elt F)) := List.flatten [hostOps0_10, hostOps0_11, hostOps0_12]

/-- The operations up to each column's place in its half. -/
abbrev lineG : List (HloOp τ sig (Elt F)) := List.flatten [hostOps0_13]

/-- The operations up to the tables' latent rows. -/
abbrev lineH : List (HloOp τ sig (Elt F)) := List.flatten [hostOps0_14, hostOps0_15, hostOps0_16, hostOps0_17, hostOps0_18, hostOps0_19]

/-- The rest of the host's operations. -/
abbrev lineJ : List (HloOp τ sig (Elt F)) := List.flatten [hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36]

/-- A table's latent rows: the turned columns' entries, one value elsewhere. -/
abbrev rows (x : FVec F S8192x128 .f32) (v : BitVec 32) : FVec F S8192x128 .f32 :=
  select (broadcastInDim S8192x128 ![0, 1] bcast_S1x128_S8192x128_0_1 (broadcastInDim S1x128 ![1] bcast_S128_S1x128_1 turned))
    x (broadcastInDim S8192x128 ![] bcast_S_S8192x128 (constant S_ .f32 v))

/-- The signed sines' entries. -/
abbrev signed : FVec F S8192x128 .f32 :=
  mulf (Host.sin (angles (F := F)))
    (broadcastInDim S8192x128 ![0, 1] bcast_S1x128_S8192x128_0_1 (broadcastInDim S1x128 ![1] bcast_S128_S1x128_1 (signs (F := F))))

variable (W : Valuation τ sig (Elt F))

/-- The positions' rows. -/
theorem a_v2 :
    after (lineA (F := F)) W (Proc.devRef .tc main_v2) = rowPos (F := F) := by
  after_reads_simp
  rfl

/-- The positions' columns. -/
theorem a_v4 :
    after (lineA (F := F)) W (Proc.devRef .tc main_v4) = colPos (F := F) := by
  after_reads_simp
  rfl

/-- The frequencies. -/
theorem a_v15 :
    after (lineA (F := F)) W (Proc.devRef .tc main_v15) = freqs (F := F) := by
  after_reads_simp
  rfl

/-- The columns. -/
theorem a_v5 :
    after (lineA (F := F)) W (Proc.devRef .tc main_v5) = iotaInDim S128 32 0 := by
  after_reads_simp

/-- The number of frequencies. -/
theorem a_c_4 :
    after (lineA (F := F)) W (Proc.devRef .tc main_c_4) = constantI S_ 32 32#32 := by
  after_reads_simp

/-- Each column's frequency. -/
theorem b_v23 (h5 : W (Proc.devRef .tc main_v5) = iotaInDim S128 32 0) (h15 : W (Proc.devRef .tc main_v15) = freqs (F := F)) (hc4 : W (Proc.devRef .tc main_c_4) = constantI S_ 32 32#32) :
    after (lineB (F := F)) W (Proc.devRef .tc main_v23) = freqAt (F := F) := by
  after_reads_simp
  simp only [h5, h15, hc4]
  rfl

/-- The width of a half. -/
theorem b_c_7 :
    after (lineB (F := F)) W (Proc.devRef .tc main_c_7) = constantI S_ 32 64#32 := by
  after_reads_simp

/-- Each column's group. -/
theorem c_v24 (h5 : W (Proc.devRef .tc main_v5) = iotaInDim S128 32 0) (hc7 : W (Proc.devRef .tc main_c_7) = constantI S_ 32 64#32) :
    after (lineC (F := F)) W (Proc.devRef .tc main_v24) = floorDiv bcast_S_S128 (iotaInDim S128 32 0) (constantI S_ 32 64#32) := by
  after_reads_simp
  simp only [h5, hc7]
  rfl

/-- The number of groups. -/
theorem c_c_8 :
    after (lineC (F := F)) W (Proc.devRef .tc main_c_8) = constantI S_ 32 2#32 := by
  after_reads_simp

/-- The group's remainder. -/
theorem d_v25 (h24 : W (Proc.devRef .tc main_v24) = floorDiv bcast_S_S128 (iotaInDim S128 32 0) (constantI S_ 32 64#32)) (hc8 : W (Proc.devRef .tc main_c_8) = constantI S_ 32 2#32) :
    after (lineD (F := F)) W (Proc.devRef .tc main_v25) = floorRem bcast_S_S128 (floorDiv bcast_S_S128 (iotaInDim S128 32 0) (constantI S_ 32 64#32)) (constantI S_ 32 2#32) := by
  after_reads_simp
  simp only [h24, hc8]
  rfl

/-- The angles. -/
theorem e_v34 (h25 : W (Proc.devRef .tc main_v25) = floorRem bcast_S_S128 (floorDiv bcast_S_S128 (iotaInDim S128 32 0) (constantI S_ 32 64#32)) (constantI S_ 32 2#32)) (h2 : W (Proc.devRef .tc main_v2) = rowPos (F := F)) (h4 : W (Proc.devRef .tc main_v4) = colPos (F := F)) (h23 : W (Proc.devRef .tc main_v23) = freqAt (F := F)) :
    after (lineE (F := F)) W (Proc.devRef .tc main_v34) = angles (F := F) := by
  after_reads_simp
  simp only [h25, h2, h4, h23]
  rfl

/-- The width of a half, again. -/
theorem e_c_10 :
    after (lineE (F := F)) W (Proc.devRef .tc main_c_10) = constantI S_ 32 64#32 := by
  after_reads_simp

/-- A column's place in its half. -/
theorem g_v35 (h5 : W (Proc.devRef .tc main_v5) = iotaInDim S128 32 0) (hc10 : W (Proc.devRef .tc main_c_10) = constantI S_ 32 64#32) :
    after (lineG (F := F)) W (Proc.devRef .tc main_v35) = floorRem bcast_S_S128 (iotaInDim S128 32 0) (constantI S_ 32 64#32) := by
  after_reads_simp
  simp only [h5, hc10]
  rfl

/-- The cosines' latent rows. -/
theorem h_v44 (h5 : W (Proc.devRef .tc main_v5) = iotaInDim S128 32 0) (h34 : W (Proc.devRef .tc main_v34) = angles (F := F)) :
    after (lineH (F := F)) W (Proc.devRef .tc main_v44) = rows (Host.cos (angles (F := F))) 0x3F800000#32 := by
  after_reads_simp
  simp only [h5, h34]
  rfl

/-- The signed sines' latent rows. -/
theorem h_v49 (h5 : W (Proc.devRef .tc main_v5) = iotaInDim S128 32 0) (h34 : W (Proc.devRef .tc main_v34) = angles (F := F)) (h35 : W (Proc.devRef .tc main_v35) = floorRem bcast_S_S128 (iotaInDim S128 32 0) (constantI S_ 32 64#32)) :
    after (lineH (F := F)) W (Proc.devRef .tc main_v49) = rows (signed (F := F)) 0x00000000#32 := by
  after_reads_simp
  simp only [h5, h34, h35]
  rfl

/-- The cosines. -/
theorem j_v51 (h44 : W (Proc.devRef .tc main_v44) = rows (Host.cos (angles (F := F))) 0x3F800000#32) :
    after (lineJ (F := F)) W (Proc.devRef .tc main_v51) = cosines (F := F) := by
  after_reads_simp
  refine Eq.trans (congrArg (fun x => concatenate S8448x128 0 [⟨S8192x128, x⟩, ⟨S256x128, broadcastInDim S256x128 ![] bcast_S_S256x128
    (constant S_ .f32 0x3F800000#32)⟩] concatenates_S8192x128_S256x128_S8448x128_d0) h44) ?_
  rfl

/-- The signed sines. -/
theorem j_v53 (h49 : W (Proc.devRef .tc main_v49) = rows (signed (F := F)) 0x00000000#32) :
    after (lineJ (F := F)) W (Proc.devRef .tc main_v53) = sines (F := F) := by
  after_reads_simp
  refine Eq.trans (congrArg (fun x => concatenate S8448x128 0 [⟨S8192x128, x⟩, ⟨S256x128, broadcastInDim S256x128 ![] bcast_S_S256x128
    (constant S_ .f32 0x00000000#32)⟩] concatenates_S8192x128_S256x128_S8448x128_d0) h49) ?_
  rfl

/-- Kept there. -/
theorem bcd_keep_v2 : after (lineD (F := F)) (after (lineC (F := F)) (after (lineB (F := F)) W)) (Proc.devRef .tc main_v2) = W (Proc.devRef .tc main_v2) := by
  after_reads_simp

/-- Kept there. -/
theorem bcd_keep_v4 : after (lineD (F := F)) (after (lineC (F := F)) (after (lineB (F := F)) W)) (Proc.devRef .tc main_v4) = W (Proc.devRef .tc main_v4) := by
  after_reads_simp

/-- Kept there. -/
theorem cd_keep_v23 : after (lineD (F := F)) (after (lineC (F := F)) W) (Proc.devRef .tc main_v23) = W (Proc.devRef .tc main_v23) := by
  after_reads_simp

/-- Kept there. -/
theorem b_keep_v5 : after (lineB (F := F)) W (Proc.devRef .tc main_v5) = W (Proc.devRef .tc main_v5) := by
  after_reads_simp

/-- Kept there. -/
theorem bcde_keep_v5 : after (lineE (F := F)) (after (lineD (F := F)) (after (lineC (F := F)) (after (lineB (F := F)) W))) (Proc.devRef .tc main_v5) = W (Proc.devRef .tc main_v5) := by
  after_reads_simp

/-- Kept there. -/
theorem bcdeg_keep_v5 : after (lineG (F := F)) (after (lineE (F := F)) (after (lineD (F := F)) (after (lineC (F := F)) (after (lineB (F := F)) W)))) (Proc.devRef .tc main_v5) = W (Proc.devRef .tc main_v5) := by
  after_reads_simp

/-- Kept there. -/
theorem g_keep_v34 : after (lineG (F := F)) W (Proc.devRef .tc main_v34) = W (Proc.devRef .tc main_v34) := by
  after_reads_simp

variable (m : (ℓ : Loc nD τ sig) → Buf (Elt F) ℓ) (c : Dev nD)

/-- The host's operations, in their stretches. -/
theorem V_lines (b : Ref sig .tc) : V m c b = after (lineJ (F := F)) (after (lineH (F := F)) (after (lineG (F := F)) (after (lineE (F := F))
    (after (lineD (F := F)) (after (lineC (F := F)) (after (lineB (F := F)) (after (lineA (F := F)) (fun b => m (c, b))))))))) (Proc.devRef .tc b) := by
  simp only [← after_append]
  refine congrArg (fun l => after l (fun b => m (c, b)) (Proc.devRef .tc b)) ?_
  simp only [List.flatten_cons, List.flatten_nil, List.append_nil, List.append_assoc]

/-- What the last two stretches find: the columns, the angles, and the columns' places in their halves. -/
theorem found : ∃ W : Valuation τ sig (Elt F), (∀ b, V m c b = after (lineJ (F := F)) (after (lineH (F := F)) W) (Proc.devRef .tc b)) ∧
    W (Proc.devRef .tc main_v5) = iotaInDim S128 32 0 ∧ W (Proc.devRef .tc main_v34) = angles (F := F) ∧ W (Proc.devRef .tc main_v35) = floorRem bcast_S_S128 (iotaInDim S128 32 0) (constantI S_ 32 64#32) := by
  refine ⟨_, V_lines m c, ?_, ?_, ?_⟩
  · rw [bcdeg_keep_v5, a_v5]
  · rw [g_keep_v34]
    refine e_v34 _ (d_v25 _ (c_v24 _ ?_ (b_c_7 _)) (c_c_8 _)) ?_ ?_ ?_
    · rw [b_keep_v5, a_v5]
    · rw [bcd_keep_v2, a_v2]
    · rw [bcd_keep_v4, a_v4]
    · rw [cd_keep_v23]
      exact b_v23 _ (a_v5 _) (a_v15 _) (a_c_4 _)
  · exact g_v35 _ (by rw [bcde_keep_v5, a_v5]) (e_c_10 _)

/-- The launch finds the cosines. -/
theorem V_cos : V m c main_v51 = cosines := by
  obtain ⟨W, hV, h5, h34, h35⟩ := found m c
  exact (hV _).trans (j_v51 _ (h_v44 W h5 h34))

/-- The launch finds the signed sines. -/
theorem V_sin : V m c main_v53 = sines := by
  obtain ⟨W, hV, h5, h34, h35⟩ := found m c
  exact (hV _).trans (j_v53 _ (h_v49 W h5 h34 h35))

/-- The launch finds the weights transposed. -/
theorem V_w : V m c main_v103 = turnedW (m ((c : Thread nD τ).loc main_arg1)) := by
  after_reads_simp
  rfl

/-- The launch finds the queries' gain. -/
theorem V_gq : V m c main_v108 = gain (m ((c : Thread nD τ).loc main_arg2)) := by
  after_reads_simp
  rfl

/-- The launch finds the keys' gain. -/
theorem V_gk : V m c main_v109 = gain (m ((c : Thread nD τ).loc main_arg3)) := by
  after_reads_simp
  rfl

end Cert.Proj

end
-- ==== Proof.ProjRes.lean ====
/- An entry of the input projection's result, and the rotary's two forms. -/
module

public import proofs.«01_k».proof.Proof.ProjRow
public import proofs.«01_k».proof.Proof.ProjTable
public import proofs.«01_k».proof.Proof.Gen.Reference6Ideal.Read

@[expose] public section

set_option maxRecDepth 16384

noncomputable section

namespace Cert.Proj

open Cert.Reference6Ideal
open Idealize.ShloMosaic Idealize.ShloMosaic.TcCoe Idealize.SL.Sem

/-- Where a block of 128 columns of the result begins among the product's columns. -/
def wcol (B : ℕ) : ℕ := if B < 24 then 128 * B else 1344 + 128 * B

/-- A block lies among the product's columns. -/
theorem wcol_lt (B : ℕ) (hB : B < 48) (l : Fin 128) : wcol B + l.val < 7488 := by
  have := l.isLt; unfold wcol; split <;> omega

section Entry

variable (h : S8448x4096.Idx → EReal) (w : S4x4096x7488.Idx → EReal) (gq gk : S4x128.Idx → EReal)

/-- An entry of the product. -/
def prd (R : Fin 8448) (D : Fin 7488) : EReal :=
  ∑ k : Fin 4096, h (ix2 (n0 := 8448) (n1 := 4096) R k) * w (ix3 (n0 := 4) (n1 := 4096) (n2 := 7488) 0 k D)

/-- A row of a block of the product. -/
def rowAt (R : Fin 8448) (B : Fin 48) (l : Fin 128) : EReal := prd h w R ⟨wcol B.val + l.val, wcol_lt _ B.isLt l⟩

/-- The signed sine. -/
def ssin (R : Fin 8448) (l : Fin 128) : EReal := if l.val % 64 < 32 then -sinAt R l else sinAt R l

/-- A layer's gain. -/
def gainAt (g : S4x128.Idx → EReal) (l : Fin 128) : EReal := g (ix2 (n0 := 4) (n1 := 128) 0 l)

/-- An entry of the result. -/
def res (R : Fin 8448) (C : Fin 6144) : EReal :=
  rowOp (kinds (C.val / 512) ⟨C.val % 512 / 128, by omega⟩) (rowAt h w R ⟨C.val / 128, by omega⟩) (cosAt R) (ssin R)
    (gainAt gq) (gainAt gk) ⟨C.val % 128, Nat.mod_lt _ (by decide)⟩

end Entry

/-- A lower column's rotary: the cosine's part less its pair's sine's. -/
theorem turn_lo (y : Fin 128 → EReal) (T : Fin 8192) (R : Fin 8448) (hR : R.val = T.val) (l : Fin 128) (hl : l.val % 64 < 32) :
    y l * Ideal.hostUnary .cos (angleAt T l) - y (mate l) * Ideal.hostUnary .sin (angleAt T l) = ropeRow y (cosAt R) (ssin R) l := by
  have hT : R.val < 8192 := by have := T.isLt; omega
  have e : (⟨R.val, hT⟩ : Fin 8192) = T := Fin.ext hR
  unfold ropeRow ssin cosAt sinAt
  rw [if_pos hl, dif_pos hT, dif_pos hT, e, mul_neg, sub_eq_add_neg]

/-- An upper column's: the cosine's part and its pair's sine's. -/
theorem turn_hi (y : Fin 128 → EReal) (T : Fin 8192) (R : Fin 8448) (hR : R.val = T.val) (l : Fin 128) (hl : ¬l.val % 64 < 32) :
    y l * Ideal.hostUnary .cos (angleAt T l) + y (mate l) * Ideal.hostUnary .sin (angleAt T l) = ropeRow y (cosAt R) (ssin R) l := by
  have hT : R.val < 8192 := by have := T.isLt; omega
  have e : (⟨R.val, hT⟩ : Fin 8192) = T := Fin.ext hR
  unfold ropeRow ssin cosAt sinAt
  rw [if_neg hl, dif_pos hT, dif_pos hT, e]

/-- A context row is not turned. -/
theorem turn_ctx (y : Fin 128 → EReal) (R : Fin 8448) (hR : ¬R.val < 8192) (l : Fin 128) : ropeRow y (cosAt R) (ssin R) l = y l := by
  unfold ropeRow ssin cosAt sinAt
  rw [dif_neg hR, dif_neg hR]
  simp

/-- The angle of a column of the first half. -/
theorem angle_lo (T : Fin 8192) (l : Fin 128) (q : Fin 32) (h : l.val < 64) (hq : l.val % 32 = q.val) :
    angleAt T l = rowPos (F := Ideal) (ix1 T) * freqs (F := Ideal) (ix1 q) := by
  unfold angleAt posAt
  rw [if_pos h, show (⟨l.val % 32, Nat.mod_lt _ (by decide)⟩ : Fin 32) = q from Fin.ext hq]

/-- The angle of a column of the second half. -/
theorem angle_hi (T : Fin 8192) (l : Fin 128) (q : Fin 32) (h : ¬l.val < 64) (hq : l.val % 32 = q.val) :
    angleAt T l = colPos (F := Ideal) (ix1 T) * freqs (F := Ideal) (ix1 q) := by
  unfold angleAt posAt
  rw [if_neg h, show (⟨l.val % 32, Nat.mod_lt _ (by decide)⟩ : Fin 32) = q from Fin.ext hq]

end Cert.Proj

end
-- ==== Proof.ProjHeads.lean ====
/- The reference's heads before their rotary. -/
module

public import proofs.«01_k».proof.Proof.ProjRes

@[expose] public section

set_option maxRecDepth 16384

noncomputable section

namespace Cert.Proj

open Cert.Reference6Ideal Cert.Reference6Ideal.Read Cert.Reference6Ideal.Facts₀
open Idealize.ShloMosaic Idealize.ShloMosaic.TcCoe Idealize.SL.Sem

variable (h : S8448x4096.Idx → EReal) (w : S4x4096x7488.Idx → EReal) (gq gk : S4x128.Idx → EReal)

/-- The reference's product, entry by entry. -/
theorem v3_at (R : Fin 8448) (D : Fin 7488) :
    val_main_v3 (F := Ideal) h w (ix2 (n0 := 8448) (n1 := 7488) R D) = prd h w R D := by
  rw [val_main_v3_apply]
  refine Finset.sum_congr rfl fun k _ => ?_
  rw [val_main_v2_apply, val_main_v1_apply]
  refine congrArg₂ (fun a b => h a * w b) ?_ ?_
  · funext a; fin_cases a <;> rfl
  · have hk := k.isLt; have hD := D.isLt
    funext a; refine Fin.ext ?_
    fin_cases a
    · rfl
    · show (k.val * 7488 + D.val) / 7488 % 4096 = k.val; omega
    · show (k.val * 7488 + D.val) % 7488 = D.val; omega

/-- The heads of mixer A. -/
theorem plain_at (R : Fin 8448) (n : Fin 10) (l : Fin 128) :
    val_main_v8 (F := Ideal) h w (ix3 (n0 := 8448) (n1 := 10) (n2 := 128) R n l) = rowAt h w R ⟨n.val, by omega⟩ l := by
  have hR := R.isLt; have hn := n.isLt; have hl := l.isLt
  rw [val_main_v8_apply, val_main_v7_apply]
  refine Eq.trans (congrArg (val_main_v3 (F := Ideal) h w) ?_) (v3_at h w R ⟨wcol (n.val) + l.val, wcol_lt _ (by omega) l⟩)
  funext a; refine Fin.ext ?_
  fin_cases a
  · show ((R.val * 10 + n.val) * 128 + l.val) / 1280 = R.val; omega
  · show ((R.val * 10 + n.val) * 128 + l.val) % 1280 = wcol (n.val) + l.val
    rw [show wcol (n.val) = 128 * (n.val) from if_pos (by omega)]; omega

/-- The queries of mixer B before their norm. -/
theorem rawQ_at (R : Fin 8448) (n : Fin 8) (l : Fin 128) :
    val_main_v10 (F := Ideal) h w (ix3 (n0 := 8448) (n1 := 8) (n2 := 128) R n l) = rowAt h w R ⟨12 + n.val, by omega⟩ l := by
  have hR := R.isLt; have hn := n.isLt; have hl := l.isLt
  rw [val_main_v10_apply, val_main_v9_apply]
  refine Eq.trans (congrArg (val_main_v3 (F := Ideal) h w) ?_) (v3_at h w R ⟨wcol (12 + n.val) + l.val, wcol_lt _ (by omega) l⟩)
  funext a; refine Fin.ext ?_
  fin_cases a
  · show ((R.val * 8 + n.val) * 128 + l.val) / 1024 = R.val; omega
  · show 1536 + ((R.val * 8 + n.val) * 128 + l.val) % 1024 = wcol (12 + n.val) + l.val
    rw [show wcol (12 + n.val) = 128 * (12 + n.val) from if_pos (by omega)]; omega

/-- The keys of mixer B before their norm. -/
theorem rawK_at (R : Fin 8448) (n : Fin 2) (l : Fin 128) :
    val_main_v27 (F := Ideal) h w (ix3 (n0 := 8448) (n1 := 2) (n2 := 128) R n l) = rowAt h w R ⟨20 + n.val, by omega⟩ l := by
  have hR := R.isLt; have hn := n.isLt; have hl := l.isLt
  rw [val_main_v27_apply, val_main_v26_apply]
  refine Eq.trans (congrArg (val_main_v3 (F := Ideal) h w) ?_) (v3_at h w R ⟨wcol (20 + n.val) + l.val, wcol_lt _ (by omega) l⟩)
  funext a; refine Fin.ext ?_
  fin_cases a
  · show ((R.val * 2 + n.val) * 128 + l.val) / 256 = R.val; omega
  · show 2560 + ((R.val * 2 + n.val) * 128 + l.val) % 256 = wcol (20 + n.val) + l.val
    rw [show wcol (20 + n.val) = 128 * (20 + n.val) from if_pos (by omega)]; omega

/-- The queries of mixer B after their norm. -/
theorem normQ_at (R : Fin 8448) (n : Fin 8) (l : Fin 128) :
    val_main_v25 (F := Ideal) h w gq (ix3 (n0 := 8448) (n1 := 8) (n2 := 128) R n l)
      = normRow (rowAt h w R ⟨12 + n.val, by omega⟩) (gainAt gq) l := by
  have hl := l.isLt
  have hs : val_main_v14 (F := Ideal) h w (ix2 (n0 := 8448) (n1 := 8) R n)
      = ∑ k : Fin 128, rowAt h w R ⟨12 + n.val, by omega⟩ k * rowAt h w R ⟨12 + n.val, by omega⟩ k := by
    rw [val_main_v14_apply, val_main_cst_apply]
    refine Eq.trans (congrArg₂ (· + ·) Ideal.ofBits_zero_f32 (Finset.sum_congr rfl fun k _ => ?_)) (zero_add _)
    rw [val_main_v13_apply, show idx_main_v14 (ix2 (n0 := 8448) (n1 := 8) R n) k = ix3 (n0 := 8448) (n1 := 8) (n2 := 128) R n k from by
      funext a; fin_cases a <;> rfl, rawQ_at]
    rfl
  have hd : val_main_v20 (F := Ideal) h w (ix3 (n0 := 8448) (n1 := 8) (n2 := 1) R n 0)
      = Ideal.rsqrt (Ideal.div (∑ k : Fin 128, rowAt h w R ⟨12 + n.val, by omega⟩ k * rowAt h w R ⟨12 + n.val, by omega⟩ k)
        (Ideal.ofBits .f32 0x43000000#32) + Ideal.ofBits .f32 0x358637BD#32) := by
    rw [val_main_v20_apply, val_main_v19_apply, val_main_v17_apply, val_main_v18_apply, val_main_v16_apply, val_main_v15_apply, val_main_cst_1_apply, val_main_cst_2_apply,
      show idx_main_v15 (ix3 (n0 := 8448) (n1 := 8) (n2 := 1) R n 0) = ix2 (n0 := 8448) (n1 := 8) R n from by
        funext a; fin_cases a <;> rfl, hs]
    rfl
  have hg : val_main_v24 (F := Ideal) gq (ix3 (n0 := 8448) (n1 := 8) (n2 := 128) R n l) = gainAt gq l := by
    rw [val_main_v24_apply, val_main_v23_apply, val_main_v12_apply, val_main_v11_apply]
    refine congrArg gq ?_
    funext a; refine Fin.ext ?_
    fin_cases a
    · rfl
    · show l.val % 128 = l.val; omega
  rw [val_main_v25_apply, val_main_v22_apply, val_main_v21_apply, rawQ_at, hg,
    show idx_main_v21 (ix3 (n0 := 8448) (n1 := 8) (n2 := 128) R n l) = ix3 (n0 := 8448) (n1 := 8) (n2 := 1) R n 0 from by
      funext a; fin_cases a <;> rfl, hd]
  rfl

/-- The keys of mixer B after their norm. -/
theorem normK_at (R : Fin 8448) (n : Fin 2) (l : Fin 128) :
    val_main_v42 (F := Ideal) h w gk (ix3 (n0 := 8448) (n1 := 2) (n2 := 128) R n l)
      = normRow (rowAt h w R ⟨20 + n.val, by omega⟩) (gainAt gk) l := by
  have hl := l.isLt
  have hs : val_main_v31 (F := Ideal) h w (ix2 (n0 := 8448) (n1 := 2) R n)
      = ∑ k : Fin 128, rowAt h w R ⟨20 + n.val, by omega⟩ k * rowAt h w R ⟨20 + n.val, by omega⟩ k := by
    rw [val_main_v31_apply, val_main_cst_3_apply]
    refine Eq.trans (congrArg₂ (· + ·) Ideal.ofBits_zero_f32 (Finset.sum_congr rfl fun k _ => ?_)) (zero_add _)
    rw [val_main_v30_apply, show idx_main_v31 (ix2 (n0 := 8448) (n1 := 2) R n) k = ix3 (n0 := 8448) (n1 := 2) (n2 := 128) R n k from by
      funext a; fin_cases a <;> rfl, rawK_at]
    rfl
  have hd : val_main_v37 (F := Ideal) h w (ix3 (n0 := 8448) (n1 := 2) (n2 := 1) R n 0)
      = Ideal.rsqrt (Ideal.div (∑ k : Fin 128, rowAt h w R ⟨20 + n.val, by omega⟩ k * rowAt h w R ⟨20 + n.val, by omega⟩ k)
        (Ideal.ofBits .f32 0x43000000#32) + Ideal.ofBits .f32 0x358637BD#32) := by
    rw [val_main_v37_apply, val_main_v36_apply, val_main_v34_apply, val_main_v35_apply, val_main_v33_apply, val_main_v32_apply, val_main_cst_4_apply, val_main_cst_5_apply,
      show idx_main_v32 (ix3 (n0 := 8448) (n1 := 2) (n2 := 1) R n 0) = ix2 (n0 := 8448) (n1 := 2) R n from by
        funext a; fin_cases a <;> rfl, hs]
    rfl
  have hg : val_main_v41 (F := Ideal) gk (ix3 (n0 := 8448) (n1 := 2) (n2 := 128) R n l) = gainAt gk l := by
    rw [val_main_v41_apply, val_main_v40_apply, val_main_v29_apply, val_main_v28_apply]
    refine congrArg gk ?_
    funext a; refine Fin.ext ?_
    fin_cases a
    · rfl
    · show l.val % 128 = l.val; omega
  rw [val_main_v42_apply, val_main_v39_apply, val_main_v38_apply, rawK_at, hg,
    show idx_main_v38 (ix3 (n0 := 8448) (n1 := 2) (n2 := 128) R n l) = ix3 (n0 := 8448) (n1 := 2) (n2 := 1) R n 0 from by
      funext a; fin_cases a <;> rfl, hd]
  rfl

/-- The joined heads begin with mixer A's. -/
theorem headA_at (R : Fin 8448) (n : Fin 10) (l : Fin 128) :
    val_main_v43 (F := Ideal) h w gq gk (ix3 (n0 := 8448) (n1 := 20) (n2 := 128) R ⟨0 + n.val, by omega⟩ l) = rowAt h w R ⟨n.val, by omega⟩ l :=
  (concatenate_apply_piece (t := S8448x20x128) 1 _ _ (ix3 (n0 := 8448) (n1 := 20) (n2 := 128) R ⟨0 + n.val, by omega⟩ l) 0 (by simp) S8448x10x128
    (val_main_v8 (F := Ideal) h w) rfl rfl 0 rfl (ix3 (n0 := 8448) (n1 := 10) (n2 := 128) R n l)
    (fun b hb => by
      fin_cases b
      · rfl
      · exact absurd rfl hb
      · rfl) rfl).trans (plain_at h w R n l)

/-- Then mixer B's queries. -/
theorem headQ_at (R : Fin 8448) (n : Fin 8) (l : Fin 128) :
    val_main_v43 (F := Ideal) h w gq gk (ix3 (n0 := 8448) (n1 := 20) (n2 := 128) R ⟨10 + n.val, by omega⟩ l) = normRow (rowAt h w R ⟨12 + n.val, by omega⟩) (gainAt gq) l :=
  (concatenate_apply_piece (t := S8448x20x128) 1 _ _ (ix3 (n0 := 8448) (n1 := 20) (n2 := 128) R ⟨10 + n.val, by omega⟩ l) 1 (by simp) S8448x8x128
    (val_main_v25 (F := Ideal) h w gq) rfl rfl 10 rfl (ix3 (n0 := 8448) (n1 := 8) (n2 := 128) R n l)
    (fun b hb => by
      fin_cases b
      · rfl
      · exact absurd rfl hb
      · rfl) rfl).trans (normQ_at h w gq R n l)

/-- Then mixer B's keys. -/
theorem headK_at (R : Fin 8448) (n : Fin 2) (l : Fin 128) :
    val_main_v43 (F := Ideal) h w gq gk (ix3 (n0 := 8448) (n1 := 20) (n2 := 128) R ⟨18 + n.val, by omega⟩ l) = normRow (rowAt h w R ⟨20 + n.val, by omega⟩) (gainAt gk) l :=
  (concatenate_apply_piece (t := S8448x20x128) 1 _ _ (ix3 (n0 := 8448) (n1 := 20) (n2 := 128) R ⟨18 + n.val, by omega⟩ l) 2 (by simp) S8448x2x128
    (val_main_v42 (F := Ideal) h w gk) rfl rfl 18 rfl (ix3 (n0 := 8448) (n1 := 2) (n2 := 128) R n l)
    (fun b hb => by
      fin_cases b
      · rfl
      · exact absurd rfl hb
      · rfl) rfl).trans (normK_at h w gk R n l)

end Cert.Proj

end
-- ==== Proof.ProjTurn.lean ====
/- The reference's rotary. -/
module

public import proofs.«01_k».proof.Proof.ProjRes

@[expose] public section

set_option maxRecDepth 16384

noncomputable section

namespace Cert.Proj

open Cert.Reference6Ideal Cert.Reference6Ideal.Read Cert.Reference6Ideal.Facts₀
open Idealize.ShloMosaic Idealize.ShloMosaic.TcCoe Idealize.SL.Sem

variable (h : S8448x4096.Idx → EReal) (w : S4x4096x7488.Idx → EReal) (gq gk : S4x128.Idx → EReal)

/-- The reference's rows are the host's. -/
theorem row_pos : val_main_v56 (F := Ideal) = rowPos (F := Ideal) := rfl
/-- Its columns are the host's. -/
theorem col_pos : val_main_v88 (F := Ideal) = colPos (F := Ideal) := rfl
/-- The rows' frequencies are the host's. -/
theorem row_freqs : val_main_v55 (F := Ideal) = freqs (F := Ideal) := rfl
/-- The columns' frequencies are the host's. -/
theorem col_freqs : val_main_v87 (F := Ideal) = freqs (F := Ideal) := rfl

/-- A row's angle. -/
theorem row_angle (T : Fin 8192) (q : Fin 32) :
    val_main_v61 (F := Ideal) (ix3 (n0 := 8192) (n1 := 1) (n2 := 32) T 0 q) = rowPos (F := Ideal) (ix1 T) * freqs (F := Ideal) (ix1 q) := by
  rw [val_main_v61_apply, val_main_v59_apply, val_main_v60_apply, val_main_v57_apply, val_main_v58_apply, row_pos, row_freqs]
  refine congrArg₂ (fun a b => rowPos (F := Ideal) a * freqs (F := Ideal) b) ?_ ?_
  · funext a; fin_cases a; rfl
  · funext a; fin_cases a; rfl

/-- The first half of the columns turns with the row. -/
theorem row_at (T : Fin 8192) (R : Fin 8448) (hR : R.val = T.val) (n : Fin 20) (l : Fin 64) (L : Fin 128) (hL : L.val = l.val) :
    val_main_v76 (F := Ideal) h w gq gk (ix3 (n0 := 8192) (n1 := 20) (n2 := 64) T n l)
      = ropeRow (fun l => val_main_v43 (F := Ideal) h w gq gk (ix3 (n0 := 8448) (n1 := 20) (n2 := 128) R n l)) (cosAt R) (ssin R) L := by
  have hl := l.isLt
  have hx : ∀ (q : Fin 32) (M : Fin 128), M.val = q.val → val_main_v64 (F := Ideal) h w gq gk (ix3 (n0 := 8192) (n1 := 20) (n2 := 32) T n q)
      = val_main_v43 (F := Ideal) h w gq gk (ix3 (n0 := 8448) (n1 := 20) (n2 := 128) R n M) := fun q M hM => by
    rw [val_main_v64_apply, val_main_v45_apply, val_main_v44_apply]
    refine congrArg (val_main_v43 (F := Ideal) h w gq gk) ?_
    funext a; refine Fin.ext ?_
    fin_cases a
    · exact hR.symm
    · rfl
    · exact hM.symm
  have hy : ∀ (q : Fin 32) (M : Fin 128), M.val = 32 + q.val → val_main_v65 (F := Ideal) h w gq gk (ix3 (n0 := 8192) (n1 := 20) (n2 := 32) T n q)
      = val_main_v43 (F := Ideal) h w gq gk (ix3 (n0 := 8448) (n1 := 20) (n2 := 128) R n M) := fun q M hM => by
    rw [val_main_v65_apply, val_main_v45_apply, val_main_v44_apply]
    refine congrArg (val_main_v43 (F := Ideal) h w gq gk) ?_
    funext a; refine Fin.ext ?_
    fin_cases a
    · exact hR.symm
    · rfl
    · show (32 + q.val) = M.val; omega
  have hc : ∀ q : Fin 32, val_main_v62 (F := Ideal) (ix3 (n0 := 8192) (n1 := 1) (n2 := 32) T 0 q)
      = Ideal.hostUnary .cos (rowPos (F := Ideal) (ix1 T) * freqs (F := Ideal) (ix1 q)) := fun q => by
    rw [val_main_v62_apply, row_angle]; rfl
  have hs : ∀ q : Fin 32, val_main_v63 (F := Ideal) (ix3 (n0 := 8192) (n1 := 1) (n2 := 32) T 0 q)
      = Ideal.hostUnary .sin (rowPos (F := Ideal) (ix1 T) * freqs (F := Ideal) (ix1 q)) := fun q => by
    rw [val_main_v63_apply, row_angle]; rfl
  by_cases h32 : l.val < 32
  · have hm : (mate L).val = 32 + l.val := by
      unfold mate; rw [dif_pos (show L.val % 64 < 32 by omega)]; show L.val + 32 = _; omega
    refine Eq.trans (concatenate_pair_apply_left (s₁ := S8192x20x32) (s₂ := S8192x20x32) (t := S8192x20x64) 2
      (val_main_v70 (F := Ideal) h w gq gk) (val_main_v75 (F := Ideal) h w gq gk) concatenates_S8192x20x32_S8192x20x32_S8192x20x64_d2
      (ix3 (n0 := 8192) (n1 := 20) (n2 := 64) T n l) rfl (ix3 (n0 := 8192) (n1 := 20) (n2 := 32) T n ⟨l.val, h32⟩) (fun b => by fin_cases b <;> rfl)) ?_
    rw [val_main_v70_apply, val_main_v67_apply, val_main_v69_apply, hx _ L hL, hy _ (mate L) hm, val_main_v66_apply, val_main_v68_apply,
      show idx_main_v66 (ix3 (n0 := 8192) (n1 := 20) (n2 := 32) T n ⟨l.val, h32⟩) = ix3 (n0 := 8192) (n1 := 1) (n2 := 32) T 0 ⟨l.val, h32⟩ from by
        funext a; fin_cases a <;> rfl,
      show idx_main_v68 (ix3 (n0 := 8192) (n1 := 20) (n2 := 32) T n ⟨l.val, h32⟩) = ix3 (n0 := 8192) (n1 := 1) (n2 := 32) T 0 ⟨l.val, h32⟩ from by
        funext a; fin_cases a <;> rfl,
      hc, hs, ← angle_lo T L ⟨l.val, h32⟩ (by omega) (by show L.val % 32 = l.val; omega)]
    exact turn_lo (fun l => val_main_v43 (F := Ideal) h w gq gk (ix3 (n0 := 8448) (n1 := 20) (n2 := 128) R n l)) T R hR L (by omega)
  · have hm : (mate L).val = (l.val - 32) := by
      unfold mate; rw [dif_neg (show ¬L.val % 64 < 32 by omega)]; show L.val - 32 = _; omega
    refine Eq.trans (concatenate_pair_apply_right (s₁ := S8192x20x32) (s₂ := S8192x20x32) (t := S8192x20x64) 2
      (val_main_v70 (F := Ideal) h w gq gk) (val_main_v75 (F := Ideal) h w gq gk) concatenates_S8192x20x32_S8192x20x32_S8192x20x64_d2
      (ix3 (n0 := 8192) (n1 := 20) (n2 := 64) T n l) rfl rfl (ix3 (n0 := 8192) (n1 := 20) (n2 := 32) T n ⟨l.val - 32, by omega⟩) (by
        intro b hb
        fin_cases b
        · rfl
        · rfl
        · exact absurd rfl hb) (by show l.val - 32 + 32 = l.val; omega)) ?_
    rw [val_main_v75_apply, val_main_v72_apply, val_main_v74_apply, hx _ (mate L) hm, hy _ L (by show L.val = 32 + (l.val - 32); omega),
      val_main_v71_apply, val_main_v73_apply,
      show idx_main_v71 (ix3 (n0 := 8192) (n1 := 20) (n2 := 32) T n ⟨l.val - 32, by omega⟩) = ix3 (n0 := 8192) (n1 := 1) (n2 := 32) T 0 ⟨l.val - 32, by omega⟩ from by
        funext a; fin_cases a <;> rfl,
      show idx_main_v73 (ix3 (n0 := 8192) (n1 := 20) (n2 := 32) T n ⟨l.val - 32, by omega⟩) = ix3 (n0 := 8192) (n1 := 1) (n2 := 32) T 0 ⟨l.val - 32, by omega⟩ from by
        funext a; fin_cases a <;> rfl,
      hc, hs, ← angle_lo T L ⟨l.val - 32, by omega⟩ (by omega) (by show L.val % 32 = l.val - 32; omega)]
    exact turn_hi (fun l => val_main_v43 (F := Ideal) h w gq gk (ix3 (n0 := 8448) (n1 := 20) (n2 := 128) R n l)) T R hR L (by omega)

/-- A column's angle. -/
theorem col_angle (T : Fin 8192) (q : Fin 32) :
    val_main_v93 (F := Ideal) (ix3 (n0 := 8192) (n1 := 1) (n2 := 32) T 0 q) = colPos (F := Ideal) (ix1 T) * freqs (F := Ideal) (ix1 q) := by
  rw [val_main_v93_apply, val_main_v91_apply, val_main_v92_apply, val_main_v89_apply, val_main_v90_apply, col_pos, col_freqs]
  refine congrArg₂ (fun a b => colPos (F := Ideal) a * freqs (F := Ideal) b) ?_ ?_
  · funext a; fin_cases a; rfl
  · funext a; fin_cases a; rfl

/-- The second half of the columns turns with the column. -/
theorem col_at (T : Fin 8192) (R : Fin 8448) (hR : R.val = T.val) (n : Fin 20) (l : Fin 64) (L : Fin 128) (hL : L.val = 64 + l.val) :
    val_main_v108 (F := Ideal) h w gq gk (ix3 (n0 := 8192) (n1 := 20) (n2 := 64) T n l)
      = ropeRow (fun l => val_main_v43 (F := Ideal) h w gq gk (ix3 (n0 := 8448) (n1 := 20) (n2 := 128) R n l)) (cosAt R) (ssin R) L := by
  have hl := l.isLt
  have hx : ∀ (q : Fin 32) (M : Fin 128), M.val = 64 + q.val → val_main_v96 (F := Ideal) h w gq gk (ix3 (n0 := 8192) (n1 := 20) (n2 := 32) T n q)
      = val_main_v43 (F := Ideal) h w gq gk (ix3 (n0 := 8448) (n1 := 20) (n2 := 128) R n M) := fun q M hM => by
    rw [val_main_v96_apply, val_main_v77_apply, val_main_v44_apply]
    refine congrArg (val_main_v43 (F := Ideal) h w gq gk) ?_
    funext a; refine Fin.ext ?_
    fin_cases a
    · exact hR.symm
    · rfl
    · exact hM.symm
  have hy : ∀ (q : Fin 32) (M : Fin 128), M.val = 64 + 32 + q.val → val_main_v97 (F := Ideal) h w gq gk (ix3 (n0 := 8192) (n1 := 20) (n2 := 32) T n q)
      = val_main_v43 (F := Ideal) h w gq gk (ix3 (n0 := 8448) (n1 := 20) (n2 := 128) R n M) := fun q M hM => by
    rw [val_main_v97_apply, val_main_v77_apply, val_main_v44_apply]
    refine congrArg (val_main_v43 (F := Ideal) h w gq gk) ?_
    funext a; refine Fin.ext ?_
    fin_cases a
    · exact hR.symm
    · rfl
    · show 64 + (32 + q.val) = M.val; omega
  have hc : ∀ q : Fin 32, val_main_v94 (F := Ideal) (ix3 (n0 := 8192) (n1 := 1) (n2 := 32) T 0 q)
      = Ideal.hostUnary .cos (colPos (F := Ideal) (ix1 T) * freqs (F := Ideal) (ix1 q)) := fun q => by
    rw [val_main_v94_apply, col_angle]; rfl
  have hs : ∀ q : Fin 32, val_main_v95 (F := Ideal) (ix3 (n0 := 8192) (n1 := 1) (n2 := 32) T 0 q)
      = Ideal.hostUnary .sin (colPos (F := Ideal) (ix1 T) * freqs (F := Ideal) (ix1 q)) := fun q => by
    rw [val_main_v95_apply, col_angle]; rfl
  by_cases h32 : l.val < 32
  · have hm : (mate L).val = 64 + 32 + l.val := by
      unfold mate; rw [dif_pos (show L.val % 64 < 32 by omega)]; show L.val + 32 = _; omega
    refine Eq.trans (concatenate_pair_apply_left (s₁ := S8192x20x32) (s₂ := S8192x20x32) (t := S8192x20x64) 2
      (val_main_v102 (F := Ideal) h w gq gk) (val_main_v107 (F := Ideal) h w gq gk) concatenates_S8192x20x32_S8192x20x32_S8192x20x64_d2
      (ix3 (n0 := 8192) (n1 := 20) (n2 := 64) T n l) rfl (ix3 (n0 := 8192) (n1 := 20) (n2 := 32) T n ⟨l.val, h32⟩) (fun b => by fin_cases b <;> rfl)) ?_
    rw [val_main_v102_apply, val_main_v99_apply, val_main_v101_apply, hx _ L hL, hy _ (mate L) hm, val_main_v98_apply, val_main_v100_apply,
      show idx_main_v98 (ix3 (n0 := 8192) (n1 := 20) (n2 := 32) T n ⟨l.val, h32⟩) = ix3 (n0 := 8192) (n1 := 1) (n2 := 32) T 0 ⟨l.val, h32⟩ from by
        funext a; fin_cases a <;> rfl,
      show idx_main_v100 (ix3 (n0 := 8192) (n1 := 20) (n2 := 32) T n ⟨l.val, h32⟩) = ix3 (n0 := 8192) (n1 := 1) (n2 := 32) T 0 ⟨l.val, h32⟩ from by
        funext a; fin_cases a <;> rfl,
      hc, hs, ← angle_hi T L ⟨l.val, h32⟩ (by omega) (by show L.val % 32 = l.val; omega)]
    exact turn_lo (fun l => val_main_v43 (F := Ideal) h w gq gk (ix3 (n0 := 8448) (n1 := 20) (n2 := 128) R n l)) T R hR L (by omega)
  · have hm : (mate L).val = 64 + (l.val - 32) := by
      unfold mate; rw [dif_neg (show ¬L.val % 64 < 32 by omega)]; show L.val - 32 = _; omega
    refine Eq.trans (concatenate_pair_apply_right (s₁ := S8192x20x32) (s₂ := S8192x20x32) (t := S8192x20x64) 2
      (val_main_v102 (F := Ideal) h w gq gk) (val_main_v107 (F := Ideal) h w gq gk) concatenates_S8192x20x32_S8192x20x32_S8192x20x64_d2
      (ix3 (n0 := 8192) (n1 := 20) (n2 := 64) T n l) rfl rfl (ix3 (n0 := 8192) (n1 := 20) (n2 := 32) T n ⟨l.val - 32, by omega⟩) (by
        intro b hb
        fin_cases b
        · rfl
        · rfl
        · exact absurd rfl hb) (by show l.val - 32 + 32 = l.val; omega)) ?_
    rw [val_main_v107_apply, val_main_v104_apply, val_main_v106_apply, hx _ (mate L) hm, hy _ L (by show L.val = 64 + 32 + (l.val - 32); omega),
      val_main_v103_apply, val_main_v105_apply,
      show idx_main_v103 (ix3 (n0 := 8192) (n1 := 20) (n2 := 32) T n ⟨l.val - 32, by omega⟩) = ix3 (n0 := 8192) (n1 := 1) (n2 := 32) T 0 ⟨l.val - 32, by omega⟩ from by
        funext a; fin_cases a <;> rfl,
      show idx_main_v105 (ix3 (n0 := 8192) (n1 := 20) (n2 := 32) T n ⟨l.val - 32, by omega⟩) = ix3 (n0 := 8192) (n1 := 1) (n2 := 32) T 0 ⟨l.val - 32, by omega⟩ from by
        funext a; fin_cases a <;> rfl,
      hc, hs, ← angle_hi T L ⟨l.val - 32, by omega⟩ (by omega) (by show L.val % 32 = l.val - 32; omega)]
    exact turn_hi (fun l => val_main_v43 (F := Ideal) h w gq gk (ix3 (n0 := 8448) (n1 := 20) (n2 := 128) R n l)) T R hR L (by omega)

/-- Every head is turned on the latent rows, and none on the context rows. -/
theorem turned_heads (R : Fin 8448) (n : Fin 20) (l : Fin 128) :
    val_main_v111 (F := Ideal) h w gq gk (ix3 (n0 := 8448) (n1 := 20) (n2 := 128) R n l)
      = ropeRow (fun l => val_main_v43 (F := Ideal) h w gq gk (ix3 (n0 := 8448) (n1 := 20) (n2 := 128) R n l)) (cosAt R) (ssin R) l := by
  have hRlt := R.isLt; have hl := l.isLt
  by_cases hR : R.val < 8192
  · refine Eq.trans (concatenate_pair_apply_left (s₁ := S8192x20x128) (s₂ := S256x20x128) (t := S8448x20x128) 0
      (val_main_v109 (F := Ideal) h w gq gk) (val_main_v110 (F := Ideal) h w gq gk) concatenates_S8192x20x128_S256x20x128_S8448x20x128_d0
      (ix3 (n0 := 8448) (n1 := 20) (n2 := 128) R n l) rfl (ix3 (n0 := 8192) (n1 := 20) (n2 := 128) ⟨R.val, hR⟩ n l) (fun b => by fin_cases b <;> rfl)) ?_
    by_cases h64 : l.val < 64
    · exact (concatenate_pair_apply_left (s₁ := S8192x20x64) (s₂ := S8192x20x64) (t := S8192x20x128) 2
        (val_main_v76 (F := Ideal) h w gq gk) (val_main_v108 (F := Ideal) h w gq gk) concatenates_S8192x20x64_S8192x20x64_S8192x20x128_d2
        (ix3 (n0 := 8192) (n1 := 20) (n2 := 128) ⟨R.val, hR⟩ n l) rfl (ix3 (n0 := 8192) (n1 := 20) (n2 := 64) ⟨R.val, hR⟩ n ⟨l.val, h64⟩)
        (fun b => by fin_cases b <;> rfl)).trans (row_at h w gq gk _ R rfl n _ l rfl)
    · exact (concatenate_pair_apply_right (s₁ := S8192x20x64) (s₂ := S8192x20x64) (t := S8192x20x128) 2
        (val_main_v76 (F := Ideal) h w gq gk) (val_main_v108 (F := Ideal) h w gq gk) concatenates_S8192x20x64_S8192x20x64_S8192x20x128_d2
        (ix3 (n0 := 8192) (n1 := 20) (n2 := 128) ⟨R.val, hR⟩ n l) rfl rfl (ix3 (n0 := 8192) (n1 := 20) (n2 := 64) ⟨R.val, hR⟩ n ⟨l.val - 64, by omega⟩) (by
          intro b hb
          fin_cases b
          · rfl
          · rfl
          · exact absurd rfl hb) (by show l.val - 64 + 64 = l.val; omega)).trans
        (col_at h w gq gk _ R rfl n _ l (by show l.val = 64 + (l.val - 64); omega))
  · refine Eq.trans (concatenate_pair_apply_right (s₁ := S8192x20x128) (s₂ := S256x20x128) (t := S8448x20x128) 0
      (val_main_v109 (F := Ideal) h w gq gk) (val_main_v110 (F := Ideal) h w gq gk) concatenates_S8192x20x128_S256x20x128_S8448x20x128_d0
      (ix3 (n0 := 8448) (n1 := 20) (n2 := 128) R n l) rfl rfl (ix3 (n0 := 256) (n1 := 20) (n2 := 128) ⟨R.val - 8192, by omega⟩ n l) (by
        intro b hb
        fin_cases b
        · exact absurd rfl hb
        · rfl
        · rfl) (by show R.val - 8192 + 8192 = R.val; omega)) ?_
    rw [turn_ctx _ R hR, val_main_v110_apply]
    refine congrArg (val_main_v43 (F := Ideal) h w gq gk) ?_
    funext a; refine Fin.ext ?_
    fin_cases a
    · show 8192 + (R.val - 8192) = R.val; omega
    · rfl
    · rfl

end Cert.Proj

end
-- ==== Proof.ProjRef.lean ====
/- The reference's result, entry by entry. -/
module

public import proofs.«01_k».proof.Proof.ProjHeads
public import proofs.«01_k».proof.Proof.ProjTurn

@[expose] public section

set_option maxRecDepth 16384

noncomputable section

namespace Cert.Proj

open Cert.Reference6Ideal Cert.Reference6Ideal.Read Cert.Reference6Ideal.Facts₀
open Idealize.ShloMosaic Idealize.ShloMosaic.TcCoe Idealize.SL.Sem

variable (h : S8448x4096.Idx → EReal) (w : S4x4096x7488.Idx → EReal) (gq gk : S4x128.Idx → EReal)

/-- An entry of the result by its block of 128 columns and its place in it. -/
theorem res_at (R : Fin 8448) (C : Fin 6144) (B : ℕ) (hB : B < 48) (l : Fin 128) (hC : C.val = 128 * B + l.val) :
    res h w gq gk R C = rowOp (kinds (B / 4) ⟨B % 4, Nat.mod_lt _ (by decide)⟩) (rowAt h w R ⟨B, hB⟩) (cosAt R) (ssin R) (gainAt gq) (gainAt gk) l := by
  have hl := l.isLt
  unfold res
  rw [show C.val / 512 = B / 4 by omega, show (⟨C.val % 512 / 128, by omega⟩ : Fin 4) = ⟨B % 4, Nat.mod_lt _ (by decide)⟩ from Fin.ext (by show C.val % 512 / 128 = B % 4; omega),
    show (⟨C.val / 128, by omega⟩ : Fin 48) = ⟨B, hB⟩ from Fin.ext (by show C.val / 128 = B; omega),
    show (⟨C.val % 128, Nat.mod_lt _ (by decide)⟩ : Fin 128) = l from Fin.ext (by show C.val % 128 = l.val; omega)]

/-- The turned heads side by side. -/
theorem flat_at (R : Fin 8448) (n : Fin 20) (l : Fin 128) (D : Fin 2560) (hD : D.val = 128 * n.val + l.val) :
    val_main_v112 (F := Ideal) h w gq gk (ix2 (n0 := 8448) (n1 := 2560) R D)
      = ropeRow (fun l => val_main_v43 (F := Ideal) h w gq gk (ix3 (n0 := 8448) (n1 := 20) (n2 := 128) R n l)) (cosAt R) (ssin R) l := by
  have hl := l.isLt; have hn := n.isLt; have hR := R.isLt
  rw [val_main_v112_apply, ← turned_heads]
  refine congrArg (val_main_v111 (F := Ideal) h w gq gk) ?_
  funext a; refine Fin.ext ?_
  fin_cases a
  · show (R.val * 2560 + D.val) / 2560 = R.val; omega
  · show (R.val * 2560 + D.val) / 128 % 20 = n.val; omega
  · show (R.val * 2560 + D.val) % 128 = l.val; omega

/-- A head turned, by what it was before. -/
theorem flat_of (R : Fin 8448) (n : Fin 20) (l : Fin 128) (D : Fin 2560) (hD : D.val = 128 * n.val + l.val) (y : Fin 128 → EReal)
    (hy : ∀ l, val_main_v43 (F := Ideal) h w gq gk (ix3 (n0 := 8448) (n1 := 20) (n2 := 128) R n l) = y l) :
    val_main_v112 (F := Ideal) h w gq gk (ix2 (n0 := 8448) (n1 := 2560) R D) = ropeRow y (cosAt R) (ssin R) l :=
  (flat_at h w gq gk R n l D hD).trans (congrArg (fun y => ropeRow y (cosAt R) (ssin R) l) (funext hy))

/-- A column of the product, by its block. -/
theorem col_of (R : Fin 8448) (D : Fin 7488) (B : Fin 48) (l : Fin 128) (hD : D.val = wcol B.val + l.val) :
    val_main_v3 (F := Ideal) h w (ix2 (n0 := 8448) (n1 := 7488) R D) = rowAt h w R B l :=
  (v3_at h w R D).trans (congrArg (prd h w R) (Fin.ext hD))

/-- A head of mixer A. -/
theorem headA_at' (R : Fin 8448) (N : Fin 20) (hN : N.val < 10) (l : Fin 128) :
    val_main_v43 (F := Ideal) h w gq gk (ix3 (n0 := 8448) (n1 := 20) (n2 := 128) R N l) = rowAt h w R ⟨N.val, by omega⟩ l := by
  have e := headA_at h w gq gk R ⟨N.val, hN⟩ l
  rw [show (⟨0 + N.val, by omega⟩ : Fin 20) = N from Fin.ext (Nat.zero_add _)] at e
  exact e

/-- The first columns: mixer A's queries, turned and scaled. -/
theorem part0 (R : Fin 8448) (n : Fin 8) (l : Fin 128) :
    val_main_v127 (F := Ideal) h w gq gk (ix2 (n0 := 8448) (n1 := 6144) R ⟨0 + (128 * n.val + l.val), by omega⟩)
      = res h w gq gk R ⟨0 + (128 * n.val + l.val), by omega⟩ := by
  have hn := n.isLt; have hl := l.isLt
  have hk : ∀ n : Fin 8, kinds ((0 + n.val) / 4) ⟨(0 + n.val) % 4, Nat.mod_lt _ (by decide)⟩ = .ropeScale := by intro n; fin_cases n <;> rfl
  rw [res_at h w gq gk R _ (0 + n.val) (by omega) l (by show 0 + (128 * n.val + l.val) = 128 * (0 + n.val) + l.val; omega), hk]
  refine (concatenate_apply_piece (t := S8448x6144) 1 _ _ (ix2 (n0 := 8448) (n1 := 6144) R ⟨0 + (128 * n.val + l.val), by omega⟩) 0 (by simp) S8448x1024
    (val_main_v115 (F := Ideal) h w gq gk) rfl rfl 0 rfl (ix2 (n0 := 8448) (n1 := 1024) R ⟨128 * n.val + l.val, by omega⟩)
    (fun b hb => by
      fin_cases b
      · rfl
      · exact absurd rfl hb) rfl).trans ?_
  rw [val_main_v115_apply, val_main_v113_apply, val_main_v114_apply, val_main_cst_14_apply]
  exact congrArg (fun x => x * sc) ((congrArg (val_main_v112 (F := Ideal) h w gq gk) (show idx_main_v113 (ix2 (n0 := 8448) (n1 := 1024) R ⟨128 * n.val + l.val, by omega⟩) = ix2 (n0 := 8448) (n1 := 2560) R ⟨0 + (128 * n.val + l.val), by omega⟩ from by
    funext a; refine Fin.ext ?_; fin_cases a
    · rfl
    · exact (Nat.zero_add _).symm)).trans
    (flat_of h w gq gk R ⟨0 + n.val, by omega⟩ l _ (by show 0 + (128 * n.val + l.val) = 128 * (0 + n.val) + l.val; omega) (rowAt h w R ⟨0 + n.val, by omega⟩) (fun l => headA_at' h w gq gk R _ (by show 0 + n.val < 10; omega) l)))

/-- Mixer A's keys, turned. -/
theorem part1 (R : Fin 8448) (n : Fin 2) (l : Fin 128) :
    val_main_v127 (F := Ideal) h w gq gk (ix2 (n0 := 8448) (n1 := 6144) R ⟨1024 + (128 * n.val + l.val), by omega⟩)
      = res h w gq gk R ⟨1024 + (128 * n.val + l.val), by omega⟩ := by
  have hn := n.isLt; have hl := l.isLt
  have hk : ∀ n : Fin 2, kinds ((8 + n.val) / 4) ⟨(8 + n.val) % 4, Nat.mod_lt _ (by decide)⟩ = .rope := by intro n; fin_cases n <;> rfl
  rw [res_at h w gq gk R _ (8 + n.val) (by omega) l (by show 1024 + (128 * n.val + l.val) = 128 * (8 + n.val) + l.val; omega), hk]
  refine (concatenate_apply_piece (t := S8448x6144) 1 _ _ (ix2 (n0 := 8448) (n1 := 6144) R ⟨1024 + (128 * n.val + l.val), by omega⟩) 1 (by simp) S8448x256
    (val_main_v116 (F := Ideal) h w gq gk) rfl rfl 1024 rfl (ix2 (n0 := 8448) (n1 := 256) R ⟨128 * n.val + l.val, by omega⟩)
    (fun b hb => by
      fin_cases b
      · rfl
      · exact absurd rfl hb) rfl).trans ?_
  rw [val_main_v116_apply]
  exact (congrArg (val_main_v112 (F := Ideal) h w gq gk) (show idx_main_v116 (ix2 (n0 := 8448) (n1 := 256) R ⟨128 * n.val + l.val, by omega⟩) = ix2 (n0 := 8448) (n1 := 2560) R ⟨1024 + (128 * n.val + l.val), by omega⟩ from by
    funext a; refine Fin.ext ?_; fin_cases a
    · rfl
    · rfl)).trans
    (flat_of h w gq gk R ⟨8 + n.val, by omega⟩ l _ (by show 1024 + (128 * n.val + l.val) = 128 * (8 + n.val) + l.val; omega) (rowAt h w R ⟨8 + n.val, by omega⟩) (fun l => headA_at' h w gq gk R _ (by show 8 + n.val < 10; omega) l))

/-- Mixer A's values. -/
theorem part2 (R : Fin 8448) (n : Fin 2) (l : Fin 128) :
    val_main_v127 (F := Ideal) h w gq gk (ix2 (n0 := 8448) (n1 := 6144) R ⟨1280 + (128 * n.val + l.val), by omega⟩)
      = res h w gq gk R ⟨1280 + (128 * n.val + l.val), by omega⟩ := by
  have hn := n.isLt; have hl := l.isLt
  have hk : ∀ n : Fin 2, kinds ((10 + n.val) / 4) ⟨(10 + n.val) % 4, Nat.mod_lt _ (by decide)⟩ = .copy := by intro n; fin_cases n <;> rfl
  rw [res_at h w gq gk R _ (10 + n.val) (by omega) l (by show 1280 + (128 * n.val + l.val) = 128 * (10 + n.val) + l.val; omega), hk]
  refine (concatenate_apply_piece (t := S8448x6144) 1 _ _ (ix2 (n0 := 8448) (n1 := 6144) R ⟨1280 + (128 * n.val + l.val), by omega⟩) 2 (by simp) S8448x256
    (val_main_v117 (F := Ideal) h w) rfl rfl 1280 rfl (ix2 (n0 := 8448) (n1 := 256) R ⟨128 * n.val + l.val, by omega⟩)
    (fun b hb => by
      fin_cases b
      · rfl
      · exact absurd rfl hb) rfl).trans ?_
  rw [val_main_v117_apply]
  exact (congrArg (val_main_v3 (F := Ideal) h w) (show idx_main_v117 (ix2 (n0 := 8448) (n1 := 256) R ⟨128 * n.val + l.val, by omega⟩) = ix2 (n0 := 8448) (n1 := 7488) R ⟨1280 + (128 * n.val + l.val), by omega⟩ from by
    funext a; fin_cases a <;> rfl)).trans
    (col_of h w R _ ⟨10 + n.val, by omega⟩ l (by
      show 1280 + (128 * n.val + l.val) = wcol (10 + n.val) + l.val
      unfold wcol; split <;> omega))

/-- Mixer B's queries, turned and scaled. -/
theorem part3 (R : Fin 8448) (n : Fin 8) (l : Fin 128) :
    val_main_v127 (F := Ideal) h w gq gk (ix2 (n0 := 8448) (n1 := 6144) R ⟨1536 + (128 * n.val + l.val), by omega⟩)
      = res h w gq gk R ⟨1536 + (128 * n.val + l.val), by omega⟩ := by
  have hn := n.isLt; have hl := l.isLt
  have hk : ∀ n : Fin 8, kinds ((12 + n.val) / 4) ⟨(12 + n.val) % 4, Nat.mod_lt _ (by decide)⟩ = .normQ := by intro n; fin_cases n <;> rfl
  rw [res_at h w gq gk R _ (12 + n.val) (by omega) l (by show 1536 + (128 * n.val + l.val) = 128 * (12 + n.val) + l.val; omega), hk]
  refine (concatenate_apply_piece (t := S8448x6144) 1 _ _ (ix2 (n0 := 8448) (n1 := 6144) R ⟨1536 + (128 * n.val + l.val), by omega⟩) 3 (by simp) S8448x1024
    (val_main_v120 (F := Ideal) h w gq gk) rfl rfl 1536 rfl (ix2 (n0 := 8448) (n1 := 1024) R ⟨128 * n.val + l.val, by omega⟩)
    (fun b hb => by
      fin_cases b
      · rfl
      · exact absurd rfl hb) rfl).trans ?_
  rw [val_main_v120_apply, val_main_v118_apply, val_main_v119_apply, val_main_cst_15_apply]
  exact congrArg (fun x => x * sc) ((congrArg (val_main_v112 (F := Ideal) h w gq gk) (show idx_main_v118 (ix2 (n0 := 8448) (n1 := 1024) R ⟨128 * n.val + l.val, by omega⟩) = ix2 (n0 := 8448) (n1 := 2560) R ⟨1280 + (128 * n.val + l.val), by omega⟩ from by
    funext a; refine Fin.ext ?_; fin_cases a
    · rfl
    · rfl)).trans
    (flat_of h w gq gk R ⟨10 + n.val, by omega⟩ l _ (by show 1280 + (128 * n.val + l.val) = 128 * (10 + n.val) + l.val; omega) (normRow (rowAt h w R ⟨12 + n.val, by omega⟩) (gainAt gq)) (fun l => headQ_at h w gq gk R n l)))

/-- Mixer B's keys, turned. -/
theorem part4 (R : Fin 8448) (n : Fin 2) (l : Fin 128) :
    val_main_v127 (F := Ideal) h w gq gk (ix2 (n0 := 8448) (n1 := 6144) R ⟨2560 + (128 * n.val + l.val), by omega⟩)
      = res h w gq gk R ⟨2560 + (128 * n.val + l.val), by omega⟩ := by
  have hn := n.isLt; have hl := l.isLt
  have hk : ∀ n : Fin 2, kinds ((20 + n.val) / 4) ⟨(20 + n.val) % 4, Nat.mod_lt _ (by decide)⟩ = .normK := by intro n; fin_cases n <;> rfl
  rw [res_at h w gq gk R _ (20 + n.val) (by omega) l (by show 2560 + (128 * n.val + l.val) = 128 * (20 + n.val) + l.val; omega), hk]
  refine (concatenate_apply_piece (t := S8448x6144) 1 _ _ (ix2 (n0 := 8448) (n1 := 6144) R ⟨2560 + (128 * n.val + l.val), by omega⟩) 4 (by simp) S8448x256
    (val_main_v121 (F := Ideal) h w gq gk) rfl rfl 2560 rfl (ix2 (n0 := 8448) (n1 := 256) R ⟨128 * n.val + l.val, by omega⟩)
    (fun b hb => by
      fin_cases b
      · rfl
      · exact absurd rfl hb) rfl).trans ?_
  rw [val_main_v121_apply]
  exact (congrArg (val_main_v112 (F := Ideal) h w gq gk) (show idx_main_v121 (ix2 (n0 := 8448) (n1 := 256) R ⟨128 * n.val + l.val, by omega⟩) = ix2 (n0 := 8448) (n1 := 2560) R ⟨2304 + (128 * n.val + l.val), by omega⟩ from by
    funext a; refine Fin.ext ?_; fin_cases a
    · rfl
    · rfl)).trans
    (flat_of h w gq gk R ⟨18 + n.val, by omega⟩ l _ (by show 2304 + (128 * n.val + l.val) = 128 * (18 + n.val) + l.val; omega) (normRow (rowAt h w R ⟨20 + n.val, by omega⟩) (gainAt gk)) (fun l => headK_at h w gq gk R n l))

/-- Mixer B's values. -/
theorem part5 (R : Fin 8448) (n : Fin 2) (l : Fin 128) :
    val_main_v127 (F := Ideal) h w gq gk (ix2 (n0 := 8448) (n1 := 6144) R ⟨2816 + (128 * n.val + l.val), by omega⟩)
      = res h w gq gk R ⟨2816 + (128 * n.val + l.val), by omega⟩ := by
  have hn := n.isLt; have hl := l.isLt
  have hk : ∀ n : Fin 2, kinds ((22 + n.val) / 4) ⟨(22 + n.val) % 4, Nat.mod_lt _ (by decide)⟩ = .copy := by intro n; fin_cases n <;> rfl
  rw [res_at h w gq gk R _ (22 + n.val) (by omega) l (by show 2816 + (128 * n.val + l.val) = 128 * (22 + n.val) + l.val; omega), hk]
  refine (concatenate_apply_piece (t := S8448x6144) 1 _ _ (ix2 (n0 := 8448) (n1 := 6144) R ⟨2816 + (128 * n.val + l.val), by omega⟩) 5 (by simp) S8448x256
    (val_main_v122 (F := Ideal) h w) rfl rfl 2816 rfl (ix2 (n0 := 8448) (n1 := 256) R ⟨128 * n.val + l.val, by omega⟩)
    (fun b hb => by
      fin_cases b
      · rfl
      · exact absurd rfl hb) rfl).trans ?_
  rw [val_main_v122_apply]
  exact (congrArg (val_main_v3 (F := Ideal) h w) (show idx_main_v122 (ix2 (n0 := 8448) (n1 := 256) R ⟨128 * n.val + l.val, by omega⟩) = ix2 (n0 := 8448) (n1 := 7488) R ⟨2816 + (128 * n.val + l.val), by omega⟩ from by
    funext a; fin_cases a <;> rfl)).trans
    (col_of h w R _ ⟨22 + n.val, by omega⟩ l (by
      show 2816 + (128 * n.val + l.val) = wcol (22 + n.val) + l.val
      unfold wcol; split <;> omega))

/-- The next mixer's queries, scaled. -/
theorem part6 (R : Fin 8448) (n : Fin 8) (l : Fin 128) :
    val_main_v127 (F := Ideal) h w gq gk (ix2 (n0 := 8448) (n1 := 6144) R ⟨3072 + (128 * n.val + l.val), by omega⟩)
      = res h w gq gk R ⟨3072 + (128 * n.val + l.val), by omega⟩ := by
  have hn := n.isLt; have hl := l.isLt
  have hk : ∀ n : Fin 8, kinds ((24 + n.val) / 4) ⟨(24 + n.val) % 4, Nat.mod_lt _ (by decide)⟩ = .scale := by intro n; fin_cases n <;> rfl
  rw [res_at h w gq gk R _ (24 + n.val) (by omega) l (by show 3072 + (128 * n.val + l.val) = 128 * (24 + n.val) + l.val; omega), hk]
  refine (concatenate_apply_piece (t := S8448x6144) 1 _ _ (ix2 (n0 := 8448) (n1 := 6144) R ⟨3072 + (128 * n.val + l.val), by omega⟩) 6 (by simp) S8448x1024
    (val_main_v125 (F := Ideal) h w) rfl rfl 3072 rfl (ix2 (n0 := 8448) (n1 := 1024) R ⟨128 * n.val + l.val, by omega⟩)
    (fun b hb => by
      fin_cases b
      · rfl
      · exact absurd rfl hb) rfl).trans ?_
  rw [val_main_v125_apply, val_main_v123_apply, val_main_v124_apply, val_main_cst_16_apply]
  exact congrArg (fun x => x * sc) ((congrArg (val_main_v3 (F := Ideal) h w) (show idx_main_v123 (ix2 (n0 := 8448) (n1 := 1024) R ⟨128 * n.val + l.val, by omega⟩) = ix2 (n0 := 8448) (n1 := 7488) R ⟨4416 + (128 * n.val + l.val), by omega⟩ from by
    funext a; fin_cases a <;> rfl)).trans
    (col_of h w R _ ⟨24 + n.val, by omega⟩ l (by
      show 4416 + (128 * n.val + l.val) = wcol (24 + n.val) + l.val
      unfold wcol; split <;> omega)))

/-- Its keys and values. -/
theorem part7 (R : Fin 8448) (n : Fin 16) (l : Fin 128) :
    val_main_v127 (F := Ideal) h w gq gk (ix2 (n0 := 8448) (n1 := 6144) R ⟨4096 + (128 * n.val + l.val), by omega⟩)
      = res h w gq gk R ⟨4096 + (128 * n.val + l.val), by omega⟩ := by
  have hn := n.isLt; have hl := l.isLt
  have hk : ∀ n : Fin 16, kinds ((32 + n.val) / 4) ⟨(32 + n.val) % 4, Nat.mod_lt _ (by decide)⟩ = .copy := by intro n; fin_cases n <;> rfl
  rw [res_at h w gq gk R _ (32 + n.val) (by omega) l (by show 4096 + (128 * n.val + l.val) = 128 * (32 + n.val) + l.val; omega), hk]
  refine (concatenate_apply_piece (t := S8448x6144) 1 _ _ (ix2 (n0 := 8448) (n1 := 6144) R ⟨4096 + (128 * n.val + l.val), by omega⟩) 7 (by simp) S8448x2048
    (val_main_v126 (F := Ideal) h w) rfl rfl 4096 rfl (ix2 (n0 := 8448) (n1 := 2048) R ⟨128 * n.val + l.val, by omega⟩)
    (fun b hb => by
      fin_cases b
      · rfl
      · exact absurd rfl hb) rfl).trans ?_
  rw [val_main_v126_apply]
  exact (congrArg (val_main_v3 (F := Ideal) h w) (show idx_main_v126 (ix2 (n0 := 8448) (n1 := 2048) R ⟨128 * n.val + l.val, by omega⟩) = ix2 (n0 := 8448) (n1 := 7488) R ⟨5440 + (128 * n.val + l.val), by omega⟩ from by
    funext a; fin_cases a <;> rfl)).trans
    (col_of h w R _ ⟨32 + n.val, by omega⟩ l (by
      show 5440 + (128 * n.val + l.val) = wcol (32 + n.val) + l.val
      unfold wcol; split <;> omega))

/-- The reference's result, entry by entry. -/
theorem ref_at (R : Fin 8448) (C : Fin 6144) :
    val_main_v128 (F := Ideal) h w gq gk (ix2 (n0 := 8448) (n1 := 6144) R C) = res h w gq gk R C := by
  have hC := C.isLt
  have key : ∀ (E : Fin 6144), E = C → val_main_v127 (F := Ideal) h w gq gk (ix2 (n0 := 8448) (n1 := 6144) R E) = res h w gq gk R E →
      val_main_v128 (F := Ideal) h w gq gk (ix2 (n0 := 8448) (n1 := 6144) R C) = res h w gq gk R C := fun E hE e => by
    subst hE; exact e
  by_cases h0 : C.val < 1024
  · exact key _ (Fin.ext (by show 0 + (128 * ((C.val - 0) / 128) + (C.val - 0) % 128) = C.val; omega)) (part0 h w gq gk R ⟨(C.val - 0) / 128, by omega⟩ ⟨(C.val - 0) % 128, by omega⟩)
  by_cases h1 : C.val < 1280
  · exact key _ (Fin.ext (by show 1024 + (128 * ((C.val - 1024) / 128) + (C.val - 1024) % 128) = C.val; omega)) (part1 h w gq gk R ⟨(C.val - 1024) / 128, by omega⟩ ⟨(C.val - 1024) % 128, by omega⟩)
  by_cases h2 : C.val < 1536
  · exact key _ (Fin.ext (by show 1280 + (128 * ((C.val - 1280) / 128) + (C.val - 1280) % 128) = C.val; omega)) (part2 h w gq gk R ⟨(C.val - 1280) / 128, by omega⟩ ⟨(C.val - 1280) % 128, by omega⟩)
  by_cases h3 : C.val < 2560
  · exact key _ (Fin.ext (by show 1536 + (128 * ((C.val - 1536) / 128) + (C.val - 1536) % 128) = C.val; omega)) (part3 h w gq gk R ⟨(C.val - 1536) / 128, by omega⟩ ⟨(C.val - 1536) % 128, by omega⟩)
  by_cases h4 : C.val < 2816
  · exact key _ (Fin.ext (by show 2560 + (128 * ((C.val - 2560) / 128) + (C.val - 2560) % 128) = C.val; omega)) (part4 h w gq gk R ⟨(C.val - 2560) / 128, by omega⟩ ⟨(C.val - 2560) % 128, by omega⟩)
  by_cases h5 : C.val < 3072
  · exact key _ (Fin.ext (by show 2816 + (128 * ((C.val - 2816) / 128) + (C.val - 2816) % 128) = C.val; omega)) (part5 h w gq gk R ⟨(C.val - 2816) / 128, by omega⟩ ⟨(C.val - 2816) % 128, by omega⟩)
  by_cases h6 : C.val < 4096
  · exact key _ (Fin.ext (by show 3072 + (128 * ((C.val - 3072) / 128) + (C.val - 3072) % 128) = C.val; omega)) (part6 h w gq gk R ⟨(C.val - 3072) / 128, by omega⟩ ⟨(C.val - 3072) % 128, by omega⟩)
  exact key _ (Fin.ext (by show 4096 + (128 * ((C.val - 4096) / 128) + (C.val - 4096) % 128) = C.val; omega)) (part7 h w gq gk R ⟨(C.val - 4096) / 128, by omega⟩ ⟨(C.val - 4096) % 128, by omega⟩)

end Cert.Proj

end
-- ==== Proof.ProjFinal.lean ====
/- The input projection's final array is the reference's result. -/
module

public import proofs.«01_k».proof.Proof.ProjBlock
public import proofs.«01_k».proof.Proof.ProjHost
public import proofs.«01_k».proof.Proof.ProjRef

@[expose] public section

set_option maxRecDepth 16384

noncomputable section

namespace Cert.Proj

open Cert.Kernel6Ideal Cert.Kernel6Ideal.Gen Cert.Kernel6Ideal.Value
open Idealize.ShloMosaic Idealize.ShloMosaic.TcCoe Idealize.SL.Sem

variable (m : (ℓ : Loc nD τ sig) → Buf (Elt Ideal) ℓ)

/-- The activations. -/
abbrev acts (c : Dev nD) : S8448x4096.Idx → EReal := m ((c : Thread nD τ).loc main_arg0)
/-- The weights. -/
abbrev wts (c : Dev nD) : S4x4096x7488.Idx → EReal := m ((c : Thread nD τ).loc main_arg1)
/-- The queries' gains. -/
abbrev gainsQ (c : Dev nD) : S4x128.Idx → EReal := m ((c : Thread nD τ).loc main_arg2)
/-- The keys' gains. -/
abbrev gainsK (c : Dev nD) : S4x128.Idx → EReal := m ((c : Thread nD τ).loc main_arg3)

/-- A row's operation depends on its rows. -/
theorem rowOp_congr {k k' : Kind} {y y' c c' s s' a a' b b' : Fin 128 → EReal} {l l' : Fin 128} (hk : k = k') (hy : y = y') (hc : c = c')
    (hs : s = s') (ha : a = a') (hb : b = b') (hl : l = l') : rowOp k y c s a b l = rowOp k' y' c' s' a' b' l' := by
  subst hk hy hc hs ha hb hl; rfl

/-- An entry of a point's block, by its blocks' entries. -/
theorem block_rows (K : Fin 4 → Kind) (x0 : Vec Ideal S1408x4096 .bf16) (x1 : Vec Ideal S1x512x4096 .bf16) (x2 x3 : Vec Ideal S1408x128 .f32)
    (x4 x5 : Vec Ideal S1x128 .f32) (r : Fin 1408) (j : Fin 512) (a : Fin 4096 → EReal) (b : Fin 128 → Fin 4096 → EReal)
    (cs sn p q : Fin 128 → EReal) (K' : Kind) (hk : K ⟨j.val / 128, by omega⟩ = K')
    (h0 : ∀ k, x0 (ix2 (n0 := 1408) (n1 := 4096) r k) = a k)
    (h1 : ∀ (l : Fin 128) k, x1 (ix3 (n0 := 1) (n1 := 512) (n2 := 4096) 0 ⟨128 * (j.val / 128) + l.val, by omega⟩ k) = b l k)
    (h2 : ∀ l, x2 (ix2 (n0 := 1408) (n1 := 128) r l) = cs l) (h3 : ∀ l, x3 (ix2 (n0 := 1408) (n1 := 128) r l) = sn l)
    (h4 : ∀ l, x4 (ix2 (n0 := 1) (n1 := 128) 0 l) = p l) (h5 : ∀ l, x5 (ix2 (n0 := 1) (n1 := 128) 0 l) = q l) :
    blockOf K x0 x1 x2 x3 x4 x5 (ix2 (n0 := 1408) (n1 := 512) r j)
      = rowOp K' (fun l => ∑ k : Fin 4096, a k * b l k) cs sn p q ⟨j.val % 128, Nat.mod_lt _ (by decide)⟩ :=
  rowOp_congr hk (funext fun l => Finset.sum_congr rfl fun k _ => congrArg₂ (fun a b : EReal => a * b) (h0 k) (h1 l k))
    (funext h2) (funext h3) (funext h4) (funext h5) rfl

/-- The weights' block is the columns of the result's block. -/
theorem weight_col (c : Dev nD) (t : Fin cfg0.N) (j : Fin 512) (hB : 4 * (t.val % 12) + j.val / 128 < 48) (l : Fin 128) (k : Fin 4096) :
    iblk m c 1 t (ix3 (n0 := 1) (n1 := 512) (n2 := 4096) 0 ⟨128 * (j.val / 128) + l.val, by omega⟩ k)
      = wts m c (ix3 (n0 := 4) (n1 := 4096) (n2 := 7488) 0 k
          ⟨wcol (4 * (t.val % 12) + j.val / 128) + l.val, wcol_lt _ hB l⟩) := by
  have hl := l.isLt; have hj := j.isLt
  refine (blk1 m c t ⟨128 * (j.val / 128) + l.val, by omega⟩ k).trans ((congrFun (V_w m c) _).trans ((turnedW_at _ _ k).trans ?_))
  refine congrArg (wts m c) (congrArg (fun D : Fin 7488 => ix3 (n0 := 4) (n1 := 4096) (n2 := 7488) 0 k D) (Fin.ext ?_))
  show wStart (t.val % 12) + (128 * (j.val / 128) + l.val) = wcol (4 * (t.val % 12) + j.val / 128) + l.val
  unfold wStart wcol
  split <;> split <;> omega

/-- The kernel's final array, entry by entry. -/
theorem final_at (c : Dev nD) (t : Fin cfg0.N) (r : Fin 1408) (j : Fin 512) :
    (dats m 0 c).arrAt 6 cfg0.N (ix2 (n0 := 8448) (n1 := 6144) ⟨1408 * (t.val / 12) + r.val, by have := lt_72 t; omega⟩
      ⟨512 * (t.val % 12) + j.val, by omega⟩)
    = res (acts m c) (wts m c) (gainsQ m c) (gainsK m c) ⟨1408 * (t.val / 12) + r.val, by have := lt_72 t; omega⟩
      ⟨512 * (t.val % 12) + j.val, by omega⟩ := by
  have ht := lt_72 t; have hr := r.isLt; have hj := j.isLt
  have e := congrFun ((blocks6 m c t (flush6 t)).trans (flushed_eq m c t)) (ix2 (n0 := 1408) (n1 := 512) r j)
  rw [View.read_apply] at e
  refine Eq.trans (congrArg ((dats m 0 c).arrAt 6 cfg0.N) ?_) (e.trans ?_)
  · obtain ⟨e0, e1⟩ := at6 t
    funext a; refine Fin.ext ?_
    fin_cases a
    · show 1408 * (t.val / 12) + r.val = win0_6.index t 0 * 1408 + 1 * r.val
      rw [e0]; omega
    · show 512 * (t.val % 12) + j.val = win0_6.index t 1 * 512 + 1 * j.val
      rw [e1]; omega
  · have hB : 4 * (t.val % 12) + j.val / 128 < 48 := by omega
    rw [res_at _ _ _ _ _ _ (4 * (t.val % 12) + j.val / 128) hB ⟨j.val % 128, Nat.mod_lt _ (by decide)⟩ (by
      show 512 * (t.val % 12) + j.val = 128 * (4 * (t.val % 12) + j.val / 128) + j.val % 128; omega)]
    have hk : kinds (t.val % 12) ⟨j.val / 128, by omega⟩
        = kinds ((4 * (t.val % 12) + j.val / 128) / 4) ⟨(4 * (t.val % 12) + j.val / 128) % 4, Nat.mod_lt _ (by decide)⟩ :=
      congrArg₂ kinds (by omega) (Fin.ext (by show j.val / 128 = (4 * (t.val % 12) + j.val / 128) % 4; omega))
    refine Eq.trans (b := blockAt m c t (kinds (t.val % 12)) (ix2 (n0 := 1408) (n1 := 512) r j)) rfl ?_
    exact block_rows _ _ _ _ _ _ _ r j _ _ _ _ _ _ _ hk (blk0 m c t r) (weight_col m c t j hB)
      (fun l => (blk2 m c t r l).trans ((congrFun (V_cos m c) _).trans (cosines_at _ l)))
      (fun l => (blk3 m c t r l).trans ((congrFun (V_sin m c) _).trans (sines_at _ l)))
      (fun l => (blk4 m c t l).trans ((congrFun (V_gq m c) _).trans (gain_at _ l)))
      (fun l => (blk5 m c t l).trans ((congrFun (V_gk m c) _).trans (gain_at _ l)))

/-- The two results are equal. -/
theorem final_eq (c : Dev nD) :
    (dats m 0 c).arrAt 6 cfg0.N = Cert.Reference6Ideal.Read.val_main_v128 (F := Ideal) (acts m c) (wts m c) (gainsQ m c) (gainsK m c) := by
  funext i
  obtain ⟨r, C, rfl⟩ : ∃ (r : Fin 8448) (C : Fin 6144), i = ix2 r C := ⟨i 0, i 1, by funext a; fin_cases a <;> rfl⟩
  refine Eq.trans ?_ (ref_at _ _ _ _ r C).symm
  have hr := r.isLt; have hC := C.isLt
  let t : Fin cfg0.N := ⟨12 * (r.val / 1408) + C.val / 512, by show _ < 72; omega⟩
  have e := final_at m c t ⟨r.val % 1408, by omega⟩ ⟨C.val % 512, by omega⟩
  have er : (⟨1408 * (t.val / 12) + r.val % 1408, by have := lt_72 t; omega⟩ : Fin 8448) = r := Fin.ext (by
    show 1408 * ((12 * (r.val / 1408) + C.val / 512) / 12) + r.val % 1408 = r.val; omega)
  have eC : (⟨512 * (t.val % 12) + C.val % 512, by omega⟩ : Fin 6144) = C := Fin.ext (by
    show 512 * ((12 * (r.val / 1408) + C.val / 512) % 12) + C.val % 512 = C.val; omega)
  exact Eq.trans (congrArg₂ (fun a b => (dats m 0 c).arrAt 6 cfg0.N (ix2 (n0 := 8448) (n1 := 6144) a b)) er.symm eC.symm)
    (e.trans (congrArg₂ (res (acts m c) (wts m c) (gainsQ m c) (gainsK m c)) er eC))

end Cert.Proj

end
-- ==== Proof.ProjSame.lean ====
/- The input projection's host line as written and its idealization are one text, stretch by stretch. -/
module

public import proofs.«01_k».proof.Proof.Gen.Kernel6
public import proofs.«01_k».proof.Proof.Gen.Kernel6Ideal

@[expose] public section

set_option maxRecDepth 65536
set_option maxHeartbeats 2000000

namespace Cert.Proj

open Idealize.ShloMosaic Idealize.SL.Sem

variable {F : FTy → Type} [FloatOps F]

/-- The first sixty statements. -/
theorem part0_eq : Cert.Kernel6.main_part0 (F := F) = Cert.Kernel6Ideal.main_part0 (F := F) := by exact rfl

/-- The next sixty. -/
theorem part1_eq : Cert.Kernel6.main_part1 (F := F) = Cert.Kernel6Ideal.main_part1 (F := F) := by exact rfl

/-- The rest, with the call. -/
theorem part2_eq : Cert.Kernel6.main_part2 (F := F) = Cert.Kernel6Ideal.main_part2 (F := F) := by exact rfl

/-- Three equal stretches make equal lines. -/
theorem three {E : Type → Type} {a a' b b' c c' : Prog E PUnit} (ha : a = a') (hb : b = b') (hc : c = c') :
    (do a; b; c : Prog E PUnit) = (do a'; b'; c') := by
  subst ha hb hc; rfl

/-- The two host lines are the same. -/
theorem main6_eq : Cert.Kernel6.main (F := F) = Cert.Kernel6Ideal.main (F := F) :=
  funext fun d => three (congrFun part0_eq d) (congrFun part1_eq d) (congrFun part2_eq d)

end Cert.Proj

end
-- ==== Proof.Same.lean ====
/- The kernel as written and its idealization are one text: their body tables are equal. -/
module

public import proofs.«01_k».proof.Proof.Gen.Kernel
public import proofs.«01_k».proof.Proof.Gen.KernelIdeal
public import proofs.«01_k».proof.Proof.Gen.Kernel2
public import proofs.«01_k».proof.Proof.Gen.Kernel2Ideal
public import proofs.«01_k».proof.Proof.Gen.Kernel3
public import proofs.«01_k».proof.Proof.Gen.Kernel3Ideal
public import proofs.«01_k».proof.Proof.Gen.Kernel4
public import proofs.«01_k».proof.Proof.Gen.Kernel4Ideal
public import proofs.«01_k».proof.Proof.Gen.Kernel5
public import proofs.«01_k».proof.Proof.Gen.Kernel5Ideal
public import proofs.«01_k».proof.Proof.Gen.Kernel6
public import proofs.«01_k».proof.Proof.Gen.Kernel6Ideal

@[expose] public section

set_option maxRecDepth 16384

namespace Cert.Flash

open Idealize.ShloMosaic

variable {F : FTy → Type} [FloatOps F]

/-- The two programs' kernel bodies are the same. -/
theorem bodies_eq : Cert.Kernel.defs₀ (F := F) = Cert.KernelIdeal.defs₀ (F := F) := by
  unfold Cert.Kernel.defs₀ Cert.KernelIdeal.defs₀
  refine congrArg Defs.onTc (funext fun l => funext fun x => ?_)
  match l, x with
  | 0, (t, s) => rfl
  | ⟨n + 1, h⟩, _ => exact absurd h (by omega)

/-- So are their body tables. -/
theorem tables_eq : Cert.Kernel.defs (F := F) = Cert.KernelIdeal.defs (F := F) :=
  congrArg (Pipeline.defs Cert.KernelIdeal.pcfgs) bodies_eq

/-- The gate call's two kernel bodies are the same. -/
theorem bodies2_eq : Cert.Kernel2.defs₀ (F := F) = Cert.Kernel2Ideal.defs₀ (F := F) := by
  unfold Cert.Kernel2.defs₀ Cert.Kernel2Ideal.defs₀
  refine congrArg Defs.onTc (funext fun l => funext fun x => ?_)
  match l, x with
  | 0, (t, s) => rfl
  | ⟨n + 1, h⟩, _ => exact absurd h (by omega)

/-- So are its body tables. -/
theorem tables2_eq : Cert.Kernel2.defs (F := F) = Cert.Kernel2Ideal.defs (F := F) :=
  congrArg (Pipeline.defs Cert.Kernel2Ideal.pcfgs) bodies2_eq

/-- The down projection's two kernel bodies are the same. -/
theorem bodies3_eq : Cert.Kernel3.defs₀ (F := F) = Cert.Kernel3Ideal.defs₀ (F := F) := by
  unfold Cert.Kernel3.defs₀ Cert.Kernel3Ideal.defs₀
  refine congrArg Defs.onTc (funext fun l => funext fun x => ?_)
  match l, x with
  | 0, (t, s) => rfl
  | ⟨n + 1, h⟩, _ => exact absurd h (by omega)

/-- So are its body tables. -/
theorem tables3_eq : Cert.Kernel3.defs (F := F) = Cert.Kernel3Ideal.defs (F := F) :=
  congrArg (Pipeline.defs Cert.Kernel3Ideal.pcfgs) bodies3_eq

/-- The output projection's two kernel bodies are the same. -/
theorem bodies4_eq : Cert.Kernel4.defs₀ (F := F) = Cert.Kernel4Ideal.defs₀ (F := F) := by
  unfold Cert.Kernel4.defs₀ Cert.Kernel4Ideal.defs₀
  refine congrArg Defs.onTc (funext fun l => funext fun x => ?_)
  match l, x with
  | 0, (t, s) => rfl
  | ⟨n + 1, h⟩, _ => exact absurd h (by omega)

/-- So are its body tables. -/
theorem tables4_eq : Cert.Kernel4.defs (F := F) = Cert.Kernel4Ideal.defs (F := F) :=
  congrArg (Pipeline.defs Cert.Kernel4Ideal.pcfgs) bodies4_eq

/-- The latent flash call's two kernel bodies are the same. -/
theorem bodies5_eq : Cert.Kernel5.defs₀ (F := F) = Cert.Kernel5Ideal.defs₀ (F := F) := by
  unfold Cert.Kernel5.defs₀ Cert.Kernel5Ideal.defs₀
  refine congrArg Defs.onTc (funext fun l => funext fun x => ?_)
  match l, x with
  | 0, (t, s) => rfl
  | ⟨n + 1, h⟩, _ => exact absurd h (by omega)

/-- So are its body tables. -/
theorem tables5_eq : Cert.Kernel5.defs (F := F) = Cert.Kernel5Ideal.defs (F := F) :=
  congrArg (Pipeline.defs Cert.Kernel5Ideal.pcfgs) bodies5_eq

/-- The input projection's two kernel bodies are the same. -/
theorem bodies6_eq : Cert.Kernel6.defs₀ (F := F) = Cert.Kernel6Ideal.defs₀ (F := F) := by
  unfold Cert.Kernel6.defs₀ Cert.Kernel6Ideal.defs₀
  refine congrArg Defs.onTc (funext fun l => funext fun x => ?_)
  match l, x with
  | 0, (t, s) => rfl
  | ⟨n + 1, h⟩, _ => exact absurd h (by omega)

/-- So are its body tables. -/
theorem tables6_eq : Cert.Kernel6.defs (F := F) = Cert.Kernel6Ideal.defs (F := F) :=
  congrArg (Pipeline.defs Cert.Kernel6Ideal.pcfgs) bodies6_eq

end Cert.Flash
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal
public import proofs.«01_k».proof.Proof.Gen.Kernel5Ideal.Skeleton
public import proofs.«01_k».proof.Proof.Gen.Kernel5Ideal.Loops
public import proofs.«01_k».proof.Proof.Gen.Kernel5Ideal.Launch
public import proofs.«01_k».proof.Proof.Gen.Kernel5Ideal.Points
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Final
public import proofs.«01_k».proof.Proof.Finite
public import proofs.«01_k».proof.Proof.Gate
public import proofs.«01_k».proof.Proof.Down
public import proofs.«01_k».proof.Proof.Out
public import proofs.«01_k».proof.Proof.LatentFinal
public import proofs.«01_k».proof.Proof.LatentFinite
public import proofs.«01_k».proof.Proof.ProjFinal
public import proofs.«01_k».proof.Proof.ProjSame
public import proofs.«01_k».proof.Proof.Same
public import Idealize.ShloMosaic.Adequacy
public import Idealize.ShloMosaic.Init
public import Idealize.ShloMosaic.Lib.Quiescent

@[expose] public section

noncomputable section

namespace Cert.Proof

open Idealize.ShloMosaic Idealize.SL.Sem Cert.Flash

/-- The reference runs, keeps its arguments, and has no counter to leave above zero. -/
theorem ref_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1))
        ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- The two results are equal where the queries, keys and values are real. -/
theorem algebraic : Cert.algebraic_KernelIdeal_ReferenceIdeal_pre_finite (hPre_finite := pre_facts) := by
  haveI := pre_facts
  intro m g m' g' hpre hargs
  refine ⟨fun c => (flashDat m 0 c).arrAt 3 Cert.KernelIdeal.cfg0.N, ?_, ?_⟩
  · exact (θ_run Cert.KernelIdeal.defs _ _).mono (fun r h c => ⟨(h.1.1 c).1 3, h.2.1 c⟩)
      (θ_run_and (flash_run m g) (flash_frame m g))
  · refine (θ_run Cert.ReferenceIdeal.defs _ _).mono (fun r h c => ⟨(h c).1.trans ?_, (h c).2⟩)
      (Cert.ReferenceIdeal.Value.run (F := Ideal) m' g')
    refine (Cert.ReferenceIdeal.Read.val_main_v38_eq m' c).trans ?_
    rw [(hargs c).1, (hargs c).2]
    exact (final_eq m c (fun i j => (m ((c.tc : Thread Cert.KernelIdeal.nD Cert.KernelIdeal.τ).loc Cert.KernelIdeal.main_arg0)
      (ix2 (n0 := 8448) (n1 := 6144) i j)).toReal) (fun i j h1 h2 => finite_at _ _ (hpre c) i j h1 h2)).symm

/-- The kernel as written has the idealized kernel's text: the same run, at the machine's own floats. -/
theorem frame_kernel : Cert.quiescent_Kernel := by
  intro m g _
  rw [show Cert.Kernel.defs (F := Bits) = Cert.KernelIdeal.defs (F := Bits) from tables_eq]
  exact flash_frame (F := Bits) m g

/-- The gate call's kernel as written, at the machine's own floats. -/
theorem frame_kernel2 : Cert.quiescent_Kernel2 := by
  intro m g _
  rw [show Cert.Kernel2.defs (F := Bits) = Cert.Kernel2Ideal.defs (F := Bits) from tables2_eq]
  exact Cert.Kernel2Ideal.Gen.frame (F := Bits) m g

/-- The gate call's reference runs, keeps its arguments, and has no counter to leave above zero. -/
theorem ref_frame2 (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal)))
      ⟨m, fun _ => 0, g⟩ (fun r => (∀ c : Dev Cert.Reference2Ideal.nD,
        r.2.mem ((c.tc : Thread Cert.Reference2Ideal.nD Cert.Reference2Ideal.τ).loc Cert.Reference2Ideal.main_arg0)
          = m ((c.tc : Thread Cert.Reference2Ideal.nD Cert.Reference2Ideal.τ).loc Cert.Reference2Ideal.main_arg0)
        ∧ r.2.mem ((c.tc : Thread Cert.Reference2Ideal.nD Cert.Reference2Ideal.τ).loc Cert.Reference2Ideal.main_arg1)
          = m ((c.tc : Thread Cert.Reference2Ideal.nD Cert.Reference2Ideal.τ).loc Cert.Reference2Ideal.main_arg1))
        ∧ r.2.sem = fun _ => 0) :=
  (θ_run Cert.Reference2Ideal.defs _ _).mono (fun r h => ⟨fun c => (h c).2, sem_eq_zero_of_no_sems (by decide) r.2⟩)
    (Cert.Reference2Ideal.Value.run (F := Ideal) m g)

/-- The gate call's two results are equal. -/
theorem algebraic2 : Cert.algebraic_Kernel2Ideal_Reference2Ideal := by
  intro m g m' g' _ hargs
  refine ⟨fun c => (Cert.Kernel2Ideal.Gen.dats m 0 c).arrAt 3 Cert.Kernel2Ideal.cfg0.N, Cert.Kernel2Ideal.Value.run_blocks (F := Ideal) m g, ?_⟩
  refine (θ_run Cert.Reference2Ideal.defs _ _).mono (fun r h c => ⟨(h c).1.trans ?_, (h c).2⟩) (Cert.Reference2Ideal.Value.run (F := Ideal) m' g')
  refine (Cert.Reference2Ideal.Read.val_main_v8_eq _ _).trans ?_
  rw [(hargs c).1, (hargs c).2]
  exact (Cert.Gate.final_eq m c).symm

/-- The down projection's kernel as written, at the machine's own floats. -/
theorem frame_kernel3 : Cert.quiescent_Kernel3 := by
  intro m g _
  rw [show Cert.Kernel3.defs (F := Bits) = Cert.Kernel3Ideal.defs (F := Bits) from tables3_eq]
  exact Cert.Kernel3Ideal.Gen.frame (F := Bits) m g

/-- The down projection's reference runs, keeps its arguments, and has no counter to leave above zero. -/
theorem ref_frame3 (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal)))
      ⟨m, fun _ => 0, g⟩ (fun r => (∀ c : Dev Cert.Reference3Ideal.nD,
        r.2.mem ((c.tc : Thread Cert.Reference3Ideal.nD Cert.Reference3Ideal.τ).loc Cert.Reference3Ideal.main_arg0)
          = m ((c.tc : Thread Cert.Reference3Ideal.nD Cert.Reference3Ideal.τ).loc Cert.Reference3Ideal.main_arg0)
        ∧ r.2.mem ((c.tc : Thread Cert.Reference3Ideal.nD Cert.Reference3Ideal.τ).loc Cert.Reference3Ideal.main_arg1)
          = m ((c.tc : Thread Cert.Reference3Ideal.nD Cert.Reference3Ideal.τ).loc Cert.Reference3Ideal.main_arg1)
        ∧ r.2.mem ((c.tc : Thread Cert.Reference3Ideal.nD Cert.Reference3Ideal.τ).loc Cert.Reference3Ideal.main_arg2)
          = m ((c.tc : Thread Cert.Reference3Ideal.nD Cert.Reference3Ideal.τ).loc Cert.Reference3Ideal.main_arg2)
        ∧ r.2.mem ((c.tc : Thread Cert.Reference3Ideal.nD Cert.Reference3Ideal.τ).loc Cert.Reference3Ideal.main_arg3)
          = m ((c.tc : Thread Cert.Reference3Ideal.nD Cert.Reference3Ideal.τ).loc Cert.Reference3Ideal.main_arg3))
        ∧ r.2.sem = fun _ => 0) :=
  (θ_run Cert.Reference3Ideal.defs _ _).mono (fun r h => ⟨fun c => (h c).2, sem_eq_zero_of_no_sems (by decide) r.2⟩)
    (Cert.Reference3Ideal.Value.run (F := Ideal) m g)

/-- The down projection's two results are equal. -/
theorem algebraic3 : Cert.algebraic_Kernel3Ideal_Reference3Ideal := by
  intro m g m' g' _ hargs
  refine ⟨fun c => (Cert.Kernel3Ideal.Gen.dats m 0 c).arrAt 4 Cert.Kernel3Ideal.cfg0.N, Cert.Kernel3Ideal.Value.run_blocks (F := Ideal) m g, ?_⟩
  refine (θ_run Cert.Reference3Ideal.defs _ _).mono (fun r h c => ⟨(h c).1.trans ?_, (h c).2⟩) (Cert.Reference3Ideal.Value.run (F := Ideal) m' g')
  refine (Cert.Reference3Ideal.Read.val_main_v22_eq _ _ _ _).trans ?_
  rw [(hargs c).1, (hargs c).2.1, (hargs c).2.2.1, (hargs c).2.2.2]
  exact (Cert.Down.final_eq m c).symm

/-- The output projection's kernel as written, at the machine's own floats. -/
theorem frame_kernel4 : Cert.quiescent_Kernel4 := by
  intro m g _
  rw [show Cert.Kernel4.defs (F := Bits) = Cert.Kernel4Ideal.defs (F := Bits) from tables4_eq]
  exact Cert.Kernel4Ideal.Gen.frame (F := Bits) m g

/-- The output projection's reference runs, keeps its arguments, and has no counter to leave above zero. -/
theorem ref_frame4 (m : (ℓ : Loc Cert.Reference4Ideal.nD Cert.Reference4Ideal.τ Cert.Reference4Ideal.sig) → Buf (Elt Ideal) ℓ) (g : Dev Cert.Reference4Ideal.nD → PrngReg) :
    θ_run (Cert.Reference4Ideal.defs (F := Ideal)) (onTc (τ := Cert.Reference4Ideal.τ) (Cert.Reference4Ideal.main (F := Ideal)))
      ⟨m, fun _ => 0, g⟩ (fun r => (∀ c : Dev Cert.Reference4Ideal.nD,
        r.2.mem ((c.tc : Thread Cert.Reference4Ideal.nD Cert.Reference4Ideal.τ).loc Cert.Reference4Ideal.main_arg0)
          = m ((c.tc : Thread Cert.Reference4Ideal.nD Cert.Reference4Ideal.τ).loc Cert.Reference4Ideal.main_arg0)
        ∧ r.2.mem ((c.tc : Thread Cert.Reference4Ideal.nD Cert.Reference4Ideal.τ).loc Cert.Reference4Ideal.main_arg1)
          = m ((c.tc : Thread Cert.Reference4Ideal.nD Cert.Reference4Ideal.τ).loc Cert.Reference4Ideal.main_arg1)
        ∧ r.2.mem ((c.tc : Thread Cert.Reference4Ideal.nD Cert.Reference4Ideal.τ).loc Cert.Reference4Ideal.main_arg2)
          = m ((c.tc : Thread Cert.Reference4Ideal.nD Cert.Reference4Ideal.τ).loc Cert.Reference4Ideal.main_arg2)
        ∧ r.2.mem ((c.tc : Thread Cert.Reference4Ideal.nD Cert.Reference4Ideal.τ).loc Cert.Reference4Ideal.main_arg3)
          = m ((c.tc : Thread Cert.Reference4Ideal.nD Cert.Reference4Ideal.τ).loc Cert.Reference4Ideal.main_arg3))
        ∧ r.2.sem = fun _ => 0) :=
  (θ_run Cert.Reference4Ideal.defs _ _).mono (fun r h => ⟨fun c => (h c).2, sem_eq_zero_of_no_sems (by decide) r.2⟩)
    (Cert.Reference4Ideal.Value.run (F := Ideal) m g)

/-- The output projection's two results are equal. -/
theorem algebraic4 : Cert.algebraic_Kernel4Ideal_Reference4Ideal := by
  intro m g m' g' _ hargs
  refine ⟨fun c => (Cert.Kernel4Ideal.Gen.dats m 0 c).arrAt 4 Cert.Kernel4Ideal.cfg0.N, Cert.Kernel4Ideal.Value.run_blocks (F := Ideal) m g, ?_⟩
  refine (θ_run Cert.Reference4Ideal.defs _ _).mono (fun r h c => ⟨(h c).1.trans ?_, (h c).2⟩) (Cert.Reference4Ideal.Value.run (F := Ideal) m' g')
  refine (Cert.Reference4Ideal.Read.val_main_v18_eq _ _ _ _).trans ?_
  rw [(hargs c).1, (hargs c).2.1, (hargs c).2.2.1, (hargs c).2.2.2]
  exact (Cert.Out.final_eq m c).symm

/-- The latent flash call's kernel as written, at the machine's own floats. -/
theorem frame_kernel5 : Cert.quiescent_Kernel5 := by
  intro m g _
  rw [show Cert.Kernel5.defs (F := Bits) = Cert.Kernel5Ideal.defs (F := Bits) from tables5_eq]
  exact Cert.Latent.lat_frame (F := Bits) m g

/-- The latent attention's reference runs, keeps its arguments, and has no counter to leave above zero. -/
theorem ref_frame5 (m : (ℓ : Loc Cert.Reference5Ideal.nD Cert.Reference5Ideal.τ Cert.Reference5Ideal.sig) → Buf (Elt Ideal) ℓ) (g : Dev Cert.Reference5Ideal.nD → PrngReg) :
    θ_run (Cert.Reference5Ideal.defs (F := Ideal)) (onTc (τ := Cert.Reference5Ideal.τ) (Cert.Reference5Ideal.main (F := Ideal)))
      ⟨m, fun _ => 0, g⟩ (fun r => (∀ c : Dev Cert.Reference5Ideal.nD,
        r.2.mem ((c.tc : Thread Cert.Reference5Ideal.nD Cert.Reference5Ideal.τ).loc Cert.Reference5Ideal.main_arg0)
          = m ((c.tc : Thread Cert.Reference5Ideal.nD Cert.Reference5Ideal.τ).loc Cert.Reference5Ideal.main_arg0)
        ∧ r.2.mem ((c.tc : Thread Cert.Reference5Ideal.nD Cert.Reference5Ideal.τ).loc Cert.Reference5Ideal.main_arg1)
          = m ((c.tc : Thread Cert.Reference5Ideal.nD Cert.Reference5Ideal.τ).loc Cert.Reference5Ideal.main_arg1)
        ∧ r.2.mem ((c.tc : Thread Cert.Reference5Ideal.nD Cert.Reference5Ideal.τ).loc Cert.Reference5Ideal.main_arg2)
          = m ((c.tc : Thread Cert.Reference5Ideal.nD Cert.Reference5Ideal.τ).loc Cert.Reference5Ideal.main_arg2)
        ∧ r.2.mem ((c.tc : Thread Cert.Reference5Ideal.nD Cert.Reference5Ideal.τ).loc Cert.Reference5Ideal.main_arg3)
          = m ((c.tc : Thread Cert.Reference5Ideal.nD Cert.Reference5Ideal.τ).loc Cert.Reference5Ideal.main_arg3)
        ∧ r.2.mem ((c.tc : Thread Cert.Reference5Ideal.nD Cert.Reference5Ideal.τ).loc Cert.Reference5Ideal.main_arg4)
          = m ((c.tc : Thread Cert.Reference5Ideal.nD Cert.Reference5Ideal.τ).loc Cert.Reference5Ideal.main_arg4))
        ∧ r.2.sem = fun _ => 0) :=
  (θ_run Cert.Reference5Ideal.defs _ _).mono (fun r h => ⟨fun c => (h c).2, sem_eq_zero_of_no_sems (by decide) r.2⟩)
    (Cert.Reference5Ideal.Value.run (F := Ideal) m g)

/-- The latent attention's two results are equal where the queries and keys are real. -/
theorem algebraic5 : Cert.algebraic_Kernel5Ideal_Reference5Ideal_pre_finite5 (hPre_finite5 := Cert.Latent.pre_facts) := by
  haveI := Cert.Latent.pre_facts
  intro m g m' g' hpre hargs
  refine ⟨fun c => (Cert.Latent.latDat m 0 c).arrAt 3 Cert.Kernel5Ideal.cfg0.N, ?_, ?_⟩
  · exact (θ_run Cert.Kernel5Ideal.defs _ _).mono (fun r h c => ⟨(h.1.1 c).1 3, h.2.1 c⟩)
      (θ_run_and (Cert.Latent.lat_run m g) (Cert.Latent.lat_frame m g))
  · refine (θ_run Cert.Reference5Ideal.defs _ _).mono (fun r h c => ⟨(h c).1.trans ?_, (h c).2⟩)
      (Cert.Reference5Ideal.Value.run (F := Ideal) m' g')
    refine (Cert.Reference5Ideal.Read.val_main_v34_eq m' c).trans ?_
    rw [(hargs c).1, (hargs c).2.1, (hargs c).2.2.1, (hargs c).2.2.2.1, (hargs c).2.2.2.2]
    exact (Cert.Latent.final_eq m c
      (fun i n d => (m ((c.tc : Thread Cert.Kernel5Ideal.nD Cert.Kernel5Ideal.τ).loc Cert.Kernel5Ideal.main_arg0) (ix3 (n0 := 8448) (n1 := 8) (n2 := 192) i n d)).toReal)
      (fun i n d => (m ((c.tc : Thread Cert.Kernel5Ideal.nD Cert.Kernel5Ideal.τ).loc Cert.Kernel5Ideal.main_arg1) (ix3 (n0 := 8448) (n1 := 8) (n2 := 128) i n d)).toReal)
      (fun i d => (m ((c.tc : Thread Cert.Kernel5Ideal.nD Cert.Kernel5Ideal.τ).loc Cert.Kernel5Ideal.main_arg2) (ix2 (n0 := 8448) (n1 := 64) i d)).toReal)
      (Cert.Latent.q_real _ _ _ _ _ (hpre c)) (Cert.Latent.k_real _ _ _ _ _ (hpre c))
      (Cert.Latent.p_real _ _ _ _ _ (hpre c))).symm

/-- The input projection's kernel as written, at the machine's own floats. -/
theorem frame_kernel6 : Cert.quiescent_Kernel6 := by
  intro m g _
  rw [show Cert.Kernel6.defs (F := Bits) = Cert.Kernel6Ideal.defs (F := Bits) from tables6_eq]
  rw [show Cert.Kernel6.main (F := Bits) = Cert.Kernel6Ideal.main (F := Bits) from Cert.Proj.main6_eq]
  exact Cert.Kernel6Ideal.Gen.frame (F := Bits) m g

/-- The input projection's reference runs, keeps its arguments, and has no counter to leave above zero. -/
theorem ref_frame6 (m : (ℓ : Loc Cert.Reference6Ideal.nD Cert.Reference6Ideal.τ Cert.Reference6Ideal.sig) → Buf (Elt Ideal) ℓ) (g : Dev Cert.Reference6Ideal.nD → PrngReg) :
    θ_run (Cert.Reference6Ideal.defs (F := Ideal)) (onTc (τ := Cert.Reference6Ideal.τ) (Cert.Reference6Ideal.main (F := Ideal)))
      ⟨m, fun _ => 0, g⟩ (fun r => (∀ c : Dev Cert.Reference6Ideal.nD,
        r.2.mem ((c.tc : Thread Cert.Reference6Ideal.nD Cert.Reference6Ideal.τ).loc Cert.Reference6Ideal.main_arg0)
          = m ((c.tc : Thread Cert.Reference6Ideal.nD Cert.Reference6Ideal.τ).loc Cert.Reference6Ideal.main_arg0)
        ∧ r.2.mem ((c.tc : Thread Cert.Reference6Ideal.nD Cert.Reference6Ideal.τ).loc Cert.Reference6Ideal.main_arg1)
          = m ((c.tc : Thread Cert.Reference6Ideal.nD Cert.Reference6Ideal.τ).loc Cert.Reference6Ideal.main_arg1)
        ∧ r.2.mem ((c.tc : Thread Cert.Reference6Ideal.nD Cert.Reference6Ideal.τ).loc Cert.Reference6Ideal.main_arg2)
          = m ((c.tc : Thread Cert.Reference6Ideal.nD Cert.Reference6Ideal.τ).loc Cert.Reference6Ideal.main_arg2)
        ∧ r.2.mem ((c.tc : Thread Cert.Reference6Ideal.nD Cert.Reference6Ideal.τ).loc Cert.Reference6Ideal.main_arg3)
          = m ((c.tc : Thread Cert.Reference6Ideal.nD Cert.Reference6Ideal.τ).loc Cert.Reference6Ideal.main_arg3))
        ∧ r.2.sem = fun _ => 0) :=
  (θ_run Cert.Reference6Ideal.defs _ _).mono (fun r h => ⟨fun c => (h c).2, sem_eq_zero_of_no_sems (by decide) r.2⟩)
    (Cert.Reference6Ideal.Value.run (F := Ideal) m g)

/-- The input projection's two results are equal. -/
theorem algebraic6 : Cert.algebraic_Kernel6Ideal_Reference6Ideal := by
  intro m g m' g' _ hargs
  refine ⟨fun c => (Cert.Kernel6Ideal.Gen.dats m 0 c).arrAt 6 Cert.Kernel6Ideal.cfg0.N, Cert.Kernel6Ideal.Value.run_blocks (F := Ideal) m g, ?_⟩
  refine (θ_run Cert.Reference6Ideal.defs _ _).mono (fun r h c => ⟨(h c).1.trans ?_, (h c).2⟩) (Cert.Reference6Ideal.Value.run (F := Ideal) m' g')
  refine (Cert.Reference6Ideal.Read.val_main_v128_eq _).trans ?_
  show Cert.Reference6Ideal.Read.val_main_v128 (F := Ideal)
    (m' ((c.tc : Thread Cert.Reference6Ideal.nD Cert.Reference6Ideal.τ).loc Cert.Reference6Ideal.main_arg0))
    (m' ((c.tc : Thread Cert.Reference6Ideal.nD Cert.Reference6Ideal.τ).loc Cert.Reference6Ideal.main_arg1))
    (m' ((c.tc : Thread Cert.Reference6Ideal.nD Cert.Reference6Ideal.τ).loc Cert.Reference6Ideal.main_arg2))
    (m' ((c.tc : Thread Cert.Reference6Ideal.nD Cert.Reference6Ideal.τ).loc Cert.Reference6Ideal.main_arg3)) = _
  rw [(hargs c).1, (hargs c).2.1, (hargs c).2.2.1, (hargs c).2.2.2]
  exact (Cert.Proj.final_eq m c).symm

/-- Everything claimed. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, pre_facts, Cert.Latent.pre_facts,
  frame_kernel, fun m g _ => flash_frame m g, fun m g _ => flash_frame m g,
  fun m g _ => ref_frame m g, fun m g _ => ref_frame m g,
  frame_kernel2, fun m g _ => Cert.Kernel2Ideal.Gen.frame m g, fun m g _ => ref_frame2 m g,
  frame_kernel3, fun m g _ => Cert.Kernel3Ideal.Gen.frame m g, fun m g _ => ref_frame3 m g,
  frame_kernel4, fun m g _ => Cert.Kernel4Ideal.Gen.frame m g, fun m g _ => ref_frame4 m g,
  frame_kernel5, fun m g _ => Cert.Latent.lat_frame m g, fun m g _ => Cert.Latent.lat_frame m g,
  fun m g _ => ref_frame5 m g, fun m g _ => ref_frame5 m g,
  frame_kernel6, fun m g _ => Cert.Kernel6Ideal.Gen.frame m g, fun m g _ => ref_frame6 m g,
  trivial, algebraic, trivial, algebraic2, trivial, algebraic3, trivial, algebraic4, trivial, algebraic5,
  trivial, algebraic6⟩

end Cert.Proof

end
